-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_attention [hPre_finite_attention : Cert.Pre_finite_attention.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_attention.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_attention.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite_attention.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite_attention.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_attention [hPre_finite_attention : Cert.Pre_finite_attention.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_attention.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite_attention.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite_attention.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite_attention.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_attention [hPre_finite_attention : Cert.Pre_finite_attention.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_attention.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_attention.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_attention.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite_attention.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_attention [hPre_finite_attention : Cert.Pre_finite_attention.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_attention.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_attention.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_attention.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite_attention.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_conv [hPre_finite_conv : Cert.Pre_finite_conv.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_conv.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_conv [hPre_finite_conv : Cert.Pre_finite_conv.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_conv.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_attention [hKernel6Ideal : Cert.Kernel6Ideal.Facts] [hPre_finite_attention : Cert.Pre_finite_attention.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_attention m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_attention [hReference6Ideal : Cert.Reference6Ideal.Facts] [hPre_finite_attention : Cert.Pre_finite_attention.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_attention m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_attention [hKernel7Ideal : Cert.Kernel7Ideal.Facts] [hPre_finite_attention : Cert.Pre_finite_attention.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_attention m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_attention [hReference7Ideal : Cert.Reference7Ideal.Facts] [hPre_finite_attention : Cert.Pre_finite_attention.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_attention m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite_conv [hKernel29Ideal : Cert.Kernel29Ideal.Facts] [hPre_finite_conv : Cert.Pre_finite_conv.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_conv m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite_conv [hReference29Ideal : Cert.Reference29Ideal.Facts] [hPre_finite_conv : Cert.Pre_finite_conv.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_conv m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_attention [hKernel6Ideal : Cert.Kernel6Ideal.Facts] [hReference6Ideal : Cert.Reference6Ideal.Facts] [hPre_finite_attention : Cert.Pre_finite_attention.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_attention m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v153)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v153) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v170) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_attention [hKernel7Ideal : Cert.Kernel7Ideal.Facts] [hReference7Ideal : Cert.Reference7Ideal.Facts] [hPre_finite_attention : Cert.Pre_finite_attention.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_attention m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v153_0)) (v1 : (c : Dev Cert.Kernel7Ideal.nD) → Buf (Elt Ideal) ((c.tc : Thread Cert.Kernel7Ideal.nD Cert.Kernel7Ideal.τ).loc Cert.Kernel7Ideal.main_v153_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v153_0) = v0 c
          ∧ r.2.mem ((c.tc : Thread Cert.Kernel7Ideal.nD Cert.Kernel7Ideal.τ).loc Cert.Kernel7Ideal.main_v153_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v172) = v0 c
          ∧ r.2.mem ((c.tc : Thread Cert.Reference7Ideal.nD Cert.Reference7Ideal.τ).loc Cert.Reference7Ideal.main_v174) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v28) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)) (v4 : (c : Dev Cert.Kernel22Ideal.nD) → Buf (Elt Ideal) ((c.tc : Thread Cert.Kernel22Ideal.nD Cert.Kernel22Ideal.τ).loc Cert.Kernel22Ideal.main_v3_4)) (v5 : (c : Dev Cert.Kernel22Ideal.nD) → Buf (Elt Ideal) ((c.tc : Thread Cert.Kernel22Ideal.nD Cert.Kernel22Ideal.τ).loc Cert.Kernel22Ideal.main_v3_5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_v3_4) = v4 c
          ∧ r.2.mem ((c.tc : Thread Cert.Kernel22Ideal.nD Cert.Kernel22Ideal.τ).loc Cert.Kernel22Ideal.main_v3_5) = v5 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v52) = v0 c
          ∧ r.2.mem ((c.tc : Thread Cert.Reference22Ideal.nD Cert.Reference22Ideal.τ).loc Cert.Reference22Ideal.main_v35) = v1 c
          ∧ r.2.mem ((c.tc : Thread Cert.Reference22Ideal.nD Cert.Reference22Ideal.τ).loc Cert.Reference22Ideal.main_v30) = v2 c
          ∧ r.2.mem ((c.tc : Thread Cert.Reference22Ideal.nD Cert.Reference22Ideal.τ).loc Cert.Reference22Ideal.main_v27) = v3 c
          ∧ r.2.mem ((c.tc : Thread Cert.Reference22Ideal.nD Cert.Reference22Ideal.τ).loc Cert.Reference22Ideal.main_v59) = v4 c
          ∧ r.2.mem ((c.tc : Thread Cert.Reference22Ideal.nD Cert.Reference22Ideal.τ).loc Cert.Reference22Ideal.main_v58) = v5 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v33) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v49) = v0 c
          ∧ r.2.mem ((c.tc : Thread Cert.Reference24Ideal.nD Cert.Reference24Ideal.τ).loc Cert.Reference24Ideal.main_v32) = v1 c
          ∧ r.2.mem ((c.tc : Thread Cert.Reference24Ideal.nD Cert.Reference24Ideal.τ).loc Cert.Reference24Ideal.main_v27) = v2 c
          ∧ r.2.mem ((c.tc : Thread Cert.Reference24Ideal.nD Cert.Reference24Ideal.τ).loc Cert.Reference24Ideal.main_v24) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_v6) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v21) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v18) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal_pre_finite_conv [hKernel29Ideal : Cert.Kernel29Ideal.Facts] [hReference29Ideal : Cert.Reference29Ideal.Facts] [hPre_finite_conv : Cert.Pre_finite_conv.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_conv m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v149) = v0 c
          ∧ r.2.mem ((c.tc : Thread Cert.Reference29Ideal.nD Cert.Reference29Ideal.τ).loc Cert.Reference29Ideal.main_v150) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v59) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_attention : Cert.Pre_finite_attention.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_attention (hKernel6Ideal := hKernel6Ideal) (hPre_finite_attention := hPre_finite_attention)
    ∧ quiescent_Reference6Ideal (hReference6Ideal := hReference6Ideal)
    ∧ quiescent_Reference6Ideal_pre_finite_attention (hReference6Ideal := hReference6Ideal) (hPre_finite_attention := hPre_finite_attention)
    ∧ quiescent_Kernel7 (hKernel7 := hKernel7)
    ∧ quiescent_Kernel7Ideal (hKernel7Ideal := hKernel7Ideal)
    ∧ quiescent_Kernel7Ideal_pre_finite_attention (hKernel7Ideal := hKernel7Ideal) (hPre_finite_attention := hPre_finite_attention)
    ∧ quiescent_Reference7Ideal (hReference7Ideal := hReference7Ideal)
    ∧ quiescent_Reference7Ideal_pre_finite_attention (hReference7Ideal := hReference7Ideal) (hPre_finite_attention := hPre_finite_attention)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_conv (hKernel29Ideal := hKernel29Ideal) (hPre_finite_conv := hPre_finite_conv)
    ∧ quiescent_Reference29Ideal (hReference29Ideal := hReference29Ideal)
    ∧ quiescent_Reference29Ideal_pre_finite_conv (hReference29Ideal := hReference29Ideal) (hPre_finite_conv := hPre_finite_conv)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_attention (hKernel6Ideal := hKernel6Ideal) (hReference6Ideal := hReference6Ideal) (hPre_finite_attention := hPre_finite_attention)
    ∧ preserves_Kernel7_Kernel7Ideal
    ∧ algebraic_Kernel7Ideal_Reference7Ideal_pre_finite_attention (hKernel7Ideal := hKernel7Ideal) (hReference7Ideal := hReference7Ideal) (hPre_finite_attention := hPre_finite_attention)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_conv (hKernel29Ideal := hKernel29Ideal) (hReference29Ideal := hReference29Ideal) (hPre_finite_conv := hPre_finite_conv)
    ∧ preserves_Kernel30_Kernel30Ideal
    ∧ algebraic_Kernel30Ideal_Reference30Ideal (hKernel30Ideal := hKernel30Ideal) (hReference30Ideal := hReference30Ideal)
-- ==== Pre_finite.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S3x2816 .f32) (main_arg2 : FVec F S2816 .f32) (main_arg3 : FVec F S8192x2816 .bf16) : IVec S8192x2816 1 × IVec S8192x2816 1 :=
  let main_v0 : FVec F S8192x2816 .bf16 := (extractStridedSlice S8192x2816 ![0, 2816] · slices_S8192x5632_S8192x2816_0_2816) main_arg0
  let main_v1 : FVec F S8192x2816 .bf16 := Host.absf main_v0
  let main_cst : FVec F S_ .bf16 := constant S_ .bf16 0x7F80#16
  let main_v2 : FVec F S8192x2816 .bf16 := broadcastInDim S8192x2816 ![] bcast_S_S8192x2816 main_cst
  let main_v3 : IVec S8192x2816 1 := cmpf .olt main_v1 main_v2
  let main_v4 : FVec F S8192x2816 .bf16 := Host.absf main_arg3
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  (main_v3, main_v6)
-- ==== Pre_finite_attention.lean ====
abbrev S8192x3072 : Shape := ⟨2, ![8192, 3072]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x1024 : S_.BroadcastsInDim S8192x1024 (![] : Fin 0 → Fin S8192x1024.rank)

variable [Facts]

def fn {F : FTy → Type} [FloatOps F] (main_arg0 : FVec F S8192x3072 .bf16) (main_arg1 : FVec F S8192x3072 .bf16) (main_arg2 : FVec F S8192x3072 .bf16) (main_arg3 : FVec F S8192x1024 .bf16) : IVec S8192x3072 1 × IVec S8192x3072 1 × IVec S8192x3072 1 × IVec S8192x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x3072 .f32 := (extf .f32 · bitsLt_bf16_f32) main_arg1
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_v8 : FVec F S8192x3072 .f32 := (extf .f32 · bitsLt_bf16_f32) main_arg2
  let main_v9 : FVec F S8192x3072 .f32 := Host.absf main_v8
  let main_cst_1 : FVec F S_ .f32 := constant S_ .f32 0x7F800000#32
  let main_v10 : FVec F S8192x3072 .f32 := broadcastInDim S8192x3072 ![] bcast_S_S8192x3072 main_cst_1
  let main_v11 : IVec S8192x3072 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  (main_v3, main_v7, main_v11, main_v15)
-- ==== Pre_finite_conv.lean ====
abbrev S8192x2688 : Shape := ⟨2, ![8192, 2688]⟩
abbrev S4x1536 : Shape := ⟨2, ![4, 1536]⟩
abbrev S8192x1536 : Shape := ⟨2, ![8192, 1536]⟩
abbrev S_ : Shape := ⟨0, ![]⟩

class Facts : Prop where
  bcast_S_S8192x1536 : S_.BroadcastsInDim S8192x1536 (![] : Fin 0 → Fin S8192x1536.rank)

variable [Facts]

def fn {F : FTy → Type} [FloatOps F] (main_arg0 : FVec F S8192x2688 .f32) (main_arg1 : FVec F S4x1536 .f32) (main_arg2 : FVec F S8192x1536 .f32) : IVec S8192x1536 1 :=
  let main_v0 : FVec F S8192x1536 .f32 := Host.absf main_arg2
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  main_v2
-- ==== Kernel.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S8x2816 : Shape := ⟨2, ![8, 2816]⟩
abbrev S1x2816 : Shape := ⟨2, ![1, 2816]⟩
abbrev S2x8192x2816 : Shape := ⟨3, ![2, 8192, 2816]⟩
abbrev S256x1408 : Shape := ⟨2, ![256, 1408]⟩
abbrev S16x1408 : Shape := ⟨2, ![16, 1408]⟩
abbrev S8x1408 : Shape := ⟨2, ![8, 1408]⟩
abbrev S1x1408 : Shape := ⟨2, ![1, 1408]⟩
abbrev S2x256x1408 : Shape := ⟨3, ![2, 256, 1408]⟩
abbrev S288x1408 : Shape := ⟨2, ![288, 1408]⟩
abbrev S272x1408 : Shape := ⟨2, ![272, 1408]⟩
abbrev S1x256x1408 : Shape := ⟨3, ![1, 256, 1408]⟩
abbrev S1408 : Shape := ⟨1, ![1408]⟩

abbrev nBuf : Space → Nat
  | .hbm => 11
  | .vmem => 24
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x2816, .bf16⟩
  | .hbm, ⟨4, _⟩ => ⟨S_, .i32⟩
  | .hbm, ⟨5, _⟩ => ⟨S_, .f32⟩
  | .hbm, ⟨6, _⟩ => ⟨S8x2816, .f32⟩
  | .hbm, ⟨7, _⟩ => ⟨S1x2816, .f32⟩
  | .hbm, ⟨8, _⟩ => ⟨S2x8192x2816, .bf16⟩
  | .hbm, ⟨9, _⟩ => ⟨S8x2816, .f32⟩
  | .hbm, ⟨10, _⟩ => ⟨S1x2816, .f32⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S16x1408, .bf16⟩
  | .local _ .vmem, ⟨5, _⟩ => ⟨S16x1408, .bf16⟩
  | .local _ .vmem, ⟨6, _⟩ => ⟨S256x1408, .bf16⟩
  | .local _ .vmem, ⟨7, _⟩ => ⟨S256x1408, .bf16⟩
  | .local _ .vmem, ⟨8, _⟩ => ⟨S16x1408, .bf16⟩
  | .local _ .vmem, ⟨9, _⟩ => ⟨S16x1408, .bf16⟩
  | .local _ .vmem, ⟨10, _⟩ => ⟨S256x1408, .bf16⟩
  | .local _ .vmem, ⟨11, _⟩ => ⟨S256x1408, .bf16⟩
  | .local _ .vmem, ⟨12, _⟩ => ⟨S16x1408, .bf16⟩
  | .local _ .vmem, ⟨13, _⟩ => ⟨S16x1408, .bf16⟩
  | .local _ .vmem, ⟨14, _⟩ => ⟨S8x1408, .f32⟩
  | .local _ .vmem, ⟨15, _⟩ => ⟨S8x1408, .f32⟩
  | .local _ .vmem, ⟨16, _⟩ => ⟨S1x1408, .f32⟩
  | .local _ .vmem, ⟨17, _⟩ => ⟨S1x1408, .f32⟩
  | .local _ .vmem, ⟨18, _⟩ => ⟨S2x256x1408, .bf16⟩
  | .local _ .vmem, ⟨19, _⟩ => ⟨S2x256x1408, .bf16⟩
  | .local _ .vmem, ⟨20, _⟩ => ⟨S8x1408, .f32⟩
  | .local _ .vmem, ⟨21, _⟩ => ⟨S8x1408, .f32⟩
  | .local _ .vmem, ⟨22, _⟩ => ⟨S1x1408, .f32⟩
  | .local _ .vmem, ⟨23, _⟩ => ⟨S1x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c16_i32 : BitVec 32 := 16#32
  let v2 : BitVec 32 := Scalar.muli v1 c16_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c16_i32 : BitVec 32 := 16#32
  let v2 : BitVec 32 := Scalar.muli v1 c16_i32
  let c2_i32 : BitVec 32 := 2#32
  let v3 : BitVec 32 := Scalar.addi arg0 c2_i32
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c16_i32 : BitVec 32 := 16#32
  let v2 : BitVec 32 := Scalar.muli v1 c16_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S1x2816 : Shape := ⟨2, ![1, 2816]⟩
abbrev S_ : Shape := ⟨0, ![]⟩
abbrev S8191x2816 : Shape := ⟨2, ![8191, 2816]⟩
abbrev S2x2816 : Shape := ⟨2, ![2, 2816]⟩
abbrev S8190x2816 : Shape := ⟨2, ![8190, 2816]⟩
abbrev S1x8192x2816 : Shape := ⟨3, ![1, 8192, 2816]⟩
abbrev S2x8192x2816 : Shape := ⟨3, ![2, 8192, 2816]⟩
abbrev S8x2816 : Shape := ⟨2, ![8, 2816]⟩

abbrev nBuf : Space → Nat
  | .hbm => 121
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x2816, .bf16⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x2816, .f32⟩
  | .hbm, ⟨8, _⟩ => ⟨S2816, .f32⟩
  | .hbm, ⟨9, _⟩ => ⟨S1x2816, .f32⟩
  | .hbm, ⟨10, _⟩ => ⟨S_, .f32⟩
  | .hbm, ⟨11, _⟩ => ⟨S1x2816, .f32⟩
  | .hbm, ⟨12, _⟩ => ⟨S8191x2816, .f32⟩
  | .hbm, ⟨13, _⟩ => ⟨S8192x2816, .f32⟩
  | .hbm, ⟨14, _⟩ => ⟨S_, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S_, .f32⟩
  | .hbm, ⟨25, _⟩ => ⟨S2x2816, .f32⟩
  | .hbm, ⟨26, _⟩ => ⟨S8190x2816, .f32⟩
  | .hbm, ⟨27, _⟩ => ⟨S8192x2816, .f32⟩
  | .hbm, ⟨28, _⟩ => ⟨S_, .f32⟩
  | .hbm, ⟨29, _⟩ => ⟨S2x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x2816, .f32⟩
  | .hbm, ⟨34, _⟩ => ⟨S2816, .f32⟩
  | .hbm, ⟨35, _⟩ => ⟨S1x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S1x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S2816, .f32⟩
  | .hbm, ⟨65, _⟩ => ⟨S1x2816, .f32⟩
  | .hbm, ⟨66, _⟩ => ⟨S_, .f32⟩
  | .hbm, ⟨67, _⟩ => ⟨S2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S2816, .f32⟩
  | .hbm, ⟨76, _⟩ => ⟨S1x2816, .f32⟩
  | .hbm, ⟨77, _⟩ => ⟨S_, .f32⟩
  | .hbm, ⟨78, _⟩ => ⟨S3x2816, .f32⟩
  | .hbm, ⟨79, _⟩ => ⟨S8192x2816, .f32⟩
  | .hbm, ⟨80, _⟩ => ⟨S8192x2816, .f32⟩
  | .hbm, ⟨81, _⟩ => ⟨S8192x2816, .f32⟩
  | .hbm, ⟨82, _⟩ => ⟨S_, .f32⟩
  | .hbm, ⟨83, _⟩ => ⟨S2816, .f32⟩
  | .hbm, ⟨84, _⟩ => ⟨S1x2816, .f32⟩
  | .hbm, ⟨85, _⟩ => ⟨S2x2816, .f32⟩
  | .hbm, ⟨86, _⟩ => ⟨S8190x2816, .f32⟩
  | .hbm, ⟨87, _⟩ => ⟨S_, .f32⟩
  | .hbm, ⟨88, _⟩ => ⟨S8192x2816, .f32⟩
  | .hbm, ⟨89, _⟩ => ⟨S8192x2816, .f32⟩
  | .hbm, ⟨90, _⟩ => ⟨S_, .f32⟩
  | .hbm, ⟨91, _⟩ => ⟨S2816, .f32⟩
  | .hbm, ⟨92, _⟩ => ⟨S1x2816, .f32⟩
  | .hbm, ⟨93, _⟩ => ⟨S_, .f32⟩
  | .hbm, ⟨94, _⟩ => ⟨S3x2816, .f32⟩
  | .hbm, ⟨95, _⟩ => ⟨S3x2816, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S_, .f32⟩
  | .hbm, ⟨100, _⟩ => ⟨S2816, .f32⟩
  | .hbm, ⟨101, _⟩ => ⟨S1x2816, .f32⟩
  | .hbm, ⟨102, _⟩ => ⟨S1x2816, .f32⟩
  | .hbm, ⟨103, _⟩ => ⟨S8191x2816, .f32⟩
  | .hbm, ⟨104, _⟩ => ⟨S_, .f32⟩
  | .hbm, ⟨105, _⟩ => ⟨S8192x2816, .f32⟩
  | .hbm, ⟨106, _⟩ => ⟨S8192x2816, .f32⟩
  | .hbm, ⟨107, _⟩ => ⟨S_, .f32⟩
  | .hbm, ⟨108, _⟩ => ⟨S2816, .f32⟩
  | .hbm, ⟨109, _⟩ => ⟨S1x2816, .f32⟩
  | .hbm, ⟨110, _⟩ => ⟨S_, .f32⟩
  | .hbm, ⟨111, _⟩ => ⟨S3x2816, .f32⟩
  | .hbm, ⟨112, _⟩ => ⟨S3x2816, .f32⟩
  | .hbm, ⟨113, _⟩ => ⟨S1x8192x2816, .f32⟩
  | .hbm, ⟨114, _⟩ => ⟨S1x8192x2816, .f32⟩
  | .hbm, ⟨115, _⟩ => ⟨S2x8192x2816, .f32⟩
  | .hbm, ⟨116, _⟩ => ⟨S2x8192x2816, .bf16⟩
  | .hbm, ⟨117, _⟩ => ⟨S_, .i32⟩
  | .hbm, ⟨118, _⟩ => ⟨S_, .f32⟩
  | .hbm, ⟨119, _⟩ => ⟨S8x2816, .f32⟩
  | .hbm, ⟨120, _⟩ => ⟨S1x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v33_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v33_1 : Ref sig .tc := ⟨.hbm, 53, rfl⟩
abbrev main_v33_0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c : Ref sig .tc := ⟨.hbm, 117, rfl⟩
abbrev main_call2_v0 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Kernel2.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x8192x2816 : Shape := ⟨3, ![2, 8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S2x8192x2816, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S1x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S8192x5632, .f32⟩
  | .hbm, ⟨17, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S2x4x512x1408 : Shape := ⟨4, ![2, 4, 512, 1408]⟩
abbrev S2048x512 : Shape := ⟨2, ![2048, 512]⟩
abbrev S1x2048x1408 : Shape := ⟨3, ![1, 2048, 1408]⟩
abbrev S1x1x512x1408 : Shape := ⟨4, ![1, 1, 512, 1408]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x4x512x1408, .f32⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x512x1408, .f32⟩
  | .local _ .vmem, ⟨5, _⟩ => ⟨S1x1x512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩
abbrev S512x5632 : Shape := ⟨2, ![512, 5632]⟩
abbrev S512x1408 : Shape := ⟨2, ![512, 1408]⟩
abbrev S1x512x1408 : Shape := ⟨3, ![1, 512, 1408]⟩
abbrev S4x512x1408 : Shape := ⟨3, ![4, 512, 1408]⟩
abbrev S1x4x512x1408 : Shape := ⟨4, ![1, 4, 512, 1408]⟩
abbrev S2x4x512x1408 : Shape := ⟨4, ![2, 4, 512, 1408]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S2x8192x2816, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S1x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S8192x5632, .f32⟩
  | .hbm, ⟨17, _⟩ => ⟨S5632x1024, .f32⟩
  | .hbm, ⟨18, _⟩ => ⟨S1024x5632, .f32⟩
  | .hbm, ⟨19, _⟩ => ⟨S512x5632, .f32⟩
  | .hbm, ⟨20, _⟩ => ⟨S512x5632, .f32⟩
  | .hbm, ⟨21, _⟩ => ⟨S512x1408, .f32⟩
  | .hbm, ⟨22, _⟩ => ⟨S512x1408, .f32⟩
  | .hbm, ⟨23, _⟩ => ⟨S512x1408, .f32⟩
  | .hbm, ⟨24, _⟩ => ⟨S512x1408, .f32⟩
  | .hbm, ⟨25, _⟩ => ⟨S1x512x1408, .f32⟩
  | .hbm, ⟨26, _⟩ => ⟨S1x512x1408, .f32⟩
  | .hbm, ⟨27, _⟩ => ⟨S1x512x1408, .f32⟩
  | .hbm, ⟨28, _⟩ => ⟨S1x512x1408, .f32⟩
  | .hbm, ⟨29, _⟩ => ⟨S4x512x1408, .f32⟩
  | .hbm, ⟨30, _⟩ => ⟨S512x1408, .f32⟩
  | .hbm, ⟨31, _⟩ => ⟨S512x1408, .f32⟩
  | .hbm, ⟨32, _⟩ => ⟨S512x1408, .f32⟩
  | .hbm, ⟨33, _⟩ => ⟨S512x1408, .f32⟩
  | .hbm, ⟨34, _⟩ => ⟨S1x512x1408, .f32⟩
  | .hbm, ⟨35, _⟩ => ⟨S1x512x1408, .f32⟩
  | .hbm, ⟨36, _⟩ => ⟨S1x512x1408, .f32⟩
  | .hbm, ⟨37, _⟩ => ⟨S1x512x1408, .f32⟩
  | .hbm, ⟨38, _⟩ => ⟨S4x512x1408, .f32⟩
  | .hbm, ⟨39, _⟩ => ⟨S1x4x512x1408, .f32⟩
  | .hbm, ⟨40, _⟩ => ⟨S1x4x512x1408, .f32⟩
  | .hbm, ⟨41, _⟩ => ⟨S2x4x512x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2x4x704x512 : Shape := ⟨4, ![2, 4, 704, 512]⟩
abbrev S2048x1408 : Shape := ⟨2, ![2048, 1408]⟩
abbrev S2048x512 : Shape := ⟨2, ![2048, 512]⟩
abbrev S1x2x704x512 : Shape := ⟨4, ![1, 2, 704, 512]⟩
abbrev S1408x512 : Shape := ⟨2, ![1408, 512]⟩
abbrev S704x512 : Shape := ⟨2, ![704, 512]⟩
abbrev S1x1x704x512 : Shape := ⟨4, ![1, 1, 704, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x4x704x512, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x2x704x512, .f32⟩
  | .local _ .vmem, ⟨5, _⟩ => ⟨S1x2x704x512, .f32⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, c0_i32_11.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2816x512 : Shape := ⟨2, ![2816, 512]⟩
abbrev S704x512 : Shape := ⟨2, ![704, 512]⟩
abbrev S1x704x512 : Shape := ⟨3, ![1, 704, 512]⟩
abbrev S4x704x512 : Shape := ⟨3, ![4, 704, 512]⟩
abbrev S1x4x704x512 : Shape := ⟨4, ![1, 4, 704, 512]⟩
abbrev S2x4x704x512 : Shape := ⟨4, ![2, 4, 704, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x512, .f32⟩
  | .hbm, ⟨10, _⟩ => ⟨S2816x512, .f32⟩
  | .hbm, ⟨11, _⟩ => ⟨S704x512, .f32⟩
  | .hbm, ⟨12, _⟩ => ⟨S704x512, .f32⟩
  | .hbm, ⟨13, _⟩ => ⟨S704x512, .f32⟩
  | .hbm, ⟨14, _⟩ => ⟨S704x512, .f32⟩
  | .hbm, ⟨15, _⟩ => ⟨S1x704x512, .f32⟩
  | .hbm, ⟨16, _⟩ => ⟨S1x704x512, .f32⟩
  | .hbm, ⟨17, _⟩ => ⟨S1x704x512, .f32⟩
  | .hbm, ⟨18, _⟩ => ⟨S1x704x512, .f32⟩
  | .hbm, ⟨19, _⟩ => ⟨S4x704x512, .f32⟩
  | .hbm, ⟨20, _⟩ => ⟨S704x512, .f32⟩
  | .hbm, ⟨21, _⟩ => ⟨S704x512, .f32⟩
  | .hbm, ⟨22, _⟩ => ⟨S704x512, .f32⟩
  | .hbm, ⟨23, _⟩ => ⟨S704x512, .f32⟩
  | .hbm, ⟨24, _⟩ => ⟨S1x704x512, .f32⟩
  | .hbm, ⟨25, _⟩ => ⟨S1x704x512, .f32⟩
  | .hbm, ⟨26, _⟩ => ⟨S1x704x512, .f32⟩
  | .hbm, ⟨27, _⟩ => ⟨S1x704x512, .f32⟩
  | .hbm, ⟨28, _⟩ => ⟨S4x704x512, .f32⟩
  | .hbm, ⟨29, _⟩ => ⟨S1x4x704x512, .f32⟩
  | .hbm, ⟨30, _⟩ => ⟨S1x4x704x512, .f32⟩
  | .hbm, ⟨31, _⟩ => ⟨S2x4x704x512, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel6.lean ====
abbrev S8192x3072 : Shape := ⟨2, ![8192, 3072]⟩
abbrev S8192x1024 : Shape := ⟨2, ![8192, 1024]⟩
abbrev S8192x8x128 : Shape := ⟨3, ![8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2048x4 : Shape := ⟨2, ![2048, 4]⟩
abbrev S8x8192x8192 : Shape := ⟨3, ![8, 8192, 8192]⟩
abbrev S8 : Shape := ⟨1, ![8]⟩
abbrev S8x1x1 : Shape := ⟨3, ![8, 1, 1]⟩
abbrev S1x8192x8192 : Shape := ⟨3, ![1, 8192, 8192]⟩
abbrev S8x128x8192 : Shape := ⟨3, ![8, 128, 8192]⟩
abbrev S8x8192 : Shape := ⟨2, ![8, 8192]⟩
abbrev S8192x8 : Shape := ⟨2, ![8192, 8]⟩
abbrev S512x16 : Shape := ⟨2, ![512, 16]⟩
abbrev S8192x8x1 : Shape := ⟨3, ![8192, 8, 1]⟩
abbrev S8192x128 : Shape := ⟨2, ![8192, 128]⟩
abbrev S128x1024 : Shape := ⟨2, ![128, 1024]⟩
abbrev S128x128 : Shape := ⟨2, ![128, 128]⟩
abbrev S128x1 : Shape := ⟨2, ![128, 1]⟩
abbrev S1x128x1 : Shape := ⟨3, ![1, 128, 1]⟩
abbrev S8x128x1 : Shape := ⟨3, ![8, 128, 1]⟩
abbrev S1x128x128 : Shape := ⟨3, ![1, 128, 128]⟩
abbrev S8x128x128 : Shape := ⟨3, ![8, 128, 128]⟩

abbrev nBuf : Space → Nat
  | .hbm => 190
  | .vmem => 18
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x1024, .bf16⟩
  | 4 => ⟨S8192x1024, .bf16⟩
  | 5 => ⟨S8192x1024, .f32⟩
  | 6 => ⟨S8192x8x128, .f32⟩
  | 7 => ⟨S8192x1024, .bf16⟩
  | 8 => ⟨S8192x1024, .f32⟩
  | 9 => ⟨S8192x8x128, .f32⟩
  | 10 => ⟨S8192x1024, .bf16⟩
  | 11 => ⟨S8192x1024, .f32⟩
  | 12 => ⟨S8192x8x128, .f32⟩
  | 13 => ⟨S8192, .i32⟩
  | 14 => ⟨S8192x1, .i32⟩
  | 15 => ⟨S8192, .i32⟩
  | 16 => ⟨S1x8192, .i32⟩
  | 17 => ⟨S8192x8192, .i32⟩
  | 18 => ⟨S8192x8192, .i32⟩
  | 19 => ⟨S8192x8192, .i32⟩
  | 20 => ⟨S_, .i32⟩
  | 21 => ⟨S8192x8192, .i32⟩
  | 22 => ⟨S8192x8192, .i1⟩
  | 23 => ⟨S_, .i32⟩
  | 24 => ⟨S8192x8192, .i32⟩
  | 25 => ⟨S8192x8192, .i1⟩
  | 26 => ⟨S8192x8192, .i1⟩
  | 27 => ⟨S2048x4, .i32⟩
  | 28 => ⟨S8192, .i32⟩
  | 29 => ⟨S8192x1, .i32⟩
  | 30 => ⟨S1x8192, .i32⟩
  | 31 => ⟨S8192x8192, .i32⟩
  | 32 => ⟨S8192x8192, .i32⟩
  | 33 => ⟨S8192x8192, .i1⟩
  | 34 => ⟨S8192x8192, .i1⟩
  | 35 => ⟨S8x8192x8192, .f32⟩
  | 36 => ⟨S8, .i32⟩
  | 37 => ⟨S_, .i32⟩
  | 38 => ⟨S8, .i32⟩
  | 39 => ⟨S8, .i32⟩
  | 40 => ⟨S8, .f32⟩
  | 41 => ⟨S_, .f32⟩
  | 42 => ⟨S8, .f32⟩
  | 43 => ⟨S8, .f32⟩
  | 44 => ⟨S8x1x1, .f32⟩
  | 45 => ⟨S8192x8192, .f32⟩
  | 46 => ⟨S1x8192x8192, .f32⟩
  | 47 => ⟨S8x8192x8192, .f32⟩
  | 48 => ⟨S8x8192x8192, .f32⟩
  | 49 => ⟨S8x8192x8192, .f32⟩
  | 50 => ⟨S8x8192x8192, .f32⟩
  | 51 => ⟨S8x8192x8192, .f32⟩
  | 52 => ⟨S_, .f32⟩
  | 53 => ⟨S_, .f32⟩
  | 54 => ⟨S8x8192x8192, .i1⟩
  | 55 => ⟨S8x8192x8192, .f32⟩
  | 56 => ⟨S8x8192x8192, .f32⟩
  | 57 => ⟨S8x128x8192, .f32⟩
  | 58 => ⟨S8192x8x128, .f32⟩
  | 59 => ⟨S_, .f32⟩
  | 60 => ⟨S8x8192, .f32⟩
  | 61 => ⟨S8192x8, .f32⟩
  | 62 => ⟨S8192x1024, .bf16⟩
  | 63 => ⟨S8192x1024, .f32⟩
  | 64 => ⟨S8192x8x128, .f32⟩
  | 65 => ⟨S8192x1024, .bf16⟩
  | 66 => ⟨S8192x1024, .f32⟩
  | 67 => ⟨S8192x8x128, .f32⟩
  | 68 => ⟨S8192x1024, .bf16⟩
  | 69 => ⟨S8192x1024, .f32⟩
  | 70 => ⟨S8192x8x128, .f32⟩
  | 71 => ⟨S8192, .i32⟩
  | 72 => ⟨S8192x1, .i32⟩
  | 73 => ⟨S8192, .i32⟩
  | 74 => ⟨S1x8192, .i32⟩
  | 75 => ⟨S8192x8192, .i32⟩
  | 76 => ⟨S8192x8192, .i32⟩
  | 77 => ⟨S8192x8192, .i32⟩
  | 78 => ⟨S_, .i32⟩
  | 79 => ⟨S8192x8192, .i32⟩
  | 80 => ⟨S8192x8192, .i1⟩
  | 81 => ⟨S_, .i32⟩
  | 82 => ⟨S8192x8192, .i32⟩
  | 83 => ⟨S8192x8192, .i1⟩
  | 84 => ⟨S8192x8192, .i1⟩
  | 85 => ⟨S512x16, .i32⟩
  | 86 => ⟨S8192, .i32⟩
  | 87 => ⟨S8192x1, .i32⟩
  | 88 => ⟨S1x8192, .i32⟩
  | 89 => ⟨S8192x8192, .i32⟩
  | 90 => ⟨S8192x8192, .i32⟩
  | 91 => ⟨S8192x8192, .i1⟩
  | 92 => ⟨S8192x8192, .i1⟩
  | 93 => ⟨S8x8192x8192, .f32⟩
  | 94 => ⟨S8, .i32⟩
  | 95 => ⟨S_, .i32⟩
  | 96 => ⟨S8, .i32⟩
  | 97 => ⟨S8, .i32⟩
  | 98 => ⟨S8, .f32⟩
  | 99 => ⟨S_, .f32⟩
  | 100 => ⟨S8, .f32⟩
  | 101 => ⟨S8, .f32⟩
  | 102 => ⟨S8x1x1, .f32⟩
  | 103 => ⟨S8192x8192, .f32⟩
  | 104 => ⟨S1x8192x8192, .f32⟩
  | 105 => ⟨S8x8192x8192, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S_, .f32⟩
  | 112 => ⟨S8x8192x8192, .i1⟩
  | 113 => ⟨S8x8192x8192, .f32⟩
  | 114 => ⟨S8x8192x8192, .f32⟩
  | 115 => ⟨S8x128x8192, .f32⟩
  | 116 => ⟨S8192x8x128, .f32⟩
  | 117 => ⟨S_, .f32⟩
  | 118 => ⟨S8x8192, .f32⟩
  | 119 => ⟨S8192x8, .f32⟩
  | 120 => ⟨S8192x8x128, .f32⟩
  | 121 => ⟨S8192x8, .f32⟩
  | 122 => ⟨S8192x1024, .bf16⟩
  | 123 => ⟨S8192x1024, .f32⟩
  | 124 => ⟨S8192x8x128, .f32⟩
  | 125 => ⟨S8192x1024, .bf16⟩
  | 126 => ⟨S8192x1024, .f32⟩
  | 127 => ⟨S8192x8x128, .f32⟩
  | _ => ⟨S8192x3072, .bf16⟩

abbrev hbmTy0_1 (i : Nat) : BufTy := match i % 128 with
  | 0 => ⟨S8192x1024, .bf16⟩
  | 1 => ⟨S8192x1024, .f32⟩
  | 2 => ⟨S8192x8x128, .f32⟩
  | 3 => ⟨S8192, .i32⟩
  | 4 => ⟨S8192x1, .i32⟩
  | 5 => ⟨S8192, .i32⟩
  | 6 => ⟨S1x8192, .i32⟩
  | 7 => ⟨S8192x8192, .i32⟩
  | 8 => ⟨S8192x8192, .i32⟩
  | 9 => ⟨S8192x8192, .i32⟩
  | 10 => ⟨S_, .i32⟩
  | 11 => ⟨S8192x8192, .i32⟩
  | 12 => ⟨S8192x8192, .i1⟩
  | 13 => ⟨S_, .i32⟩
  | 14 => ⟨S8192x8192, .i32⟩
  | 15 => ⟨S8192x8192, .i1⟩
  | 16 => ⟨S8192x8192, .i1⟩
  | 17 => ⟨S8x8192x8192, .f32⟩
  | 18 => ⟨S8, .i32⟩
  | 19 => ⟨S_, .i32⟩
  | 20 => ⟨S8, .i32⟩
  | 21 => ⟨S8, .i32⟩
  | 22 => ⟨S8, .f32⟩
  | 23 => ⟨S_, .f32⟩
  | 24 => ⟨S8, .f32⟩
  | 25 => ⟨S8, .f32⟩
  | 26 => ⟨S8x1x1, .f32⟩
  | 27 => ⟨S8192x8192, .f32⟩
  | 28 => ⟨S1x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S_, .f32⟩
  | 36 => ⟨S8x8192x8192, .i1⟩
  | 37 => ⟨S8x8192x8192, .f32⟩
  | 38 => ⟨S8x8192x8192, .f32⟩
  | 39 => ⟨S8x128x8192, .f32⟩
  | 40 => ⟨S8192x8x128, .f32⟩
  | 41 => ⟨S_, .f32⟩
  | 42 => ⟨S8x8192, .f32⟩
  | 43 => ⟨S8192x8, .f32⟩
  | 44 => ⟨S8192x8, .f32⟩
  | 45 => ⟨S8192x1024, .f32⟩
  | 46 => ⟨S8192x8x128, .f32⟩
  | 47 => ⟨S8192x8x128, .f32⟩
  | 48 => ⟨S8192x8x1, .f32⟩
  | 49 => ⟨S8192x8x128, .f32⟩
  | 50 => ⟨S8192x8x128, .f32⟩
  | 51 => ⟨S8192x8x128, .f32⟩
  | 52 => ⟨S_, .f32⟩
  | 53 => ⟨S8192x8, .f32⟩
  | 54 => ⟨S8192x8, .f32⟩
  | 55 => ⟨S_, .i32⟩
  | 56 => ⟨S_, .f32⟩
  | 57 => ⟨S8192x128, .f32⟩
  | 58 => ⟨S_, .i32⟩
  | 59 => ⟨S_, .f32⟩
  | 60 => ⟨S8192x128, .f32⟩
  | 61 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c_4 : Ref sig .tc := ⟨.hbm, 78, rfl⟩
abbrev main_v65 : Ref sig .tc := ⟨.hbm, 79, rfl⟩
abbrev main_v66 : Ref sig .tc := ⟨.hbm, 80, rfl⟩
abbrev main_c_5 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_9 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_10 : Ref sig .tc := ⟨.hbm, 138, rfl⟩
abbrev main_v116 : Ref sig .tc := ⟨.hbm, 139, rfl⟩
abbrev main_v117 : Ref sig .tc := ⟨.hbm, 140, rfl⟩
abbrev main_c_11 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_c_12 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_13 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_14 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_15 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_16 : Ref sig .tc := ⟨.hbm, 180, rfl⟩
abbrev main_v149 : Ref sig .tc := ⟨.hbm, 181, rfl⟩
abbrev main_v150 : Ref sig .tc := ⟨.hbm, 182, rfl⟩
abbrev main_c_17 : Ref sig .tc := ⟨.hbm, 183, rfl⟩
abbrev main_call3_v0 : Ref sig .tc := ⟨.hbm, 184, rfl⟩
abbrev main_v151 : Ref sig .tc := ⟨.hbm, 185, rfl⟩
abbrev main_c_18 : Ref sig .tc := ⟨.hbm, 186, rfl⟩
abbrev main_call4_v0 : Ref sig .tc := ⟨.hbm, 187, rfl⟩
abbrev main_v152 : Ref sig .tc := ⟨.hbm, 188, rfl⟩
abbrev main_v153 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c1_i32 : BitVec 32 := 1#32
  let c0_i32_0 : BitVec 32 := 0#32
  ![v4.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c1_i32 : BitVec 32 := 1#32
  let c0_i32_1 : BitVec 32 := 0#32
  ![v4.toNat, c1_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c2_i32 : BitVec 32 := 2#32
  let c0_i32_0 : BitVec 32 := 0#32
  ![v4.toNat, c2_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c2_i32 : BitVec 32 := 2#32
  let c0_i32_1 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x3072 : Shape := ⟨2, ![8192, 3072]⟩
abbrev S8192x1024 : Shape := ⟨2, ![8192, 1024]⟩
abbrev S8192x8x128 : Shape := ⟨3, ![8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2048x4 : Shape := ⟨2, ![2048, 4]⟩
abbrev S8x8192x8192 : Shape := ⟨3, ![8, 8192, 8192]⟩
abbrev S8 : Shape := ⟨1, ![8]⟩
abbrev S8x1x1 : Shape := ⟨3, ![8, 1, 1]⟩
abbrev S1x8192x8192 : Shape := ⟨3, ![1, 8192, 8192]⟩
abbrev S8x128x8192 : Shape := ⟨3, ![8, 128, 8192]⟩
abbrev S8x8192 : Shape := ⟨2, ![8, 8192]⟩
abbrev S8192x8 : Shape := ⟨2, ![8192, 8]⟩
abbrev S512x16 : Shape := ⟨2, ![512, 16]⟩
abbrev S8192x8x1 : Shape := ⟨3, ![8192, 8, 1]⟩
abbrev S8x8192x128 : Shape := ⟨3, ![8, 8192, 128]⟩

abbrev nBuf : Space → Nat
  | .hbm => 209
  | .vmem => 0
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x1024, .bf16⟩
  | 4 => ⟨S8192x1024, .bf16⟩
  | 5 => ⟨S8192x1024, .f32⟩
  | 6 => ⟨S8192x8x128, .f32⟩
  | 7 => ⟨S8192x1024, .bf16⟩
  | 8 => ⟨S8192x1024, .f32⟩
  | 9 => ⟨S8192x8x128, .f32⟩
  | 10 => ⟨S8192x1024, .bf16⟩
  | 11 => ⟨S8192x1024, .f32⟩
  | 12 => ⟨S8192x8x128, .f32⟩
  | 13 => ⟨S8192x1024, .bf16⟩
  | 14 => ⟨S8192x1024, .f32⟩
  | 15 => ⟨S8192x8x128, .f32⟩
  | 16 => ⟨S8192x1024, .bf16⟩
  | 17 => ⟨S8192x1024, .f32⟩
  | 18 => ⟨S8192x8x128, .f32⟩
  | 19 => ⟨S8192x1024, .bf16⟩
  | 20 => ⟨S8192x1024, .f32⟩
  | 21 => ⟨S8192x8x128, .f32⟩
  | 22 => ⟨S8192, .i32⟩
  | 23 => ⟨S8192x1, .i32⟩
  | 24 => ⟨S8192, .i32⟩
  | 25 => ⟨S1x8192, .i32⟩
  | 26 => ⟨S8192x8192, .i32⟩
  | 27 => ⟨S8192x8192, .i32⟩
  | 28 => ⟨S8192x8192, .i32⟩
  | 29 => ⟨S_, .i32⟩
  | 30 => ⟨S8192x8192, .i32⟩
  | 31 => ⟨S8192x8192, .i1⟩
  | 32 => ⟨S_, .i32⟩
  | 33 => ⟨S8192x8192, .i32⟩
  | 34 => ⟨S8192x8192, .i1⟩
  | 35 => ⟨S8192x8192, .i1⟩
  | 36 => ⟨S2048x4, .i32⟩
  | 37 => ⟨S8192, .i32⟩
  | 38 => ⟨S8192x1, .i32⟩
  | 39 => ⟨S1x8192, .i32⟩
  | 40 => ⟨S8192x8192, .i32⟩
  | 41 => ⟨S8192x8192, .i32⟩
  | 42 => ⟨S8192x8192, .i1⟩
  | 43 => ⟨S8192x8192, .i1⟩
  | 44 => ⟨S8x8192x8192, .f32⟩
  | 45 => ⟨S8, .i32⟩
  | 46 => ⟨S_, .i32⟩
  | 47 => ⟨S8, .i32⟩
  | 48 => ⟨S8, .i32⟩
  | 49 => ⟨S8, .f32⟩
  | 50 => ⟨S_, .f32⟩
  | 51 => ⟨S8, .f32⟩
  | 52 => ⟨S8, .f32⟩
  | 53 => ⟨S8x1x1, .f32⟩
  | 54 => ⟨S8192x8192, .f32⟩
  | 55 => ⟨S1x8192x8192, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S_, .f32⟩
  | 63 => ⟨S8x8192x8192, .i1⟩
  | 64 => ⟨S8x8192x8192, .f32⟩
  | 65 => ⟨S8x8192x8192, .f32⟩
  | 66 => ⟨S8x128x8192, .f32⟩
  | 67 => ⟨S8192x8x128, .f32⟩
  | 68 => ⟨S_, .f32⟩
  | 69 => ⟨S8x8192, .f32⟩
  | 70 => ⟨S8192x8, .f32⟩
  | 71 => ⟨S8192x1024, .bf16⟩
  | 72 => ⟨S8192x1024, .f32⟩
  | 73 => ⟨S8192x8x128, .f32⟩
  | 74 => ⟨S8192x1024, .bf16⟩
  | 75 => ⟨S8192x1024, .f32⟩
  | 76 => ⟨S8192x8x128, .f32⟩
  | 77 => ⟨S8192x1024, .bf16⟩
  | 78 => ⟨S8192x1024, .f32⟩
  | 79 => ⟨S8192x8x128, .f32⟩
  | 80 => ⟨S8192, .i32⟩
  | 81 => ⟨S8192x1, .i32⟩
  | 82 => ⟨S8192, .i32⟩
  | 83 => ⟨S1x8192, .i32⟩
  | 84 => ⟨S8192x8192, .i32⟩
  | 85 => ⟨S8192x8192, .i32⟩
  | 86 => ⟨S8192x8192, .i32⟩
  | 87 => ⟨S_, .i32⟩
  | 88 => ⟨S8192x8192, .i32⟩
  | 89 => ⟨S8192x8192, .i1⟩
  | 90 => ⟨S_, .i32⟩
  | 91 => ⟨S8192x8192, .i32⟩
  | 92 => ⟨S8192x8192, .i1⟩
  | 93 => ⟨S8192x8192, .i1⟩
  | 94 => ⟨S512x16, .i32⟩
  | 95 => ⟨S8192, .i32⟩
  | 96 => ⟨S8192x1, .i32⟩
  | 97 => ⟨S1x8192, .i32⟩
  | 98 => ⟨S8192x8192, .i32⟩
  | 99 => ⟨S8192x8192, .i32⟩
  | 100 => ⟨S8192x8192, .i1⟩
  | 101 => ⟨S8192x8192, .i1⟩
  | 102 => ⟨S8x8192x8192, .f32⟩
  | 103 => ⟨S8, .i32⟩
  | 104 => ⟨S_, .i32⟩
  | 105 => ⟨S8, .i32⟩
  | 106 => ⟨S8, .i32⟩
  | 107 => ⟨S8, .f32⟩
  | 108 => ⟨S_, .f32⟩
  | 109 => ⟨S8, .f32⟩
  | 110 => ⟨S8, .f32⟩
  | 111 => ⟨S8x1x1, .f32⟩
  | 112 => ⟨S8192x8192, .f32⟩
  | 113 => ⟨S1x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S8x128x8192, .f32⟩
  | 125 => ⟨S8192x8x128, .f32⟩
  | 126 => ⟨S_, .f32⟩
  | 127 => ⟨S8x8192, .f32⟩
  | _ => ⟨S8192x3072, .bf16⟩

abbrev hbmTy0_1 (i : Nat) : BufTy := match i % 128 with
  | 0 => ⟨S8192x8, .f32⟩
  | 1 => ⟨S8192x8x128, .f32⟩
  | 2 => ⟨S8192x8, .f32⟩
  | 3 => ⟨S8192, .i32⟩
  | 4 => ⟨S8192x1, .i32⟩
  | 5 => ⟨S8192, .i32⟩
  | 6 => ⟨S1x8192, .i32⟩
  | 7 => ⟨S8192x8192, .i32⟩
  | 8 => ⟨S8192x8192, .i32⟩
  | 9 => ⟨S8192x8192, .i32⟩
  | 10 => ⟨S_, .i32⟩
  | 11 => ⟨S8192x8192, .i32⟩
  | 12 => ⟨S8192x8192, .i1⟩
  | 13 => ⟨S_, .i32⟩
  | 14 => ⟨S8192x8192, .i32⟩
  | 15 => ⟨S8192x8192, .i1⟩
  | 16 => ⟨S8192x8192, .i1⟩
  | 17 => ⟨S8x8192x8192, .f32⟩
  | 18 => ⟨S8, .i32⟩
  | 19 => ⟨S_, .i32⟩
  | 20 => ⟨S8, .i32⟩
  | 21 => ⟨S8, .i32⟩
  | 22 => ⟨S8, .f32⟩
  | 23 => ⟨S_, .f32⟩
  | 24 => ⟨S8, .f32⟩
  | 25 => ⟨S8, .f32⟩
  | 26 => ⟨S8x1x1, .f32⟩
  | 27 => ⟨S8192x8192, .f32⟩
  | 28 => ⟨S1x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S_, .f32⟩
  | 36 => ⟨S8x8192x8192, .i1⟩
  | 37 => ⟨S8x8192x8192, .f32⟩
  | 38 => ⟨S8x8192x8192, .f32⟩
  | 39 => ⟨S_, .f32⟩
  | 40 => ⟨S8x8192x8192, .f32⟩
  | 41 => ⟨S8x128x8192, .f32⟩
  | 42 => ⟨S8192x8x128, .f32⟩
  | 43 => ⟨S_, .f32⟩
  | 44 => ⟨S8x8192, .f32⟩
  | 45 => ⟨S8192x8, .f32⟩
  | 46 => ⟨S8192x8x128, .f32⟩
  | 47 => ⟨S8192x8, .f32⟩
  | 48 => ⟨S8192x8x1, .f32⟩
  | 49 => ⟨S8192x8x128, .f32⟩
  | 50 => ⟨S8192x8x128, .f32⟩
  | 51 => ⟨S8192x8x1, .f32⟩
  | 52 => ⟨S_, .f32⟩
  | 53 => ⟨S8192x8x1, .f32⟩
  | 54 => ⟨S8192x8x1, .f32⟩
  | 55 => ⟨S8192x1024, .f32⟩
  | 56 => ⟨S8192x8x128, .f32⟩
  | 57 => ⟨S8192x8x128, .f32⟩
  | 58 => ⟨S8192x8x128, .f32⟩
  | 59 => ⟨S8192x8x128, .f32⟩
  | 60 => ⟨S_, .f32⟩
  | 61 => ⟨S8192x8, .f32⟩
  | 62 => ⟨S8192x8x1, .f32⟩
  | 63 => ⟨S8192x8x1, .f32⟩
  | 64 => ⟨S8192x8x128, .f32⟩
  | 65 => ⟨S8192x8x128, .f32⟩
  | 66 => ⟨S_, .f32⟩
  | 67 => ⟨S8192x8, .f32⟩
  | 68 => ⟨S8x8192, .f32⟩
  | 69 => ⟨S8x8192x8192, .f32⟩
  | 70 => ⟨S8x128x8192, .f32⟩
  | 71 => ⟨S8x8192x8192, .f32⟩
  | 72 => ⟨S8x8192x8192, .f32⟩
  | 73 => ⟨S_, .f32⟩
  | 74 => ⟨S8x8192x8192, .f32⟩
  | 75 => ⟨S8x8192x8192, .f32⟩
  | 76 => ⟨S8x8192x8192, .f32⟩
  | 77 => ⟨S8x8192x128, .f32⟩
  | 78 => ⟨S8192x8x128, .f32⟩
  | 79 => ⟨S8192x1024, .f32⟩
  | 80 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_2 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_c_4 : Ref sig .tc := ⟨.hbm, 87, rfl⟩
abbrev main_v74 : Ref sig .tc := ⟨.hbm, 88, rfl⟩
abbrev main_v75 : Ref sig .tc := ⟨.hbm, 89, rfl⟩
abbrev main_c_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_c_6 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_8 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_10 : Ref sig .tc := ⟨.hbm, 138, rfl⟩
abbrev main_v116 : Ref sig .tc := ⟨.hbm, 139, rfl⟩
abbrev main_v117 : Ref sig .tc := ⟨.hbm, 140, rfl⟩
abbrev main_c_11 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_c_12 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_13 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_14 : Ref sig .tc := ⟨.hbm, 162, rfl⟩
abbrev main_call2_v0 : Ref sig .tc := ⟨.hbm, 163, rfl⟩
abbrev main_v136_1 : Ref sig .tc := ⟨.hbm, 164, rfl⟩
abbrev main_call2_v2 : Ref sig .tc := ⟨.hbm, 165, rfl⟩
abbrev main_v136_0 : Ref sig .tc := ⟨.hbm, 166, rfl⟩
abbrev main_call2_cst : Ref sig .tc := ⟨.hbm, 167, rfl⟩
abbrev main_v136_2 : Ref sig .tc := ⟨.hbm, 168, rfl⟩
abbrev main_v137 : Ref sig .tc := ⟨.hbm, 169, rfl⟩
abbrev main_v138 : Ref sig .tc := ⟨.hbm, 170, rfl⟩
abbrev main_cst_15 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_16 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_17 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_18 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_call3_cst : Ref sig .tc := ⟨.hbm, 201, rfl⟩
abbrev main_call3_v0 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩

abbrev nD : Nat := 1
abbrev τ : Topo := Topo.v7x

variable {F : FTy → Type} [FloatOps F]
-- ==== Kernel7.lean ====
abbrev S8192x3072 : Shape := ⟨2, ![8192, 3072]⟩
abbrev S8192x1024 : Shape := ⟨2, ![8192, 1024]⟩
abbrev S8192x8x128 : Shape := ⟨3, ![8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2048x4 : Shape := ⟨2, ![2048, 4]⟩
abbrev S8x8192x8192 : Shape := ⟨3, ![8, 8192, 8192]⟩
abbrev S8 : Shape := ⟨1, ![8]⟩
abbrev S8x1x1 : Shape := ⟨3, ![8, 1, 1]⟩
abbrev S1x8192x8192 : Shape := ⟨3, ![1, 8192, 8192]⟩
abbrev S8x128x8192 : Shape := ⟨3, ![8, 128, 8192]⟩
abbrev S8x8192 : Shape := ⟨2, ![8, 8192]⟩
abbrev S8192x8 : Shape := ⟨2, ![8192, 8]⟩
abbrev S512x16 : Shape := ⟨2, ![512, 16]⟩
abbrev S8192x8x1 : Shape := ⟨3, ![8192, 8, 1]⟩
abbrev S8192x128 : Shape := ⟨2, ![8192, 128]⟩
abbrev S128x1024 : Shape := ⟨2, ![128, 1024]⟩
abbrev S128x128 : Shape := ⟨2, ![128, 128]⟩
abbrev S1x128x128 : Shape := ⟨3, ![1, 128, 128]⟩
abbrev S8x128x128 : Shape := ⟨3, ![8, 128, 128]⟩
abbrev S1x128 : Shape := ⟨2, ![1, 128]⟩
abbrev S1x1x128 : Shape := ⟨3, ![1, 1, 128]⟩
abbrev S8x1x128 : Shape := ⟨3, ![8, 1, 128]⟩

abbrev nBuf : Space → Nat
  | .hbm => 191
  | .vmem => 24
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x1024, .bf16⟩
  | 4 => ⟨S8192x1024, .bf16⟩
  | 5 => ⟨S8192x1024, .f32⟩
  | 6 => ⟨S8192x8x128, .f32⟩
  | 7 => ⟨S8192x1024, .bf16⟩
  | 8 => ⟨S8192x1024, .f32⟩
  | 9 => ⟨S8192x8x128, .f32⟩
  | 10 => ⟨S8192x1024, .bf16⟩
  | 11 => ⟨S8192x1024, .f32⟩
  | 12 => ⟨S8192x8x128, .f32⟩
  | 13 => ⟨S8192, .i32⟩
  | 14 => ⟨S8192x1, .i32⟩
  | 15 => ⟨S8192, .i32⟩
  | 16 => ⟨S1x8192, .i32⟩
  | 17 => ⟨S8192x8192, .i32⟩
  | 18 => ⟨S8192x8192, .i32⟩
  | 19 => ⟨S8192x8192, .i32⟩
  | 20 => ⟨S_, .i32⟩
  | 21 => ⟨S8192x8192, .i32⟩
  | 22 => ⟨S8192x8192, .i1⟩
  | 23 => ⟨S_, .i32⟩
  | 24 => ⟨S8192x8192, .i32⟩
  | 25 => ⟨S8192x8192, .i1⟩
  | 26 => ⟨S8192x8192, .i1⟩
  | 27 => ⟨S2048x4, .i32⟩
  | 28 => ⟨S8192, .i32⟩
  | 29 => ⟨S8192x1, .i32⟩
  | 30 => ⟨S1x8192, .i32⟩
  | 31 => ⟨S8192x8192, .i32⟩
  | 32 => ⟨S8192x8192, .i32⟩
  | 33 => ⟨S8192x8192, .i1⟩
  | 34 => ⟨S8192x8192, .i1⟩
  | 35 => ⟨S8x8192x8192, .f32⟩
  | 36 => ⟨S8, .i32⟩
  | 37 => ⟨S_, .i32⟩
  | 38 => ⟨S8, .i32⟩
  | 39 => ⟨S8, .i32⟩
  | 40 => ⟨S8, .f32⟩
  | 41 => ⟨S_, .f32⟩
  | 42 => ⟨S8, .f32⟩
  | 43 => ⟨S8, .f32⟩
  | 44 => ⟨S8x1x1, .f32⟩
  | 45 => ⟨S8192x8192, .f32⟩
  | 46 => ⟨S1x8192x8192, .f32⟩
  | 47 => ⟨S8x8192x8192, .f32⟩
  | 48 => ⟨S8x8192x8192, .f32⟩
  | 49 => ⟨S8x8192x8192, .f32⟩
  | 50 => ⟨S8x8192x8192, .f32⟩
  | 51 => ⟨S8x8192x8192, .f32⟩
  | 52 => ⟨S_, .f32⟩
  | 53 => ⟨S_, .f32⟩
  | 54 => ⟨S8x8192x8192, .i1⟩
  | 55 => ⟨S8x8192x8192, .f32⟩
  | 56 => ⟨S8x8192x8192, .f32⟩
  | 57 => ⟨S8x128x8192, .f32⟩
  | 58 => ⟨S8192x8x128, .f32⟩
  | 59 => ⟨S_, .f32⟩
  | 60 => ⟨S8x8192, .f32⟩
  | 61 => ⟨S8192x8, .f32⟩
  | 62 => ⟨S8192x1024, .bf16⟩
  | 63 => ⟨S8192x1024, .f32⟩
  | 64 => ⟨S8192x8x128, .f32⟩
  | 65 => ⟨S8192x1024, .bf16⟩
  | 66 => ⟨S8192x1024, .f32⟩
  | 67 => ⟨S8192x8x128, .f32⟩
  | 68 => ⟨S8192x1024, .bf16⟩
  | 69 => ⟨S8192x1024, .f32⟩
  | 70 => ⟨S8192x8x128, .f32⟩
  | 71 => ⟨S8192, .i32⟩
  | 72 => ⟨S8192x1, .i32⟩
  | 73 => ⟨S8192, .i32⟩
  | 74 => ⟨S1x8192, .i32⟩
  | 75 => ⟨S8192x8192, .i32⟩
  | 76 => ⟨S8192x8192, .i32⟩
  | 77 => ⟨S8192x8192, .i32⟩
  | 78 => ⟨S_, .i32⟩
  | 79 => ⟨S8192x8192, .i32⟩
  | 80 => ⟨S8192x8192, .i1⟩
  | 81 => ⟨S_, .i32⟩
  | 82 => ⟨S8192x8192, .i32⟩
  | 83 => ⟨S8192x8192, .i1⟩
  | 84 => ⟨S8192x8192, .i1⟩
  | 85 => ⟨S512x16, .i32⟩
  | 86 => ⟨S8192, .i32⟩
  | 87 => ⟨S8192x1, .i32⟩
  | 88 => ⟨S1x8192, .i32⟩
  | 89 => ⟨S8192x8192, .i32⟩
  | 90 => ⟨S8192x8192, .i32⟩
  | 91 => ⟨S8192x8192, .i1⟩
  | 92 => ⟨S8192x8192, .i1⟩
  | 93 => ⟨S8x8192x8192, .f32⟩
  | 94 => ⟨S8, .i32⟩
  | 95 => ⟨S_, .i32⟩
  | 96 => ⟨S8, .i32⟩
  | 97 => ⟨S8, .i32⟩
  | 98 => ⟨S8, .f32⟩
  | 99 => ⟨S_, .f32⟩
  | 100 => ⟨S8, .f32⟩
  | 101 => ⟨S8, .f32⟩
  | 102 => ⟨S8x1x1, .f32⟩
  | 103 => ⟨S8192x8192, .f32⟩
  | 104 => ⟨S1x8192x8192, .f32⟩
  | 105 => ⟨S8x8192x8192, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S_, .f32⟩
  | 112 => ⟨S8x8192x8192, .i1⟩
  | 113 => ⟨S8x8192x8192, .f32⟩
  | 114 => ⟨S8x8192x8192, .f32⟩
  | 115 => ⟨S8x128x8192, .f32⟩
  | 116 => ⟨S8192x8x128, .f32⟩
  | 117 => ⟨S_, .f32⟩
  | 118 => ⟨S8x8192, .f32⟩
  | 119 => ⟨S8192x8, .f32⟩
  | 120 => ⟨S8192x8x128, .f32⟩
  | 121 => ⟨S8192x8, .f32⟩
  | 122 => ⟨S8192x1024, .bf16⟩
  | 123 => ⟨S8192x1024, .f32⟩
  | 124 => ⟨S8192x8x128, .f32⟩
  | 125 => ⟨S8192x1024, .bf16⟩
  | 126 => ⟨S8192x1024, .f32⟩
  | 127 => ⟨S8192x8x128, .f32⟩
  | _ => ⟨S8192x3072, .bf16⟩

abbrev hbmTy0_1 (i : Nat) : BufTy := match i % 128 with
  | 0 => ⟨S8192x1024, .bf16⟩
  | 1 => ⟨S8192x1024, .f32⟩
  | 2 => ⟨S8192x8x128, .f32⟩
  | 3 => ⟨S8192, .i32⟩
  | 4 => ⟨S8192x1, .i32⟩
  | 5 => ⟨S8192, .i32⟩
  | 6 => ⟨S1x8192, .i32⟩
  | 7 => ⟨S8192x8192, .i32⟩
  | 8 => ⟨S8192x8192, .i32⟩
  | 9 => ⟨S8192x8192, .i32⟩
  | 10 => ⟨S_, .i32⟩
  | 11 => ⟨S8192x8192, .i32⟩
  | 12 => ⟨S8192x8192, .i1⟩
  | 13 => ⟨S_, .i32⟩
  | 14 => ⟨S8192x8192, .i32⟩
  | 15 => ⟨S8192x8192, .i1⟩
  | 16 => ⟨S8192x8192, .i1⟩
  | 17 => ⟨S8x8192x8192, .f32⟩
  | 18 => ⟨S8, .i32⟩
  | 19 => ⟨S_, .i32⟩
  | 20 => ⟨S8, .i32⟩
  | 21 => ⟨S8, .i32⟩
  | 22 => ⟨S8, .f32⟩
  | 23 => ⟨S_, .f32⟩
  | 24 => ⟨S8, .f32⟩
  | 25 => ⟨S8, .f32⟩
  | 26 => ⟨S8x1x1, .f32⟩
  | 27 => ⟨S8192x8192, .f32⟩
  | 28 => ⟨S1x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S_, .f32⟩
  | 36 => ⟨S8x8192x8192, .i1⟩
  | 37 => ⟨S8x8192x8192, .f32⟩
  | 38 => ⟨S8x8192x8192, .f32⟩
  | 39 => ⟨S8x128x8192, .f32⟩
  | 40 => ⟨S8192x8x128, .f32⟩
  | 41 => ⟨S_, .f32⟩
  | 42 => ⟨S8x8192, .f32⟩
  | 43 => ⟨S8192x8, .f32⟩
  | 44 => ⟨S8192x8, .f32⟩
  | 45 => ⟨S8192x1024, .f32⟩
  | 46 => ⟨S8192x8x128, .f32⟩
  | 47 => ⟨S8192x8x128, .f32⟩
  | 48 => ⟨S8192x8x1, .f32⟩
  | 49 => ⟨S8192x8x128, .f32⟩
  | 50 => ⟨S8192x8x128, .f32⟩
  | 51 => ⟨S8192x8x128, .f32⟩
  | 52 => ⟨S_, .f32⟩
  | 53 => ⟨S8192x8, .f32⟩
  | 54 => ⟨S8192x8, .f32⟩
  | 55 => ⟨S_, .i32⟩
  | 56 => ⟨S_, .f32⟩
  | 57 => ⟨S8192x128, .f32⟩
  | 58 => ⟨S_, .i32⟩
  | 59 => ⟨S_, .f32⟩
  | 60 => ⟨S8192x128, .f32⟩
  | 61 => ⟨S8192x1024, .bf16⟩
  | 62 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c_4 : Ref sig .tc := ⟨.hbm, 78, rfl⟩
abbrev main_v65 : Ref sig .tc := ⟨.hbm, 79, rfl⟩
abbrev main_v66 : Ref sig .tc := ⟨.hbm, 80, rfl⟩
abbrev main_c_5 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_9 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_10 : Ref sig .tc := ⟨.hbm, 138, rfl⟩
abbrev main_v116 : Ref sig .tc := ⟨.hbm, 139, rfl⟩
abbrev main_v117 : Ref sig .tc := ⟨.hbm, 140, rfl⟩
abbrev main_c_11 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_c_12 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_13 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_14 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_15 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_16 : Ref sig .tc := ⟨.hbm, 180, rfl⟩
abbrev main_v149 : Ref sig .tc := ⟨.hbm, 181, rfl⟩
abbrev main_v150 : Ref sig .tc := ⟨.hbm, 182, rfl⟩
abbrev main_c_17 : Ref sig .tc := ⟨.hbm, 183, rfl⟩
abbrev main_call3_v0 : Ref sig .tc := ⟨.hbm, 184, rfl⟩
abbrev main_v151 : Ref sig .tc := ⟨.hbm, 185, rfl⟩
abbrev main_c_18 : Ref sig .tc := ⟨.hbm, 186, rfl⟩
abbrev main_call4_v0 : Ref sig .tc := ⟨.hbm, 187, rfl⟩
abbrev main_v152 : Ref sig .tc := ⟨.hbm, 188, rfl⟩
abbrev main_v153_0 : Ref sig .tc := ⟨.hbm, 189, rfl⟩
abbrev main_v153_1 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c1_i32 : BitVec 32 := 1#32
  let c0_i32_1 : BitVec 32 := 0#32
  ![v4.toNat, c1_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c2_i32 : BitVec 32 := 2#32
  let c0_i32_1 : BitVec 32 := 0#32
  ![v4.toNat, c2_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S8192x3072 : Shape := ⟨2, ![8192, 3072]⟩
abbrev S8192x1024 : Shape := ⟨2, ![8192, 1024]⟩
abbrev S8192x8x128 : Shape := ⟨3, ![8192, 8, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2048x4 : Shape := ⟨2, ![2048, 4]⟩
abbrev S8x8192x8192 : Shape := ⟨3, ![8, 8192, 8192]⟩
abbrev S8 : Shape := ⟨1, ![8]⟩
abbrev S8x1x1 : Shape := ⟨3, ![8, 1, 1]⟩
abbrev S1x8192x8192 : Shape := ⟨3, ![1, 8192, 8192]⟩
abbrev S8x128x8192 : Shape := ⟨3, ![8, 128, 8192]⟩
abbrev S8x8192 : Shape := ⟨2, ![8, 8192]⟩
abbrev S8192x8 : Shape := ⟨2, ![8192, 8]⟩
abbrev S512x16 : Shape := ⟨2, ![512, 16]⟩
abbrev S8192x8x1 : Shape := ⟨3, ![8192, 8, 1]⟩
abbrev S8x8192x128 : Shape := ⟨3, ![8, 8192, 128]⟩

abbrev nBuf : Space → Nat
  | .hbm => 213
  | .vmem => 0
  | .smem => 0
  | _ => 0

abbrev hbmTy0_0 (i : Nat) : BufTy := match i % 128 with
  | 0 => ⟨S8192x3072, .bf16⟩
  | 1 => ⟨S8192x3072, .bf16⟩
  | 2 => ⟨S8192x3072, .bf16⟩
  | 3 => ⟨S8192x1024, .bf16⟩
  | 4 => ⟨S8192x1024, .bf16⟩
  | 5 => ⟨S8192x1024, .f32⟩
  | 6 => ⟨S8192x8x128, .f32⟩
  | 7 => ⟨S8192x1024, .bf16⟩
  | 8 => ⟨S8192x1024, .f32⟩
  | 9 => ⟨S8192x8x128, .f32⟩
  | 10 => ⟨S8192x1024, .bf16⟩
  | 11 => ⟨S8192x1024, .f32⟩
  | 12 => ⟨S8192x8x128, .f32⟩
  | 13 => ⟨S8192x1024, .bf16⟩
  | 14 => ⟨S8192x1024, .f32⟩
  | 15 => ⟨S8192x8x128, .f32⟩
  | 16 => ⟨S8192x1024, .bf16⟩
  | 17 => ⟨S8192x1024, .f32⟩
  | 18 => ⟨S8192x8x128, .f32⟩
  | 19 => ⟨S8192x1024, .bf16⟩
  | 20 => ⟨S8192x1024, .f32⟩
  | 21 => ⟨S8192x8x128, .f32⟩
  | 22 => ⟨S8192, .i32⟩
  | 23 => ⟨S8192x1, .i32⟩
  | 24 => ⟨S8192, .i32⟩
  | 25 => ⟨S1x8192, .i32⟩
  | 26 => ⟨S8192x8192, .i32⟩
  | 27 => ⟨S8192x8192, .i32⟩
  | 28 => ⟨S8192x8192, .i32⟩
  | 29 => ⟨S_, .i32⟩
  | 30 => ⟨S8192x8192, .i32⟩
  | 31 => ⟨S8192x8192, .i1⟩
  | 32 => ⟨S_, .i32⟩
  | 33 => ⟨S8192x8192, .i32⟩
  | 34 => ⟨S8192x8192, .i1⟩
  | 35 => ⟨S8192x8192, .i1⟩
  | 36 => ⟨S2048x4, .i32⟩
  | 37 => ⟨S8192, .i32⟩
  | 38 => ⟨S8192x1, .i32⟩
  | 39 => ⟨S1x8192, .i32⟩
  | 40 => ⟨S8192x8192, .i32⟩
  | 41 => ⟨S8192x8192, .i32⟩
  | 42 => ⟨S8192x8192, .i1⟩
  | 43 => ⟨S8192x8192, .i1⟩
  | 44 => ⟨S8x8192x8192, .f32⟩
  | 45 => ⟨S8, .i32⟩
  | 46 => ⟨S_, .i32⟩
  | 47 => ⟨S8, .i32⟩
  | 48 => ⟨S8, .i32⟩
  | 49 => ⟨S8, .f32⟩
  | 50 => ⟨S_, .f32⟩
  | 51 => ⟨S8, .f32⟩
  | 52 => ⟨S8, .f32⟩
  | 53 => ⟨S8x1x1, .f32⟩
  | 54 => ⟨S8192x8192, .f32⟩
  | 55 => ⟨S1x8192x8192, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S_, .f32⟩
  | 63 => ⟨S8x8192x8192, .i1⟩
  | 64 => ⟨S8x8192x8192, .f32⟩
  | 65 => ⟨S8x8192x8192, .f32⟩
  | 66 => ⟨S8x128x8192, .f32⟩
  | 67 => ⟨S8192x8x128, .f32⟩
  | 68 => ⟨S_, .f32⟩
  | 69 => ⟨S8x8192, .f32⟩
  | 70 => ⟨S8192x8, .f32⟩
  | 71 => ⟨S8192x1024, .bf16⟩
  | 72 => ⟨S8192x1024, .f32⟩
  | 73 => ⟨S8192x8x128, .f32⟩
  | 74 => ⟨S8192x1024, .bf16⟩
  | 75 => ⟨S8192x1024, .f32⟩
  | 76 => ⟨S8192x8x128, .f32⟩
  | 77 => ⟨S8192x1024, .bf16⟩
  | 78 => ⟨S8192x1024, .f32⟩
  | 79 => ⟨S8192x8x128, .f32⟩
  | 80 => ⟨S8192, .i32⟩
  | 81 => ⟨S8192x1, .i32⟩
  | 82 => ⟨S8192, .i32⟩
  | 83 => ⟨S1x8192, .i32⟩
  | 84 => ⟨S8192x8192, .i32⟩
  | 85 => ⟨S8192x8192, .i32⟩
  | 86 => ⟨S8192x8192, .i32⟩
  | 87 => ⟨S_, .i32⟩
  | 88 => ⟨S8192x8192, .i32⟩
  | 89 => ⟨S8192x8192, .i1⟩
  | 90 => ⟨S_, .i32⟩
  | 91 => ⟨S8192x8192, .i32⟩
  | 92 => ⟨S8192x8192, .i1⟩
  | 93 => ⟨S8192x8192, .i1⟩
  | 94 => ⟨S512x16, .i32⟩
  | 95 => ⟨S8192, .i32⟩
  | 96 => ⟨S8192x1, .i32⟩
  | 97 => ⟨S1x8192, .i32⟩
  | 98 => ⟨S8192x8192, .i32⟩
  | 99 => ⟨S8192x8192, .i32⟩
  | 100 => ⟨S8192x8192, .i1⟩
  | 101 => ⟨S8192x8192, .i1⟩
  | 102 => ⟨S8x8192x8192, .f32⟩
  | 103 => ⟨S8, .i32⟩
  | 104 => ⟨S_, .i32⟩
  | 105 => ⟨S8, .i32⟩
  | 106 => ⟨S8, .i32⟩
  | 107 => ⟨S8, .f32⟩
  | 108 => ⟨S_, .f32⟩
  | 109 => ⟨S8, .f32⟩
  | 110 => ⟨S8, .f32⟩
  | 111 => ⟨S8x1x1, .f32⟩
  | 112 => ⟨S8192x8192, .f32⟩
  | 113 => ⟨S1x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S8x128x8192, .f32⟩
  | 125 => ⟨S8192x8x128, .f32⟩
  | 126 => ⟨S_, .f32⟩
  | 127 => ⟨S8x8192, .f32⟩
  | _ => ⟨S8192x3072, .bf16⟩

abbrev hbmTy0_1 (i : Nat) : BufTy := match i % 128 with
  | 0 => ⟨S8192x8, .f32⟩
  | 1 => ⟨S8192x8x128, .f32⟩
  | 2 => ⟨S8192x8, .f32⟩
  | 3 => ⟨S8192, .i32⟩
  | 4 => ⟨S8192x1, .i32⟩
  | 5 => ⟨S8192, .i32⟩
  | 6 => ⟨S1x8192, .i32⟩
  | 7 => ⟨S8192x8192, .i32⟩
  | 8 => ⟨S8192x8192, .i32⟩
  | 9 => ⟨S8192x8192, .i32⟩
  | 10 => ⟨S_, .i32⟩
  | 11 => ⟨S8192x8192, .i32⟩
  | 12 => ⟨S8192x8192, .i1⟩
  | 13 => ⟨S_, .i32⟩
  | 14 => ⟨S8192x8192, .i32⟩
  | 15 => ⟨S8192x8192, .i1⟩
  | 16 => ⟨S8192x8192, .i1⟩
  | 17 => ⟨S8x8192x8192, .f32⟩
  | 18 => ⟨S8, .i32⟩
  | 19 => ⟨S_, .i32⟩
  | 20 => ⟨S8, .i32⟩
  | 21 => ⟨S8, .i32⟩
  | 22 => ⟨S8, .f32⟩
  | 23 => ⟨S_, .f32⟩
  | 24 => ⟨S8, .f32⟩
  | 25 => ⟨S8, .f32⟩
  | 26 => ⟨S8x1x1, .f32⟩
  | 27 => ⟨S8192x8192, .f32⟩
  | 28 => ⟨S1x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S_, .f32⟩
  | 36 => ⟨S8x8192x8192, .i1⟩
  | 37 => ⟨S8x8192x8192, .f32⟩
  | 38 => ⟨S8x8192x8192, .f32⟩
  | 39 => ⟨S_, .f32⟩
  | 40 => ⟨S8x8192x8192, .f32⟩
  | 41 => ⟨S8x128x8192, .f32⟩
  | 42 => ⟨S8192x8x128, .f32⟩
  | 43 => ⟨S_, .f32⟩
  | 44 => ⟨S8x8192, .f32⟩
  | 45 => ⟨S8192x8, .f32⟩
  | 46 => ⟨S8192x8x128, .f32⟩
  | 47 => ⟨S8192x8, .f32⟩
  | 48 => ⟨S8192x8x1, .f32⟩
  | 49 => ⟨S8192x8x128, .f32⟩
  | 50 => ⟨S8192x8x128, .f32⟩
  | 51 => ⟨S8192x8x1, .f32⟩
  | 52 => ⟨S_, .f32⟩
  | 53 => ⟨S8192x8x1, .f32⟩
  | 54 => ⟨S8192x8x1, .f32⟩
  | 55 => ⟨S8192x1024, .f32⟩
  | 56 => ⟨S8192x8x128, .f32⟩
  | 57 => ⟨S8192x8x128, .f32⟩
  | 58 => ⟨S8192x8x128, .f32⟩
  | 59 => ⟨S8192x8x128, .f32⟩
  | 60 => ⟨S_, .f32⟩
  | 61 => ⟨S8192x8, .f32⟩
  | 62 => ⟨S8192x8x1, .f32⟩
  | 63 => ⟨S8192x8x1, .f32⟩
  | 64 => ⟨S8192x8x128, .f32⟩
  | 65 => ⟨S8192x8x128, .f32⟩
  | 66 => ⟨S_, .f32⟩
  | 67 => ⟨S8192x8, .f32⟩
  | 68 => ⟨S8x8192, .f32⟩
  | 69 => ⟨S8x8192x8192, .f32⟩
  | 70 => ⟨S8x128x8192, .f32⟩
  | 71 => ⟨S8x8192x8192, .f32⟩
  | 72 => ⟨S8x8192x8192, .f32⟩
  | 73 => ⟨S8x128x8192, .f32⟩
  | 74 => ⟨S8192x8x128, .f32⟩
  | 75 => ⟨S_, .f32⟩
  | 76 => ⟨S8x8192x8192, .f32⟩
  | 77 => ⟨S8x8192x8192, .f32⟩
  | 78 => ⟨S8x8192x8192, .f32⟩
  | 79 => ⟨S8x8192x128, .f32⟩
  | 80 => ⟨S8192x8x128, .f32⟩
  | 81 => ⟨S8192x1024, .f32⟩
  | 82 => ⟨S8192x1024, .bf16⟩
  | 83 => ⟨S8192x1024, .f32⟩
  | 84 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_2 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_c_4 : Ref sig .tc := ⟨.hbm, 87, rfl⟩
abbrev main_v74 : Ref sig .tc := ⟨.hbm, 88, rfl⟩
abbrev main_v75 : Ref sig .tc := ⟨.hbm, 89, rfl⟩
abbrev main_c_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_c_6 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_7 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_8 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_10 : Ref sig .tc := ⟨.hbm, 138, rfl⟩
abbrev main_v116 : Ref sig .tc := ⟨.hbm, 139, rfl⟩
abbrev main_v117 : Ref sig .tc := ⟨.hbm, 140, rfl⟩
abbrev main_c_11 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_c_12 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_13 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_14 : Ref sig .tc := ⟨.hbm, 162, rfl⟩
abbrev main_call2_v0 : Ref sig .tc := ⟨.hbm, 163, rfl⟩
abbrev main_v136_1 : Ref sig .tc := ⟨.hbm, 164, rfl⟩
abbrev main_call2_v2 : Ref sig .tc := ⟨.hbm, 165, rfl⟩
abbrev main_v136_0 : Ref sig .tc := ⟨.hbm, 166, rfl⟩
abbrev main_call2_cst : Ref sig .tc := ⟨.hbm, 167, rfl⟩
abbrev main_v136_2 : Ref sig .tc := ⟨.hbm, 168, rfl⟩
abbrev main_v137 : Ref sig .tc := ⟨.hbm, 169, rfl⟩
abbrev main_v138 : Ref sig .tc := ⟨.hbm, 170, rfl⟩
abbrev main_cst_15 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_16 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_17 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_18 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_call3_cst : Ref sig .tc := ⟨.hbm, 203, rfl⟩
abbrev main_call3_v0 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩

abbrev nD : Nat := 1
abbrev τ : Topo := Topo.v7x

variable {F : FTy → Type} [FloatOps F]
-- ==== Kernel8.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x3072, .f32⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S2x4x256x512 : Shape := ⟨4, ![2, 4, 256, 512]⟩
abbrev S2048x512 : Shape := ⟨2, ![2048, 512]⟩
abbrev S1x2x256x512 : Shape := ⟨4, ![1, 2, 256, 512]⟩
abbrev S512x512 : Shape := ⟨2, ![512, 512]⟩
abbrev S256x512 : Shape := ⟨2, ![256, 512]⟩
abbrev S1x1x256x512 : Shape := ⟨4, ![1, 1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x4x256x512, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S1x2x256x512, .f32⟩
  | .local _ .vmem, ⟨5, _⟩ => ⟨S1x2x256x512, .f32⟩
  | .local _ .vmem, ⟨6, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, c0_i32_11.toNat, v26.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩
abbrev S1024x512 : Shape := ⟨2, ![1024, 512]⟩
abbrev S256x512 : Shape := ⟨2, ![256, 512]⟩
abbrev S1x256x512 : Shape := ⟨3, ![1, 256, 512]⟩
abbrev S4x256x512 : Shape := ⟨3, ![4, 256, 512]⟩
abbrev S1x4x256x512 : Shape := ⟨4, ![1, 4, 256, 512]⟩
abbrev S2x4x256x512 : Shape := ⟨4, ![2, 4, 256, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x512, .f32⟩
  | .hbm, ⟨9, _⟩ => ⟨S1024x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S1x256x512, .f32⟩
  | .hbm, ⟨15, _⟩ => ⟨S1x256x512, .f32⟩
  | .hbm, ⟨16, _⟩ => ⟨S1x256x512, .f32⟩
  | .hbm, ⟨17, _⟩ => ⟨S1x256x512, .f32⟩
  | .hbm, ⟨18, _⟩ => ⟨S4x256x512, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S1x256x512, .f32⟩
  | .hbm, ⟨27, _⟩ => ⟨S4x256x512, .f32⟩
  | .hbm, ⟨28, _⟩ => ⟨S1x4x256x512, .f32⟩
  | .hbm, ⟨29, _⟩ => ⟨S1x4x256x512, .f32⟩
  | .hbm, ⟨30, _⟩ => ⟨S2x4x256x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel12.lean ====
abbrev S8192x2688 : Shape := ⟨2, ![8192, 2688]⟩
abbrev S1024x2688 : Shape := ⟨2, ![1024, 2688]⟩
abbrev S8192x1024 : Shape := ⟨2, ![8192, 1024]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2688, .bf16⟩
  | .hbm, ⟨1, _⟩ => ⟨S1024x2688, .bf16⟩
  | .hbm, ⟨2, _⟩ => ⟨S8192x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2688 : Shape := ⟨2, ![8192, 2688]⟩
abbrev S1024x2688 : Shape := ⟨2, ![1024, 2688]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2688, .bf16⟩
  | .hbm, ⟨1, _⟩ => ⟨S1024x2688, .bf16⟩
  | .hbm, ⟨2, _⟩ => ⟨S8192x2688, .f32⟩
  | .hbm, ⟨3, _⟩ => ⟨S1024x2688, .f32⟩
  | .hbm, ⟨4, _⟩ => ⟨S_, .f32⟩
  | .hbm, ⟨5, _⟩ => ⟨S8192x1024, .f32⟩
  | .hbm, ⟨6, _⟩ => ⟨S8192x2688, .f32⟩
  | .hbm, ⟨7, _⟩ => ⟨S8192x1024, .f32⟩
  | _, _ => ⟨S8192x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S8192x2688 : Shape := ⟨2, ![8192, 2688]⟩
abbrev S1024x2688 : Shape := ⟨2, ![1024, 2688]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S8192x1024, .f32⟩
  | .hbm, ⟨3, _⟩ => ⟨S8192x2688, .f32⟩
  | .hbm, ⟨4, _⟩ => ⟨S_, .f32⟩
  | .hbm, ⟨5, _⟩ => ⟨S1024x2688, .f32⟩
  | .hbm, ⟨6, _⟩ => ⟨S8192x2688, .f32⟩
  | .hbm, ⟨7, _⟩ => ⟨S2688x1024, .f32⟩
  | .hbm, ⟨8, _⟩ => ⟨S1024x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8192x1024 : Shape := ⟨2, ![8192, 1024]⟩
abbrev S1024x2688 : Shape := ⟨2, ![1024, 2688]⟩
abbrev S8192x2688 : Shape := ⟨2, ![8192, 2688]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x2688 : Shape := ⟨2, ![1024, 2688]⟩
abbrev S8192x2688 : Shape := ⟨2, ![8192, 2688]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x1024, .f32⟩
  | .hbm, ⟨3, _⟩ => ⟨S1024x2688, .f32⟩
  | .hbm, ⟨4, _⟩ => ⟨S8192x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S2x4x256x512 : Shape := ⟨4, ![2, 4, 256, 512]⟩
abbrev S2048x512 : Shape := ⟨2, ![2048, 512]⟩
abbrev S1x2x256x512 : Shape := ⟨4, ![1, 2, 256, 512]⟩
abbrev S512x512 : Shape := ⟨2, ![512, 512]⟩
abbrev S256x512 : Shape := ⟨2, ![256, 512]⟩
abbrev S1x1x256x512 : Shape := ⟨4, ![1, 1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x4x256x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x2x256x512, .f32⟩
  | .local _ .vmem, ⟨5, _⟩ => ⟨S1x2x256x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, c0_i32_11.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S_ : Shape := ⟨0, ![]⟩
abbrev S1024x1024 : Shape := ⟨2, ![1024, 1024]⟩
abbrev S1024x512 : Shape := ⟨2, ![1024, 512]⟩
abbrev S256x512 : Shape := ⟨2, ![256, 512]⟩
abbrev S1x256x512 : Shape := ⟨3, ![1, 256, 512]⟩
abbrev S4x256x512 : Shape := ⟨3, ![4, 256, 512]⟩
abbrev S1x4x256x512 : Shape := ⟨4, ![1, 4, 256, 512]⟩
abbrev S2x4x256x512 : Shape := ⟨4, ![2, 4, 256, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x512, .f32⟩
  | .hbm, ⟨10, _⟩ => ⟨S1024x512, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S1x256x512, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S4x256x512, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S1x256x512, .f32⟩
  | .hbm, ⟨25, _⟩ => ⟨S1x256x512, .f32⟩
  | .hbm, ⟨26, _⟩ => ⟨S1x256x512, .f32⟩
  | .hbm, ⟨27, _⟩ => ⟨S1x256x512, .f32⟩
  | .hbm, ⟨28, _⟩ => ⟨S4x256x512, .f32⟩
  | .hbm, ⟨29, _⟩ => ⟨S1x4x256x512, .f32⟩
  | .hbm, ⟨30, _⟩ => ⟨S1x4x256x512, .f32⟩
  | .hbm, ⟨31, _⟩ => ⟨S2x4x256x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference22Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel23.lean ====
abbrev S8192x5632 : Shape := ⟨2, ![8192, 5632]⟩
abbrev S3x2816 : Shape := ⟨2, ![3, 2816]⟩
abbrev S2816 : Shape := ⟨1, ![2816]⟩
abbrev S_ : Shape := ⟨0, ![]⟩
abbrev S8x2816 : Shape := ⟨2, ![8, 2816]⟩
abbrev S1x2816 : Shape := ⟨2, ![1, 2816]⟩
abbrev S8192x2816 : Shape := ⟨2, ![8192, 2816]⟩
abbrev S256x1408 : Shape := ⟨2, ![256, 1408]⟩
abbrev S16x1408 : Shape := ⟨2, ![16, 1408]⟩
abbrev S8x1408 : Shape := ⟨2, ![8, 1408]⟩
abbrev S1x1408 : Shape := ⟨2, ![1, 1408]⟩
abbrev S272x1408 : Shape := ⟨2, ![272, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S_, .i32⟩
  | .hbm, ⟨4, _⟩ => ⟨S_, .f32⟩
  | .hbm, ⟨5, _⟩ => ⟨S8x2816, .f32⟩
  | .hbm, ⟨6, _⟩ => ⟨S1x2816, .f32⟩
  | .hbm, ⟨7, _⟩ => ⟨S8192x2816, .bf16⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S256x1408, .bf16⟩
  | .local _ .vmem, ⟨11, _⟩ => ⟨S256x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference23Ideal.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S1x2816 : Shape := ⟨2, ![1, 2816]⟩
abbrev S_ : Shape := ⟨0, ![]⟩
abbrev S8191x2816 : Shape := ⟨2, ![8191, 2816]⟩
abbrev S2x2816 : Shape := ⟨2, ![2, 2816]⟩
abbrev S8190x2816 : Shape := ⟨2, ![8190, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S2816, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S1x2816, .f32⟩
  | .hbm, ⟨7, _⟩ => ⟨S2816, .f32⟩
  | .hbm, ⟨8, _⟩ => ⟨S1x2816, .f32⟩
  | .hbm, ⟨9, _⟩ => ⟨S_, .f32⟩
  | .hbm, ⟨10, _⟩ => ⟨S1x2816, .f32⟩
  | .hbm, ⟨11, _⟩ => ⟨S8191x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S2816, .f32⟩
  | .hbm, ⟨20, _⟩ => ⟨S1x2816, .f32⟩
  | .hbm, ⟨21, _⟩ => ⟨S_, .f32⟩
  | .hbm, ⟨22, _⟩ => ⟨S2x2816, .f32⟩
  | .hbm, ⟨23, _⟩ => ⟨S8190x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S1x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference24Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference25Ideal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8192x1024 : Shape := ⟨2, ![8192, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel29.lean ====
abbrev S8192x2688 : Shape := ⟨2, ![8192, 2688]⟩
abbrev S4x1536 : Shape := ⟨2, ![4, 1536]⟩
abbrev S8192x1536 : Shape := ⟨2, ![8192, 1536]⟩
abbrev S_ : Shape := ⟨0, ![]⟩
abbrev S8x1536 : Shape := ⟨2, ![8, 1536]⟩
abbrev S512x512 : Shape := ⟨2, ![512, 512]⟩
abbrev S8x512 : Shape := ⟨2, ![8, 512]⟩
abbrev S528x512 : Shape := ⟨2, ![528, 512]⟩
abbrev S1x512 : Shape := ⟨2, ![1, 512]⟩
abbrev S520x512 : Shape := ⟨2, ![520, 512]⟩
abbrev S520x128 : Shape := ⟨2, ![520, 128]⟩
abbrev S520 : Shape := ⟨1, ![520]⟩
abbrev S520x1 : Shape := ⟨2, ![520, 1]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S8192x2688, .f32⟩
  | .hbm, ⟨1, _⟩ => ⟨S4x1536, .f32⟩
  | .hbm, ⟨2, _⟩ => ⟨S8192x1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S8192x1536, .bf16⟩
  | .hbm, ⟨7, _⟩ => ⟨S8x1536, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | _, _ => ⟨S8192x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c64_i32 : BitVec 32 := 64#32
  let v2 : BitVec 32 := Scalar.muli v1 c64_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c64_i32 : BitVec 32 := 64#32
  let v2 : BitVec 32 := Scalar.muli v1 c64_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference29Ideal.lean ====
abbrev S8192x2688 : Shape := ⟨2, ![8192, 2688]⟩
abbrev S4x1536 : Shape := ⟨2, ![4, 1536]⟩
abbrev S8192x1536 : Shape := ⟨2, ![8192, 1536]⟩
abbrev S1x1536 : Shape := ⟨2, ![1, 1536]⟩
abbrev S1536 : Shape := ⟨1, ![1536]⟩
abbrev S_ : Shape := ⟨0, ![]⟩
abbrev S8191x1536 : Shape := ⟨2, ![8191, 1536]⟩
abbrev S2x1536 : Shape := ⟨2, ![2, 1536]⟩
abbrev S8190x1536 : Shape := ⟨2, ![8190, 1536]⟩
abbrev S3x1536 : Shape := ⟨2, ![3, 1536]⟩
abbrev S8189x1536 : Shape := ⟨2, ![8189, 1536]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S8x1536 : Shape := ⟨2, ![8, 1536]⟩

abbrev nBuf : Space → Nat
  | .hbm => 203
  | .vmem => 0
  | .smem => 0
  | _ => 0

abbrev hbmTy0_0 (i : Nat) : BufTy := match i % 128 with
  | 0 => ⟨S8192x2688, .f32⟩
  | 1 => ⟨S4x1536, .f32⟩
  | 2 => ⟨S8192x1536, .f32⟩
  | 3 => ⟨S8192x1536, .f32⟩
  | 4 => ⟨S1x1536, .f32⟩
  | 5 => ⟨S1536, .f32⟩
  | 6 => ⟨S1x1536, .f32⟩
  | 7 => ⟨S_, .f32⟩
  | 8 => ⟨S1x1536, .f32⟩
  | 9 => ⟨S8191x1536, .f32⟩
  | 10 => ⟨S8192x1536, .f32⟩
  | 11 => ⟨S_, .f32⟩
  | 12 => ⟨S1x1536, .f32⟩
  | 13 => ⟨S8192x1536, .f32⟩
  | 14 => ⟨S8192x1536, .f32⟩
  | 15 => ⟨S_, .f32⟩
  | 16 => ⟨S8192x1536, .f32⟩
  | 17 => ⟨S8192x1536, .f32⟩
  | 18 => ⟨S1x1536, .f32⟩
  | 19 => ⟨S1536, .f32⟩
  | 20 => ⟨S1x1536, .f32⟩
  | 21 => ⟨S_, .f32⟩
  | 22 => ⟨S2x1536, .f32⟩
  | 23 => ⟨S8190x1536, .f32⟩
  | 24 => ⟨S8192x1536, .f32⟩
  | 25 => ⟨S_, .f32⟩
  | 26 => ⟨S2x1536, .f32⟩
  | 27 => ⟨S8192x1536, .f32⟩
  | 28 => ⟨S8192x1536, .f32⟩
  | 29 => ⟨S8192x1536, .f32⟩
  | 30 => ⟨S1x1536, .f32⟩
  | 31 => ⟨S1536, .f32⟩
  | 32 => ⟨S1x1536, .f32⟩
  | 33 => ⟨S_, .f32⟩
  | 34 => ⟨S3x1536, .f32⟩
  | 35 => ⟨S8189x1536, .f32⟩
  | 36 => ⟨S8192x1536, .f32⟩
  | 37 => ⟨S_, .f32⟩
  | 38 => ⟨S3x1536, .f32⟩
  | 39 => ⟨S8192x1536, .f32⟩
  | 40 => ⟨S8192x1536, .f32⟩
  | 41 => ⟨S8192x1536, .f32⟩
  | 42 => ⟨S1x1536, .f32⟩
  | 43 => ⟨S1536, .f32⟩
  | 44 => ⟨S1x1536, .f32⟩
  | 45 => ⟨S8192x1536, .f32⟩
  | 46 => ⟨S8192x1536, .f32⟩
  | 47 => ⟨S8192x1536, .f32⟩
  | 48 => ⟨S8192x1536, .f32⟩
  | 49 => ⟨S8192x1536, .f32⟩
  | 50 => ⟨S_, .f32⟩
  | 51 => ⟨S8192x1536, .f32⟩
  | 52 => ⟨S8192x1536, .f32⟩
  | 53 => ⟨S_, .f32⟩
  | 54 => ⟨S8192x1536, .f32⟩
  | 55 => ⟨S8192x1536, .f32⟩
  | 56 => ⟨S_, .f32⟩
  | 57 => ⟨S8192x1536, .f32⟩
  | 58 => ⟨S8192x1536, .f32⟩
  | 59 => ⟨S8192x1536, .f32⟩
  | 60 => ⟨S8192x1536, .f32⟩
  | 61 => ⟨S8192x512, .f32⟩
  | 62 => ⟨S8192x512, .f32⟩
  | 63 => ⟨S8192x512, .f32⟩
  | 64 => ⟨S8192x4x128, .f32⟩
  | 65 => ⟨S8192x4x128, .f32⟩
  | 66 => ⟨S_, .f32⟩
  | 67 => ⟨S8192x4, .f32⟩
  | 68 => ⟨S8192x4x1, .f32⟩
  | 69 => ⟨S_, .f32⟩
  | 70 => ⟨S8192x4x1, .f32⟩
  | 71 => ⟨S8192x4x1, .f32⟩
  | 72 => ⟨S8192x4x1, .f32⟩
  | 73 => ⟨S8192x4x1, .f32⟩
  | 74 => ⟨S_, .f32⟩
  | 75 => ⟨S8192x4x1, .f32⟩
  | 76 => ⟨S8192x4x1, .f32⟩
  | 77 => ⟨S8192x4x128, .f32⟩
  | 78 => ⟨S8192x4x128, .f32⟩
  | 79 => ⟨S8192x4x128, .f32⟩
  | 80 => ⟨S8192x4x128, .f32⟩
  | 81 => ⟨S_, .f32⟩
  | 82 => ⟨S8192x4, .f32⟩
  | 83 => ⟨S8192x4x1, .f32⟩
  | 84 => ⟨S_, .f32⟩
  | 85 => ⟨S8192x4x1, .f32⟩
  | 86 => ⟨S8192x4x1, .f32⟩
  | 87 => ⟨S8192x4x1, .f32⟩
  | 88 => ⟨S8192x4x1, .f32⟩
  | 89 => ⟨S_, .f32⟩
  | 90 => ⟨S8192x4x1, .f32⟩
  | 91 => ⟨S8192x4x1, .f32⟩
  | 92 => ⟨S8192x4x128, .f32⟩
  | 93 => ⟨S8192x4x128, .f32⟩
  | 94 => ⟨S8192x512, .f32⟩
  | 95 => ⟨S8192x512, .f32⟩
  | 96 => ⟨S8192x1536, .f32⟩
  | 97 => ⟨S8192x512, .f32⟩
  | 98 => ⟨S8192x512, .f32⟩
  | 99 => ⟨S8192x512, .f32⟩
  | 100 => ⟨S8192x4x128, .f32⟩
  | 101 => ⟨S8192x4x128, .f32⟩
  | 102 => ⟨S8192x4x128, .f32⟩
  | 103 => ⟨S_, .f32⟩
  | 104 => ⟨S8192x4, .f32⟩
  | 105 => ⟨S8192x4x1, .f32⟩
  | 106 => ⟨S8192x4x128, .f32⟩
  | 107 => ⟨S8192x4x128, .f32⟩
  | 108 => ⟨S8192x4x1, .f32⟩
  | 109 => ⟨S_, .f32⟩
  | 110 => ⟨S8192x4, .f32⟩
  | 111 => ⟨S8192x4x128, .f32⟩
  | 112 => ⟨S8192x4x128, .f32⟩
  | 113 => ⟨S8192x4x128, .f32⟩
  | 114 => ⟨S8192x4x128, .f32⟩
  | 115 => ⟨S8192x4x128, .f32⟩
  | 116 => ⟨S8192x512, .f32⟩
  | 117 => ⟨S8192x4x128, .f32⟩
  | 118 => ⟨S_, .f32⟩
  | 119 => ⟨S8192x4, .f32⟩
  | 120 => ⟨S8192x4x1, .f32⟩
  | 121 => ⟨S8192x4x128, .f32⟩
  | 122 => ⟨S8192x4x128, .f32⟩
  | 123 => ⟨S8192x4x1, .f32⟩
  | 124 => ⟨S_, .f32⟩
  | 125 => ⟨S8192x4, .f32⟩
  | 126 => ⟨S8192x4x128, .f32⟩
  | 127 => ⟨S8192x4x128, .f32⟩
  | _ => ⟨S8192x2688, .f32⟩

abbrev hbmTy0_1 (i : Nat) : BufTy := match i % 128 with
  | 0 => ⟨S8192x4x128, .f32⟩
  | 1 => ⟨S8192x4x128, .f32⟩
  | 2 => ⟨S8192x4x128, .f32⟩
  | 3 => ⟨S8192x512, .f32⟩
  | 4 => ⟨S8192x1536, .f32⟩
  | 5 => ⟨S8192x1536, .f32⟩
  | 6 => ⟨S8192x1536, .f32⟩
  | 7 => ⟨S8192x1536, .f32⟩
  | 8 => ⟨S8192x1536, .f32⟩
  | 9 => ⟨S8192x1536, .f32⟩
  | 10 => ⟨S8192x1536, .f32⟩
  | 11 => ⟨S8192x1536, .f32⟩
  | 12 => ⟨S_, .f32⟩
  | 13 => ⟨S1536, .f32⟩
  | 14 => ⟨S1x1536, .f32⟩
  | 15 => ⟨S_, .f32⟩
  | 16 => ⟨S1536, .f32⟩
  | 17 => ⟨S1x1536, .f32⟩
  | 18 => ⟨S_, .f32⟩
  | 19 => ⟨S4x1536, .f32⟩
  | 20 => ⟨S8192x1536, .f32⟩
  | 21 => ⟨S8192x1536, .f32⟩
  | 22 => ⟨S8192x1536, .f32⟩
  | 23 => ⟨S_, .f32⟩
  | 24 => ⟨S1536, .f32⟩
  | 25 => ⟨S1x1536, .f32⟩
  | 26 => ⟨S3x1536, .f32⟩
  | 27 => ⟨S8189x1536, .f32⟩
  | 28 => ⟨S_, .f32⟩
  | 29 => ⟨S8192x1536, .f32⟩
  | 30 => ⟨S8192x1536, .f32⟩
  | 31 => ⟨S_, .f32⟩
  | 32 => ⟨S1536, .f32⟩
  | 33 => ⟨S1x1536, .f32⟩
  | 34 => ⟨S_, .f32⟩
  | 35 => ⟨S4x1536, .f32⟩
  | 36 => ⟨S4x1536, .f32⟩
  | 37 => ⟨S8192x1536, .f32⟩
  | 38 => ⟨S8192x1536, .f32⟩
  | 39 => ⟨S8192x1536, .f32⟩
  | 40 => ⟨S_, .f32⟩
  | 41 => ⟨S1536, .f32⟩
  | 42 => ⟨S1x1536, .f32⟩
  | 43 => ⟨S2x1536, .f32⟩
  | 44 => ⟨S8190x1536, .f32⟩
  | 45 => ⟨S_, .f32⟩
  | 46 => ⟨S8192x1536, .f32⟩
  | 47 => ⟨S8192x1536, .f32⟩
  | 48 => ⟨S_, .f32⟩
  | 49 => ⟨S1536, .f32⟩
  | 50 => ⟨S1x1536, .f32⟩
  | 51 => ⟨S_, .f32⟩
  | 52 => ⟨S4x1536, .f32⟩
  | 53 => ⟨S4x1536, .f32⟩
  | 54 => ⟨S8192x1536, .f32⟩
  | 55 => ⟨S8192x1536, .f32⟩
  | 56 => ⟨S8192x1536, .f32⟩
  | 57 => ⟨S_, .f32⟩
  | 58 => ⟨S1536, .f32⟩
  | 59 => ⟨S1x1536, .f32⟩
  | 60 => ⟨S1x1536, .f32⟩
  | 61 => ⟨S8191x1536, .f32⟩
  | 62 => ⟨S_, .f32⟩
  | 63 => ⟨S8192x1536, .f32⟩
  | 64 => ⟨S8192x1536, .f32⟩
  | 65 => ⟨S_, .f32⟩
  | 66 => ⟨S1536, .f32⟩
  | 67 => ⟨S1x1536, .f32⟩
  | 68 => ⟨S_, .f32⟩
  | 69 => ⟨S4x1536, .f32⟩
  | 70 => ⟨S4x1536, .f32⟩
  | 71 => ⟨S8192x1536, .bf16⟩
  | 72 => ⟨S_, .i32⟩
  | 73 => ⟨S_, .f32⟩
  | 74 => ⟨S8x1536, .f32⟩
  | _ => ⟨S8192x2688, .f32⟩

abbrev hbmTy (i : Nat) : BufTy := match i / 128 with
  | 0 => hbmTy0_0 i
  | 1 => hbmTy0_1 i
  | _ => ⟨S8192x2688, .f32⟩

abbrev bufTy : (tb : Table) → Fin (tcTables nBuf tb) → BufTy
  | .hbm, ⟨i, _⟩ => hbmTy i
  | _, _ => ⟨S8192x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v38_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v38_1 : Ref sig .tc := ⟨.hbm, 59, rfl⟩
abbrev main_v38_0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_16 : Ref sig .tc := ⟨.hbm, 140, rfl⟩
abbrev main_v105 : Ref sig .tc := ⟨.hbm, 141, rfl⟩
abbrev main_v106 : Ref sig .tc := ⟨.hbm, 142, rfl⟩
abbrev main_cst_17 : Ref sig .tc := ⟨.hbm, 143, rfl⟩
abbrev main_v107 : Ref sig .tc := ⟨.hbm, 144, rfl⟩
abbrev main_v108 : Ref sig .tc := ⟨.hbm, 145, rfl⟩
abbrev main_cst_18 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_19 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_20 : Ref sig .tc := ⟨.hbm, 156, rfl⟩
abbrev main_v117 : Ref sig .tc := ⟨.hbm, 157, rfl⟩
abbrev main_v118 : Ref sig .tc := ⟨.hbm, 158, rfl⟩
abbrev main_cst_21 : Ref sig .tc := ⟨.hbm, 159, rfl⟩
abbrev main_v119 : Ref sig .tc := ⟨.hbm, 160, rfl⟩
abbrev main_v120 : Ref sig .tc := ⟨.hbm, 161, rfl⟩
abbrev main_cst_22 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_24 : Ref sig .tc := ⟨.hbm, 173, rfl⟩
abbrev main_v130 : Ref sig .tc := ⟨.hbm, 174, rfl⟩
abbrev main_v131 : Ref sig .tc := ⟨.hbm, 175, rfl⟩
abbrev main_cst_25 : Ref sig .tc := ⟨.hbm, 176, rfl⟩
abbrev main_v132 : Ref sig .tc := ⟨.hbm, 177, rfl⟩
abbrev main_v133 : Ref sig .tc := ⟨.hbm, 178, rfl⟩
abbrev main_cst_26 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_27 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_28 : Ref sig .tc := ⟨.hbm, 190, rfl⟩
abbrev main_v143 : Ref sig .tc := ⟨.hbm, 191, rfl⟩
abbrev main_v144 : Ref sig .tc := ⟨.hbm, 192, rfl⟩
abbrev main_cst_29 : Ref sig .tc := ⟨.hbm, 193, rfl⟩
abbrev main_v145 : Ref sig .tc := ⟨.hbm, 194, rfl⟩
abbrev main_v146 : Ref sig .tc := ⟨.hbm, 195, rfl⟩
abbrev main_cst_30 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c : Ref sig .tc := ⟨.hbm, 200, rfl⟩
abbrev main_call2_v0 : Ref sig .tc := ⟨.hbm, 201, rfl⟩
abbrev main_v150 : Ref sig .tc := ⟨.hbm, 202, rfl⟩

abbrev nD : Nat := 1
abbrev τ : Topo := Topo.v7x

variable {F : FTy → Type} [FloatOps F]
-- ==== Kernel30.lean ====
abbrev S8192x2688 : Shape := ⟨2, ![8192, 2688]⟩
abbrev S4x1536 : Shape := ⟨2, ![4, 1536]⟩
abbrev S_ : Shape := ⟨0, ![]⟩
abbrev S8x1536 : Shape := ⟨2, ![8, 1536]⟩
abbrev S8192x1536 : Shape := ⟨2, ![8192, 1536]⟩
abbrev S512x512 : Shape := ⟨2, ![512, 512]⟩
abbrev S8x512 : Shape := ⟨2, ![8, 512]⟩
abbrev S520x512 : Shape := ⟨2, ![520, 512]⟩
abbrev S1x512 : Shape := ⟨2, ![1, 512]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2688, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S8x1536, .f32⟩
  | .hbm, ⟨5, _⟩ => ⟨S8192x1536, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | _, _ => ⟨S8192x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference30Ideal.lean ====
abbrev S8192x2688 : Shape := ⟨2, ![8192, 2688]⟩
abbrev S4x1536 : Shape := ⟨2, ![4, 1536]⟩
abbrev S8192x1536 : Shape := ⟨2, ![8192, 1536]⟩
abbrev S1x1536 : Shape := ⟨2, ![1, 1536]⟩
abbrev S1536 : Shape := ⟨1, ![1536]⟩
abbrev S_ : Shape := ⟨0, ![]⟩
abbrev S8191x1536 : Shape := ⟨2, ![8191, 1536]⟩
abbrev S2x1536 : Shape := ⟨2, ![2, 1536]⟩
abbrev S8190x1536 : Shape := ⟨2, ![8190, 1536]⟩
abbrev S3x1536 : Shape := ⟨2, ![3, 1536]⟩
abbrev S8189x1536 : Shape := ⟨2, ![8189, 1536]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x2688, .f32⟩
  | .hbm, ⟨1, _⟩ => ⟨S4x1536, .f32⟩
  | .hbm, ⟨2, _⟩ => ⟨S8192x1536, .f32⟩
  | .hbm, ⟨3, _⟩ => ⟨S1x1536, .f32⟩
  | .hbm, ⟨4, _⟩ => ⟨S1536, .f32⟩
  | .hbm, ⟨5, _⟩ => ⟨S1x1536, .f32⟩
  | .hbm, ⟨6, _⟩ => ⟨S_, .f32⟩
  | .hbm, ⟨7, _⟩ => ⟨S1x1536, .f32⟩
  | .hbm, ⟨8, _⟩ => ⟨S8191x1536, .f32⟩
  | .hbm, ⟨9, _⟩ => ⟨S8192x1536, .f32⟩
  | .hbm, ⟨10, _⟩ => ⟨S8192x1536, .f32⟩
  | .hbm, ⟨11, _⟩ => ⟨S8192x1536, .f32⟩
  | .hbm, ⟨12, _⟩ => ⟨S_, .f32⟩
  | .hbm, ⟨13, _⟩ => ⟨S8192x1536, .f32⟩
  | .hbm, ⟨14, _⟩ => ⟨S8192x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S_, .f32⟩
  | .hbm, ⟨19, _⟩ => ⟨S2x1536, .f32⟩
  | .hbm, ⟨20, _⟩ => ⟨S8190x1536, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S_, .f32⟩
  | .hbm, ⟨29, _⟩ => ⟨S3x1536, .f32⟩
  | .hbm, ⟨30, _⟩ => ⟨S8189x1536, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8192x1536, .f32⟩
  | .hbm, ⟨45, _⟩ => ⟨S8192x1536, .f32⟩
  | .hbm, ⟨46, _⟩ => ⟨S_, .f32⟩
  | .hbm, ⟨47, _⟩ => ⟨S8192x1536, .f32⟩
  | .hbm, ⟨48, _⟩ => ⟨S8192x1536, .f32⟩
  | .hbm, ⟨49, _⟩ => ⟨S8192x1536, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x4x128, .f32⟩
  | .hbm, ⟨54, _⟩ => ⟨S8192x4x128, .f32⟩
  | .hbm, ⟨55, _⟩ => ⟨S_, .f32⟩
  | .hbm, ⟨56, _⟩ => ⟨S8192x4, .f32⟩
  | .hbm, ⟨57, _⟩ => ⟨S8192x4x1, .f32⟩
  | .hbm, ⟨58, _⟩ => ⟨S_, .f32⟩
  | .hbm, ⟨59, _⟩ => ⟨S8192x4x1, .f32⟩
  | .hbm, ⟨60, _⟩ => ⟨S8192x4x1, .f32⟩
  | .hbm, ⟨61, _⟩ => ⟨S8192x4x1, .f32⟩
  | .hbm, ⟨62, _⟩ => ⟨S8192x4x128, .f32⟩
  | .hbm, ⟨63, _⟩ => ⟨S8192x4x128, .f32⟩
  | .hbm, ⟨64, _⟩ => ⟨S8192x4x128, .f32⟩
  | .hbm, ⟨65, _⟩ => ⟨S8192x4x128, .f32⟩
  | .hbm, ⟨66, _⟩ => ⟨S_, .f32⟩
  | .hbm, ⟨67, _⟩ => ⟨S8192x4, .f32⟩
  | .hbm, ⟨68, _⟩ => ⟨S8192x4x1, .f32⟩
  | .hbm, ⟨69, _⟩ => ⟨S_, .f32⟩
  | .hbm, ⟨70, _⟩ => ⟨S8192x4x1, .f32⟩
  | .hbm, ⟨71, _⟩ => ⟨S8192x4x1, .f32⟩
  | .hbm, ⟨72, _⟩ => ⟨S8192x4x1, .f32⟩
  | .hbm, ⟨73, _⟩ => ⟨S8192x4x128, .f32⟩
  | .hbm, ⟨74, _⟩ => ⟨S8192x4x128, .f32⟩
  | .hbm, ⟨75, _⟩ => ⟨S8192x512, .f32⟩
  | .hbm, ⟨76, _⟩ => ⟨S8192x512, .f32⟩
  | .hbm, ⟨77, _⟩ => ⟨S8192x1536, .f32⟩
  | _, _ => ⟨S8192x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Proof.Spec.lean ====
module

public import Idealize.ShloMosaic.Lib.Pointwise

/-!
# The gradient of the gated convolution, element by element

The feed-forward layer computes `silu (conv gate + b) * val`, where `conv` is a causal convolution of three taps along
the rows. This module writes the gradient of that expression as plain functions of a row and a column, over the extended
reals. No program occurs here: the kernel's arrays and the reference's arrays are both compared with these functions.
-/

@[expose] public section

noncomputable section

namespace Cert.FfnMid

open Idealize.ShloMosaic

/-- The number of rows. -/
abbrev rows : ℕ := 8192

/-- A matrix read at a row and a column, `0` outside of it. -/
def at2 {R C : ℕ} (X : (⟨2, ![R, C]⟩ : Shape).Idx → EReal) (r c : ℕ) : EReal :=
  if h : r < R ∧ c < C then X (ix2 ⟨r, h.1⟩ ⟨c, h.2⟩) else 0

/-- A vector read at a position, `0` outside of it. -/
def at1 {C : ℕ} (X : (⟨1, ![C]⟩ : Shape).Idx → EReal) (c : ℕ) : EReal :=
  if h : c < C then X (ix1 ⟨c, h⟩) else 0

theorem at2_ix2 {R C : ℕ} (X : (⟨2, ![R, C]⟩ : Shape).Idx → EReal) {r c : ℕ} (hr : r < R) (hc : c < C) :
    at2 X r c = X (ix2 ⟨r, hr⟩ ⟨c, hc⟩) := dif_pos ⟨hr, hc⟩

theorem at2_of_le {R C : ℕ} (X : (⟨2, ![R, C]⟩ : Shape).Idx → EReal) {r : ℕ} (c : ℕ) (hr : R ≤ r) : at2 X r c = 0 :=
  dif_neg fun h => absurd h.1 (by omega)

theorem at1_ix1 {C : ℕ} (X : (⟨1, ![C]⟩ : Shape).Idx → EReal) {c : ℕ} (hc : c < C) : at1 X c = X (ix1 ⟨c, hc⟩) :=
  dif_pos hc

/-- What the gradient is taken at: the two halves of the layer's input, the incoming gradient, the three taps of every
    column and its bias. -/
structure Args where
  gate : ℕ → ℕ → EReal
  val : ℕ → ℕ → EReal
  da : ℕ → ℕ → EReal
  w : ℕ → ℕ → EReal
  b : ℕ → EReal

/-- The arguments in the order in which both programs take them; the second half of `up` is `val`. -/
def args (up : (⟨2, ![8192, 5632]⟩ : Shape).Idx → EReal) (w : (⟨2, ![3, 2816]⟩ : Shape).Idx → EReal)
    (b : (⟨1, ![2816]⟩ : Shape).Idx → EReal) (da : (⟨2, ![8192, 2816]⟩ : Shape).Idx → EReal) : Args where
  gate := at2 up
  val r c := at2 up r (c + 2816)
  da := at2 da
  w := at2 w
  b := at1 b

namespace Args

variable (A : Args)

/-- The gate's element `s` rows above, `0` above the first row. -/
def back (s r c : ℕ) : EReal := if s ≤ r then A.gate (r - s) c else 0

/-- The convolved gate. -/
def conv (r c : ℕ) : EReal := A.w 2 c * A.back 0 r c + A.w 1 c * A.back 1 r c + A.w 0 c * A.back 2 r c + A.b c

/-- The logistic function of the convolved gate. -/
def sig (r c : ℕ) : EReal := Ideal.div 1 (1 + Ideal.exp (0 - A.conv r c))

/-- The gradient of the value half. -/
def dval (r c : ℕ) : EReal := A.da r c * A.conv r c * A.sig r c

/-- The gradient of the convolved gate. -/
def dconv (r c : ℕ) : EReal := A.da r c * A.val r c * (A.sig r c * (1 + A.conv r c * (1 - A.sig r c)))

/-- The gradient of the gate half: the taps applied towards later rows. -/
def dgate (r c : ℕ) : EReal := A.w 2 c * A.dconv r c + A.w 1 c * A.dconv (r + 1) c + A.w 0 c * A.dconv (r + 2) c

/-- One row's part of the gradient of tap `2 - s`. -/
def dtap (s r c : ℕ) : EReal := A.dconv r c * A.back s r c

/-- The gradient of tap `2 - s`. -/
def dw (s c : ℕ) : EReal := ∑ r : Fin rows, A.dtap s r c

/-- The gradient of the bias. -/
def db (c : ℕ) : EReal := ∑ r : Fin rows, A.dconv r c

theorem back_zero (r c : ℕ) : A.back 0 r c = A.gate r c := by simp [back]

end Args

/-- Below the last row the gradient of the convolved gate vanishes, since the incoming gradient does. -/
theorem dconv_of_le (up w b da) {r : ℕ} (c : ℕ) (hr : rows ≤ r) : (args up w b da).dconv r c = 0 := by
  have h : (args up w b da).da r c = 0 := at2_of_le da c hr
  rw [Args.dconv, h, zero_mul, zero_mul]

end Cert.FfnMid

end
-- ==== Proof.Products.lean ====
module

public import proofs.«01_k».proof.Proof.Spec
public import Idealize.ShloMosaic.Lib.Pipeline.ValueKit

/-!
# The backward products of the feed-forward layer

The four products, as sums over plain indices: the gradient of a product by its left factor, and the gradient of a
product by its right factor, for both matrices of the layer.
-/

@[expose] public section

noncomputable section

namespace Cert.Products

open Idealize.ShloMosaic Cert.FfnMid

/-- A stack of matrices read at a member, a row and a column, `0` outside of it. -/
def at3 {S R C : ℕ} (X : (⟨3, ![S, R, C]⟩ : Shape).Idx → EReal) (s r c : ℕ) : EReal :=
  if h : s < S ∧ r < R ∧ c < C then X (ix3 ⟨s, h.1⟩ ⟨r, h.2.1⟩ ⟨c, h.2.2⟩) else 0

theorem at3_ix3 {S R C : ℕ} (X : (⟨3, ![S, R, C]⟩ : Shape).Idx → EReal) {s r c : ℕ} (hs : s < S) (hr : r < R) (hc : c < C) :
    at3 X s r c = X (ix3 ⟨s, hs⟩ ⟨r, hr⟩ ⟨c, hc⟩) := dif_pos ⟨hs, hr, hc⟩

/-- The two halves of the hidden layer's gradient side by side: one row of 5632 columns. -/
def beside (dup : (⟨3, ![2, 8192, 2816]⟩ : Shape).Idx → EReal) (r n : ℕ) : EReal := at3 dup (n / 2816) r (n % 2816)

/-- The gradient by the layer's input: the hidden gradient against the rows of the weights. -/
def upInput (dup : (⟨3, ![2, 8192, 2816]⟩ : Shape).Idx → EReal) (w : (⟨2, ![1024, 5632]⟩ : Shape).Idx → EReal)
    (i : (⟨2, ![8192, 1024]⟩ : Shape).Idx) : EReal :=
  ∑ n : Fin 5632, beside dup (i 0).val n.val * at2 w (i 1).val n.val

/-- The gradient by the first weights, by halves of rows and quarters of columns: a sum over all tokens. -/
def upWeights (x : (⟨2, ![8192, 1024]⟩ : Shape).Idx → EReal) (dup : (⟨3, ![2, 8192, 2816]⟩ : Shape).Idx → EReal)
    (i : (⟨4, ![2, 4, 512, 1408]⟩ : Shape).Idx) : EReal :=
  ∑ t : Fin 8192, at2 x t.val (512 * (i 0).val + (i 2).val) * beside dup t.val (1408 * (i 1).val + (i 3).val)

/-- The gradient by the activations: the output's gradient against the rows of the weights. -/
def downInput (df : (⟨2, ![8192, 1024]⟩ : Shape).Idx → EReal) (w : (⟨2, ![2816, 1024]⟩ : Shape).Idx → EReal)
    (i : (⟨2, ![8192, 2816]⟩ : Shape).Idx) : EReal :=
  ∑ n : Fin 1024, at2 df (i 0).val n.val * at2 w (i 1).val n.val

/-- The gradient by the second weights, by halves of columns and quarters of rows: a sum over all tokens. -/
def downWeights (x : (⟨2, ![8192, 2816]⟩ : Shape).Idx → EReal) (df : (⟨2, ![8192, 1024]⟩ : Shape).Idx → EReal)
    (i : (⟨4, ![2, 4, 704, 512]⟩ : Shape).Idx) : EReal :=
  ∑ t : Fin 8192, at2 x t.val (704 * (i 1).val + (i 2).val) * at2 df t.val (512 * (i 0).val + (i 3).val)

/-- A sum over all columns, taken 1408 at a time. -/
theorem sum_cols (f : ℕ → EReal) : ∑ s : Fin 4, ∑ x : Fin 1408, f (1408 * s.val + x.val) = ∑ n : Fin 5632, f n.val :=
  Fin.sum_mul_add_congr (fun s k _ => by rw [Nat.mul_comm])

/-- A sum over all tokens, taken 2048 at a time. -/
theorem sum_tokens (f : ℕ → EReal) : ∑ s : Fin 4, ∑ x : Fin 2048, f (2048 * s.val + x.val) = ∑ t : Fin 8192, f t.val :=
  Fin.sum_mul_add_congr (fun s k _ => by rw [Nat.mul_comm])

end Cert.Products

end
-- ==== Proof.UpDa.lean ====
module

public import proofs.«01_k».proof.Proof.Gen.Kernel2Ideal.Value
public import proofs.«01_k».proof.Proof.Gen.Reference2Ideal.Read
public import proofs.«01_k».proof.Proof.Products
public import Idealize.ShloMosaic.Lib.Pipeline.ValueKit
public import Idealize.ShloMosaic.Lib.Pipeline.ReadBack
public import Idealize.ShloMosaic.Lib.StableHlo.ReadAt

/-!
# The gradient by the layer's input

Point `t` of the grid adds the product over columns `1408 * (t % 4) …` to rows `1024 * (t / 4) …` of the result, which
the scratch buffer carries until the fourth point writes it out.
-/

@[expose] public section

set_option maxRecDepth 16384

noncomputable section

namespace Cert.UpDa

open Cert.Kernel2Ideal Cert.Kernel2Ideal.Gen Idealize.ShloMosaic Idealize.ShloMosaic.TcCoe Idealize.SL.Sem
open Cert.FfnMid Cert.Products

variable (m : (ℓ : Loc nD τ sig) → Buf (Elt Ideal) ℓ) (c : Dev nD)

abbrev dup : (⟨3, ![2, 8192, 2816]⟩ : Shape).Idx → EReal := m ((c : Thread nD τ).loc main_arg0)
abbrev w : (⟨2, ![1024, 5632]⟩ : Shape).Idx → EReal := m ((c : Thread nD τ).loc main_arg1)

theorem idx0 : ∀ t : Fin cfg0.N, win0_0.index t = ![t.val % 4 / 2, t.val / 4, t.val % 2] :=
  (by decide +kernel : ∀ t : Fin grid0.N, win0_0.index t = ![t.val % 4 / 2, t.val / 4, t.val % 2])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, 0] :=
  (by decide +kernel : ∀ t : Fin grid0.N, win0_2.index t = ![t.val / 4, 0])

theorem point_lt (t : Fin cfg0.N) : t.val < 32 := lt_of_lt_of_eq t.isLt N_0

theorem blk0 (t : Fin cfg0.N) (r : Fin 1024) (k : Fin 1408) :
    iblk m c 0 t (ix3 0 r k) = beside (dup m c) (1024 * (t.val / 4) + r.val) (1408 * (t.val % 4) + k.val) := by
  have ht := point_lt t
  unfold beside
  rw [at3_ix3 _ (by omega) (by omega) (by omega)]
  blk_ext [iblk, V, idx0 t]

theorem blk1 (t : Fin cfg0.N) (r : Fin 1024) (k : Fin 1408) :
    iblk m c 1 t (ix2 r k) = at2 (w m c) r.val (1408 * (t.val % 4) + k.val) := by
  have ht := point_lt t
  rw [at2_ix2 _ (by omega) (by omega)]
  blk_ext [iblk, V, idx1 t]

/-- What one point adds to the result. -/
def part (t : Fin cfg0.N) (i : S1024x1024.Idx) : EReal :=
  ∑ x : Fin 1408, beside (dup m c) (1024 * (t.val / 4) + (i 0).val) (1408 * (t.val % 4) + x.val)
    * at2 (w m c) (i 1).val (1408 * (t.val % 4) + x.val)

theorem pay_at (t : Fin cfg0.N) (i : S1024x1024.Idx) : k0_pay1 (F := Ideal) (iblk m c 0 t) (iblk m c 1 t) i = part m c t i := by
  obtain ⟨r, k, rfl⟩ : ∃ (r k : Fin 1024), i = ix2 r k := ⟨i 0, i 1, eq_ix2 i⟩
  unfold part
  pointwise [k0_pay1]
  refine Finset.sum_congr rfl fun x _ => ?_
  rw [blk0, blk1]

theorem acc_first (t : Fin cfg0.N) (h : t.val % 4 = 0) (i : S1024x1024.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S1024x1024.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) : (outsAt0 m c t.val t.isLt).1 = (outsAt0 m c t.val t.isLt).2 := by
  rw [outsAt0_C m c t (by omega) (by omega) h]
  frame_out

/-- The four points of a block of rows meet every column once. -/
theorem sum_parts (t : Fin cfg0.N) (hs : ∀ s : Fin 4, 4 * (t.val / 4) + s.val < cfg0.N) (i : S1024x1024.Idx) :
    ∑ s : Fin 4, part m c ⟨4 * (t.val / 4) + s.val, hs s⟩ i
      = ∑ n : Fin 5632, beside (dup m c) (t.val / 4 * 1024 + (i 0).val) n.val * at2 (w m c) (i 1).val n.val := by
  rw [← sum_cols fun n => beside (dup m c) (t.val / 4 * 1024 + (i 0).val) n * at2 (w m c) (i 1).val n]
  refine Finset.sum_congr rfl fun s _ => Finset.sum_congr rfl fun x _ => ?_
  have hd : (4 * (t.val / 4) + s.val) / 4 = t.val / 4 := by omega
  have hm : (4 * (t.val / 4) + s.val) % 4 = s.val := by omega
  dsimp only
  rw [hd, hm, Nat.mul_comm 1024]

theorem arr : (dats m 0 c).arrAt 2 cfg0.N = upInput (dup m c) (w m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 4 (fun _ => 0)
    (part m c) (fun t h i => acc_first m c t h i) (fun t h i => acc_next m c t h i) t h3 y]
  unfold upInput
  blk_simp [idx2 t]
  rw [zero_add]
  exact sum_parts m c t _ y

namespace Ref

open Cert.Reference2Ideal.Read

variable (G : (⟨3, ![2, 8192, 2816]⟩ : Shape).Idx → EReal) (W : (⟨2, ![1024, 5632]⟩ : Shape).Idx → EReal)

theorem beside_at (r : Fin 8192) (n : Fin 5632) : val_main_v13 (F := Ideal) G (ix2 r n) = beside G r.val n.val := by
  have h0 : ∀ (r : Fin 8192) (k : Fin 2816), val_main_v10 (F := Ideal) G (ix2 r k) = G (ix3 0 r k) := fun r k => by
    pointwise [val_main_v10, val_main_v9, val_main_v0]
  have h1 : ∀ (r : Fin 8192) (k : Fin 2816), val_main_v12 (F := Ideal) G (ix2 r k) = G (ix3 1 r k) := fun r k => by
    pointwise [val_main_v12, val_main_v11, val_main_v0]
  unfold beside
  rw [at3_ix3 _ (by omega) r.isLt (by omega)]
  pointwise [val_main_v13]
  split
  · rename_i h
    refine (h0 r _).trans (congrArg G ?_)
    refine congrArg₂ (fun a b => ix3 a r b) (Fin.ext ?_) (Fin.ext ?_) <;> dsimp only <;> omega
  · rename_i h
    refine (h1 r _).trans (congrArg G ?_)
    refine congrArg₂ (fun a b => ix3 a r b) (Fin.ext ?_) (Fin.ext ?_) <;> dsimp only <;> omega

theorem out_eq : val_main_v14 (F := Ideal) G W = upInput G W := by
  funext i
  obtain ⟨r, k, rfl⟩ : ∃ (r : Fin 8192) (k : Fin 1024), i = ix2 r k := ⟨i 0, i 1, eq_ix2 i⟩
  unfold upInput
  pointwise [val_main_v14, val_main_v1]
  refine Finset.sum_congr rfl fun n _ => ?_
  exact congrArg₂ (· * ·) (beside_at G r n) (at2_ix2 W k.isLt n.isLt).symm

end Ref

end Cert.UpDa

end
-- ==== Proof.UpDw.lean ====
module

public import proofs.«01_k».proof.Proof.Gen.Kernel3Ideal.Value
public import proofs.«01_k».proof.Proof.Gen.Reference3Ideal.Read
public import proofs.«01_k».proof.Proof.Products
public import Idealize.ShloMosaic.Lib.Pipeline.ValueKit
public import Idealize.ShloMosaic.Lib.Pipeline.ReadBack
public import Idealize.ShloMosaic.Lib.StableHlo.ReadAt

/-!
# The gradient by the first weights

Point `t` of the grid adds the product over tokens `2048 * (t % 4) …` to rows `512 * (t / 16) …` and columns
`1408 * (t / 4 % 4) …` of the result, which the scratch buffer carries until the fourth point writes it out.
-/

@[expose] public section

set_option maxRecDepth 16384

noncomputable section

namespace Cert.UpDw

open Cert.Kernel3Ideal Cert.Kernel3Ideal.Gen Idealize.ShloMosaic Idealize.ShloMosaic.TcCoe Idealize.SL.Sem
open Cert.FfnMid Cert.Products

variable (m : (ℓ : Loc nD τ sig) → Buf (Elt Ideal) ℓ) (c : Dev nD)

abbrev act : (⟨2, ![8192, 1024]⟩ : Shape).Idx → EReal := m ((c : Thread nD τ).loc main_arg0)
abbrev dup : (⟨3, ![2, 8192, 2816]⟩ : Shape).Idx → EReal := m ((c : Thread nD τ).loc main_arg1)

theorem idx0 : ∀ t : Fin cfg0.N, win0_0.index t = ![t.val % 4, t.val / 16] :=
  (by decide +kernel : ∀ t : Fin grid0.N, win0_0.index t = ![t.val % 4, t.val / 16])
theorem idx1 : ∀ t : Fin cfg0.N, win0_1.index t = ![t.val / 4 % 4 / 2, t.val % 4, t.val / 4 % 2] :=
  (by decide +kernel : ∀ t : Fin grid0.N, win0_1.index t = ![t.val / 4 % 4 / 2, t.val % 4, t.val / 4 % 2])
theorem idx2 : ∀ t : Fin cfg0.N, win0_2.index t = ![t.val / 16, t.val / 4 % 4, 0, 0] :=
  (by decide +kernel : ∀ t : Fin grid0.N, win0_2.index t = ![t.val / 16, t.val / 4 % 4, 0, 0])

theorem point_lt (t : Fin cfg0.N) : t.val < 32 := lt_of_lt_of_eq t.isLt N_0

theorem blk0 (t : Fin cfg0.N) (x : Fin 2048) (r : Fin 512) :
    iblk m c 0 t (ix2 x r) = at2 (act m c) (2048 * (t.val % 4) + x.val) (512 * (t.val / 16) + r.val) := by
  have ht := point_lt t
  rw [at2_ix2 _ (by omega) (by omega)]
  blk_ext [iblk, V, idx0 t]

theorem blk1 (t : Fin cfg0.N) (x : Fin 2048) (k : Fin 1408) :
    iblk m c 1 t (ix3 0 x k) = beside (dup m c) (2048 * (t.val % 4) + x.val) (1408 * (t.val / 4 % 4) + k.val) := by
  have ht := point_lt t
  unfold beside
  rw [at3_ix3 _ (by omega) (by omega) (by omega)]
  blk_ext [iblk, V, idx1 t]

/-- What one point adds to the result. -/
def part (t : Fin cfg0.N) (i : S512x1408.Idx) : EReal :=
  ∑ x : Fin 2048, at2 (act m c) (2048 * (t.val % 4) + x.val) (512 * (t.val / 16) + (i 0).val)
    * beside (dup m c) (2048 * (t.val % 4) + x.val) (1408 * (t.val / 4 % 4) + (i 1).val)

theorem pay_at (t : Fin cfg0.N) (i : S512x1408.Idx) : k0_pay1 (F := Ideal) (iblk m c 0 t) (iblk m c 1 t) i = part m c t i := by
  obtain ⟨r, k, rfl⟩ : ∃ (r : Fin 512) (k : Fin 1408), i = ix2 r k := ⟨i 0, i 1, eq_ix2 i⟩
  unfold part
  pointwise [k0_pay1]
  refine Finset.sum_congr rfl fun x _ => ?_
  rw [blk0, blk1]

theorem acc_first (t : Fin cfg0.N) (h : t.val % 4 = 0) (i : S512x1408.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S512x1408.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) (a b : Fin 1) (r : Fin 512) (k : Fin 1408) :
    (outsAt0 m c t.val t.isLt).1 (ix4 a b r k) = (outsAt0 m c t.val t.isLt).2 (ix2 r k) := by
  rw [outsAt0_C m c t (by omega) (by omega) h]
  frame_out
  pointwise [k0_pay4]

/-- The four points of a block meet every token once. -/
theorem sum_parts (t : Fin cfg0.N) (hs : ∀ s : Fin 4, 4 * (t.val / 4) + s.val < cfg0.N) (i : S512x1408.Idx) :
    ∑ s : Fin 4, part m c ⟨4 * (t.val / 4) + s.val, hs s⟩ i
      = ∑ n : Fin 8192, at2 (act m c) n.val (512 * (t.val / 16) + (i 0).val)
          * beside (dup m c) n.val (1408 * (t.val / 4 % 4) + (i 1).val) := by
  rw [← sum_tokens fun n => at2 (act m c) n (512 * (t.val / 16) + (i 0).val) * beside (dup m c) n (1408 * (t.val / 4 % 4) + (i 1).val)]
  refine Finset.sum_congr rfl fun s _ => Finset.sum_congr rfl fun x _ => ?_
  have hd : (4 * (t.val / 4) + s.val) / 16 = t.val / 16 := by omega
  have hq : (4 * (t.val / 4) + s.val) / 4 % 4 = t.val / 4 % 4 := by omega
  have hm : (4 * (t.val / 4) + s.val) % 4 = s.val := by omega
  dsimp only
  rw [hd, hq, hm]

theorem arr : (dats m 0 c).arrAt 2 cfg0.N = upWeights (act m c) (dup m c) := by
  refine (dats m 0 c).arrAt_eq_of_covers 2 _ (by decide +kernel) fun t hf y => ?_
  have h3 := (flush0_2 t).mp hf
  blk_simp
  obtain ⟨a, b, r, k, rfl⟩ : ∃ (a b : Fin 1) (r : Fin 512) (k : Fin 1408), y = ix4 a b r k := ⟨y 0, y 1, y 2, y 3, eq_ix4 y⟩
  rw [after0_2]
  refine (out_last m c t h3 a b r k).trans ?_
  rw [Pipeline.eq_sum_fin_of_reset_step_apply_of_flush (fun n h => (outsAt0 m c n h).2) 4 (fun _ => 0)
    (part m c) (fun t h i => acc_first m c t h i) (fun t h i => acc_next m c t h i) t h3 (ix2 r k)]
  unfold upWeights
  blk_simp [idx2 t]
  rw [zero_add]
  exact sum_parts m c t _ (ix2 r k)

namespace Ref

open Cert.Reference3Ideal.Read

variable (X : (⟨2, ![8192, 1024]⟩ : Shape).Idx → EReal) (G : (⟨3, ![2, 8192, 2816]⟩ : Shape).Idx → EReal)

theorem beside_at (r : Fin 8192) (n : Fin 5632) : val_main_v13 (F := Ideal) G (ix2 r n) = beside G r.val n.val := by
  have h0 : ∀ (r : Fin 8192) (k : Fin 2816), val_main_v10 (F := Ideal) G (ix2 r k) = G (ix3 0 r k) := fun r k => by
    pointwise [val_main_v10, val_main_v9, val_main_v1]
  have h1 : ∀ (r : Fin 8192) (k : Fin 2816), val_main_v12 (F := Ideal) G (ix2 r k) = G (ix3 1 r k) := fun r k => by
    pointwise [val_main_v12, val_main_v11, val_main_v1]
  unfold beside
  rw [at3_ix3 _ (by omega) r.isLt (by omega)]
  pointwise [val_main_v13]
  split
  · rename_i h
    refine (h0 r _).trans (congrArg G ?_)
    refine congrArg₂ (fun a b => ix3 a r b) (Fin.ext ?_) (Fin.ext ?_) <;> dsimp only <;> omega
  · rename_i h
    refine (h1 r _).trans (congrArg G ?_)
    refine congrArg₂ (fun a b => ix3 a r b) (Fin.ext ?_) (Fin.ext ?_) <;> dsimp only <;> omega

/-- The gradient by the first weights as one matrix. -/
theorem matrix_at (r : Fin 1024) (n : Fin 5632) :
    val_main_v15 (F := Ideal) X G (ix2 r n) = ∑ t : Fin 8192, at2 X t.val r.val * beside G t.val n.val := by
  pointwise [val_main_v15, val_main_v14, val_main_v0]
  refine Finset.sum_congr rfl fun t _ => ?_
  exact (congrArg₂ (· * ·) (beside_at G t n) (at2_ix2 X t.isLt r.isLt).symm).trans (EReal.mul_comm _ _)

/-- A quarter of the columns of the first rows. -/
theorem upper_at (q : Fin 4) (r : Fin 512) (k : Fin 1408) : val_main_v26 (F := Ideal) X G (ix3 q r k)
    = ∑ t : Fin 8192, at2 X t.val r.val * beside G t.val (1408 * q.val + k.val) := by
  have h := matrix_at X G ⟨r.val, by omega⟩ ⟨1408 * q.val + k.val, by omega⟩
  refine Eq.trans ?_ h
  fin_cases q <;>
  pointwise [val_main_v26, val_main_v22, val_main_v23, val_main_v24, val_main_v25, val_main_v18, val_main_v19, val_main_v20,
    val_main_v21, val_main_v16]

/-- A quarter of the columns of the last rows. -/
theorem lower_at (q : Fin 4) (r : Fin 512) (k : Fin 1408) : val_main_v35 (F := Ideal) X G (ix3 q r k)
    = ∑ t : Fin 8192, at2 X t.val (512 + r.val) * beside G t.val (1408 * q.val + k.val) := by
  have h := matrix_at X G ⟨512 + r.val, by omega⟩ ⟨1408 * q.val + k.val, by omega⟩
  refine Eq.trans ?_ h
  fin_cases q <;>
  pointwise [val_main_v35, val_main_v34, val_main_v33, val_main_v32, val_main_v31, val_main_v30, val_main_v29, val_main_v28,
    val_main_v27, val_main_v17]

theorem out_eq : val_main_v38 (F := Ideal) X G = upWeights X G := by
  funext i
  obtain ⟨a, q, r, k, rfl⟩ : ∃ (a : Fin 2) (q : Fin 4) (r : Fin 512) (k : Fin 1408), i = ix4 a q r k :=
    ⟨i 0, i 1, i 2, i 3, eq_ix4 i⟩
  have hu : ∀ z : Fin 1, val_main_v36 (F := Ideal) X G (ix4 z q r k) = upWeights X G (ix4 0 q r k) := fun z => by
    pointwise [val_main_v36]
    refine (upper_at X G q r k).trans ?_
    unfold upWeights
    dsimp
    rw [zero_add]
  have hl : ∀ z : Fin 1, val_main_v37 (F := Ideal) X G (ix4 z q r k) = upWeights X G (ix4 1 q r k) := fun z => by
    pointwise [val_main_v37]
    exact lower_at X G q r k
  fin_cases a <;> pointwise [val_main_v38]
  · exact hu 0
  · exact hl 0

end Ref

end Cert.UpDw

end
-- ==== Proof.DownDa.lean ====
module

public import proofs.«01_k».proof.Proof.Gen.Kernel4Ideal.Value
public import proofs.«01_k».proof.Proof.Gen.Reference4Ideal.Read
public import proofs.«01_k».proof.Proof.Products
public import Idealize.ShloMosaic.Lib.Pipeline.ValueKit
public import Idealize.ShloMosaic.Lib.Pipeline.ReadBack
public import Idealize.ShloMosaic.Lib.StableHlo.ReadAt

/-!
# The gradient by the activations

Point `t` of the grid computes rows `1024 * (t / 2) …` and columns `1408 * (t % 2) …` of the result in one product.
-/

@[expose] public section

set_option maxRecDepth 16384

noncomputable section

namespace Cert.DownDa

open Cert.Kernel4Ideal Cert.Kernel4Ideal.Gen Idealize.ShloMosaic Idealize.ShloMosaic.TcCoe Idealize.SL.Sem
open Cert.FfnMid Cert.Products

variable (m : (ℓ : Loc nD τ sig) → Buf (Elt Ideal) ℓ) (c : Dev nD)

abbrev df : (⟨2, ![8192, 1024]⟩ : Shape).Idx → EReal := m ((c : Thread nD τ).loc main_arg0)
abbrev w : (⟨2, ![2816, 1024]⟩ : Shape).Idx → EReal := m ((c : Thread nD τ).loc main_arg1)

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, t.val % 2] :=
  (by decide +kernel : ∀ t : Fin grid0.N, win0_2.index t = ![t.val / 2, t.val % 2])

theorem point_lt (t : Fin cfg0.N) : t.val < 16 := lt_of_lt_of_eq t.isLt N_0

theorem blk0 (t : Fin cfg0.N) (r x : Fin 1024) : iblk m c 0 t (ix2 r x) = at2 (df m c) (1024 * (t.val / 2) + r.val) x.val := by
  have ht := point_lt t
  rw [at2_ix2 _ (by omega) (by omega)]
  blk_ext [iblk, V, idx0 t]

theorem blk1 (t : Fin cfg0.N) (k : Fin 1408) (x : Fin 1024) : iblk m c 1 t (ix2 k x) = at2 (w m c) (1408 * (t.val % 2) + k.val) x.val := by
  have ht := point_lt t
  rw [at2_ix2 _ (by omega) (by omega)]
  blk_ext [iblk, V, idx1 t]

theorem pay_at (t : Fin cfg0.N) (r : Fin 1024) (k : Fin 1408) : k0_pay1 (F := Ideal) (iblk m c 0 t) (iblk m c 1 t) (ix2 r k)
    = ∑ x : Fin 1024, at2 (df m c) (1024 * (t.val / 2) + r.val) x.val * at2 (w m c) (1408 * (t.val % 2) + k.val) x.val := by
  pointwise [k0_pay1]
  refine Finset.sum_congr rfl fun x _ => ?_
  rw [blk0, blk1]

theorem arr : (dats m 0 c).arrAt 2 cfg0.N = downInput (df m c) (w m c) := by
  refine (dats m 0 c).arrAt_eq_of_covers 2 _ (by decide +kernel) fun t hf y => ?_
  blk_simp
  rw [after0_2]
  obtain ⟨r, k, rfl⟩ : ∃ (r : Fin 1024) (k : Fin 1408), y = ix2 r k := ⟨y 0, y 1, eq_ix2 y⟩
  unfold outsAt0
  frame_out
  refine (pay_at m c t r k).trans ?_
  unfold downInput
  blk_simp [idx2 t]
  rw [Nat.mul_comm 1024, Nat.mul_comm 1408]

namespace Ref

open Cert.Reference4Ideal.Read

theorem out_eq (D : (⟨2, ![8192, 1024]⟩ : Shape).Idx → EReal) (W : (⟨2, ![2816, 1024]⟩ : Shape).Idx → EReal) :
    val_main_v5 (F := Ideal) D W = downInput D W := by
  funext i
  obtain ⟨r, k, rfl⟩ : ∃ (r : Fin 8192) (k : Fin 2816), i = ix2 r k := ⟨i 0, i 1, eq_ix2 i⟩
  unfold downInput
  pointwise [val_main_v5, val_main_v4, val_main_v0, val_main_v1]
  refine Finset.sum_congr rfl fun n _ => ?_
  exact congrArg₂ (· * ·) (at2_ix2 D r.isLt n.isLt).symm (at2_ix2 W k.isLt n.isLt).symm

end Ref

end Cert.DownDa

end
-- ==== Proof.DownDw.lean ====
module

public import proofs.«01_k».proof.Proof.Gen.Kernel5Ideal.Value
public import proofs.«01_k».proof.Proof.Gen.Reference5Ideal.Read
public import proofs.«01_k».proof.Proof.Products
public import Idealize.ShloMosaic.Lib.Pipeline.ValueKit
public import Idealize.ShloMosaic.Lib.Pipeline.ReadBack
public import Idealize.ShloMosaic.Lib.StableHlo.ReadAt

/-!
# The gradient by the second weights

Point `t` of the grid adds the product over tokens `2048 * (t % 4) …` to rows `1408 * (t / 8) …` and columns
`512 * (t / 4 % 2) …` of the result, which the scratch buffer carries until the fourth point writes it out as two
quarters of the rows.
-/

@[expose] public section

set_option maxRecDepth 16384

noncomputable section

namespace Cert.DownDw

open Cert.Kernel5Ideal Cert.Kernel5Ideal.Gen Idealize.ShloMosaic Idealize.ShloMosaic.TcCoe Idealize.SL.Sem
open Cert.FfnMid Cert.Products

variable (m : (ℓ : Loc nD τ sig) → Buf (Elt Ideal) ℓ) (c : Dev nD)

abbrev act : (⟨2, ![8192, 2816]⟩ : Shape).Idx → EReal := m ((c : Thread nD τ).loc main_arg0)
abbrev df : (⟨2, ![8192, 1024]⟩ : Shape).Idx → EReal := m ((c : Thread nD τ).loc main_arg1)

theorem idx0 : ∀ t : Fin cfg0.N, win0_0.index t = ![t.val % 4, t.val / 8] :=
  (by decide +kernel : ∀ t : Fin grid0.N, win0_0.index t = ![t.val % 4, t.val / 8])
theorem idx1 : ∀ t : Fin cfg0.N, win0_1.index t = ![t.val % 4, t.val / 4 % 2] :=
  (by decide +kernel : ∀ t : Fin grid0.N, win0_1.index t = ![t.val % 4, t.val / 4 % 2])
theorem idx2 : ∀ t : Fin cfg0.N, win0_2.index t = ![t.val / 4 % 2, t.val / 8, 0, 0] :=
  (by decide +kernel : ∀ t : Fin grid0.N, win0_2.index t = ![t.val / 4 % 2, t.val / 8, 0, 0])

theorem point_lt (t : Fin cfg0.N) : t.val < 16 := lt_of_lt_of_eq t.isLt N_0

theorem blk0 (t : Fin cfg0.N) (x : Fin 2048) (r : Fin 1408) :
    iblk m c 0 t (ix2 x r) = at2 (act m c) (2048 * (t.val % 4) + x.val) (1408 * (t.val / 8) + r.val) := by
  have ht := point_lt t
  rw [at2_ix2 _ (by omega) (by omega)]
  blk_ext [iblk, V, idx0 t]

theorem blk1 (t : Fin cfg0.N) (x : Fin 2048) (k : Fin 512) :
    iblk m c 1 t (ix2 x k) = at2 (df m c) (2048 * (t.val % 4) + x.val) (512 * (t.val / 4 % 2) + k.val) := by
  have ht := point_lt t
  rw [at2_ix2 _ (by omega) (by omega)]
  blk_ext [iblk, V, idx1 t]

/-- What one point adds to the result. -/
def part (t : Fin cfg0.N) (i : S1408x512.Idx) : EReal :=
  ∑ x : Fin 2048, at2 (act m c) (2048 * (t.val % 4) + x.val) (1408 * (t.val / 8) + (i 0).val)
    * at2 (df m c) (2048 * (t.val % 4) + x.val) (512 * (t.val / 4 % 2) + (i 1).val)

theorem pay_at (t : Fin cfg0.N) (i : S1408x512.Idx) : k0_pay1 (F := Ideal) (iblk m c 0 t) (iblk m c 1 t) i = part m c t i := by
  obtain ⟨r, k, rfl⟩ : ∃ (r : Fin 1408) (k : Fin 512), i = ix2 r k := ⟨i 0, i 1, eq_ix2 i⟩
  unfold part
  pointwise [k0_pay1]
  refine Finset.sum_congr rfl fun x _ => ?_
  rw [blk0, blk1]

theorem acc_first (t : Fin cfg0.N) (h : t.val % 4 = 0) (i : S1408x512.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S1408x512.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

/-- Of two stores of one slab each, the slab `o` stored last. -/
theorem canon_slab {Z R C o : ℕ}
    (inb : ∀ a : Fin 4, (![0, o, 0, 0] : Fin 4 → ℕ) a + (![1, 1, R, C] : Fin 4 → ℕ) a ≤ (⟨4, ![1, Z, R, C]⟩ : Shape).size a)
    (w : (⟨4, ![1, 1, R, C]⟩ : Shape).Idx → EReal) (L : List (View.Piece (Elt Ideal) ⟨4, ![1, Z, R, C]⟩ .f32)) (a : Fin 1) (z : Fin Z)
    (r : Fin R) (k : Fin C) :
    View.canon (Val := Elt Ideal) ((⟨Rect.unit ![0, o, 0, 0] ![1, 1, R, C] inb, w⟩ : View.Piece (Elt Ideal) ⟨4, ![1, Z, R, C]⟩ .f32) :: L) (ix4 a z r k)
      = if z.val = o then w (ix4 0 0 r k) else View.canon L (ix4 a z r k) := by
  by_cases h : z.val = o
  · rw [if_pos h]
    have e : (Rect.unit (s := ⟨4, ![1, Z, R, C]⟩) ![0, o, 0, 0] ![1, 1, R, C] inb).emb (ix4 0 0 r k) = ix4 a z r k := by
      funext b
      refine Fin.ext ?_
      fin_cases b
      · show 0 + 1 * 0 = a.val
        omega
      · show o + 1 * 0 = z.val
        omega
      · show 0 + 1 * r.val = r.val
        omega
      · show 0 + 1 * k.val = k.val
        omega
    rw [← e]
    exact View.canon_cons_emb (Val := Elt Ideal) (e := .f32) (Rect.unit (s := ⟨4, ![1, Z, R, C]⟩) ![0, o, 0, 0] ![1, 1, R, C] inb) w L
      (ix4 0 0 r k)
  · rw [if_neg h]
    refine View.canon_cons_of_not_mem (Val := Elt Ideal) (e := .f32) ⟨Rect.unit (s := ⟨4, ![1, Z, R, C]⟩) ![0, o, 0, 0] ![1, 1, R, C] inb, w⟩ L ?_
    rw [Rect.mem_set_unit]
    intro hall
    have h0 : o ≤ z.val ∧ z.val < o + 1 := hall 1
    omega

theorem out_last (t : Fin cfg0.N) (h : t.val % 4 = 3) (a : Fin 1) (q : Fin 2) (r : Fin 704) (k : Fin 512) :
    (outsAt0 m c t.val t.isLt).1 (ix4 a q r k) = (outsAt0 m c t.val t.isLt).2 (ix2 ⟨704 * q.val + r.val, by omega⟩ k) := by
  rw [outsAt0_C m c t (by omega) (by omega) h]
  frame_out
  generalize k0_pay3 (F := Ideal) _ _ _ = S
  refine (canon_slab _ _ _ a q r k).trans ?_
  by_cases h1 : q.val = 1
  · rw [if_pos h1]
    pointwise [k0_pay5]
    exact congrArg (fun x => S (ix2 x k)) (Fin.ext (by dsimp only; omega))
  · rw [if_neg h1]
    refine (canon_slab _ _ _ a q r k).trans ?_
    rw [if_pos (by omega)]
    pointwise [k0_pay4]
    exact congrArg (fun x => S (ix2 x k)) (Fin.ext (by dsimp only; omega))

/-- The four points of a block meet every token once. -/
theorem sum_parts (t : Fin cfg0.N) (hs : ∀ s : Fin 4, 4 * (t.val / 4) + s.val < cfg0.N) (i : S1408x512.Idx) :
    ∑ s : Fin 4, part m c ⟨4 * (t.val / 4) + s.val, hs s⟩ i
      = ∑ n : Fin 8192, at2 (act m c) n.val (1408 * (t.val / 8) + (i 0).val)
          * at2 (df m c) n.val (512 * (t.val / 4 % 2) + (i 1).val) := by
  rw [← sum_tokens fun n => at2 (act m c) n (1408 * (t.val / 8) + (i 0).val) * at2 (df m c) n (512 * (t.val / 4 % 2) + (i 1).val)]
  refine Finset.sum_congr rfl fun s _ => Finset.sum_congr rfl fun x _ => ?_
  have hd : (4 * (t.val / 4) + s.val) / 8 = t.val / 8 := by omega
  have hq : (4 * (t.val / 4) + s.val) / 4 % 2 = t.val / 4 % 2 := by omega
  have hm : (4 * (t.val / 4) + s.val) % 4 = s.val := by omega
  dsimp only
  rw [hd, hq, hm]

theorem arr : (dats m 0 c).arrAt 2 cfg0.N = downWeights (act m c) (df m c) := by
  refine (dats m 0 c).arrAt_eq_of_covers 2 _ (by decide +kernel) fun t hf y => ?_
  have h3 := (flush0_2 t).mp hf
  blk_simp
  obtain ⟨a, q, r, k, rfl⟩ : ∃ (a : Fin 1) (q : Fin 2) (r : Fin 704) (k : Fin 512), y = ix4 a q r k :=
    ⟨y 0, y 1, y 2, y 3, eq_ix4 y⟩
  rw [after0_2]
  refine (out_last m c t h3 a q r k).trans ?_
  rw [Pipeline.eq_sum_fin_of_reset_step_apply_of_flush (fun n h => (outsAt0 m c n h).2) 4 (fun _ => 0)
    (part m c) (fun t h i => acc_first m c t h i) (fun t h i => acc_next m c t h i) t h3 (ix2 ⟨704 * q.val + r.val, by omega⟩ k)]
  unfold downWeights
  blk_simp [idx2 t]
  rw [zero_add]
  refine (sum_parts m c t _ (ix2 ⟨704 * q.val + r.val, by omega⟩ k)).trans (Finset.sum_congr rfl fun n _ => ?_)
  exact congrArg (fun x => at2 (act m c) n.val x * at2 (df m c) n.val (512 * (t.val / 4 % 2) + k.val))
    (by show 1408 * (t.val / 8) + (704 * q.val + r.val) = _; omega)

namespace Ref

open Cert.Reference5Ideal.Read

variable (X : (⟨2, ![8192, 2816]⟩ : Shape).Idx → EReal) (D : (⟨2, ![8192, 1024]⟩ : Shape).Idx → EReal)

/-- The gradient by the second weights as one matrix. -/
theorem matrix_at (r : Fin 2816) (n : Fin 1024) :
    val_main_v5 (F := Ideal) X D (ix2 r n) = ∑ t : Fin 8192, at2 X t.val r.val * at2 D t.val n.val := by
  pointwise [val_main_v5, val_main_v4, val_main_v0, val_main_v1]
  refine Finset.sum_congr rfl fun t _ => ?_
  exact (congrArg₂ (· * ·) (at2_ix2 D t.isLt n.isLt).symm (at2_ix2 X t.isLt r.isLt).symm).trans (EReal.mul_comm _ _)

/-- A quarter of the rows of the first columns. -/
theorem left_at (q : Fin 4) (r : Fin 704) (k : Fin 512) : val_main_v16 (F := Ideal) X D (ix3 q r k)
    = ∑ t : Fin 8192, at2 X t.val (704 * q.val + r.val) * at2 D t.val k.val := by
  have h := matrix_at X D ⟨704 * q.val + r.val, by omega⟩ ⟨k.val, by omega⟩
  refine Eq.trans ?_ h
  fin_cases q <;>
  pointwise [val_main_v16, val_main_v15, val_main_v14, val_main_v13, val_main_v12, val_main_v11, val_main_v10, val_main_v9,
    val_main_v8, val_main_v6]

/-- A quarter of the rows of the last columns. -/
theorem right_at (q : Fin 4) (r : Fin 704) (k : Fin 512) : val_main_v25 (F := Ideal) X D (ix3 q r k)
    = ∑ t : Fin 8192, at2 X t.val (704 * q.val + r.val) * at2 D t.val (512 + k.val) := by
  have h := matrix_at X D ⟨704 * q.val + r.val, by omega⟩ ⟨512 + k.val, by omega⟩
  refine Eq.trans ?_ h
  fin_cases q <;>
  pointwise [val_main_v25, val_main_v24, val_main_v23, val_main_v22, val_main_v21, val_main_v20, val_main_v19, val_main_v18,
    val_main_v17, val_main_v7]

theorem out_eq : val_main_v28 (F := Ideal) X D = downWeights X D := by
  funext i
  obtain ⟨a, q, r, k, rfl⟩ : ∃ (a : Fin 2) (q : Fin 4) (r : Fin 704) (k : Fin 512), i = ix4 a q r k :=
    ⟨i 0, i 1, i 2, i 3, eq_ix4 i⟩
  have hu : ∀ z : Fin 1, val_main_v26 (F := Ideal) X D (ix4 z q r k) = downWeights X D (ix4 0 q r k) := fun z => by
    pointwise [val_main_v26]
    refine (left_at X D q r k).trans ?_
    unfold downWeights
    dsimp
    rw [zero_add]
  have hl : ∀ z : Fin 1, val_main_v27 (F := Ideal) X D (ix4 z q r k) = downWeights X D (ix4 1 q r k) := fun z => by
    pointwise [val_main_v27]
    exact right_at X D q r k
  fin_cases a <;> pointwise [val_main_v28]
  · exact hu 0
  · exact hl 0

end Ref

end Cert.DownDw

end
-- ==== Proof.Projections.lean ====
module

public import proofs.«01_k».proof.Proof.Products

/-!
# The backward products of the projections

A projection multiplies rows by weights. Its gradient by the rows is the gradient of the result against the rows of the weights; its
gradient by the weights is a sum over all tokens.
-/

@[expose] public section

noncomputable section

namespace Cert.Products

open Idealize.ShloMosaic Cert.FfnMid

/-- The gradient by the rows. -/
def byInput {N : ℕ} (dy : (⟨2, ![8192, N]⟩ : Shape).Idx → EReal) (w : (⟨2, ![1024, N]⟩ : Shape).Idx → EReal)
    (i : (⟨2, ![8192, 1024]⟩ : Shape).Idx) : EReal :=
  ∑ n : Fin N, at2 dy (i 0).val n.val * at2 w (i 1).val n.val

/-- The gradient by the weights. -/
def byWeights {N : ℕ} (x : (⟨2, ![8192, 1024]⟩ : Shape).Idx → EReal) (dy : (⟨2, ![8192, N]⟩ : Shape).Idx → EReal)
    (i : (⟨2, ![1024, N]⟩ : Shape).Idx) : EReal :=
  ∑ t : Fin 8192, at2 x t.val (i 0).val * at2 dy t.val (i 1).val

/-- The gradient by square weights, by halves of columns and quarters of rows. -/
def byWeightsPieces (x dy : (⟨2, ![8192, 1024]⟩ : Shape).Idx → EReal) (i : (⟨4, ![2, 4, 256, 512]⟩ : Shape).Idx) : EReal :=
  ∑ t : Fin 8192, at2 x t.val (256 * (i 1).val + (i 2).val) * at2 dy t.val (512 * (i 0).val + (i 3).val)

/-- A sum over all columns, taken piece by piece. -/
theorem sum_of_pieces {S C : ℕ} (f : ℕ → EReal) : ∑ s : Fin S, ∑ x : Fin C, f (C * s.val + x.val) = ∑ n : Fin (S * C), f n.val :=
  Fin.sum_mul_add_congr (fun s k _ => by rw [Nat.mul_comm])

end Cert.Products

end
-- ==== Proof.OddInDa.lean ====
module

public import proofs.«01_k».proof.Proof.Gen.Kernel8Ideal.Value
public import proofs.«01_k».proof.Proof.Gen.Reference8Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the input of an attention group

Point `t` of the grid adds the product over columns `1536 * (t % 2) …` to rows `1024 * (t / 2) …` of the result, which
the scratch buffer carries until the last of two points writes it out.
-/

@[expose] public section

set_option maxRecDepth 16384

noncomputable section

namespace Cert.OddInDa

open Cert.Kernel8Ideal Cert.Kernel8Ideal.Gen Idealize.ShloMosaic Idealize.ShloMosaic.TcCoe Idealize.SL.Sem
open Cert.FfnMid Cert.Products

variable (m : (ℓ : Loc nD τ sig) → Buf (Elt Ideal) ℓ) (c : Dev nD)

abbrev dy : (⟨2, ![8192, 3072]⟩ : Shape).Idx → EReal := m ((c : Thread nD τ).loc main_arg0)
abbrev w : (⟨2, ![1024, 3072]⟩ : Shape).Idx → EReal := m ((c : Thread nD τ).loc main_arg1)

theorem idx0 : ∀ t : Fin cfg0.N, win0_0.index t = ![t.val / 2, t.val % 2] :=
  (by decide +kernel : ∀ t : Fin grid0.N, win0_0.index t = ![t.val / 2, t.val % 2])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, 0] :=
  (by decide +kernel : ∀ t : Fin grid0.N, win0_2.index t = ![t.val / 2, 0])

theorem point_lt (t : Fin cfg0.N) : t.val < 16 := lt_of_lt_of_eq t.isLt N_0

theorem blk0 (t : Fin cfg0.N) (r : Fin 1024) (x : Fin 1536) :
    iblk m c 0 t (ix2 r x) = at2 (dy m c) (1024 * (t.val / 2) + r.val) (1536 * (t.val % 2) + x.val) := by
  have ht := point_lt t
  rw [at2_ix2 _ (by omega) (by omega)]
  blk_ext [iblk, V, idx0 t]

theorem blk1 (t : Fin cfg0.N) (r : Fin 1024) (x : Fin 1536) :
    iblk m c 1 t (ix2 r x) = at2 (w m c) r.val (1536 * (t.val % 2) + x.val) := by
  have ht := point_lt t
  rw [at2_ix2 _ (by omega) (by omega)]
  blk_ext [iblk, V, idx1 t]

/-- What one point adds to the result. -/
def part (t : Fin cfg0.N) (i : S1024x1024.Idx) : EReal :=
  ∑ x : Fin 1536, at2 (dy m c) (1024 * (t.val / 2) + (i 0).val) (1536 * (t.val % 2) + x.val)
    * at2 (w m c) (i 1).val (1536 * (t.val % 2) + x.val)

theorem pay_at (t : Fin cfg0.N) (i : S1024x1024.Idx) : k0_pay1 (F := Ideal) (iblk m c 0 t) (iblk m c 1 t) i = part m c t i := by
  obtain ⟨r, k, rfl⟩ : ∃ (r k : Fin 1024), i = ix2 r k := ⟨i 0, i 1, eq_ix2 i⟩
  unfold part
  pointwise [k0_pay1]
  refine Finset.sum_congr rfl fun x _ => ?_
  rw [blk0, blk1]

theorem acc_first (t : Fin cfg0.N) (h : t.val % 2 = 0) (i : S1024x1024.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 2 = 0) (i : S1024x1024.Idx) :
    (outsAt0 m c t.val t.isLt).2 i = (outsAt0 m c (t.val - 1) (by omega)).2 i + part m c t i := by
  rw [← pay_at, outsAt0_B m c t h (by omega) (by omega)]
  frame_out
  pointwise [k0_pay3]
  rw [read_unread_whole]

theorem out_last (t : Fin cfg0.N) (h : t.val % 2 = 1) : (outsAt0 m c t.val t.isLt).1 = (outsAt0 m c t.val t.isLt).2 := by
  rw [outsAt0_B m c t (by omega) (by omega) (by omega)]
  frame_out

/-- The two points of a block of rows meet every column once. -/
theorem sum_parts (t : Fin cfg0.N) (hs : ∀ s : Fin 2, 2 * (t.val / 2) + s.val < cfg0.N) (i : S1024x1024.Idx) :
    ∑ s : Fin 2, part m c ⟨2 * (t.val / 2) + s.val, hs s⟩ i
      = ∑ n : Fin 3072, at2 (dy m c) (t.val / 2 * 1024 + (i 0).val) n.val * at2 (w m c) (i 1).val n.val := by
  rw [← sum_of_pieces (S := 2) (C := 1536) fun n => at2 (dy m c) (t.val / 2 * 1024 + (i 0).val) n * at2 (w m c) (i 1).val n]
  refine Finset.sum_congr rfl fun s _ => Finset.sum_congr rfl fun x _ => ?_
  have hd : (2 * (t.val / 2) + s.val) / 2 = t.val / 2 := by omega
  have hm : (2 * (t.val / 2) + s.val) % 2 = s.val := by omega
  dsimp only
  rw [hd, hm, Nat.mul_comm 1024]

theorem arr : (dats m 0 c).arrAt 2 cfg0.N = byInput (dy m c) (w m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 2 (fun _ => 0)
    (part m c) (fun t h i => acc_first m c t h i) (fun t h i => acc_next m c t h i) t h3 y]
  unfold byInput
  blk_simp [idx2 t]
  rw [zero_add]
  exact sum_parts m c t _ y

namespace Ref

open Cert.Reference8Ideal.Read

theorem out_eq (G : (⟨2, ![8192, 3072]⟩ : Shape).Idx → EReal) (W : (⟨2, ![1024, 3072]⟩ : Shape).Idx → EReal) :
    val_main_v4 (F := Ideal) G W = byInput G W := by
  funext i
  obtain ⟨r, k, rfl⟩ : ∃ (r : Fin 8192) (k : Fin 1024), i = ix2 r k := ⟨i 0, i 1, eq_ix2 i⟩
  unfold byInput
  pointwise [val_main_v4, val_main_v0, val_main_v1]
  refine Finset.sum_congr rfl fun n _ => ?_
  exact congrArg₂ (· * ·) (at2_ix2 G r.isLt n.isLt).symm (at2_ix2 W k.isLt n.isLt).symm

end Ref

end Cert.OddInDa

end
-- ==== Proof.OddInDw.lean ====
module

public import proofs.«01_k».proof.Proof.Gen.Kernel9Ideal.Value
public import proofs.«01_k».proof.Proof.Gen.Reference9Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the first weights of an attention group

Point `t` of the grid adds the product over tokens `2048 * (t % 4) …` to columns `1536 * (t / 4) …` of the result, which the
scratch buffer carries until the fourth point writes it out.
-/

@[expose] public section

set_option maxRecDepth 16384

noncomputable section

namespace Cert.OddInDw

open Cert.Kernel9Ideal Cert.Kernel9Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev dy : (⟨2, ![8192, 3072]⟩ : Shape).Idx → EReal := m ((c : Thread nD τ).loc main_arg1)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val % 4, t.val / 4] :=
  (by decide +kernel : ∀ t : Fin grid0.N, win0_1.index t = ![t.val % 4, t.val / 4])
theorem idx2 : ∀ t : Fin cfg0.N, win0_2.index t = ![0, t.val / 4] :=
  (by decide +kernel : ∀ t : Fin grid0.N, win0_2.index t = ![0, t.val / 4])

theorem point_lt (t : Fin cfg0.N) : t.val < 8 := lt_of_lt_of_eq t.isLt N_0

theorem blk0 (t : Fin cfg0.N) (u : Fin 2048) (r : Fin 1024) :
    iblk m c 0 t (ix2 u r) = at2 (x m c) (2048 * (t.val % 4) + u.val) r.val := by
  have ht := point_lt t
  rw [at2_ix2 _ (by omega) (by omega)]
  blk_ext [iblk, V, idx0 t]

theorem blk1 (t : Fin cfg0.N) (u : Fin 2048) (k : Fin 1536) :
    iblk m c 1 t (ix2 u k) = at2 (dy m c) (2048 * (t.val % 4) + u.val) (1536 * (t.val / 4) + k.val) := by
  have ht := point_lt t
  rw [at2_ix2 _ (by omega) (by omega)]
  blk_ext [iblk, V, idx1 t]

/-- What one point adds to the result. -/
def part (t : Fin cfg0.N) (i : S1024x1536.Idx) : EReal :=
  ∑ u : Fin 2048, at2 (x m c) (2048 * (t.val % 4) + u.val) (i 0).val
    * at2 (dy m c) (2048 * (t.val % 4) + u.val) (1536 * (t.val / 4) + (i 1).val)

theorem pay_at (t : Fin cfg0.N) (i : S1024x1536.Idx) : k0_pay1 (F := Ideal) (iblk m c 0 t) (iblk m c 1 t) i = part m c t i := by
  obtain ⟨r, k, rfl⟩ : ∃ (r : Fin 1024) (k : Fin 1536), i = ix2 r k := ⟨i 0, i 1, eq_ix2 i⟩
  unfold part
  pointwise [k0_pay1]
  refine Finset.sum_congr rfl fun u _ => ?_
  rw [blk0, blk1]

theorem acc_first (t : Fin cfg0.N) (h : t.val % 4 = 0) (i : S1024x1536.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S1024x1536.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) : (outsAt0 m c t.val t.isLt).1 = (outsAt0 m c t.val t.isLt).2 := by
  rw [outsAt0_C m c t (by omega) (by omega) h]
  frame_out

/-- The four points of a block of columns meet every token once. -/
theorem sum_parts (t : Fin cfg0.N) (hs : ∀ s : Fin 4, 4 * (t.val / 4) + s.val < cfg0.N) (i : S1024x1536.Idx) :
    ∑ s : Fin 4, part m c ⟨4 * (t.val / 4) + s.val, hs s⟩ i
      = ∑ n : Fin 8192, at2 (x m c) n.val (i 0).val * at2 (dy m c) n.val (t.val / 4 * 1536 + (i 1).val) := by
  rw [← sum_tokens fun n => at2 (x m c) n (i 0).val * at2 (dy m c) n (t.val / 4 * 1536 + (i 1).val)]
  refine Finset.sum_congr rfl fun s _ => Finset.sum_congr rfl fun u _ => ?_
  have hd : (4 * (t.val / 4) + s.val) / 4 = t.val / 4 := by omega
  have hm : (4 * (t.val / 4) + s.val) % 4 = s.val := by omega
  dsimp only
  rw [hd, hm, Nat.mul_comm 1536]

theorem arr : (dats m 0 c).arrAt 2 cfg0.N = byWeights (x m c) (dy m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 4 (fun _ => 0)
    (part m c) (fun t h i => acc_first m c t h i) (fun t h i => acc_next m c t h i) t h3 y]
  unfold byWeights
  blk_simp [idx2 t]
  rw [zero_add]
  exact sum_parts m c t _ y

namespace Ref

open Cert.Reference9Ideal.Read

theorem out_eq (X : (⟨2, ![8192, 1024]⟩ : Shape).Idx → EReal) (G : (⟨2, ![8192, 3072]⟩ : Shape).Idx → EReal) :
    val_main_v5 (F := Ideal) X G = byWeights X G := by
  funext i
  obtain ⟨r, n, rfl⟩ : ∃ (r : Fin 1024) (n : Fin 3072), i = ix2 r n := ⟨i 0, i 1, eq_ix2 i⟩
  unfold byWeights
  pointwise [val_main_v5, val_main_v4, val_main_v0, val_main_v1]
  refine Finset.sum_congr rfl fun t _ => ?_
  exact (congrArg₂ (· * ·) (at2_ix2 G t.isLt n.isLt).symm (at2_ix2 X t.isLt r.isLt).symm).trans (EReal.mul_comm _ _)

end Ref

end Cert.OddInDw

end
-- ==== Proof.OddOutDa.lean ====
module

public import proofs.«01_k».proof.Proof.Gen.Kernel10Ideal.Value
public import proofs.«01_k».proof.Proof.Gen.Reference10Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the attention's result

Point `t` of the grid writes rows `1024 * t …` of the result.
-/

@[expose] public section

set_option maxRecDepth 16384

noncomputable section

namespace Cert.OddOutDa

open Cert.Kernel10Ideal Cert.Kernel10Ideal.Gen Idealize.ShloMosaic Idealize.ShloMosaic.TcCoe Idealize.SL.Sem
open Cert.FfnMid Cert.Products

variable (m : (ℓ : Loc nD τ sig) → Buf (Elt Ideal) ℓ) (c : Dev nD)

abbrev dy : (⟨2, ![8192, 1024]⟩ : Shape).Idx → EReal := m ((c : Thread nD τ).loc main_arg0)
abbrev w : (⟨2, ![1024, 1024]⟩ : Shape).Idx → EReal := m ((c : Thread nD τ).loc main_arg1)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem blk0 (t : Fin cfg0.N) (r x : Fin 1024) : iblk m c 0 t (ix2 r x) = at2 (dy m c) (1024 * t.val + r.val) x.val := by
  have ht := point_lt t
  rw [at2_ix2 _ (by omega) (by omega)]
  blk_ext [iblk, V, idx0 t]

theorem blk1 (t : Fin cfg0.N) (k x : Fin 1024) : iblk m c 1 t (ix2 k x) = at2 (w m c) k.val x.val := by
  rw [at2_ix2 _ (by omega) (by omega)]
  blk_ext [iblk, V, idx1 t]

theorem pay_at (t : Fin cfg0.N) (r k : Fin 1024) : k0_pay1 (F := Ideal) (iblk m c 0 t) (iblk m c 1 t) (ix2 r k)
    = ∑ x : Fin 1024, at2 (dy m c) (1024 * t.val + r.val) x.val * at2 (w m c) k.val x.val := by
  pointwise [k0_pay1]
  refine Finset.sum_congr rfl fun x _ => ?_
  rw [blk0, blk1]

theorem arr : (dats m 0 c).arrAt 2 cfg0.N = byInput (dy m c) (w m c) := by
  refine (dats m 0 c).arrAt_eq_of_covers 2 _ (by decide +kernel) fun t hf y => ?_
  blk_simp
  rw [after0_2]
  obtain ⟨r, k, rfl⟩ : ∃ (r k : Fin 1024), y = ix2 r k := ⟨y 0, y 1, eq_ix2 y⟩
  unfold outsAt0
  frame_out
  refine (pay_at m c t r k).trans ?_
  unfold byInput
  blk_simp [idx2 t]
  rw [Nat.mul_comm 1024]

namespace Ref

open Cert.Reference10Ideal.Read

theorem out_eq (G : (⟨2, ![8192, 1024]⟩ : Shape).Idx → EReal) (W : (⟨2, ![1024, 1024]⟩ : Shape).Idx → EReal) :
    val_main_v5 (F := Ideal) G W = byInput G W := by
  funext i
  obtain ⟨r, k, rfl⟩ : ∃ (r : Fin 8192) (k : Fin 1024), i = ix2 r k := ⟨i 0, i 1, eq_ix2 i⟩
  unfold byInput
  pointwise [val_main_v5, val_main_v4, val_main_v0, val_main_v1]
  refine Finset.sum_congr rfl fun n _ => ?_
  exact congrArg₂ (· * ·) (at2_ix2 G r.isLt n.isLt).symm (at2_ix2 W k.isLt n.isLt).symm

end Ref

end Cert.OddOutDa

end
-- ==== Proof.OutDw.lean ====
module

public import proofs.«01_k».proof.Proof.Gen.Kernel11Ideal.Value
public import proofs.«01_k».proof.Proof.Gen.Reference11Ideal.Read
public import proofs.«01_k».proof.Proof.Projections
public import proofs.«01_k».proof.Proof.DownDw
public import Idealize.ShloMosaic.Lib.Pipeline.ValueKit
public import Idealize.ShloMosaic.Lib.Pipeline.ReadBack
public import Idealize.ShloMosaic.Lib.StableHlo.ReadAt

/-!
# The gradient by the weights of an output projection

Point `t` of the grid adds the product over tokens `2048 * (t % 4) …` to rows `512 * (t / 8) …` and columns
`512 * (t / 4 % 2) …` of the result, which the scratch buffer carries until the fourth point writes it out as two
quarters of the rows.
-/

@[expose] public section

set_option maxRecDepth 16384

noncomputable section

namespace Cert.OutDw

open Cert.Kernel11Ideal Cert.Kernel11Ideal.Gen Idealize.ShloMosaic Idealize.ShloMosaic.TcCoe Idealize.SL.Sem
open Cert.FfnMid Cert.Products

variable (m : (ℓ : Loc nD τ sig) → Buf (Elt Ideal) ℓ) (c : Dev nD)

abbrev o : (⟨2, ![8192, 1024]⟩ : Shape).Idx → EReal := m ((c : Thread nD τ).loc main_arg0)
abbrev dy : (⟨2, ![8192, 1024]⟩ : Shape).Idx → EReal := m ((c : Thread nD τ).loc main_arg1)

theorem idx0 : ∀ t : Fin cfg0.N, win0_0.index t = ![t.val % 4, t.val / 8] :=
  (by decide +kernel : ∀ t : Fin grid0.N, win0_0.index t = ![t.val % 4, t.val / 8])
theorem idx1 : ∀ t : Fin cfg0.N, win0_1.index t = ![t.val % 4, t.val / 4 % 2] :=
  (by decide +kernel : ∀ t : Fin grid0.N, win0_1.index t = ![t.val % 4, t.val / 4 % 2])
theorem idx2 : ∀ t : Fin cfg0.N, win0_2.index t = ![t.val / 4 % 2, t.val / 8, 0, 0] :=
  (by decide +kernel : ∀ t : Fin grid0.N, win0_2.index t = ![t.val / 4 % 2, t.val / 8, 0, 0])

theorem point_lt (t : Fin cfg0.N) : t.val < 16 := lt_of_lt_of_eq t.isLt N_0

theorem blk0 (t : Fin cfg0.N) (x : Fin 2048) (r : Fin 512) :
    iblk m c 0 t (ix2 x r) = at2 (o m c) (2048 * (t.val % 4) + x.val) (512 * (t.val / 8) + r.val) := by
  have ht := point_lt t
  rw [at2_ix2 _ (by omega) (by omega)]
  blk_ext [iblk, V, idx0 t]

theorem blk1 (t : Fin cfg0.N) (x : Fin 2048) (k : Fin 512) :
    iblk m c 1 t (ix2 x k) = at2 (dy m c) (2048 * (t.val % 4) + x.val) (512 * (t.val / 4 % 2) + k.val) := by
  have ht := point_lt t
  rw [at2_ix2 _ (by omega) (by omega)]
  blk_ext [iblk, V, idx1 t]

/-- What one point adds to the result. -/
def part (t : Fin cfg0.N) (i : S512x512.Idx) : EReal :=
  ∑ x : Fin 2048, at2 (o m c) (2048 * (t.val % 4) + x.val) (512 * (t.val / 8) + (i 0).val)
    * at2 (dy m c) (2048 * (t.val % 4) + x.val) (512 * (t.val / 4 % 2) + (i 1).val)

theorem pay_at (t : Fin cfg0.N) (i : S512x512.Idx) : k0_pay1 (F := Ideal) (iblk m c 0 t) (iblk m c 1 t) i = part m c t i := by
  obtain ⟨r, k, rfl⟩ : ∃ (r : Fin 512) (k : Fin 512), i = ix2 r k := ⟨i 0, i 1, eq_ix2 i⟩
  unfold part
  pointwise [k0_pay1]
  refine Finset.sum_congr rfl fun x _ => ?_
  rw [blk0, blk1]

theorem acc_first (t : Fin cfg0.N) (h : t.val % 4 = 0) (i : S512x512.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S512x512.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) (a : Fin 1) (q : Fin 2) (r : Fin 256) (k : Fin 512) :
    (outsAt0 m c t.val t.isLt).1 (ix4 a q r k) = (outsAt0 m c t.val t.isLt).2 (ix2 ⟨256 * q.val + r.val, by omega⟩ k) := by
  rw [outsAt0_C m c t (by omega) (by omega) h]
  frame_out
  generalize k0_pay3 (F := Ideal) _ _ _ = S
  refine (DownDw.canon_slab _ _ _ a q r k).trans ?_
  by_cases h1 : q.val = 1
  · rw [if_pos h1]
    pointwise [k0_pay5]
    exact congrArg (fun x => S (ix2 x k)) (Fin.ext (by dsimp only; omega))
  · rw [if_neg h1]
    refine (DownDw.canon_slab _ _ _ a q r k).trans ?_
    rw [if_pos (by omega)]
    pointwise [k0_pay4]
    exact congrArg (fun x => S (ix2 x k)) (Fin.ext (by dsimp only; omega))

/-- The four points of a block meet every token once. -/
theorem sum_parts (t : Fin cfg0.N) (hs : ∀ s : Fin 4, 4 * (t.val / 4) + s.val < cfg0.N) (i : S512x512.Idx) :
    ∑ s : Fin 4, part m c ⟨4 * (t.val / 4) + s.val, hs s⟩ i
      = ∑ n : Fin 8192, at2 (o m c) n.val (512 * (t.val / 8) + (i 0).val)
          * at2 (dy m c) n.val (512 * (t.val / 4 % 2) + (i 1).val) := by
  rw [← sum_tokens fun n => at2 (o m c) n (512 * (t.val / 8) + (i 0).val) * at2 (dy m c) n (512 * (t.val / 4 % 2) + (i 1).val)]
  refine Finset.sum_congr rfl fun s _ => Finset.sum_congr rfl fun x _ => ?_
  have hd : (4 * (t.val / 4) + s.val) / 8 = t.val / 8 := by omega
  have hq : (4 * (t.val / 4) + s.val) / 4 % 2 = t.val / 4 % 2 := by omega
  have hm : (4 * (t.val / 4) + s.val) % 4 = s.val := by omega
  dsimp only
  rw [hd, hq, hm]

theorem arr : (dats m 0 c).arrAt 2 cfg0.N = byWeightsPieces (o m c) (dy m c) := by
  refine (dats m 0 c).arrAt_eq_of_covers 2 _ (by decide +kernel) fun t hf y => ?_
  have h3 := (flush0_2 t).mp hf
  blk_simp
  obtain ⟨a, q, r, k, rfl⟩ : ∃ (a : Fin 1) (q : Fin 2) (r : Fin 256) (k : Fin 512), y = ix4 a q r k :=
    ⟨y 0, y 1, y 2, y 3, eq_ix4 y⟩
  rw [after0_2]
  refine (out_last m c t h3 a q r k).trans ?_
  rw [Pipeline.eq_sum_fin_of_reset_step_apply_of_flush (fun n h => (outsAt0 m c n h).2) 4 (fun _ => 0)
    (part m c) (fun t h i => acc_first m c t h i) (fun t h i => acc_next m c t h i) t h3 (ix2 ⟨256 * q.val + r.val, by omega⟩ k)]
  unfold byWeightsPieces
  blk_simp [idx2 t]
  rw [zero_add]
  refine (sum_parts m c t _ (ix2 ⟨256 * q.val + r.val, by omega⟩ k)).trans (Finset.sum_congr rfl fun n _ => ?_)
  exact congrArg (fun x => at2 (o m c) n.val x * at2 (dy m c) n.val (512 * (t.val / 4 % 2) + k.val))
    (by show 512 * (t.val / 8) + (256 * q.val + r.val) = _; omega)

namespace Ref

open Cert.Reference11Ideal.Read

variable (X : (⟨2, ![8192, 1024]⟩ : Shape).Idx → EReal) (D : (⟨2, ![8192, 1024]⟩ : Shape).Idx → EReal)

/-- The gradient by the second weights as one matrix. -/
theorem matrix_at (r : Fin 1024) (n : Fin 1024) :
    val_main_v4 (F := Ideal) X D (ix2 r n) = ∑ t : Fin 8192, at2 X t.val r.val * at2 D t.val n.val := by
  pointwise [val_main_v4, val_main_v3, val_main_v2]
  refine Finset.sum_congr rfl fun t _ => ?_
  exact (congrArg₂ (· * ·) (at2_ix2 D t.isLt n.isLt).symm (at2_ix2 X t.isLt r.isLt).symm).trans (EReal.mul_comm _ _)

/-- A quarter of the rows of the first columns. -/
theorem left_at (q : Fin 4) (r : Fin 256) (k : Fin 512) : val_main_v15 (F := Ideal) X D (ix3 q r k)
    = ∑ t : Fin 8192, at2 X t.val (256 * q.val + r.val) * at2 D t.val k.val := by
  have h := matrix_at X D ⟨256 * q.val + r.val, by omega⟩ ⟨k.val, by omega⟩
  refine Eq.trans ?_ h
  fin_cases q <;>
  pointwise [val_main_v15, val_main_v14, val_main_v13, val_main_v12, val_main_v11, val_main_v10, val_main_v9, val_main_v8,
    val_main_v7, val_main_v5]

/-- A quarter of the rows of the last columns. -/
theorem right_at (q : Fin 4) (r : Fin 256) (k : Fin 512) : val_main_v24 (F := Ideal) X D (ix3 q r k)
    = ∑ t : Fin 8192, at2 X t.val (256 * q.val + r.val) * at2 D t.val (512 + k.val) := by
  have h := matrix_at X D ⟨256 * q.val + r.val, by omega⟩ ⟨512 + k.val, by omega⟩
  refine Eq.trans ?_ h
  fin_cases q <;>
  pointwise [val_main_v24, val_main_v23, val_main_v22, val_main_v21, val_main_v20, val_main_v19, val_main_v18, val_main_v17,
    val_main_v16, val_main_v6]

theorem out_eq : val_main_v27 (F := Ideal) X D = byWeightsPieces X D := by
  funext i
  obtain ⟨a, q, r, k, rfl⟩ : ∃ (a : Fin 2) (q : Fin 4) (r : Fin 256) (k : Fin 512), i = ix4 a q r k :=
    ⟨i 0, i 1, i 2, i 3, eq_ix4 i⟩
  have hu : ∀ z : Fin 1, val_main_v25 (F := Ideal) X D (ix4 z q r k) = byWeightsPieces X D (ix4 0 q r k) := fun z => by
    pointwise [val_main_v25]
    refine (left_at X D q r k).trans ?_
    unfold byWeightsPieces
    dsimp
    rw [zero_add]
  have hl : ∀ z : Fin 1, val_main_v26 (F := Ideal) X D (ix4 z q r k) = byWeightsPieces X D (ix4 1 q r k) := fun z => by
    pointwise [val_main_v26]
    exact right_at X D q r k
  fin_cases a <;> pointwise [val_main_v27]
  · exact hu 0
  · exact hl 0

end Ref

end Cert.OutDw

end
-- ==== Proof.EvenInDa.lean ====
module

public import proofs.«01_k».proof.Proof.Gen.Kernel12Ideal.Value
public import proofs.«01_k».proof.Proof.Gen.Reference12Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the input of the recurrent mixer

Point `t` of the grid adds the product over columns `896 * (t % 3) …` to rows `1024 * (t / 3) …` of the result, which
the scratch buffer carries until the last of three points writes it out.
-/

@[expose] public section

set_option maxRecDepth 16384

noncomputable section

namespace Cert.EvenInDa

open Cert.Kernel12Ideal Cert.Kernel12Ideal.Gen Idealize.ShloMosaic Idealize.ShloMosaic.TcCoe Idealize.SL.Sem
open Cert.FfnMid Cert.Products

variable (m : (ℓ : Loc nD τ sig) → Buf (Elt Ideal) ℓ) (c : Dev nD)

abbrev dy : (⟨2, ![8192, 2688]⟩ : Shape).Idx → EReal := m ((c : Thread nD τ).loc main_arg0)
abbrev w : (⟨2, ![1024, 2688]⟩ : Shape).Idx → EReal := m ((c : Thread nD τ).loc main_arg1)

theorem idx0 : ∀ t : Fin cfg0.N, win0_0.index t = ![t.val / 3, t.val % 3] :=
  (by decide +kernel : ∀ t : Fin grid0.N, win0_0.index t = ![t.val / 3, t.val % 3])
theorem idx1 : ∀ t : Fin cfg0.N, win0_1.index t = ![0, t.val % 3] :=
  (by decide +kernel : ∀ t : Fin grid0.N, win0_1.index t = ![0, t.val % 3])
theorem idx2 : ∀ t : Fin cfg0.N, win0_2.index t = ![t.val / 3, 0] :=
  (by decide +kernel : ∀ t : Fin grid0.N, win0_2.index t = ![t.val / 3, 0])

theorem point_lt (t : Fin cfg0.N) : t.val < 24 := lt_of_lt_of_eq t.isLt N_0

theorem blk0 (t : Fin cfg0.N) (r : Fin 1024) (x : Fin 896) :
    iblk m c 0 t (ix2 r x) = at2 (dy m c) (1024 * (t.val / 3) + r.val) (896 * (t.val % 3) + x.val) := by
  have ht := point_lt t
  rw [at2_ix2 _ (by omega) (by omega)]
  blk_ext [iblk, V, idx0 t]

theorem blk1 (t : Fin cfg0.N) (r : Fin 1024) (x : Fin 896) :
    iblk m c 1 t (ix2 r x) = at2 (w m c) r.val (896 * (t.val % 3) + x.val) := by
  have ht := point_lt t
  rw [at2_ix2 _ (by omega) (by omega)]
  blk_ext [iblk, V, idx1 t]

/-- What one point adds to the result. -/
def part (t : Fin cfg0.N) (i : S1024x1024.Idx) : EReal :=
  ∑ x : Fin 896, at2 (dy m c) (1024 * (t.val / 3) + (i 0).val) (896 * (t.val % 3) + x.val)
    * at2 (w m c) (i 1).val (896 * (t.val % 3) + x.val)

theorem pay_at (t : Fin cfg0.N) (i : S1024x1024.Idx) : k0_pay1 (F := Ideal) (iblk m c 0 t) (iblk m c 1 t) i = part m c t i := by
  obtain ⟨r, k, rfl⟩ : ∃ (r k : Fin 1024), i = ix2 r k := ⟨i 0, i 1, eq_ix2 i⟩
  unfold part
  pointwise [k0_pay1]
  refine Finset.sum_congr rfl fun x _ => ?_
  rw [blk0, blk1]

theorem acc_first (t : Fin cfg0.N) (h : t.val % 3 = 0) (i : S1024x1024.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 3 = 0) (i : S1024x1024.Idx) :
    (outsAt0 m c t.val t.isLt).2 i = (outsAt0 m c (t.val - 1) (by omega)).2 i + part m c t i := by
  rw [← pay_at]
  by_cases h2 : t.val % 3 = 2
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 3 = 2) : (outsAt0 m c t.val t.isLt).1 = (outsAt0 m c t.val t.isLt).2 := by
  rw [outsAt0_C m c t (by omega) (by omega) h]
  frame_out

/-- The three points of a block of rows meet every column once. -/
theorem sum_parts (t : Fin cfg0.N) (hs : ∀ s : Fin 3, 3 * (t.val / 3) + s.val < cfg0.N) (i : S1024x1024.Idx) :
    ∑ s : Fin 3, part m c ⟨3 * (t.val / 3) + s.val, hs s⟩ i
      = ∑ n : Fin 2688, at2 (dy m c) (t.val / 3 * 1024 + (i 0).val) n.val * at2 (w m c) (i 1).val n.val := by
  rw [← sum_of_pieces (S := 3) (C := 896) fun n => at2 (dy m c) (t.val / 3 * 1024 + (i 0).val) n * at2 (w m c) (i 1).val n]
  refine Finset.sum_congr rfl fun s _ => Finset.sum_congr rfl fun x _ => ?_
  have hd : (3 * (t.val / 3) + s.val) / 3 = t.val / 3 := by omega
  have hm : (3 * (t.val / 3) + s.val) % 3 = s.val := by omega
  dsimp only
  rw [hd, hm, Nat.mul_comm 1024]

theorem arr : (dats m 0 c).arrAt 2 cfg0.N = byInput (dy m c) (w m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 3 (fun _ => 0)
    (part m c) (fun t h i => acc_first m c t h i) (fun t h i => acc_next m c t h i) t h3 y]
  unfold byInput
  blk_simp [idx2 t]
  rw [zero_add]
  exact sum_parts m c t _ y

namespace Ref

open Cert.Reference12Ideal.Read

theorem out_eq (G : (⟨2, ![8192, 2688]⟩ : Shape).Idx → EReal) (W : (⟨2, ![1024, 2688]⟩ : Shape).Idx → EReal) :
    val_main_v4 (F := Ideal) G W = byInput G W := by
  funext i
  obtain ⟨r, k, rfl⟩ : ∃ (r : Fin 8192) (k : Fin 1024), i = ix2 r k := ⟨i 0, i 1, eq_ix2 i⟩
  unfold byInput
  pointwise [val_main_v4, val_main_v0, val_main_v1]
  refine Finset.sum_congr rfl fun n _ => ?_
  exact congrArg₂ (· * ·) (at2_ix2 G r.isLt n.isLt).symm (at2_ix2 W k.isLt n.isLt).symm

end Ref

end Cert.EvenInDa

end
-- ==== Proof.EvenInDw.lean ====
module

public import proofs.«01_k».proof.Proof.Gen.Kernel13Ideal.Value
public import proofs.«01_k».proof.Proof.Gen.Reference13Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the first weights of the recurrent mixer

Point `t` of the grid adds the product over tokens `2048 * (t % 4) …` to columns `896 * (t / 4) …` of the result, which the
scratch buffer carries until the fourth point writes it out.
-/

@[expose] public section

set_option maxRecDepth 16384

noncomputable section

namespace Cert.EvenInDw

open Cert.Kernel13Ideal Cert.Kernel13Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev dy : (⟨2, ![8192, 2688]⟩ : Shape).Idx → EReal := m ((c : Thread nD τ).loc main_arg1)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val % 4, t.val / 4] :=
  (by decide +kernel : ∀ t : Fin grid0.N, win0_1.index t = ![t.val % 4, t.val / 4])
theorem idx2 : ∀ t : Fin cfg0.N, win0_2.index t = ![0, t.val / 4] :=
  (by decide +kernel : ∀ t : Fin grid0.N, win0_2.index t = ![0, t.val / 4])

theorem point_lt (t : Fin cfg0.N) : t.val < 12 := lt_of_lt_of_eq t.isLt N_0

theorem blk0 (t : Fin cfg0.N) (u : Fin 2048) (r : Fin 1024) :
    iblk m c 0 t (ix2 u r) = at2 (x m c) (2048 * (t.val % 4) + u.val) r.val := by
  have ht := point_lt t
  rw [at2_ix2 _ (by omega) (by omega)]
  blk_ext [iblk, V, idx0 t]

theorem blk1 (t : Fin cfg0.N) (u : Fin 2048) (k : Fin 896) :
    iblk m c 1 t (ix2 u k) = at2 (dy m c) (2048 * (t.val % 4) + u.val) (896 * (t.val / 4) + k.val) := by
  have ht := point_lt t
  rw [at2_ix2 _ (by omega) (by omega)]
  blk_ext [iblk, V, idx1 t]

/-- What one point adds to the result. -/
def part (t : Fin cfg0.N) (i : S1024x896.Idx) : EReal :=
  ∑ u : Fin 2048, at2 (x m c) (2048 * (t.val % 4) + u.val) (i 0).val
    * at2 (dy m c) (2048 * (t.val % 4) + u.val) (896 * (t.val / 4) + (i 1).val)

theorem pay_at (t : Fin cfg0.N) (i : S1024x896.Idx) : k0_pay1 (F := Ideal) (iblk m c 0 t) (iblk m c 1 t) i = part m c t i := by
  obtain ⟨r, k, rfl⟩ : ∃ (r : Fin 1024) (k : Fin 896), i = ix2 r k := ⟨i 0, i 1, eq_ix2 i⟩
  unfold part
  pointwise [k0_pay1]
  refine Finset.sum_congr rfl fun u _ => ?_
  rw [blk0, blk1]

theorem acc_first (t : Fin cfg0.N) (h : t.val % 4 = 0) (i : S1024x896.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S1024x896.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) : (outsAt0 m c t.val t.isLt).1 = (outsAt0 m c t.val t.isLt).2 := by
  rw [outsAt0_C m c t (by omega) (by omega) h]
  frame_out

/-- The four points of a block of columns meet every token once. -/
theorem sum_parts (t : Fin cfg0.N) (hs : ∀ s : Fin 4, 4 * (t.val / 4) + s.val < cfg0.N) (i : S1024x896.Idx) :
    ∑ s : Fin 4, part m c ⟨4 * (t.val / 4) + s.val, hs s⟩ i
      = ∑ n : Fin 8192, at2 (x m c) n.val (i 0).val * at2 (dy m c) n.val (t.val / 4 * 896 + (i 1).val) := by
  rw [← sum_tokens fun n => at2 (x m c) n (i 0).val * at2 (dy m c) n (t.val / 4 * 896 + (i 1).val)]
  refine Finset.sum_congr rfl fun s _ => Finset.sum_congr rfl fun u _ => ?_
  have hd : (4 * (t.val / 4) + s.val) / 4 = t.val / 4 := by omega
  have hm : (4 * (t.val / 4) + s.val) % 4 = s.val := by omega
  dsimp only
  rw [hd, hm, Nat.mul_comm 896]

theorem arr : (dats m 0 c).arrAt 2 cfg0.N = byWeights (x m c) (dy m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 4 (fun _ => 0)
    (part m c) (fun t h i => acc_first m c t h i) (fun t h i => acc_next m c t h i) t h3 y]
  unfold byWeights
  blk_simp [idx2 t]
  rw [zero_add]
  exact sum_parts m c t _ y

namespace Ref

open Cert.Reference13Ideal.Read

theorem out_eq (X : (⟨2, ![8192, 1024]⟩ : Shape).Idx → EReal) (G : (⟨2, ![8192, 2688]⟩ : Shape).Idx → EReal) :
    val_main_v5 (F := Ideal) X G = byWeights X G := by
  funext i
  obtain ⟨r, n, rfl⟩ : ∃ (r : Fin 1024) (n : Fin 2688), i = ix2 r n := ⟨i 0, i 1, eq_ix2 i⟩
  unfold byWeights
  pointwise [val_main_v5, val_main_v4, val_main_v0, val_main_v1]
  refine Finset.sum_congr rfl fun t _ => ?_
  exact (congrArg₂ (· * ·) (at2_ix2 G t.isLt n.isLt).symm (at2_ix2 X t.isLt r.isLt).symm).trans (EReal.mul_comm _ _)

end Ref

end Cert.EvenInDw

end
-- ==== Proof.EvenOutDa.lean ====
module

public import proofs.«01_k».proof.Proof.Gen.Kernel14Ideal.Value
public import proofs.«01_k».proof.Proof.Gen.Reference14Ideal.Read
public import proofs.«01_k».proof.Proof.Projections
public import Idealize.ShloMosaic.Lib.Pipeline.ValueKit
public import Idealize.ShloMosaic.Lib.Pipeline.ReadBack
public import Idealize.ShloMosaic.Lib.StableHlo.ReadAt

/-!
# The gradient by the recurrent mixer's result

Point `t` of the grid writes rows `1024 * t …` of the result.
-/

@[expose] public section

set_option maxRecDepth 16384

noncomputable section

namespace Cert.EvenOutDa

open Cert.Kernel14Ideal Cert.Kernel14Ideal.Gen Idealize.ShloMosaic Idealize.ShloMosaic.TcCoe Idealize.SL.Sem
open Cert.FfnMid Cert.Products

variable (m : (ℓ : Loc nD τ sig) → Buf (Elt Ideal) ℓ) (c : Dev nD)

abbrev dy : (⟨2, ![8192, 1024]⟩ : Shape).Idx → EReal := m ((c : Thread nD τ).loc main_arg0)
abbrev w : (⟨2, ![1024, 1024]⟩ : Shape).Idx → EReal := m ((c : Thread nD τ).loc main_arg1)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem blk0 (t : Fin cfg0.N) (r x : Fin 1024) : iblk m c 0 t (ix2 r x) = at2 (dy m c) (1024 * t.val + r.val) x.val := by
  have ht := point_lt t
  rw [at2_ix2 _ (by omega) (by omega)]
  blk_ext [iblk, V, idx0 t]

theorem blk1 (t : Fin cfg0.N) (k x : Fin 1024) : iblk m c 1 t (ix2 k x) = at2 (w m c) k.val x.val := by
  rw [at2_ix2 _ (by omega) (by omega)]
  blk_ext [iblk, V, idx1 t]

theorem pay_at (t : Fin cfg0.N) (r k : Fin 1024) : k0_pay1 (F := Ideal) (iblk m c 0 t) (iblk m c 1 t) (ix2 r k)
    = ∑ x : Fin 1024, at2 (dy m c) (1024 * t.val + r.val) x.val * at2 (w m c) k.val x.val := by
  pointwise [k0_pay1]
  refine Finset.sum_congr rfl fun x _ => ?_
  rw [blk0, blk1]

theorem arr : (dats m 0 c).arrAt 2 cfg0.N = byInput (dy m c) (w m c) := by
  refine (dats m 0 c).arrAt_eq_of_covers 2 _ (by decide +kernel) fun t hf y => ?_
  blk_simp
  rw [after0_2]
  obtain ⟨r, k, rfl⟩ : ∃ (r k : Fin 1024), y = ix2 r k := ⟨y 0, y 1, eq_ix2 y⟩
  unfold outsAt0
  frame_out
  refine (pay_at m c t r k).trans ?_
  unfold byInput
  blk_simp [idx2 t]
  rw [Nat.mul_comm 1024]

namespace Ref

open Cert.Reference14Ideal.Read

theorem out_eq (G : (⟨2, ![8192, 1024]⟩ : Shape).Idx → EReal) (W : (⟨2, ![1024, 1024]⟩ : Shape).Idx → EReal) :
    val_main_v4 (F := Ideal) G W = byInput G W := by
  funext i
  obtain ⟨r, k, rfl⟩ : ∃ (r : Fin 8192) (k : Fin 1024), i = ix2 r k := ⟨i 0, i 1, eq_ix2 i⟩
  unfold byInput
  pointwise [val_main_v4, val_main_v0, val_main_v1]
  refine Finset.sum_congr rfl fun n _ => ?_
  exact congrArg₂ (· * ·) (at2_ix2 G r.isLt n.isLt).symm (at2_ix2 W k.isLt n.isLt).symm

end Ref

end Cert.EvenOutDa

end
-- ==== Proof.AttQHost.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.StableHlo.ReadAt

/-!
# The row sums that the gradient by the queries is given

The host operations before the kernel call, run after run, each buffer that is read later in the terms of the reference.
-/

@[expose] public section

set_option maxRecDepth 16384

noncomputable section

namespace Cert.AttQHost

open Cert.Kernel6Ideal Cert.Kernel6Ideal.Gen Idealize.ShloMosaic Idealize.ShloMosaic.TcCoe Idealize.SL.Sem Idealize.ShloMosaic.StableHlo

/-- The gradient against the result, by token and head. -/
def againstIn (x0 x1 x2 : FVec Ideal S8192x3072 .bf16) (x3 : FVec Ideal S8192x1024 .bf16) : FVec Ideal S8192x8 .f32 :=
  Host.reduceAdd (mulf (Cert.Reference6Ideal.Read.val_main_v150 (F := Ideal) x3) (Cert.Reference6Ideal.Read.val_main_v145 (F := Ideal) x0 x1 x2))
    (Cert.Reference6Ideal.Read.val_main_cst_2 (F := Ideal)) reducesTo_S8192x8x128_S8192x8_d2 h_S_

/-- The logarithms of the sums of the weights, by token and head. -/
def logsIn (x0 x1 x2 : FVec Ideal S8192x3072 .bf16) : FVec Ideal S8192x8 .f32 :=
  Host.log (Cert.Reference6Ideal.Read.val_main_v142 (F := Ideal) x0 x1 x2)

/-- A column for each head, widened to a whole lane row. -/
def padded (x : FVec Ideal S8192x8 .f32) : FVec Ideal S8192x128 .f32 :=
  pad S8192x128 ![0, 0] ![0, 120] ![0, 0] x (sitofp .f32 (Cert.Reference6Ideal.Read.val_main_c (F := Ideal))) pads_S8192x8_S8192x128_000_01200 h_S_

/-- The buffers after 1 of the 10 runs of host operations. -/
def w1 (V0 : Valuation τ sig (Elt Ideal)) : Valuation τ sig (Elt Ideal) := after hostOps0 (V0)

set_option maxHeartbeats 2000000 in
theorem w1_main_arg0 (V0 : Valuation τ sig (Elt Ideal)) : w1 V0 (no_index (Proc.devRef .tc main_arg0)) = V0 (Proc.devRef .tc main_arg0) := by
  unfold w1
  simp only [hostOps0, TRef.nullary, TRef.ternary, TRef.unary, TRef.binary, TRef.toBuf, TRef.ofBuf, cast_eq]
  after_results_simp

set_option maxHeartbeats 2000000 in
theorem w1_main_arg1 (V0 : Valuation τ sig (Elt Ideal)) : w1 V0 (no_index (Proc.devRef .tc main_arg1)) = V0 (Proc.devRef .tc main_arg1) := by
  unfold w1
  simp only [hostOps0, TRef.nullary, TRef.ternary, TRef.unary, TRef.binary, TRef.toBuf, TRef.ofBuf, cast_eq]
  after_results_simp

set_option maxHeartbeats 2000000 in
theorem w1_main_arg2 (V0 : Valuation τ sig (Elt Ideal)) : w1 V0 (no_index (Proc.devRef .tc main_arg2)) = V0 (Proc.devRef .tc main_arg2) := by
  unfold w1
  simp only [hostOps0, TRef.nullary, TRef.ternary, TRef.unary, TRef.binary, TRef.toBuf, TRef.ofBuf, cast_eq]
  after_results_simp

set_option maxHeartbeats 2000000 in
theorem w1_main_arg3 (V0 : Valuation τ sig (Elt Ideal)) : w1 V0 (no_index (Proc.devRef .tc main_arg3)) = V0 (Proc.devRef .tc main_arg3) := by
  unfold w1
  simp only [hostOps0, TRef.nullary, TRef.ternary, TRef.unary, TRef.binary, TRef.toBuf, TRef.ofBuf, cast_eq]
  after_results_simp

set_option maxHeartbeats 2000000 in
theorem w1_main_v8 (V0 : Valuation τ sig (Elt Ideal)) : w1 V0 (no_index (Proc.devRef .tc main_v8)) = Cert.Reference6Ideal.Read.val_main_v17 (F := Ideal) (V0 (Proc.devRef .tc main_arg1)) := by
  unfold w1
  simp only [hostOps0, TRef.nullary, TRef.ternary, TRef.unary, TRef.binary, TRef.toBuf, TRef.ofBuf, cast_eq]
  after_results_simp
  all_goals rfl

set_option maxHeartbeats 2000000 in
theorem w1_main_v28 (V0 : Valuation τ sig (Elt Ideal)) : w1 V0 (no_index (Proc.devRef .tc main_v28)) = Cert.Reference6Ideal.Read.val_main_v37 (F := Ideal) := by
  unfold w1
  simp only [hostOps0, TRef.nullary, TRef.ternary, TRef.unary, TRef.binary, TRef.toBuf, TRef.ofBuf, cast_eq]
  after_results_simp
  all_goals rfl

set_option maxHeartbeats 2000000 in
theorem w1_main_v43 (V0 : Valuation τ sig (Elt Ideal)) : w1 V0 (no_index (Proc.devRef .tc main_v43)) = Cert.Reference6Ideal.Read.val_main_v52 (F := Ideal) (V0 (Proc.devRef .tc main_arg1)) := by
  unfold w1
  simp only [hostOps0, TRef.nullary, TRef.ternary, TRef.unary, TRef.binary, TRef.toBuf, TRef.ofBuf, cast_eq]
  after_results_simp
  all_goals rfl

set_option maxHeartbeats 2000000 in
theorem w1_main_cst_2 (V0 : Valuation τ sig (Elt Ideal)) : w1 V0 (no_index (Proc.devRef .tc main_cst_2)) = Cert.Reference6Ideal.Read.val_main_cst_2 (F := Ideal) := by
  unfold w1
  simp only [hostOps0, TRef.nullary, TRef.ternary, TRef.unary, TRef.binary, TRef.toBuf, TRef.ofBuf, cast_eq]
  after_results_simp
  all_goals rfl

/-- The buffers after 2 of the 10 runs of host operations. -/
def w2 (V0 : Valuation τ sig (Elt Ideal)) : Valuation τ sig (Elt Ideal) := after hostOps0_1 (w1 V0)

set_option maxHeartbeats 2000000 in
theorem w2_main_arg0 (V0 : Valuation τ sig (Elt Ideal)) : w2 V0 (no_index (Proc.devRef .tc main_arg0)) = V0 (Proc.devRef .tc main_arg0) := by
  unfold w2
  simp only [hostOps0_1, TRef.nullary, TRef.ternary, TRef.unary, TRef.binary, TRef.toBuf, TRef.ofBuf, cast_eq]
  after_results_simp
  exact w1_main_arg0 V0

set_option maxHeartbeats 2000000 in
theorem w2_main_arg1 (V0 : Valuation τ sig (Elt Ideal)) : w2 V0 (no_index (Proc.devRef .tc main_arg1)) = V0 (Proc.devRef .tc main_arg1) := by
  unfold w2
  simp only [hostOps0_1, TRef.nullary, TRef.ternary, TRef.unary, TRef.binary, TRef.toBuf, TRef.ofBuf, cast_eq]
  after_results_simp
  exact w1_main_arg1 V0

set_option maxHeartbeats 2000000 in
theorem w2_main_arg2 (V0 : Valuation τ sig (Elt Ideal)) : w2 V0 (no_index (Proc.devRef .tc main_arg2)) = V0 (Proc.devRef .tc main_arg2) := by
  unfold w2
  simp only [hostOps0_1, TRef.nullary, TRef.ternary, TRef.unary, TRef.binary, TRef.toBuf, TRef.ofBuf, cast_eq]
  after_results_simp
  exact w1_main_arg2 V0

set_option maxHeartbeats 2000000 in
theorem w2_main_arg3 (V0 : Valuation τ sig (Elt Ideal)) : w2 V0 (no_index (Proc.devRef .tc main_arg3)) = V0 (Proc.devRef .tc main_arg3) := by
  unfold w2
  simp only [hostOps0_1, TRef.nullary, TRef.ternary, TRef.unary, TRef.binary, TRef.toBuf, TRef.ofBuf, cast_eq]
  after_results_simp
  exact w1_main_arg3 V0

set_option maxHeartbeats 2000000 in
theorem w2_main_v8 (V0 : Valuation τ sig (Elt Ideal)) : w2 V0 (no_index (Proc.devRef .tc main_v8)) = Cert.Reference6Ideal.Read.val_main_v17 (F := Ideal) (V0 (Proc.devRef .tc main_arg1)) := by
  unfold w2
  simp only [hostOps0_1, TRef.nullary, TRef.ternary, TRef.unary, TRef.binary, TRef.toBuf, TRef.ofBuf, cast_eq]
  after_results_simp
  exact w1_main_v8 V0

set_option maxHeartbeats 2000000 in
theorem w2_main_v44 (V0 : Valuation τ sig (Elt Ideal)) : w2 V0 (no_index (Proc.devRef .tc main_v44)) = Cert.Reference6Ideal.Read.val_main_v53 (F := Ideal) (V0 (Proc.devRef .tc main_arg1)) := by
  unfold w2
  simp only [hostOps0_1, TRef.nullary, TRef.ternary, TRef.unary, TRef.binary, TRef.toBuf, TRef.ofBuf, cast_eq]
  after_results_simp
  simp only [w1_main_cst_2, w1_main_v28, w1_main_v43]
  rfl

/-- The buffers after 3 of the 10 runs of host operations. -/
def w3 (V0 : Valuation τ sig (Elt Ideal)) : Valuation τ sig (Elt Ideal) := after hostOps0_2 (w2 V0)

set_option maxHeartbeats 2000000 in
theorem w3_main_arg0 (V0 : Valuation τ sig (Elt Ideal)) : w3 V0 (no_index (Proc.devRef .tc main_arg0)) = V0 (Proc.devRef .tc main_arg0) := by
  unfold w3
  simp only [hostOps0_2, TRef.nullary, TRef.ternary, TRef.unary, TRef.binary, TRef.toBuf, TRef.ofBuf, cast_eq]
  after_results_simp
  exact w2_main_arg0 V0

set_option maxHeartbeats 2000000 in
theorem w3_main_arg1 (V0 : Valuation τ sig (Elt Ideal)) : w3 V0 (no_index (Proc.devRef .tc main_arg1)) = V0 (Proc.devRef .tc main_arg1) := by
  unfold w3
  simp only [hostOps0_2, TRef.nullary, TRef.ternary, TRef.unary, TRef.binary, TRef.toBuf, TRef.ofBuf, cast_eq]
  after_results_simp
  exact w2_main_arg1 V0

set_option maxHeartbeats 2000000 in
theorem w3_main_arg2 (V0 : Valuation τ sig (Elt Ideal)) : w3 V0 (no_index (Proc.devRef .tc main_arg2)) = V0 (Proc.devRef .tc main_arg2) := by
  unfold w3
  simp only [hostOps0_2, TRef.nullary, TRef.ternary, TRef.unary, TRef.binary, TRef.toBuf, TRef.ofBuf, cast_eq]
  after_results_simp
  exact w2_main_arg2 V0

set_option maxHeartbeats 2000000 in
theorem w3_main_arg3 (V0 : Valuation τ sig (Elt Ideal)) : w3 V0 (no_index (Proc.devRef .tc main_arg3)) = V0 (Proc.devRef .tc main_arg3) := by
  unfold w3
  simp only [hostOps0_2, TRef.nullary, TRef.ternary, TRef.unary, TRef.binary, TRef.toBuf, TRef.ofBuf, cast_eq]
  after_results_simp
  exact w2_main_arg3 V0

set_option maxHeartbeats 2000000 in
theorem w3_main_v46 (V0 : Valuation τ sig (Elt Ideal)) : w3 V0 (no_index (Proc.devRef .tc main_v46)) = Cert.Reference6Ideal.Read.val_main_v55 (F := Ideal) (V0 (Proc.devRef .tc main_arg1)) := by
  unfold w3
  simp only [hostOps0_2, TRef.nullary, TRef.ternary, TRef.unary, TRef.binary, TRef.toBuf, TRef.ofBuf, cast_eq]
  after_results_simp
  simp only [w2_main_v44, w2_main_v8]
  rfl

set_option maxHeartbeats 2000000 in
theorem w3_main_v48 (V0 : Valuation τ sig (Elt Ideal)) : w3 V0 (no_index (Proc.devRef .tc main_v48)) = Cert.Reference6Ideal.Read.val_main_v57 (F := Ideal) (V0 (Proc.devRef .tc main_arg1)) := by
  unfold w3
  simp only [hostOps0_2, TRef.nullary, TRef.ternary, TRef.unary, TRef.binary, TRef.toBuf, TRef.ofBuf, cast_eq]
  after_results_simp
  simp only [w2_main_v44]
  rfl

set_option maxHeartbeats 2000000 in
theorem w3_main_v57 (V0 : Valuation τ sig (Elt Ideal)) : w3 V0 (no_index (Proc.devRef .tc main_v57)) = Cert.Reference6Ideal.Read.val_main_v66 (F := Ideal) (V0 (Proc.devRef .tc main_arg2)) := by
  unfold w3
  simp only [hostOps0_2, TRef.nullary, TRef.ternary, TRef.unary, TRef.binary, TRef.toBuf, TRef.ofBuf, cast_eq]
  after_results_simp
  simp only [w2_main_arg2]
  rfl

set_option maxHeartbeats 2000000 in
theorem w3_main_v77 (V0 : Valuation τ sig (Elt Ideal)) : w3 V0 (no_index (Proc.devRef .tc main_v77)) = Cert.Reference6Ideal.Read.val_main_v86 (F := Ideal) := by
  unfold w3
  simp only [hostOps0_2, TRef.nullary, TRef.ternary, TRef.unary, TRef.binary, TRef.toBuf, TRef.ofBuf, cast_eq]
  after_results_simp
  rfl

set_option maxHeartbeats 2000000 in
theorem w3_main_v92 (V0 : Valuation τ sig (Elt Ideal)) : w3 V0 (no_index (Proc.devRef .tc main_v92)) = Cert.Reference6Ideal.Read.val_main_v101 (F := Ideal) (V0 (Proc.devRef .tc main_arg2)) := by
  unfold w3
  simp only [hostOps0_2, TRef.nullary, TRef.ternary, TRef.unary, TRef.binary, TRef.toBuf, TRef.ofBuf, cast_eq]
  after_results_simp
  simp only [w2_main_arg2]
  rfl

set_option maxHeartbeats 2000000 in
theorem w3_main_cst_8 (V0 : Valuation τ sig (Elt Ideal)) : w3 V0 (no_index (Proc.devRef .tc main_cst_8)) = Cert.Reference6Ideal.Read.val_main_cst_2 (F := Ideal) := by
  unfold w3
  simp only [hostOps0_2, TRef.nullary, TRef.ternary, TRef.unary, TRef.binary, TRef.toBuf, TRef.ofBuf, cast_eq]
  after_results_simp
  rfl

/-- The buffers after 4 of the 10 runs of host operations. -/
def w4 (V0 : Valuation τ sig (Elt Ideal)) : Valuation τ sig (Elt Ideal) := after hostOps0_3 (w3 V0)

set_option maxHeartbeats 2000000 in
theorem w4_main_arg0 (V0 : Valuation τ sig (Elt Ideal)) : w4 V0 (no_index (Proc.devRef .tc main_arg0)) = V0 (Proc.devRef .tc main_arg0) := by
  unfold w4
  simp only [hostOps0_3, TRef.nullary, TRef.ternary, TRef.unary, TRef.binary, TRef.toBuf, TRef.ofBuf, cast_eq]
  after_results_simp
  exact w3_main_arg0 V0

set_option maxHeartbeats 2000000 in
theorem w4_main_arg1 (V0 : Valuation τ sig (Elt Ideal)) : w4 V0 (no_index (Proc.devRef .tc main_arg1)) = V0 (Proc.devRef .tc main_arg1) := by
  unfold w4
  simp only [hostOps0_3, TRef.nullary, TRef.ternary, TRef.unary, TRef.binary, TRef.toBuf, TRef.ofBuf, cast_eq]
  after_results_simp
  exact w3_main_arg1 V0

set_option maxHeartbeats 2000000 in
theorem w4_main_arg2 (V0 : Valuation τ sig (Elt Ideal)) : w4 V0 (no_index (Proc.devRef .tc main_arg2)) = V0 (Proc.devRef .tc main_arg2) := by
  unfold w4
  simp only [hostOps0_3, TRef.nullary, TRef.ternary, TRef.unary, TRef.binary, TRef.toBuf, TRef.ofBuf, cast_eq]
  after_results_simp
  exact w3_main_arg2 V0

set_option maxHeartbeats 2000000 in
theorem w4_main_arg3 (V0 : Valuation τ sig (Elt Ideal)) : w4 V0 (no_index (Proc.devRef .tc main_arg3)) = V0 (Proc.devRef .tc main_arg3) := by
  unfold w4
  simp only [hostOps0_3, TRef.nullary, TRef.ternary, TRef.unary, TRef.binary, TRef.toBuf, TRef.ofBuf, cast_eq]
  after_results_simp
  exact w3_main_arg3 V0

set_option maxHeartbeats 2000000 in
theorem w4_main_v46 (V0 : Valuation τ sig (Elt Ideal)) : w4 V0 (no_index (Proc.devRef .tc main_v46)) = Cert.Reference6Ideal.Read.val_main_v55 (F := Ideal) (V0 (Proc.devRef .tc main_arg1)) := by
  unfold w4
  simp only [hostOps0_3, TRef.nullary, TRef.ternary, TRef.unary, TRef.binary, TRef.toBuf, TRef.ofBuf, cast_eq]
  after_results_simp
  exact w3_main_v46 V0

set_option maxHeartbeats 2000000 in
theorem w4_main_v48 (V0 : Valuation τ sig (Elt Ideal)) : w4 V0 (no_index (Proc.devRef .tc main_v48)) = Cert.Reference6Ideal.Read.val_main_v57 (F := Ideal) (V0 (Proc.devRef .tc main_arg1)) := by
  unfold w4
  simp only [hostOps0_3, TRef.nullary, TRef.ternary, TRef.unary, TRef.binary, TRef.toBuf, TRef.ofBuf, cast_eq]
  after_results_simp
  exact w3_main_v48 V0

set_option maxHeartbeats 2000000 in
theorem w4_main_v57 (V0 : Valuation τ sig (Elt Ideal)) : w4 V0 (no_index (Proc.devRef .tc main_v57)) = Cert.Reference6Ideal.Read.val_main_v66 (F := Ideal) (V0 (Proc.devRef .tc main_arg2)) := by
  unfold w4
  simp only [hostOps0_3, TRef.nullary, TRef.ternary, TRef.unary, TRef.binary, TRef.toBuf, TRef.ofBuf, cast_eq]
  after_results_simp
  exact w3_main_v57 V0

set_option maxHeartbeats 2000000 in
theorem w4_main_v93 (V0 : Valuation τ sig (Elt Ideal)) : w4 V0 (no_index (Proc.devRef .tc main_v93)) = Cert.Reference6Ideal.Read.val_main_v102 (F := Ideal) (V0 (Proc.devRef .tc main_arg2)) := by
  unfold w4
  simp only [hostOps0_3, TRef.nullary, TRef.ternary, TRef.unary, TRef.binary, TRef.toBuf, TRef.ofBuf, cast_eq]
  after_results_simp
  simp only [w3_main_cst_8, w3_main_v77, w3_main_v92]
  rfl

/-- The buffers after 5 of the 10 runs of host operations. -/
def w5 (V0 : Valuation τ sig (Elt Ideal)) : Valuation τ sig (Elt Ideal) := after hostOps0_4 (w4 V0)

set_option maxHeartbeats 2000000 in
theorem w5_main_arg0 (V0 : Valuation τ sig (Elt Ideal)) : w5 V0 (no_index (Proc.devRef .tc main_arg0)) = V0 (Proc.devRef .tc main_arg0) := by
  unfold w5
  simp only [hostOps0_4, TRef.nullary, TRef.ternary, TRef.unary, TRef.binary, TRef.toBuf, TRef.ofBuf, cast_eq]
  after_results_simp
  exact w4_main_arg0 V0

set_option maxHeartbeats 2000000 in
theorem w5_main_arg1 (V0 : Valuation τ sig (Elt Ideal)) : w5 V0 (no_index (Proc.devRef .tc main_arg1)) = V0 (Proc.devRef .tc main_arg1) := by
  unfold w5
  simp only [hostOps0_4, TRef.nullary, TRef.ternary, TRef.unary, TRef.binary, TRef.toBuf, TRef.ofBuf, cast_eq]
  after_results_simp
  exact w4_main_arg1 V0

set_option maxHeartbeats 2000000 in
theorem w5_main_arg2 (V0 : Valuation τ sig (Elt Ideal)) : w5 V0 (no_index (Proc.devRef .tc main_arg2)) = V0 (Proc.devRef .tc main_arg2) := by
  unfold w5
  simp only [hostOps0_4, TRef.nullary, TRef.ternary, TRef.unary, TRef.binary, TRef.toBuf, TRef.ofBuf, cast_eq]
  after_results_simp
  exact w4_main_arg2 V0

set_option maxHeartbeats 2000000 in
theorem w5_main_arg3 (V0 : Valuation τ sig (Elt Ideal)) : w5 V0 (no_index (Proc.devRef .tc main_arg3)) = V0 (Proc.devRef .tc main_arg3) := by
  unfold w5
  simp only [hostOps0_4, TRef.nullary, TRef.ternary, TRef.unary, TRef.binary, TRef.toBuf, TRef.ofBuf, cast_eq]
  after_results_simp
  exact w4_main_arg3 V0

set_option maxHeartbeats 2000000 in
theorem w5_main_v98 (V0 : Valuation τ sig (Elt Ideal)) : w5 V0 (no_index (Proc.devRef .tc main_v98)) = Cert.Reference6Ideal.Read.val_main_v107 (F := Ideal) (V0 (Proc.devRef .tc main_arg1)) (V0 (Proc.devRef .tc main_arg2)) := by
  unfold w5
  simp only [hostOps0_4, TRef.nullary, TRef.ternary, TRef.unary, TRef.binary, TRef.toBuf, TRef.ofBuf, cast_eq]
  after_results_simp
  simp only [w4_main_v46, w4_main_v57, w4_main_v93]
  rfl

set_option maxHeartbeats 2000000 in
theorem w5_main_v99 (V0 : Valuation τ sig (Elt Ideal)) : w5 V0 (no_index (Proc.devRef .tc main_v99)) = Cert.Reference6Ideal.Read.val_main_v108 (F := Ideal) (V0 (Proc.devRef .tc main_arg1)) (V0 (Proc.devRef .tc main_arg2)) := by
  unfold w5
  simp only [hostOps0_4, TRef.nullary, TRef.ternary, TRef.unary, TRef.binary, TRef.toBuf, TRef.ofBuf, cast_eq]
  after_results_simp
  simp only [w4_main_v48, w4_main_v93]
  rfl

set_option maxHeartbeats 2000000 in
theorem w5_main_v108 (V0 : Valuation τ sig (Elt Ideal)) : w5 V0 (no_index (Proc.devRef .tc main_v108)) = Cert.Reference6Ideal.Read.val_main_v8 (F := Ideal) (V0 (Proc.devRef .tc main_arg0)) := by
  unfold w5
  simp only [hostOps0_4, TRef.nullary, TRef.ternary, TRef.unary, TRef.binary, TRef.toBuf, TRef.ofBuf, cast_eq]
  after_results_simp
  simp only [w4_main_arg0]
  rfl

set_option maxHeartbeats 2000000 in
theorem w5_main_v120 (V0 : Valuation τ sig (Elt Ideal)) : w5 V0 (no_index (Proc.devRef .tc main_v120)) = Cert.Reference6Ideal.Read.val_main_v120 (F := Ideal) := by
  unfold w5
  simp only [hostOps0_4, TRef.nullary, TRef.ternary, TRef.unary, TRef.binary, TRef.toBuf, TRef.ofBuf, cast_eq]
  after_results_simp
  rfl

set_option maxHeartbeats 2000000 in
theorem w5_main_v135 (V0 : Valuation τ sig (Elt Ideal)) : w5 V0 (no_index (Proc.devRef .tc main_v135)) = Cert.Reference6Ideal.Read.val_main_v135 (F := Ideal) (V0 (Proc.devRef .tc main_arg0)) := by
  unfold w5
  simp only [hostOps0_4, TRef.nullary, TRef.ternary, TRef.unary, TRef.binary, TRef.toBuf, TRef.ofBuf, cast_eq]
  after_results_simp
  simp only [w4_main_arg0]
  rfl

set_option maxHeartbeats 2000000 in
theorem w5_main_cst_14 (V0 : Valuation τ sig (Elt Ideal)) : w5 V0 (no_index (Proc.devRef .tc main_cst_14)) = Cert.Reference6Ideal.Read.val_main_cst_2 (F := Ideal) := by
  unfold w5
  simp only [hostOps0_4, TRef.nullary, TRef.ternary, TRef.unary, TRef.binary, TRef.toBuf, TRef.ofBuf, cast_eq]
  after_results_simp
  rfl

/-- The buffers after 6 of the 10 runs of host operations. -/
def w6 (V0 : Valuation τ sig (Elt Ideal)) : Valuation τ sig (Elt Ideal) := after hostOps0_5 (w5 V0)

set_option maxHeartbeats 2000000 in
theorem w6_main_arg0 (V0 : Valuation τ sig (Elt Ideal)) : w6 V0 (no_index (Proc.devRef .tc main_arg0)) = V0 (Proc.devRef .tc main_arg0) := by
  unfold w6
  simp only [hostOps0_5, TRef.nullary, TRef.ternary, TRef.unary, TRef.binary, TRef.toBuf, TRef.ofBuf, cast_eq]
  after_results_simp
  exact w5_main_arg0 V0

set_option maxHeartbeats 2000000 in
theorem w6_main_arg1 (V0 : Valuation τ sig (Elt Ideal)) : w6 V0 (no_index (Proc.devRef .tc main_arg1)) = V0 (Proc.devRef .tc main_arg1) := by
  unfold w6
  simp only [hostOps0_5, TRef.nullary, TRef.ternary, TRef.unary, TRef.binary, TRef.toBuf, TRef.ofBuf, cast_eq]
  after_results_simp
  exact w5_main_arg1 V0

set_option maxHeartbeats 2000000 in
theorem w6_main_arg2 (V0 : Valuation τ sig (Elt Ideal)) : w6 V0 (no_index (Proc.devRef .tc main_arg2)) = V0 (Proc.devRef .tc main_arg2) := by
  unfold w6
  simp only [hostOps0_5, TRef.nullary, TRef.ternary, TRef.unary, TRef.binary, TRef.toBuf, TRef.ofBuf, cast_eq]
  after_results_simp
  exact w5_main_arg2 V0

set_option maxHeartbeats 2000000 in
theorem w6_main_arg3 (V0 : Valuation τ sig (Elt Ideal)) : w6 V0 (no_index (Proc.devRef .tc main_arg3)) = V0 (Proc.devRef .tc main_arg3) := by
  unfold w6
  simp only [hostOps0_5, TRef.nullary, TRef.ternary, TRef.unary, TRef.binary, TRef.toBuf, TRef.ofBuf, cast_eq]
  after_results_simp
  exact w5_main_arg3 V0

set_option maxHeartbeats 2000000 in
theorem w6_main_v98 (V0 : Valuation τ sig (Elt Ideal)) : w6 V0 (no_index (Proc.devRef .tc main_v98)) = Cert.Reference6Ideal.Read.val_main_v107 (F := Ideal) (V0 (Proc.devRef .tc main_arg1)) (V0 (Proc.devRef .tc main_arg2)) := by
  unfold w6
  simp only [hostOps0_5, TRef.nullary, TRef.ternary, TRef.unary, TRef.binary, TRef.toBuf, TRef.ofBuf, cast_eq]
  after_results_simp
  exact w5_main_v98 V0

set_option maxHeartbeats 2000000 in
theorem w6_main_v99 (V0 : Valuation τ sig (Elt Ideal)) : w6 V0 (no_index (Proc.devRef .tc main_v99)) = Cert.Reference6Ideal.Read.val_main_v108 (F := Ideal) (V0 (Proc.devRef .tc main_arg1)) (V0 (Proc.devRef .tc main_arg2)) := by
  unfold w6
  simp only [hostOps0_5, TRef.nullary, TRef.ternary, TRef.unary, TRef.binary, TRef.toBuf, TRef.ofBuf, cast_eq]
  after_results_simp
  exact w5_main_v99 V0

set_option maxHeartbeats 2000000 in
theorem w6_main_v108 (V0 : Valuation τ sig (Elt Ideal)) : w6 V0 (no_index (Proc.devRef .tc main_v108)) = Cert.Reference6Ideal.Read.val_main_v8 (F := Ideal) (V0 (Proc.devRef .tc main_arg0)) := by
  unfold w6
  simp only [hostOps0_5, TRef.nullary, TRef.ternary, TRef.unary, TRef.binary, TRef.toBuf, TRef.ofBuf, cast_eq]
  after_results_simp
  exact w5_main_v108 V0

set_option maxHeartbeats 2000000 in
theorem w6_main_v136 (V0 : Valuation τ sig (Elt Ideal)) : w6 V0 (no_index (Proc.devRef .tc main_v136)) = Cert.Reference6Ideal.Read.val_main_v136_0 (F := Ideal) (V0 (Proc.devRef .tc main_arg0)) := by
  unfold w6
  simp only [hostOps0_5, TRef.nullary, TRef.ternary, TRef.unary, TRef.binary, TRef.toBuf, TRef.ofBuf, cast_eq]
  after_results_simp
  simp only [w5_main_cst_14, w5_main_v120, w5_main_v135]
  rfl

/-- The buffers after 7 of the 10 runs of host operations. -/
def w7 (V0 : Valuation τ sig (Elt Ideal)) : Valuation τ sig (Elt Ideal) := after hostOps0_6 (w6 V0)

set_option maxHeartbeats 2000000 in
theorem w7_main_arg0 (V0 : Valuation τ sig (Elt Ideal)) : w7 V0 (no_index (Proc.devRef .tc main_arg0)) = V0 (Proc.devRef .tc main_arg0) := by
  unfold w7
  simp only [hostOps0_6, TRef.nullary, TRef.ternary, TRef.unary, TRef.binary, TRef.toBuf, TRef.ofBuf, cast_eq]
  after_results_simp
  exact w6_main_arg0 V0

set_option maxHeartbeats 2000000 in
theorem w7_main_arg1 (V0 : Valuation τ sig (Elt Ideal)) : w7 V0 (no_index (Proc.devRef .tc main_arg1)) = V0 (Proc.devRef .tc main_arg1) := by
  unfold w7
  simp only [hostOps0_6, TRef.nullary, TRef.ternary, TRef.unary, TRef.binary, TRef.toBuf, TRef.ofBuf, cast_eq]
  after_results_simp
  exact w6_main_arg1 V0

set_option maxHeartbeats 2000000 in
theorem w7_main_arg2 (V0 : Valuation τ sig (Elt Ideal)) : w7 V0 (no_index (Proc.devRef .tc main_arg2)) = V0 (Proc.devRef .tc main_arg2) := by
  unfold w7
  simp only [hostOps0_6, TRef.nullary, TRef.ternary, TRef.unary, TRef.binary, TRef.toBuf, TRef.ofBuf, cast_eq]
  after_results_simp
  exact w6_main_arg2 V0

set_option maxHeartbeats 2000000 in
theorem w7_main_arg3 (V0 : Valuation τ sig (Elt Ideal)) : w7 V0 (no_index (Proc.devRef .tc main_arg3)) = V0 (Proc.devRef .tc main_arg3) := by
  unfold w7
  simp only [hostOps0_6, TRef.nullary, TRef.ternary, TRef.unary, TRef.binary, TRef.toBuf, TRef.ofBuf, cast_eq]
  after_results_simp
  exact w6_main_arg3 V0

set_option maxHeartbeats 2000000 in
theorem w7_main_v149 (V0 : Valuation τ sig (Elt Ideal)) : w7 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w7
  simp only [hostOps0_6, TRef.nullary, TRef.ternary, TRef.unary, TRef.binary, TRef.toBuf, TRef.ofBuf, cast_eq]
  after_results_simp
  simp only [w6_main_arg3, w6_main_v108, w6_main_v136, w6_main_v98, w6_main_v99]
  rfl

set_option maxHeartbeats 2000000 in
theorem w7_main_v150 (V0 : Valuation τ sig (Elt Ideal)) : w7 V0 (no_index (Proc.devRef .tc main_v150)) = logsIn (V0 (Proc.devRef .tc main_arg0)) (V0 (Proc.devRef .tc main_arg1)) (V0 (Proc.devRef .tc main_arg2)) := by
  unfold w7
  simp only [hostOps0_6, TRef.nullary, TRef.ternary, TRef.unary, TRef.binary, TRef.toBuf, TRef.ofBuf, cast_eq]
  after_results_simp
  simp only [w6_main_v136, w6_main_v99]
  rfl

set_option maxHeartbeats 2000000 in
theorem w7_main_c_17 (V0 : Valuation τ sig (Elt Ideal)) : w7 V0 (no_index (Proc.devRef .tc main_c_17)) = Cert.Reference6Ideal.Read.val_main_c (F := Ideal) := by
  unfold w7
  simp only [hostOps0_6, TRef.nullary, TRef.ternary, TRef.unary, TRef.binary, TRef.toBuf, TRef.ofBuf, cast_eq]
  after_results_simp
  rfl

/-- The buffers after 8 of the 10 runs of host operations. -/
def w8 (V0 : Valuation τ sig (Elt Ideal)) : Valuation τ sig (Elt Ideal) := after hostOps0_7 (w7 V0)

set_option maxHeartbeats 2000000 in
theorem w8_main_arg0 (V0 : Valuation τ sig (Elt Ideal)) : w8 V0 (no_index (Proc.devRef .tc main_arg0)) = V0 (Proc.devRef .tc main_arg0) := by
  unfold w8
  simp only [hostOps0_7, TRef.nullary, TRef.ternary, TRef.unary, TRef.binary, TRef.toBuf, TRef.ofBuf, cast_eq]
  after_results_simp
  exact w7_main_arg0 V0

set_option maxHeartbeats 2000000 in
theorem w8_main_arg1 (V0 : Valuation τ sig (Elt Ideal)) : w8 V0 (no_index (Proc.devRef .tc main_arg1)) = V0 (Proc.devRef .tc main_arg1) := by
  unfold w8
  simp only [hostOps0_7, TRef.nullary, TRef.ternary, TRef.unary, TRef.binary, TRef.toBuf, TRef.ofBuf, cast_eq]
  after_results_simp
  exact w7_main_arg1 V0

set_option maxHeartbeats 2000000 in
theorem w8_main_arg2 (V0 : Valuation τ sig (Elt Ideal)) : w8 V0 (no_index (Proc.devRef .tc main_arg2)) = V0 (Proc.devRef .tc main_arg2) := by
  unfold w8
  simp only [hostOps0_7, TRef.nullary, TRef.ternary, TRef.unary, TRef.binary, TRef.toBuf, TRef.ofBuf, cast_eq]
  after_results_simp
  exact w7_main_arg2 V0

set_option maxHeartbeats 2000000 in
theorem w8_main_arg3 (V0 : Valuation τ sig (Elt Ideal)) : w8 V0 (no_index (Proc.devRef .tc main_arg3)) = V0 (Proc.devRef .tc main_arg3) := by
  unfold w8
  simp only [hostOps0_7, TRef.nullary, TRef.ternary, TRef.unary, TRef.binary, TRef.toBuf, TRef.ofBuf, cast_eq]
  after_results_simp
  exact w7_main_arg3 V0

set_option maxHeartbeats 2000000 in
theorem w8_main_v149 (V0 : Valuation τ sig (Elt Ideal)) : w8 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w8
  simp only [hostOps0_7, TRef.nullary, TRef.ternary, TRef.unary, TRef.binary, TRef.toBuf, TRef.ofBuf, cast_eq]
  after_results_simp
  exact w7_main_v149 V0

set_option maxHeartbeats 2000000 in
theorem w8_main_v151 (V0 : Valuation τ sig (Elt Ideal)) : w8 V0 (no_index (Proc.devRef .tc main_v151)) = padded (logsIn (V0 (Proc.devRef .tc main_arg0)) (V0 (Proc.devRef .tc main_arg1)) (V0 (Proc.devRef .tc main_arg2))) := by
  unfold w8
  simp only [hostOps0_7, TRef.nullary, TRef.ternary, TRef.unary, TRef.binary, TRef.toBuf, TRef.ofBuf, cast_eq]
  after_results_simp
  simp only [w7_main_c_17, w7_main_v150]
  rfl

/-- The buffers after 9 of the 10 runs of host operations. -/
def w9 (V0 : Valuation τ sig (Elt Ideal)) : Valuation τ sig (Elt Ideal) := after hostOps0_8 (w8 V0)

set_option maxHeartbeats 2000000 in
theorem w9_main_arg0 (V0 : Valuation τ sig (Elt Ideal)) : w9 V0 (no_index (Proc.devRef .tc main_arg0)) = V0 (Proc.devRef .tc main_arg0) := by
  unfold w9
  simp only [hostOps0_8, TRef.nullary, TRef.ternary, TRef.unary, TRef.binary, TRef.toBuf, TRef.ofBuf, cast_eq]
  after_results_simp
  exact w8_main_arg0 V0

set_option maxHeartbeats 2000000 in
theorem w9_main_arg1 (V0 : Valuation τ sig (Elt Ideal)) : w9 V0 (no_index (Proc.devRef .tc main_arg1)) = V0 (Proc.devRef .tc main_arg1) := by
  unfold w9
  simp only [hostOps0_8, TRef.nullary, TRef.ternary, TRef.unary, TRef.binary, TRef.toBuf, TRef.ofBuf, cast_eq]
  after_results_simp
  exact w8_main_arg1 V0

set_option maxHeartbeats 2000000 in
theorem w9_main_arg2 (V0 : Valuation τ sig (Elt Ideal)) : w9 V0 (no_index (Proc.devRef .tc main_arg2)) = V0 (Proc.devRef .tc main_arg2) := by
  unfold w9
  simp only [hostOps0_8, TRef.nullary, TRef.ternary, TRef.unary, TRef.binary, TRef.toBuf, TRef.ofBuf, cast_eq]
  after_results_simp
  exact w8_main_arg2 V0

set_option maxHeartbeats 2000000 in
theorem w9_main_arg3 (V0 : Valuation τ sig (Elt Ideal)) : w9 V0 (no_index (Proc.devRef .tc main_arg3)) = V0 (Proc.devRef .tc main_arg3) := by
  unfold w9
  simp only [hostOps0_8, TRef.nullary, TRef.ternary, TRef.unary, TRef.binary, TRef.toBuf, TRef.ofBuf, cast_eq]
  after_results_simp
  exact w8_main_arg3 V0

set_option maxHeartbeats 2000000 in
theorem w9_main_v149 (V0 : Valuation τ sig (Elt Ideal)) : w9 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w9
  simp only [hostOps0_8, TRef.nullary, TRef.ternary, TRef.unary, TRef.binary, TRef.toBuf, TRef.ofBuf, cast_eq]
  after_results_simp
  exact w8_main_v149 V0

set_option maxHeartbeats 2000000 in
theorem w9_main_v151 (V0 : Valuation τ sig (Elt Ideal)) : w9 V0 (no_index (Proc.devRef .tc main_v151)) = padded (logsIn (V0 (Proc.devRef .tc main_arg0)) (V0 (Proc.devRef .tc main_arg1)) (V0 (Proc.devRef .tc main_arg2))) := by
  unfold w9
  simp only [hostOps0_8, TRef.nullary, TRef.ternary, TRef.unary, TRef.binary, TRef.toBuf, TRef.ofBuf, cast_eq]
  after_results_simp
  exact w8_main_v151 V0

set_option maxHeartbeats 2000000 in
theorem w9_main_c_18 (V0 : Valuation τ sig (Elt Ideal)) : w9 V0 (no_index (Proc.devRef .tc main_c_18)) = Cert.Reference6Ideal.Read.val_main_c (F := Ideal) := by
  unfold w9
  simp only [hostOps0_8, TRef.nullary, TRef.ternary, TRef.unary, TRef.binary, TRef.toBuf, TRef.ofBuf, cast_eq]
  after_results_simp
  rfl

/-- The buffers after 10 of the 10 runs of host operations. -/
def w10 (V0 : Valuation τ sig (Elt Ideal)) : Valuation τ sig (Elt Ideal) := after hostOps0_9 (w9 V0)

set_option maxHeartbeats 2000000 in
theorem w10_main_arg0 (V0 : Valuation τ sig (Elt Ideal)) : w10 V0 (no_index (Proc.devRef .tc main_arg0)) = V0 (Proc.devRef .tc main_arg0) := by
  unfold w10
  simp only [hostOps0_9, TRef.nullary, TRef.ternary, TRef.unary, TRef.binary, TRef.toBuf, TRef.ofBuf, cast_eq]
  after_results_simp
  exact w9_main_arg0 V0

set_option maxHeartbeats 2000000 in
theorem w10_main_arg1 (V0 : Valuation τ sig (Elt Ideal)) : w10 V0 (no_index (Proc.devRef .tc main_arg1)) = V0 (Proc.devRef .tc main_arg1) := by
  unfold w10
  simp only [hostOps0_9, TRef.nullary, TRef.ternary, TRef.unary, TRef.binary, TRef.toBuf, TRef.ofBuf, cast_eq]
  after_results_simp
  exact w9_main_arg1 V0

set_option maxHeartbeats 2000000 in
theorem w10_main_arg2 (V0 : Valuation τ sig (Elt Ideal)) : w10 V0 (no_index (Proc.devRef .tc main_arg2)) = V0 (Proc.devRef .tc main_arg2) := by
  unfold w10
  simp only [hostOps0_9, TRef.nullary, TRef.ternary, TRef.unary, TRef.binary, TRef.toBuf, TRef.ofBuf, cast_eq]
  after_results_simp
  exact w9_main_arg2 V0

set_option maxHeartbeats 2000000 in
theorem w10_main_arg3 (V0 : Valuation τ sig (Elt Ideal)) : w10 V0 (no_index (Proc.devRef .tc main_arg3)) = V0 (Proc.devRef .tc main_arg3) := by
  unfold w10
  simp only [hostOps0_9, TRef.nullary, TRef.ternary, TRef.unary, TRef.binary, TRef.toBuf, TRef.ofBuf, cast_eq]
  after_results_simp
  exact w9_main_arg3 V0

set_option maxHeartbeats 2000000 in
theorem w10_main_v151 (V0 : Valuation τ sig (Elt Ideal)) : w10 V0 (no_index (Proc.devRef .tc main_v151)) = padded (logsIn (V0 (Proc.devRef .tc main_arg0)) (V0 (Proc.devRef .tc main_arg1)) (V0 (Proc.devRef .tc main_arg2))) := by
  unfold w10
  simp only [hostOps0_9, TRef.nullary, TRef.ternary, TRef.unary, TRef.binary, TRef.toBuf, TRef.ofBuf, cast_eq]
  after_results_simp
  exact w9_main_v151 V0

set_option maxHeartbeats 2000000 in
theorem w10_main_v152 (V0 : Valuation τ sig (Elt Ideal)) : w10 V0 (no_index (Proc.devRef .tc main_v152)) = padded (againstIn (V0 (Proc.devRef .tc main_arg0)) (V0 (Proc.devRef .tc main_arg1)) (V0 (Proc.devRef .tc main_arg2)) (V0 (Proc.devRef .tc main_arg3))) := by
  unfold w10
  simp only [hostOps0_9, TRef.nullary, TRef.ternary, TRef.unary, TRef.binary, TRef.toBuf, TRef.ofBuf, cast_eq]
  after_results_simp
  simp only [w9_main_c_18, w9_main_v149]
  rfl

variable (m : (ℓ : Loc nD τ sig) → Buf (Elt Ideal) ℓ)

/-- The row sums as the kernel is given them. -/
theorem entry_main_v151 (c : Dev nD) : V m c main_v151 = w10 (fun b => m (c, b)) (Proc.devRef .tc main_v151) := by
  unfold V w10 w9 w8 w7 w6 w5 w4 w3 w2 w1
  simp only [List.flatten_cons, List.flatten_nil, List.append_nil, after_append]

/-- The row sums as the kernel is given them. -/
theorem entry_main_v152 (c : Dev nD) : V m c main_v152 = w10 (fun b => m (c, b)) (Proc.devRef .tc main_v152) := by
  unfold V w10 w9 w8 w7 w6 w5 w4 w3 w2 w1
  simp only [List.flatten_cons, List.flatten_nil, List.append_nil, after_append]

end Cert.AttQHost

end
-- ==== Proof.AttMath.lean ====
module

public import proofs.«01_k».proof.Proof.Spec
public import Idealize.ShloMosaic.Lib.Pipeline.ValueKit

/-!
# Banded attention and its gradients, over the reals

A query at token `t` meets the keys at `t - 128` to `t`. The weights of one group are divided by the sum of the weights
of all groups: `den` and `num` hold what the other groups add. Tokens are plain indices.
-/

@[expose] public section

noncomputable section

namespace Cert.Att

open Idealize.ShloMosaic

/-- Queries, keys, values and the gradient of the result by token, head and lane; what the other groups add to the
weighted values and to the weights. -/
structure Args where
  q : ℕ → ℕ → ℕ → ℝ
  k : ℕ → ℕ → ℕ → ℝ
  v : ℕ → ℕ → ℕ → ℝ
  g : ℕ → ℕ → ℕ → ℝ
  num : ℕ → ℕ → ℕ → ℝ
  den : ℕ → ℕ → ℝ

namespace Args

variable (A : Args)

/-- The key at `s` is in reach of the query at `t`. -/
def band (t s : ℕ) : Prop := s ≤ t ∧ t ≤ s + 128

instance (t s : ℕ) : Decidable (band t s) := inferInstanceAs (Decidable (_ ∧ _))

/-- The product of a query and a key, less a slope times their distance. -/
def score (t s h : ℕ) : ℝ := ∑ d : Fin 128, A.q t h d.val * A.k s h d.val - 1 / 2 ^ (h + 1) * ((t : ℝ) - s)

/-- The weight before it is divided. -/
def weight (t s h : ℕ) : ℝ := if band t s then Real.exp (A.score t s h) else 0

/-- The sum of the weights. -/
def total (t h : ℕ) : ℝ := ∑ s : Fin 8192, A.weight t s.val h + A.den t h

/-- The sum of the weighted values. -/
def mixed (t h e : ℕ) : ℝ := ∑ s : Fin 8192, A.weight t s.val h * A.v s.val h e + A.num t h e

/-- The gradient against the result. -/
def against (t h : ℕ) : ℝ := ∑ e : Fin 128, A.g t h e.val * (A.mixed t h e.val / A.total t h)

/-- The divided weight. -/
def prob (t s h : ℕ) : ℝ := if band t s then Real.exp (A.score t s h) / A.total t h else 0

/-- The gradient by a score. -/
def dscore (t s h : ℕ) : ℝ := A.prob t s h * (∑ e : Fin 128, A.g t h e.val * A.v s h e.val - A.against t h)

/-- The gradient by a query. -/
def dq (t h e : ℕ) : ℝ := ∑ s : Fin 8192, A.dscore t s.val h * A.k s.val h e

/-- The gradient by a key. -/
def dk (s h e : ℕ) : ℝ := ∑ t : Fin 8192, A.dscore t.val s h * A.q t.val h e

/-- The gradient by a value. -/
def dv (s h e : ℕ) : ℝ := ∑ t : Fin 8192, A.prob t.val s h * A.g t.val h e

/-- A sum over tokens, taken block by block. -/
theorem sum_blocks (f : ℕ → ℝ) : ∑ n : Fin 64, ∑ j : Fin 128, f (128 * n.val + j.val) = ∑ s : Fin 8192, f s.val :=
  Fin.sum_mul_add_congr (fun n j _ => by rw [Nat.mul_comm])

/-- A sum of which one block remains. -/
theorem sum_one (n : ℕ) (hn : n < 64) (X : ℕ → ℝ) : ∑ b : Fin 64, (if b.val = n then X b.val else 0) = X n := by
  rw [Finset.sum_eq_single_of_mem (⟨n, hn⟩ : Fin 64) (Finset.mem_univ _) fun b _ hb => if_neg fun h => hb (Fin.ext h)]
  exact if_pos rfl

/-- The keys in reach of one query lie in its own block and the one before. -/
theorem sum_keys (n a : ℕ) (hn : n < 64) (ha : a < 128) (F : ℕ → ℝ) :
    ∑ s : Fin 8192, (if band (128 * n + a) s.val then F s.val else 0)
      = ∑ j : Fin 128, (if j.val ≤ a then F (128 * n + j.val) else 0)
        + ∑ j : Fin 128, (if a ≤ j.val ∧ 0 < n then F (128 * (n - 1) + j.val) else 0) := by
  rw [← sum_blocks fun s => if band (128 * n + a) s then F s else 0]
  have h : ∀ b : Fin 64, ∑ j : Fin 128, (if band (128 * n + a) (128 * b.val + j.val) then F (128 * b.val + j.val) else 0)
      = (if b.val = n then ∑ j : Fin 128, (if j.val ≤ a then F (128 * b.val + j.val) else 0) else 0)
        + (if b.val = n - 1 then ∑ j : Fin 128, (if a ≤ j.val ∧ 0 < n then F (128 * b.val + j.val) else 0) else 0) := by
    intro b
    by_cases h1 : b.val = n
    · rw [if_pos h1]
      by_cases h0 : n = 0
      · rw [if_pos (by omega)]
        rw [Finset.sum_congr rfl fun (j : Fin 128) _ => if_neg (c := a ≤ j.val ∧ 0 < n) (by omega), Finset.sum_const_zero, add_zero]
        refine Finset.sum_congr rfl fun j _ => if_congr ?_ rfl rfl
        unfold band
        omega
      · rw [if_neg (by omega), add_zero]
        refine Finset.sum_congr rfl fun j _ => if_congr ?_ rfl rfl
        unfold band
        omega
    · rw [if_neg h1, zero_add]
      by_cases h2 : b.val = n - 1
      · rw [if_pos h2]
        refine Finset.sum_congr rfl fun j _ => if_congr ?_ rfl rfl
        unfold band
        omega
      · rw [if_neg h2]
        refine Finset.sum_eq_zero fun j _ => if_neg ?_
        unfold band
        omega
  rw [Finset.sum_congr rfl fun b _ => h b, Finset.sum_add_distrib,
    sum_one n hn fun b => ∑ j : Fin 128, (if j.val ≤ a then F (128 * b + j.val) else 0),
    sum_one (n - 1) (by omega) fun b => ∑ j : Fin 128, (if a ≤ j.val ∧ 0 < n then F (128 * b + j.val) else 0)]

/-- The queries that reach one key lie in its own block and the next. -/
theorem sum_queries (n j : ℕ) (hn : n < 64) (hj : j < 128) (F : ℕ → ℝ) :
    ∑ t : Fin 8192, (if band t.val (128 * n + j) then F t.val else 0)
      = ∑ a : Fin 128, (if j ≤ a.val then F (128 * n + a.val) else 0)
        + ∑ a : Fin 128, (if a.val ≤ j ∧ n < 63 then F (128 * (n + 1) + a.val) else 0) := by
  rw [← sum_blocks fun t => if band t (128 * n + j) then F t else 0]
  have h : ∀ b : Fin 64, ∑ a : Fin 128, (if band (128 * b.val + a.val) (128 * n + j) then F (128 * b.val + a.val) else 0)
      = (if b.val = n then ∑ a : Fin 128, (if j ≤ a.val then F (128 * b.val + a.val) else 0) else 0)
        + (if b.val = n + 1 then ∑ a : Fin 128, (if a.val ≤ j ∧ n < 63 then F (128 * b.val + a.val) else 0) else 0) := by
    intro b
    by_cases h1 : b.val = n
    · rw [if_pos h1, if_neg (by omega), add_zero]
      refine Finset.sum_congr rfl fun a _ => if_congr ?_ rfl rfl
      unfold band
      omega
    · rw [if_neg h1, zero_add]
      by_cases h2 : b.val = n + 1
      · rw [if_pos h2]
        refine Finset.sum_congr rfl fun a _ => if_congr ?_ rfl rfl
        unfold band
        omega
      · rw [if_neg h2]
        refine Finset.sum_eq_zero fun a _ => if_neg ?_
        unfold band
        omega
  rw [Finset.sum_congr rfl fun b _ => h b, Finset.sum_add_distrib,
    sum_one n hn fun b => ∑ a : Fin 128, (if j ≤ a.val then F (128 * b + a.val) else 0)]
  by_cases h3 : n = 63
  · rw [Finset.sum_eq_zero fun (b : Fin 64) _ => if_neg (c := b.val = n + 1) (by omega),
      Finset.sum_eq_zero fun (a : Fin 128) _ => if_neg (c := a.val ≤ j ∧ n < 63) (by omega)]
  · rw [sum_one (n + 1) (by omega) fun b => ∑ a : Fin 128, (if a.val ≤ j ∧ n < 63 then F (128 * b + a.val) else 0)]

end Args

end Cert.Att

end
-- ==== Proof.AttBits.lean ====
module

public import proofs.«01_k».proof.Proof.Spec
public import Idealize.ShloMosaic.Lib.Pipeline.ValueKit
public import Idealize.ShloMosaic.Lib.StableHlo.ReadAt

/-!
# The integer words of banded attention

Masks, distances and slopes as the kernel and the reference form them, and what they stand for.
-/

@[expose] public section

set_option maxRecDepth 16384

noncomputable section

namespace Cert.Att

open Idealize.ShloMosaic Idealize.ShloMosaic.TcCoe

/-- A bit from a proposition. -/
def bit (p : Prop) [Decidable p] : BitVec 1 := if p then 1#1 else 0#1

theorem select_bit {α : Type} (p : Prop) [Decidable p] (x y : α) : Scalar.select (bit p) x y = if p then x else y := by
  unfold bit
  split <;> rfl

theorem bit_and (p q : Prop) [Decidable p] [Decidable q] : IntOp.andi (bit p) (bit q) = bit (p ∧ q) := by
  unfold bit
  by_cases hp : p <;> by_cases hq : q <;> simp only [hp, hq, if_true, if_false, and_self, and_true, and_false] <;> rfl

theorem toInt_word (n : ℕ) (h : n < 2 ^ 20) : (BitVec.ofNat 32 n).toInt = n := by
  have e : (BitVec.ofNat 32 n).toNat = n := by rw [BitVec.toNat_ofNat]; omega
  rw [BitVec.toInt_eq_toNat_of_lt (by rw [e]; omega), e]

theorem toInt_sub (a j : ℕ) (ha : a < 2 ^ 20) (hj : j < 2 ^ 20) :
    (IntOp.subi (BitVec.ofNat 32 a) (BitVec.ofNat 32 j)).toInt = (a : ℤ) - j := by
  show (BitVec.ofNat 32 a - BitVec.ofNat 32 j).toInt = _
  rw [BitVec.toInt_sub, toInt_word a ha, toInt_word j hj]
  simp only [Int.bmod_def]
  omega

theorem dist_sub (a j : ℕ) (ha : a < 2 ^ 20) (hj : j < 2 ^ 20) :
    (FloatOps.sitofp (F := Ideal) .f32 (IntOp.subi (BitVec.ofNat 32 a) (BitVec.ofNat 32 j)) : EReal) = (((a : ℝ) - j : ℝ) : EReal) := by
  show (((IntOp.subi (BitVec.ofNat 32 a) (BitVec.ofNat 32 j)).toInt : ℝ) : EReal) = _
  rw [toInt_sub a j ha hj]
  push_cast
  rfl

theorem add_word (a : ℕ) : IntOp.addi 128#32 (BitVec.ofNat 32 a) = BitVec.ofNat 32 (128 + a) := by
  show 128#32 + BitVec.ofNat 32 a = _
  rw [BitVec.ofNat_add]

theorem sle_bit (a j : ℕ) (ha : a < 2 ^ 20) (hj : j < 2 ^ 20) :
    IntOp.cmpi .sle (BitVec.ofNat 32 j) (BitVec.ofNat 32 a) = bit (j ≤ a) := by
  show BitVec.ofBool ((BitVec.ofNat 32 j).sle (BitVec.ofNat 32 a)) = _
  unfold bit
  rw [BitVec.sle_eq_decide, toInt_word a ha, toInt_word j hj]
  by_cases h : j ≤ a
  · rw [if_pos h, decide_eq_true (by omega)]; rfl
  · rw [if_neg h, decide_eq_false (by omega)]; rfl

theorem sge_bit (a j : ℕ) (ha : a < 2 ^ 20) (hj : j < 2 ^ 20) :
    IntOp.cmpi .sge (BitVec.ofNat 32 j) (BitVec.ofNat 32 a) = bit (a ≤ j) := sle_bit j a hj ha

theorem sgt_bit (n : ℕ) (hn : n < 2 ^ 20) : IntOp.cmpi .sgt (BitVec.ofNat 32 n) 0#32 = bit (0 < n) := by
  show BitVec.ofBool ((0#32).slt (BitVec.ofNat 32 n)) = _
  unfold bit
  rw [BitVec.slt_eq_decide, toInt_word n hn]
  by_cases h : 0 < n
  · rw [if_pos h, decide_eq_true (by simpa using h)]; rfl
  · rw [if_neg h, decide_eq_false (by simpa using h)]; rfl

theorem slt_bit (n k : ℕ) (hn : n < 2 ^ 20) (hk : k < 2 ^ 20) : IntOp.cmpi .slt (BitVec.ofNat 32 n) (BitVec.ofNat 32 k) = bit (n < k) := by
  show BitVec.ofBool ((BitVec.ofNat 32 n).slt (BitVec.ofNat 32 k)) = _
  unfold bit
  rw [BitVec.slt_eq_decide, toInt_word n hn, toInt_word k hk]
  by_cases h : n < k
  · rw [if_pos h, decide_eq_true (by omega)]; rfl
  · rw [if_neg h, decide_eq_false (by omega)]; rfl

/-- The word of a power of two, by its three fields. -/
theorem slope_word : ∀ h : Fin 8,
    (IntOp.shli ArithUnit.vector (IntOp.subi (126#32) (BitVec.ofNat 32 h.val)) 23#32).extractLsb' 31 1 = 0#1
    ∧ ((IntOp.shli ArithUnit.vector (IntOp.subi (126#32) (BitVec.ofNat 32 h.val)) 23#32).extractLsb' 23 8).toNat = 126 - h.val
    ∧ ((IntOp.shli ArithUnit.vector (IntOp.subi (126#32) (BitVec.ofNat 32 h.val)) 23#32).extractLsb' 0 23).toNat = 0 := by decide

/-- A power of two written by its exponent. -/
theorem slope_bits (h : Fin 8) :
    Ideal.ofBits FTy.f32 (IntOp.shli ArithUnit.vector (IntOp.subi (126#32) (BitVec.ofNat 32 h.val)) 23#32)
      = ((1 / 2 ^ (h.val + 1) : ℝ) : EReal) := by
  obtain ⟨h1, h2, h3⟩ := slope_word h
  generalize IntOp.shli ArithUnit.vector (IntOp.subi (126#32) (BitVec.ofNat 32 h.val)) 23#32 = w at h1 h2 h3
  show Ideal.ieee 8 23 w = _
  unfold Ideal.ieee
  dsimp only
  rw [show (8 + 23 : ℕ) = 31 from rfl, h1, h2, h3]
  rw [if_neg (by omega), if_neg (by omega)]
  refine congrArg _ ?_
  rw [if_neg (by decide)]
  have e : (((126 - h.val : ℕ) : ℤ) - (2 ^ (8 - 1) - 1) - (23 : ℕ)) = -((23 + (h.val + 1) : ℕ) : ℤ) := by omega
  rw [e, zpow_neg, zpow_natCast, pow_add]
  push_cast
  field_simp
  norm_num

/-- A power of two divided out. -/
theorem slope_div (h : Fin 8) :
    Ideal.div (1 : EReal) ((((IntOp.shli ArithUnit.vector 2#32 (BitVec.ofNat 32 h.val)).toInt : ℝ)) : EReal) = ((1 / 2 ^ (h.val + 1) : ℝ) : EReal) := by
  have e : (IntOp.shli ArithUnit.vector 2#32 (BitVec.ofNat 32 h.val)).toInt = 2 ^ (h.val + 1) := by revert h; decide
  rw [e]
  push_cast
  have h2 : ((2 : ℝ) ^ (h.val + 1)) ≠ 0 := by positivity
  have := Ideal.div_coe h2 1
  push_cast at this
  rw [this, one_mul]

theorem coe_sum {n : ℕ} (f : Fin n → ℝ) : ((∑ x : Fin n, f x : ℝ) : EReal) = ∑ x : Fin n, (f x : EReal) := by
  induction n with
  | zero => simp
  | succ n ih => rw [Fin.sum_univ_castSucc, Fin.sum_univ_castSucc, EReal.coe_add, ih]

/-- A sum of products of reals. -/
theorem sum_mul_coe {n : ℕ} (f g : Fin n → ℝ) : ∑ x : Fin n, (f x : EReal) * (g x : EReal) = ((∑ x : Fin n, f x * g x : ℝ) : EReal) := by
  rw [coe_sum]
  exact Finset.sum_congr rfl fun x _ => (EReal.coe_mul _ _).symm

/-- A divided weight, formed as an exponential under a mask. -/
theorem weight_coe (p : Prop) [Decidable p] (s Z : ℝ) (hZ : 0 < Z) (junk : EReal) :
    Scalar.select (bit p) (Ideal.exp (Scalar.select (bit p) (s : EReal) junk - ((Real.log Z : ℝ) : EReal))) (0 : EReal)
      = ((if p then Real.exp s / Z else 0 : ℝ) : EReal) := by
  rw [select_bit, select_bit]
  by_cases h : p
  · rw [if_pos h, if_pos h, if_pos h, ← EReal.coe_sub, Ideal.exp_coe, Real.exp_sub, Real.exp_log hZ]
  · rw [if_neg h, if_neg h]
    rfl

end Cert.Att

end
-- ==== Proof.AttQBody.lean ====
module

public import proofs.«01_k».proof.Proof.Gen.Kernel6Ideal.Value
public import proofs.«01_k».proof.Proof.AttMath
public import proofs.«01_k».proof.Proof.AttBits

public import Idealize.ShloMosaic.Lib.Pipeline.ValueKit
public import Idealize.ShloMosaic.Lib.Pipeline.ReadBack
public import Idealize.ShloMosaic.Lib.StableHlo.ReadAt

/-!
# What the body of the gradient by the queries computes

One point holds 128 queries, their own block of keys and values and the one before.
-/

@[expose] public section

set_option maxRecDepth 16384

noncomputable section

namespace Cert.AttQ

open Cert.Kernel6Ideal Cert.Kernel6Ideal.Gen Idealize.ShloMosaic Idealize.ShloMosaic.TcCoe Idealize.SL.Sem
open Cert.Att Cert.Att.Args

/-- The lane of a head. -/
abbrev lane (h : Fin 8) (d : Fin 128) : Fin 1024 := ⟨128 * h.val + d.val, by omega⟩

/-- The column of a head among the row sums. -/
abbrev column (h : Fin 8) : Fin 128 := ⟨h.val, by omega⟩

/-- A result of eight heads, side by side. -/
def byLane (P : S8x128x128.Idx → EReal) (y : S128x1024.Idx) : EReal :=
  P (ix3 ⟨(y 1).val / 128, by have := (y 1).isLt; change (y 1).val < 1024 at this; omega⟩ (y 0) ⟨(y 1).val % 128, by omega⟩)

theorem byLane_at (P : S8x128x128.Idx → EReal) (h : Fin 8) (r k : Fin 128) : byLane P (ix2 r (lane h k)) = P (ix3 h r k) := by
  refine congrArg P (congrArg₂ (fun a b => ix3 a r b) (Fin.ext ?_) (Fin.ext ?_))
  · show (128 * h.val + k.val) / 128 = h.val
    omega
  · show (128 * h.val + k.val) % 128 = k.val
    omega

/-- The store of one head. -/
theorem piece_at (P : S8x128x128.Idx → EReal) (h : Fin 8) {o : ℕ} (ho : o = 128 * h.val)
    (inb : ∀ a : Fin 2, (![0, o] : Fin 2 → ℕ) a + S128x128.size a ≤ S128x1024.size a) (r k : Fin 128) :
    P (ix3 h r k) = byLane P ((Rect.unit (s := S128x1024) ![0, o] S128x128.size inb).emb (ix2 r k)) := by
  rw [← byLane_at P h r k]
  refine congrArg (byLane P) (funext fun b => Fin.ext ?_)
  fin_cases b
  · show r.val = 0 + 1 * r.val
    omega
  · show 128 * h.val + k.val = o + 1 * k.val
    omega

/-- The heads of the queries. -/
theorem heads7 (x : Vec Ideal S128x1024 .bf16) (h : Fin 8) (r d : Fin 128) :
    k0_pay7 (View.ld x r0_1) (View.ld x r0_2) (View.ld x r0_3) (View.ld x r0_4) (View.ld x r0_5) (View.ld x r0_6) (View.ld x r0_7)
      (View.ld x r0_8) (ix3 h r d) = x (ix2 r (lane h d)) := by
  fin_cases h <;> pointwise [k0_pay7] <;>
  exact congrArg (fun z => x (ix2 r z)) (Fin.ext (by simp [lane]))

/-- The heads of the incoming gradient. -/
theorem heads14 (x : Vec Ideal S128x1024 .bf16) (h : Fin 8) (r d : Fin 128) :
    k0_pay14 (View.ld x r0_7) (View.ld x r0_8) (k0_pay8 (View.ld x r0_1)) (k0_pay9 (View.ld x r0_2)) (k0_pay10 (View.ld x r0_3))
      (k0_pay11 (View.ld x r0_4)) (k0_pay12 (View.ld x r0_5)) (k0_pay13 (View.ld x r0_6)) (ix3 h r d) = x (ix2 r (lane h d)) := by
  fin_cases h <;> pointwise [k0_pay14, k0_pay8, k0_pay9, k0_pay10, k0_pay11, k0_pay12, k0_pay13] <;>
  exact congrArg (fun z => x (ix2 r z)) (Fin.ext (by simp [lane]))

/-- The heads of the keys or values of a block. -/
theorem heads16 (x : Vec Ideal S128x1024 .bf16) (h : Fin 8) (r d : Fin 128) :
    k0_pay16 (View.ld x r0_1) (View.ld x r0_2) (View.ld x r0_3) (View.ld x r0_4) (View.ld x r0_5) (View.ld x r0_6) (View.ld x r0_7)
      (View.ld x r0_8) (ix3 h r d) = x (ix2 r (lane h d)) := by
  fin_cases h <;> pointwise [k0_pay16] <;>
  exact congrArg (fun z => x (ix2 r z)) (Fin.ext (by simp [lane]))

theorem heads21 (x : Vec Ideal S128x1024 .bf16) (h : Fin 8) (r d : Fin 128) :
    k0_pay21 (View.ld x r0_1) (View.ld x r0_2) (View.ld x r0_3) (View.ld x r0_4) (View.ld x r0_5) (View.ld x r0_6) (View.ld x r0_7)
      (View.ld x r0_8) (ix3 h r d) = x (ix2 r (lane h d)) := heads16 x h r d

/-- The logarithms of the sums of weights, by head. -/
theorem lanes5 (x : Vec Ideal S128x128 .f32) (h : Fin 8) (r : Fin 128) (z : Fin 1) :
    k0_pay5 (View.ld x r0_0) (ix3 h r z) = x (ix2 r (column h)) := by
  fin_cases h <;> pointwise [k0_pay5] <;>
  exact congrArg (fun z => x (ix2 r z)) (Fin.ext (by simp [column]))

/-- The products of the incoming gradient and the result, by head. -/
theorem lanes6 (x : Vec Ideal S128x128 .f32) (h : Fin 8) (r : Fin 128) (z : Fin 1) :
    k0_pay6 (View.ld x r0_0) (ix3 h r z) = x (ix2 r (column h)) := by
  fin_cases h <;> pointwise [k0_pay6] <;>
  exact congrArg (fun z => x (ix2 r z)) (Fin.ext (by simp [column]))

theorem slope4 (h : Fin 8) (z w : Fin 1) : k0_pay4 (F := Ideal) (ix3 h z w) = ((1 / 2 ^ (h.val + 1) : ℝ) : EReal) := by
  pointwise [k0_pay4]
  exact slope_bits h

section Parts

variable (v8 : FVec Ideal S8x1x1 .f32) (v29 v46 : FVec Ideal S8x128x1 .f32) (v63 v80 : FVec Ideal S8x128x128 .bf16)
variable (a0 a1 a2 a3 a4 a5 a6 a7 : Vec Ideal S128x128 .bf16) (h : Fin 8) (a j : Fin 128)

theorem near_at : Scalar.select (k0_pay19 (ix3 h a j)) (k0_pay18 v8 v29 v63 a0 a1 a2 a3 a4 a5 a6 a7 (ix3 h a j)) (0 : EReal)
    = Scalar.select (bit (j.val ≤ a.val)) (Ideal.exp (Scalar.select (bit (j.val ≤ a.val))
        (∑ x : Fin 128, v63 (ix3 h a x) * k0_pay16 a0 a1 a2 a3 a4 a5 a6 a7 (ix3 h j x) - v8 (ix3 h 0 0) * (((a.val : ℝ) - j.val : ℝ) : EReal))
        (Ideal.ofBits FTy.f32 4048155338#32) - v29 (ix3 h a 0))) 0 := by
  rw [← sle_bit a.val j.val (by omega) (by omega), ← dist_sub a.val j.val (by omega) (by omega)]
  pointwise [k0_pay19, k0_pay18, k0_pay17]

theorem far_at (n : ℕ) (hn : n < 64) : k0_pay22 (Scalar.cmpi .sgt (BitVec.ofNat 32 n) 0#32) v8 v29 v63 a0 a1 a2 a3 a4 a5 a6 a7 (ix3 h a j)
    = Scalar.select (bit (a.val ≤ j.val ∧ 0 < n)) (Ideal.exp (Scalar.select (bit (a.val ≤ j.val ∧ 0 < n))
        (∑ x : Fin 128, v63 (ix3 h a x) * k0_pay21 a0 a1 a2 a3 a4 a5 a6 a7 (ix3 h j x) - v8 (ix3 h 0 0) * (((128 + a.val : ℕ) : ℝ) - j.val : ℝ))
        (Ideal.ofBits FTy.f32 4048155338#32) - v29 (ix3 h a 0))) 0 := by
  rw [← bit_and, ← sge_bit a.val j.val (by omega) (by omega), ← sgt_bit n (by omega), ← dist_sub (128 + a.val) j.val (by omega) (by omega),
    ← add_word]
  pointwise [k0_pay22]
  rfl

/-- What the own block adds. -/
theorem own_at (p : FVec Ideal S8x128x128 .f32) (k : FVec Ideal S8x128x128 .bf16) (e : Fin 128) :
    k0_pay20 v46 v80 (k0_pay15 (F := Ideal)) k p (Scalar.ofBits .f32 0x00000000#32) k0_pay19 a0 a1 a2 a3 a4 a5 a6 a7 (ix3 h a e)
      = ∑ j : Fin 128, Scalar.select (k0_pay19 (ix3 h a j)) (p (ix3 h a j)) 0
        * (∑ x : Fin 128, v80 (ix3 h a x) * k0_pay16 a0 a1 a2 a3 a4 a5 a6 a7 (ix3 h j x) - v46 (ix3 h a 0)) * k (ix3 h j e) := by
  generalize k0_pay19 = b
  pointwise [k0_pay20, k0_pay15, k0_pay16]

/-- What the block before adds. -/
theorem before_at (s w : FVec Ideal S8x128x128 .f32) (k : FVec Ideal S8x128x128 .bf16) (e : Fin 128) :
    k0_pay23 v46 v80 s k w a0 a1 a2 a3 a4 a5 a6 a7 (ix3 h a e)
      = s (ix3 h a e) + ∑ j : Fin 128, w (ix3 h a j)
        * (∑ x : Fin 128, v80 (ix3 h a x) * k0_pay16 a0 a1 a2 a3 a4 a5 a6 a7 (ix3 h j x) - v46 (ix3 h a 0)) * k (ix3 h j e) := by
  pointwise [k0_pay23, k0_pay16]

end Parts

/-- What one point is given: its queries and their incoming gradient, both blocks of keys and values, and the row sums. -/
structure Given (A : Args) (n : ℕ) (x0 x1 x2 x3 x4 x5 : Vec Ideal S128x1024 .bf16) (x6 x7 : Vec Ideal S128x128 .f32) : Prop where
  lt : n < 64
  q : ∀ (h : Fin 8) (a d : Fin 128), x0 (ix2 a (lane h d)) = ((A.q (128 * n + a.val) h.val d.val : ℝ) : EReal)
  kp : ∀ (h : Fin 8) (j d : Fin 128), x1 (ix2 j (lane h d)) = ((A.k (128 * (n - 1) + j.val) h.val d.val : ℝ) : EReal)
  kc : ∀ (h : Fin 8) (j d : Fin 128), x2 (ix2 j (lane h d)) = ((A.k (128 * n + j.val) h.val d.val : ℝ) : EReal)
  vp : ∀ (h : Fin 8) (j d : Fin 128), x3 (ix2 j (lane h d)) = ((A.v (128 * (n - 1) + j.val) h.val d.val : ℝ) : EReal)
  vc : ∀ (h : Fin 8) (j d : Fin 128), x4 (ix2 j (lane h d)) = ((A.v (128 * n + j.val) h.val d.val : ℝ) : EReal)
  g : ∀ (h : Fin 8) (a d : Fin 128), x5 (ix2 a (lane h d)) = ((A.g (128 * n + a.val) h.val d.val : ℝ) : EReal)
  lse : ∀ (h : Fin 8) (a : Fin 128), x6 (ix2 a (column h)) = ((Real.log (A.total (128 * n + a.val) h.val) : ℝ) : EReal)
  delta : ∀ (h : Fin 8) (a : Fin 128), x7 (ix2 a (column h)) = ((A.against (128 * n + a.val) h.val : ℝ) : EReal)
  pos : ∀ (h : Fin 8) (a : Fin 128), 0 < A.total (128 * n + a.val) h.val

section Point

variable {A : Args} {n : ℕ} {x0 x1 x2 x3 x4 x5 : Vec Ideal S128x1024 .bf16} {x6 x7 : Vec Ideal S128x128 .f32}
variable (G : Given A n x0 x1 x2 x3 x4 x5 x6 x7) (i : grid0.Coords)
include G

theorem near_real (h : Fin 8) (a j : Fin 128) :
    Scalar.select (k0_pay19 (ix3 h a j)) (k0_pay18 (k0_pay29 i x0 x1 x2 x3 x4 x5 x6 x7) (k0_pay30 i x0 x1 x2 x3 x4 x5 x6 x7)
      (k0_pay32 i x0 x1 x2 x3 x4 x5 x6 x7) (View.ld x2 r0_1) (View.ld x2 r0_2) (View.ld x2 r0_3) (View.ld x2 r0_4) (View.ld x2 r0_5)
      (View.ld x2 r0_6) (View.ld x2 r0_7) (View.ld x2 r0_8) (ix3 h a j)) (0 : EReal)
    = ((if j.val ≤ a.val then Real.exp (A.score (128 * n + a.val) (128 * n + j.val) h.val) / A.total (128 * n + a.val) h.val else 0 : ℝ) : EReal) := by
  rw [near_at]
  unfold k0_pay29 k0_pay30 k0_pay32
  have e : ∑ x : Fin 128, k0_pay7 (View.ld x0 r0_1) (View.ld x0 r0_2) (View.ld x0 r0_3) (View.ld x0 r0_4) (View.ld x0 r0_5)
      (View.ld x0 r0_6) (View.ld x0 r0_7) (View.ld x0 r0_8) (ix3 h a x) * k0_pay16 (View.ld x2 r0_1) (View.ld x2 r0_2) (View.ld x2 r0_3)
      (View.ld x2 r0_4) (View.ld x2 r0_5) (View.ld x2 r0_6) (View.ld x2 r0_7) (View.ld x2 r0_8) (ix3 h j x)
      = ((∑ d : Fin 128, A.q (128 * n + a.val) h.val d.val * A.k (128 * n + j.val) h.val d.val : ℝ) : EReal) := by
    rw [← sum_mul_coe]
    refine Finset.sum_congr rfl fun x _ => ?_
    rw [heads7, heads16, G.q, G.kc]
  rw [e, slope4, lanes5, G.lse, ← EReal.coe_mul, ← EReal.coe_sub]
  have s : ∑ d : Fin 128, A.q (128 * n + a.val) h.val d.val * A.k (128 * n + j.val) h.val d.val - 1 / 2 ^ (h.val + 1) * ((a.val : ℝ) - j.val)
      = A.score (128 * n + a.val) (128 * n + j.val) h.val := by
    unfold Args.score
    push_cast
    ring
  rw [s]
  exact weight_coe _ _ _ (G.pos h a) _

theorem far_real (hi : (i 1).val = n) (h : Fin 8) (a j : Fin 128) :
    k0_pay36 i x0 x1 x2 x3 x4 x5 x6 x7 (ix3 h a j)
    = ((if a.val ≤ j.val ∧ 0 < n then Real.exp (A.score (128 * n + a.val) (128 * (n - 1) + j.val) h.val) / A.total (128 * n + a.val) h.val
        else 0 : ℝ) : EReal) := by
  unfold k0_pay36
  rw [hi, far_at (hn := G.lt)]
  unfold k0_pay29 k0_pay30 k0_pay32
  have e : ∑ x : Fin 128, k0_pay7 (View.ld x0 r0_1) (View.ld x0 r0_2) (View.ld x0 r0_3) (View.ld x0 r0_4) (View.ld x0 r0_5)
      (View.ld x0 r0_6) (View.ld x0 r0_7) (View.ld x0 r0_8) (ix3 h a x) * k0_pay21 (View.ld x1 r0_1) (View.ld x1 r0_2) (View.ld x1 r0_3)
      (View.ld x1 r0_4) (View.ld x1 r0_5) (View.ld x1 r0_6) (View.ld x1 r0_7) (View.ld x1 r0_8) (ix3 h j x)
      = ((∑ d : Fin 128, A.q (128 * n + a.val) h.val d.val * A.k (128 * (n - 1) + j.val) h.val d.val : ℝ) : EReal) := by
    rw [← sum_mul_coe]
    refine Finset.sum_congr rfl fun x _ => ?_
    rw [heads7, heads21, G.q, G.kp]
  rw [e, slope4, lanes5, G.lse, ← EReal.coe_mul, ← EReal.coe_sub]
  by_cases hp : 0 < n
  · have s : ∑ d : Fin 128, A.q (128 * n + a.val) h.val d.val * A.k (128 * (n - 1) + j.val) h.val d.val
        - 1 / 2 ^ (h.val + 1) * (((128 + a.val : ℕ) : ℝ) - j.val) = A.score (128 * n + a.val) (128 * (n - 1) + j.val) h.val := by
      unfold Args.score
      obtain ⟨k, rfl⟩ : ∃ k, n = k + 1 := ⟨n - 1, by omega⟩
      rw [Nat.add_sub_cancel]
      push_cast
      ring
    rw [s]
    exact weight_coe _ _ _ (G.pos h a) _
  · rw [weight_coe _ _ _ (G.pos h a) _, if_neg fun h => hp h.2, if_neg fun h => hp h.2]

/-- The gradient of 128 queries. -/
theorem body_at (hi : (i 1).val = n) (h : Fin 8) (a e : Fin 128) :
    k0_pay37 i x0 x1 x2 x3 x4 x5 x6 x7 (ix3 h a e) = ((A.dq (128 * n + a.val) h.val e.val : ℝ) : EReal) := by
  unfold k0_pay37
  rw [before_at]
  unfold k0_pay34
  rw [own_at]
  have own : ∀ j : Fin 128, ∑ x : Fin 128, k0_pay33 i x0 x1 x2 x3 x4 x5 x6 x7 (ix3 h a x) * k0_pay16 (View.ld x4 r0_1) (View.ld x4 r0_2)
      (View.ld x4 r0_3) (View.ld x4 r0_4) (View.ld x4 r0_5) (View.ld x4 r0_6) (View.ld x4 r0_7) (View.ld x4 r0_8) (ix3 h j x)
      - k0_pay31 i x0 x1 x2 x3 x4 x5 x6 x7 (ix3 h a 0)
      = ((∑ x : Fin 128, A.g (128 * n + a.val) h.val x.val * A.v (128 * n + j.val) h.val x.val - A.against (128 * n + a.val) h.val : ℝ) : EReal) := by
    intro j
    unfold k0_pay33 k0_pay31
    rw [lanes6, G.delta, EReal.coe_sub, ← sum_mul_coe]
    refine congrArg (· - _) (Finset.sum_congr rfl fun x _ => ?_)
    rw [heads14, heads16, G.g, G.vc]
  have before : ∀ j : Fin 128, ∑ x : Fin 128, k0_pay33 i x0 x1 x2 x3 x4 x5 x6 x7 (ix3 h a x) * k0_pay16 (View.ld x3 r0_1) (View.ld x3 r0_2)
      (View.ld x3 r0_3) (View.ld x3 r0_4) (View.ld x3 r0_5) (View.ld x3 r0_6) (View.ld x3 r0_7) (View.ld x3 r0_8) (ix3 h j x)
      - k0_pay31 i x0 x1 x2 x3 x4 x5 x6 x7 (ix3 h a 0)
      = ((∑ x : Fin 128, A.g (128 * n + a.val) h.val x.val * A.v (128 * (n - 1) + j.val) h.val x.val - A.against (128 * n + a.val) h.val : ℝ) : EReal) := by
    intro j
    unfold k0_pay33 k0_pay31
    rw [lanes6, G.delta, EReal.coe_sub, ← sum_mul_coe]
    refine congrArg (· - _) (Finset.sum_congr rfl fun x _ => ?_)
    rw [heads14, heads16, G.g, G.vp]
  have f : A.dq (128 * n + a.val) h.val e.val = _ := (Finset.sum_congr rfl fun s _ => by
      unfold Args.dscore Args.prob
      rw [ite_mul, ite_mul, zero_mul, zero_mul]).trans (sum_keys n a.val G.lt a.isLt fun s =>
        Real.exp (A.score (128 * n + a.val) s h.val) / A.total (128 * n + a.val) h.val
          * (∑ x : Fin 128, A.g (128 * n + a.val) h.val x.val * A.v s h.val x.val - A.against (128 * n + a.val) h.val) * A.k s h.val e.val)
  rw [f, EReal.coe_add, coe_sum, coe_sum]
  refine congrArg₂ (· + ·) (Finset.sum_congr rfl fun j _ => ?_) (Finset.sum_congr rfl fun j _ => ?_)
  · rw [own, near_real G i h a j, heads16, G.kc, ← EReal.coe_mul, ← EReal.coe_mul, ite_mul, ite_mul, zero_mul, zero_mul]
  · rw [before, far_real G i hi h a j]
    unfold k0_pay35
    rw [heads21, G.kp, ← EReal.coe_mul, ← EReal.coe_mul, ite_mul, ite_mul, zero_mul, zero_mul]

/-- The gradient as the body stores it, head by head. -/
theorem out_at (hi : (i 1).val = n) (h : Fin 8) (a e : Fin 128) :
    out0_8 i x0 x1 x2 x3 x4 x5 x6 x7 (ix2 a (lane h e)) = ((A.dq (128 * n + a.val) h.val e.val : ℝ) : EReal) := by
  rw [← body_at G i hi h a e]
  unfold out0_8
  refine (View.canon_append_of_piecesOf (Val := Elt Ideal) (byLane (k0_pay37 i x0 x1 x2 x3 x4 x5 x6 x7)) [] _ ?_ (ix2 a (lane h e))
    (cover0_8 _ _ _ _ _ _ _ _ _)).trans (byLane_at _ h a e)
  refine ⟨?_, ?_, ?_, ?_, ?_, ?_, ?_, ?_, trivial⟩ <;> intro x <;>
    obtain ⟨r, k, rfl⟩ : ∃ (r k : Fin 128), x = ix2 r k := ⟨x 0, x 1, eq_ix2 x⟩
  · refine Eq.trans ?_ (piece_at _ 7 (o := 896) rfl inb_S128x1024_S128x128_0_896 r k)
    pointwise [k0_pay3]
  · refine Eq.trans ?_ (piece_at _ 6 (o := 768) rfl inb_S128x1024_S128x128_0_768 r k)
    pointwise [k0_pay2]
  · refine Eq.trans ?_ (piece_at _ 5 (o := 640) rfl inb_S128x1024_S128x128_0_640 r k)
    pointwise [k0_pay1]
  · refine Eq.trans ?_ (piece_at _ 4 (o := 512) rfl inb_S128x1024_S128x128_0_512 r k)
    pointwise [k0_pay28]
    rfl
  · refine Eq.trans ?_ (piece_at _ 3 (o := 384) rfl inb_S128x1024_S128x128_0_384 r k)
    pointwise [k0_pay27]
    rfl
  · refine Eq.trans ?_ (piece_at _ 2 (o := 256) rfl inb_S128x1024_S128x128_0_256 r k)
    pointwise [k0_pay26]
    rfl
  · refine Eq.trans ?_ (piece_at _ 1 (o := 128) rfl inb_S128x1024_S128x128_0_128 r k)
    pointwise [k0_pay25]
    rfl
  · refine Eq.trans ?_ (piece_at _ 0 (o := 0) rfl inb_S128x1024_S128x128_0_0 r k)
    pointwise [k0_pay24]
    rfl

end Point

end Cert.AttQ

end
-- ==== Proof.AttReal.lean ====
module

public import proofs.«01_k».proof.Proof.AttMath
public import proofs.«01_k».proof.Proof.AttBits
public import Idealize.ShloMosaic.Lib.Pipeline.ValueKit

/-!
# Extended reals that are real, and arrays of them

What the gradient of attention is computed from is finite: each array is then read as a function of plain indices.
-/

@[expose] public section

noncomputable section

namespace Cert.Att

open Idealize.ShloMosaic

/-- The number is real. -/
def IsReal (x : EReal) : Prop := ∃ r : ℝ, x = (r : EReal)

/-- The number is real and at least zero. -/
def NonNeg (x : EReal) : Prop := ∃ r : ℝ, 0 ≤ r ∧ x = (r : EReal)

theorem NonNeg.isReal {x : EReal} (h : NonNeg x) : IsReal x := ⟨h.choose, h.choose_spec.2⟩

theorem IsReal.coe_toReal {x : EReal} (h : IsReal x) : x = (x.toReal : EReal) := by
  obtain ⟨r, rfl⟩ := h
  rw [EReal.toReal_coe]

theorem NonNeg.toReal_nonneg {x : EReal} (h : NonNeg x) : 0 ≤ x.toReal := by
  obtain ⟨r, hr, rfl⟩ := h
  rwa [EReal.toReal_coe]

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem NonNeg.add {x y : EReal} (hx : NonNeg x) (hy : NonNeg y) : NonNeg (x + y) := by
  obtain ⟨r, hr, rfl⟩ := hx
  obtain ⟨s, hs, rfl⟩ := hy
  exact ⟨r + s, add_nonneg hr hs, (EReal.coe_add r s).symm⟩

theorem IsReal.sum {n : ℕ} {f : Fin n → EReal} (h : ∀ i, IsReal (f i)) : IsReal (∑ i : Fin n, f i) :=
  ⟨∑ i : Fin n, (f i).toReal, by
    rw [coe_sum]
    exact Finset.sum_congr rfl fun i _ => (h i).coe_toReal⟩

theorem NonNeg.sum {n : ℕ} {f : Fin n → EReal} (h : ∀ i, NonNeg (f i)) : NonNeg (∑ i : Fin n, f i) :=
  ⟨∑ i : Fin n, (f i).toReal, Finset.sum_nonneg fun i _ => (h i).toReal_nonneg, by
    rw [coe_sum]
    exact Finset.sum_congr rfl fun i _ => (h i).isReal.coe_toReal⟩

/-- A chosen exponential is at least zero. -/
theorem IsReal.weight {x : EReal} (h : IsReal x) (b : BitVec 1) : NonNeg (Scalar.select b (Ideal.exp x) 0) := by
  obtain ⟨r, rfl⟩ := h
  unfold Scalar.select
  split
  · exact ⟨Real.exp r, (Real.exp_pos r).le, by rw [Ideal.exp_coe]⟩
  · exact ⟨0, le_refl 0, EReal.coe_zero.symm⟩

/-- A converted integer is real. -/
theorem isReal_int (w : BitVec 32) : IsReal (FloatOps.sitofp (F := Ideal) .f32 w : EReal) := ⟨(w.toInt : ℝ), rfl⟩

/-- The slope of a head as the host computes it. -/
theorem slope_host (h : Fin 8) :
    Ideal.div (1 : EReal) (FloatOps.sitofp (F := Ideal) .f32 (IntOp.shli ArithUnit.host 2#32 (BitVec.ofNat 32 h.val)) : EReal)
      = ((1 / 2 ^ (h.val + 1) : ℝ) : EReal) := by
  have e : (IntOp.shli ArithUnit.host 2#32 (BitVec.ofNat 32 h.val)).toInt = 2 ^ (h.val + 1) := by revert h; decide
  show Ideal.div (1 : EReal) ((((IntOp.shli ArithUnit.host 2#32 (BitVec.ofNat 32 h.val)).toInt : ℝ)) : EReal) = _
  rw [e, Ideal.div_coe (by positivity), one_mul]
  norm_num

/-- The comparison of two distances with the reach. -/
theorem band_bit (t s : ℕ) (ht : t < 2 ^ 20) (hs : s < 2 ^ 20) :
    IntOp.andi (IntOp.cmpi .sge (IntOp.subi (BitVec.ofNat 32 t) (BitVec.ofNat 32 s)) 0#32)
      (IntOp.cmpi .sle (IntOp.subi (BitVec.ofNat 32 t) (BitVec.ofNat 32 s)) 128#32) = bit (Args.band t s) := by
  have e1 : IntOp.cmpi .sge (IntOp.subi (BitVec.ofNat 32 t) (BitVec.ofNat 32 s)) 0#32 = bit (s ≤ t) := by
    show BitVec.ofBool ((0#32).sle (IntOp.subi (BitVec.ofNat 32 t) (BitVec.ofNat 32 s))) = _
    unfold bit
    rw [BitVec.sle_eq_decide, toInt_sub t s ht hs]
    by_cases h : s ≤ t
    · rw [if_pos h, decide_eq_true (by show (0 : ℤ) ≤ _; omega)]
      rfl
    · rw [if_neg h, decide_eq_false (by show ¬ (0 : ℤ) ≤ _; omega)]
      rfl
  have e2 : IntOp.cmpi .sle (IntOp.subi (BitVec.ofNat 32 t) (BitVec.ofNat 32 s)) 128#32 = bit (t ≤ s + 128) := by
    show BitVec.ofBool ((IntOp.subi (BitVec.ofNat 32 t) (BitVec.ofNat 32 s)).sle 128#32) = _
    unfold bit
    rw [BitVec.sle_eq_decide, toInt_sub t s ht hs]
    by_cases h : t ≤ s + 128
    · rw [if_pos h, decide_eq_true (by show _ ≤ (128 : ℤ); omega)]
      rfl
    · rw [if_neg h, decide_eq_false (by show ¬ _ ≤ (128 : ℤ); omega)]
      rfl
  rw [e1, e2, bit_and]
  rfl

/-- An array read by token, head and lane. -/
def at3 (X : (⟨3, ![8192, 8, 128]⟩ : Shape).Idx → EReal) (t h d : ℕ) : ℝ :=
  if hh : t < 8192 ∧ h < 8 ∧ d < 128 then (X (ix3 ⟨t, hh.1⟩ ⟨h, hh.2.1⟩ ⟨d, hh.2.2⟩)).toReal else 0

theorem at3_coe {X : (⟨3, ![8192, 8, 128]⟩ : Shape).Idx → EReal} (hX : ∀ t h d, IsReal (X (ix3 t h d)))
    (t : Fin 8192) (h : Fin 8) (d : Fin 128) : X (ix3 t h d) = ((at3 X t.val h.val d.val : ℝ) : EReal) := by
  unfold at3
  rw [dif_pos ⟨t.isLt, h.isLt, d.isLt⟩]
  exact (hX t h d).coe_toReal

/-- An array read by token and head. -/
def atHead (X : (⟨2, ![8192, 8]⟩ : Shape).Idx → EReal) (t h : ℕ) : ℝ :=
  if hh : t < 8192 ∧ h < 8 then (X (ix2 ⟨t, hh.1⟩ ⟨h, hh.2⟩)).toReal else 0

theorem atHead_coe {X : (⟨2, ![8192, 8]⟩ : Shape).Idx → EReal} (hX : ∀ t h, NonNeg (X (ix2 t h)))
    (t : Fin 8192) (h : Fin 8) : X (ix2 t h) = ((atHead X t.val h.val : ℝ) : EReal) := by
  unfold atHead
  rw [dif_pos ⟨t.isLt, h.isLt⟩]
  exact (hX t h).isReal.coe_toReal

theorem atHead_nonneg {X : (⟨2, ![8192, 8]⟩ : Shape).Idx → EReal} (hX : ∀ t h, NonNeg (X (ix2 t h))) (t h : ℕ) :
    0 ≤ atHead X t h := by
  unfold atHead
  split
  · exact (hX _ _).toReal_nonneg
  · exact le_refl 0

/-- A number whose absolute value compares below infinity is real. -/
theorem isReal_of_abs_lt {x : EReal} (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x with
  | bot => simp [Ideal.cmp] at h
  | top => simp [Ideal.cmp] at h
  | coe v => exact ⟨v, rfl⟩

namespace Args

variable (A : Args)

theorem weight_nonneg (t s h : ℕ) : 0 ≤ A.weight t s h := by
  unfold weight
  split
  · exact (Real.exp_pos _).le
  · exact le_refl 0

/-- A query meets at least its own key. -/
theorem total_pos (hd : ∀ t h, 0 ≤ A.den t h) (t : Fin 8192) (h : ℕ) : 0 < A.total t.val h := by
  refine add_pos_of_pos_of_nonneg (Finset.sum_pos' (fun s _ => A.weight_nonneg _ _ _) ⟨t, Finset.mem_univ _, ?_⟩) (hd _ _)
  unfold weight
  rw [if_pos ⟨le_refl _, Nat.le_add_right _ _⟩]
  exact Real.exp_pos _

/-- The gradient by a score, as the quotient rule gives it. -/
theorem dscore_eq (t s h : ℕ) (hz : A.total t h ≠ 0) :
    (if band t s then -(∑ e : Fin 128, A.g t h e.val * (1 / (A.total t h * A.total t h)) * A.mixed t h e.val)
      + ∑ e : Fin 128, A.g t h e.val * (1 / A.total t h) * A.v s h e.val else 0) * Real.exp (A.score t s h) = A.dscore t s h := by
  unfold dscore prob
  split
  · unfold against
    rw [← Finset.sum_neg_distrib, ← Finset.sum_add_distrib, ← Finset.sum_sub_distrib, Finset.sum_mul, Finset.mul_sum]
    refine Finset.sum_congr rfl fun e _ => ?_
    field_simp
    ring
  · rw [zero_mul, zero_mul]

end Args

end Cert.Att

end
-- ==== Proof.AttQRef.lean ====
module

public import proofs.«01_k».proof.Proof.Gen.Reference6Ideal.Read
public import proofs.«01_k».proof.Proof.AttReal
public import Idealize.ShloMosaic.Lib.Pipeline.ValueKit
public import Idealize.ShloMosaic.Lib.StableHlo.ReadAt

/-!
# What the reference of the gradient by the queries computes

Each array of the reference at a token, a head and a lane, over the reals.
-/

@[expose] public section

set_option maxRecDepth 16384

noncomputable section

namespace Cert.AttQ.Ref

open Cert.Reference6Ideal Cert.Reference6Ideal.Read Idealize.ShloMosaic
open Cert.Att Cert.Att.Args

variable (x0 x1 x2 : FVec Ideal S8192x3072 .bf16) (x3 : FVec Ideal S8192x1024 .bf16)

/-- The arguments of one group, what the other groups add computed as the reference does. -/
def args : Args where
  q := at3 (val_main_v2 (F := Ideal) x0)
  k := at3 (val_main_v5 (F := Ideal) x0)
  v := at3 (val_main_v8 (F := Ideal) x0)
  g := at3 (val_main_v150 (F := Ideal) x3)
  num := at3 (val_main_v107 (F := Ideal) x1 x2)
  den := atHead (val_main_v108 (F := Ideal) x1 x2)

variable {x0 x1 x2 x3}

/-- The arguments are real. -/
structure Finite (x0 x1 x2 : FVec Ideal S8192x3072 .bf16) (x3 : FVec Ideal S8192x1024 .bf16) : Prop where
  h0 : ∀ i, IsReal (x0 i)
  h1 : ∀ i, IsReal (x1 i)
  h2 : ∀ i, IsReal (x2 i)
  h3 : ∀ i, IsReal (x3 i)

variable (H : Finite x0 x1 x2 x3)
include H

theorem slice2 (t : Fin 8192) (h : Fin 8) (d : Fin 128) :
    val_main_v2 (F := Ideal) x0 (ix3 t h d) = x0 (ix2 t ⟨h.val * 128 + d.val, by omega⟩) := by
  pointwise [val_main_v2, val_main_v1, val_main_v0]

theorem slice5 (t : Fin 8192) (h : Fin 8) (d : Fin 128) :
    val_main_v5 (F := Ideal) x0 (ix3 t h d) = x0 (ix2 t ⟨1024 + (h.val * 128 + d.val), by omega⟩) := by
  pointwise [val_main_v5, val_main_v4, val_main_v3]

theorem slice8 (t : Fin 8192) (h : Fin 8) (d : Fin 128) :
    val_main_v8 (F := Ideal) x0 (ix3 t h d) = x0 (ix2 t ⟨2048 + (h.val * 128 + d.val), by omega⟩) := by
  pointwise [val_main_v8, val_main_v7, val_main_v6]

theorem slice150 (t : Fin 8192) (h : Fin 8) (d : Fin 128) :
    val_main_v150 (F := Ideal) x3 (ix3 t h d) = x3 (ix2 t ⟨h.val * 128 + d.val, by omega⟩) := by
  pointwise [val_main_v150, val_main_v149]

theorem q_at (t : Fin 8192) (h : Fin 8) (d : Fin 128) :
    val_main_v2 (F := Ideal) x0 (ix3 t h d) = (((args x0 x1 x2 x3).q t.val h.val d.val : ℝ) : EReal) :=
  at3_coe (fun t h d => by rw [slice2 H]; exact H.h0 _) t h d

theorem k_at (t : Fin 8192) (h : Fin 8) (d : Fin 128) :
    val_main_v5 (F := Ideal) x0 (ix3 t h d) = (((args x0 x1 x2 x3).k t.val h.val d.val : ℝ) : EReal) :=
  at3_coe (fun t h d => by rw [slice5 H]; exact H.h0 _) t h d

theorem v_at (t : Fin 8192) (h : Fin 8) (d : Fin 128) :
    val_main_v8 (F := Ideal) x0 (ix3 t h d) = (((args x0 x1 x2 x3).v t.val h.val d.val : ℝ) : EReal) :=
  at3_coe (fun t h d => by rw [slice8 H]; exact H.h0 _) t h d

theorem g_at (t : Fin 8192) (h : Fin 8) (d : Fin 128) :
    val_main_v150 (F := Ideal) x3 (ix3 t h d) = (((args x0 x1 x2 x3).g t.val h.val d.val : ℝ) : EReal) :=
  at3_coe (fun t h d => by rw [slice150 H]; exact H.h3 _) t h d

theorem zero0 : val_main_call0_v0 (F := Ideal) ix0 = (0 : EReal) :=
  (show val_main_call0_v0 (F := Ideal) ix0 = val_main_cst_2 (F := Ideal) ix0 from rfl).trans (by pointwise [val_main_cst_2])

theorem zero1 : val_main_call1_v0 (F := Ideal) ix0 = (0 : EReal) :=
  (show val_main_call1_v0 (F := Ideal) ix0 = val_main_cst_8 (F := Ideal) ix0 from rfl).trans (by pointwise [val_main_cst_8])

theorem zero2 : val_main_call2_v0 (F := Ideal) ix0 = (0 : EReal) :=
  (show val_main_call2_v0 (F := Ideal) ix0 = val_main_cst_14 (F := Ideal) ix0 from rfl).trans (by pointwise [val_main_cst_14])

/-- The weights of the second group are at least zero. -/
theorem weight1 (t s : Fin 8192) (h : Fin 8) : NonNeg (val_main_v53 (F := Ideal) x1 (ix3 h t s)) := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_c_1, val_main_cst,
    val_main_v14, val_main_v13, val_main_v12, val_main_v11, val_main_v10, val_main_v9, val_main_call0_v2]
  rw [zero0 H]
  refine IsReal.weight (IsReal.sub (IsReal.sum fun d => (H.h1 _).mul (H.h1 _)) ?_) _
  rw [slope_host]
  exact IsReal.mul ⟨_, rfl⟩ (isReal_int _)

/-- The weights of the third group are at least zero. -/
theorem weight2 (t s : Fin 8192) (h : Fin 8) : NonNeg (val_main_v102 (F := Ideal) x2 (ix3 h t s)) := by
  pointwise [val_main_v102, val_main_v101, val_main_v100, val_main_v99, val_main_v98, val_main_v97, val_main_v96, val_main_v95, val_main_v94,
    val_main_v93, val_main_v92, val_main_v91, val_main_v90, val_main_v89, val_main_v88, val_main_v87, val_main_c_6, val_main_cst_7,
    val_main_v63, val_main_v62, val_main_v61, val_main_v60, val_main_v59, val_main_v58, val_main_call1_v2]
  rw [zero1 H]
  refine IsReal.weight (IsReal.sub (IsReal.sum fun d => (H.h2 _).mul (H.h2 _)) ?_) _
  rw [slope_host]
  exact IsReal.mul ⟨_, rfl⟩ (isReal_int _)

theorem num_at (t : Fin 8192) (h : Fin 8) (d : Fin 128) :
    val_main_v107 (F := Ideal) x1 x2 (ix3 t h d) = (((args x0 x1 x2 x3).num t.val h.val d.val : ℝ) : EReal) := by
  refine at3_coe (X := val_main_v107 (F := Ideal) x1 x2) (fun t h d => ?_) t h d
  have e : val_main_v107 (F := Ideal) x1 x2 (ix3 t h d)
      = ∑ s : Fin 8192, val_main_v17 (F := Ideal) x1 (ix3 s h d) * val_main_v53 (F := Ideal) x1 (ix3 h t s)
        + ∑ s : Fin 8192, val_main_v66 (F := Ideal) x2 (ix3 s h d) * val_main_v102 (F := Ideal) x2 (ix3 h t s) := by
    pointwise [val_main_v107, val_main_v55, val_main_v54, val_main_v104, val_main_v103]
  rw [e]
  refine IsReal.add (IsReal.sum fun s => IsReal.mul ?_ (weight1 H _ _ _).isReal) (IsReal.sum fun s => IsReal.mul ?_ (weight2 H _ _ _).isReal)
  · pointwise [val_main_v17, val_main_v16, val_main_v15]
    exact H.h1 _
  · pointwise [val_main_v66, val_main_v65, val_main_v64]
    exact H.h2 _

theorem den_nonneg (t : Fin 8192) (h : Fin 8) : NonNeg (val_main_v108 (F := Ideal) x1 x2 (ix2 t h)) := by
  have e : val_main_v108 (F := Ideal) x1 x2 (ix2 t h)
      = ∑ s : Fin 8192, val_main_v53 (F := Ideal) x1 (ix3 h t s) + ∑ s : Fin 8192, val_main_v102 (F := Ideal) x2 (ix3 h t s) := by
    pointwise [val_main_v108, val_main_v57, val_main_v56, val_main_v106, val_main_v105, val_main_cst_3, val_main_cst_9]
  rw [e]
  exact NonNeg.add (NonNeg.sum fun s => weight1 H _ _ _) (NonNeg.sum fun s => weight2 H _ _ _)

theorem den_at (t : Fin 8192) (h : Fin 8) :
    val_main_v108 (F := Ideal) x1 x2 (ix2 t h) = (((args x0 x1 x2 x3).den t.val h.val : ℝ) : EReal) :=
  atHead_coe (den_nonneg H) t h

theorem total_pos (t : Fin 8192) (h : ℕ) : 0 < (args x0 x1 x2 x3).total t.val h :=
  Args.total_pos _ (fun t h => atHead_nonneg (den_nonneg H) t h) t h

theorem exp_at (t s : Fin 8192) (h : Fin 8) :
    val_main_v135 (F := Ideal) x0 (ix3 h t s) = ((Real.exp ((args x0 x1 x2 x3).score t.val s.val h.val) : ℝ) : EReal) := by
  pointwise [val_main_v135, val_main_v134, val_main_v133, val_main_v132, val_main_v131, val_main_v130, val_main_v129, val_main_v128,
    val_main_v127, val_main_v126, val_main_v125, val_main_v124, val_main_v123, val_main_v122, val_main_v121, val_main_c_12, val_main_cst_13,
    val_main_v115, val_main_v114, val_main_v113, val_main_v112, val_main_v111, val_main_v110, val_main_v109]
  rw [slope_host, dist_sub _ _ (by omega) (by omega), Finset.sum_congr rfl fun d _ => by rw [q_at H, k_at H], sum_mul_coe,
    ← EReal.coe_mul, ← EReal.coe_sub, Ideal.exp_coe]
  rfl

theorem band_at (t s : Fin 8192) (h : Fin 8) : val_main_v136_1 (F := Ideal) (ix3 h t s) = bit (band t.val s.val) := by
  pointwise [val_main_v136_1, val_main_v120, val_main_v119, val_main_v118, val_main_v117, val_main_v116, val_main_c_10, val_main_c_11,
    val_main_v115, val_main_v114, val_main_v113, val_main_v112, val_main_v111, val_main_v110, val_main_v109]
  exact band_bit _ _ (by omega) (by omega)

theorem weight_at (t s : Fin 8192) (h : Fin 8) :
    val_main_v136_0 (F := Ideal) x0 (ix3 h t s) = (((args x0 x1 x2 x3).weight t.val s.val h.val : ℝ) : EReal) := by
  have e : val_main_v136_0 (F := Ideal) x0 (ix3 h t s)
      = Scalar.select (val_main_v136_1 (F := Ideal) (ix3 h t s)) (val_main_v135 (F := Ideal) x0 (ix3 h t s)) (0 : EReal) := by
    pointwise [val_main_v136_0, val_main_call2_v2]
    rw [zero2 H]
  rw [e, band_at H, exp_at H, select_bit]
  unfold Args.weight
  split <;> rfl

theorem mixed_at (t : Fin 8192) (h : Fin 8) (d : Fin 128) :
    val_main_v141 (F := Ideal) x0 x1 x2 (ix3 t h d) = (((args x0 x1 x2 x3).mixed t.val h.val d.val : ℝ) : EReal) := by
  pointwise [val_main_v141, val_main_v138, val_main_v137]
  rw [num_at H, Finset.sum_congr rfl fun s _ => by rw [v_at H, weight_at H], sum_mul_coe, ← EReal.coe_add]
  unfold Args.mixed
  rw [Finset.sum_congr rfl fun (s : Fin 8192) _ => mul_comm ((args x0 x1 x2 x3).v s.val h.val d.val) _]

theorem total_at (t : Fin 8192) (h : Fin 8) :
    val_main_v142 (F := Ideal) x0 x1 x2 (ix2 t h) = (((args x0 x1 x2 x3).total t.val h.val : ℝ) : EReal) := by
  pointwise [val_main_v142, val_main_v140, val_main_v139, val_main_cst_15]
  rw [den_at H, Finset.sum_congr rfl fun s _ => weight_at H t s h, ← coe_sum, ← EReal.coe_add]
  rfl

theorem mean_at (t : Fin 8192) (h : Fin 8) (d : Fin 128) : val_main_v145 (F := Ideal) x0 x1 x2 (ix3 t h d)
    = (((args x0 x1 x2 x3).mixed t.val h.val d.val / (args x0 x1 x2 x3).total t.val h.val : ℝ) : EReal) := by
  pointwise [val_main_v145, val_main_v144, val_main_v143]
  rw [mixed_at H, total_at H, Ideal.div_coe (total_pos H t _).ne', ← EReal.coe_mul, mul_one_div]

theorem dscore_at (t s : Fin 8192) (h : Fin 8) :
    val_main_v166 (F := Ideal) x0 x1 x2 x3 (ix3 h t s) = (((args x0 x1 x2 x3).dscore t.val s.val h.val : ℝ) : EReal) := by
  have hz := (total_pos H t h.val).ne'
  have hzz := mul_ne_zero hz hz
  pointwise [val_main_v166, val_main_v165, val_main_v164, val_main_v163, val_main_v162, val_main_v161, val_main_v160, val_main_v159,
    val_main_v158, val_main_v157, val_main_v156, val_main_v155, val_main_v154, val_main_v153, val_main_v152, val_main_v151, val_main_v148,
    val_main_v147, val_main_v146, val_main_v143, val_main_cst_16, val_main_cst_17, val_main_cst_18, val_main_call3_v0, val_main_call3_cst]
  rw [total_at H, exp_at H, band_at H, ← EReal.coe_mul, Ideal.div_coe hzz, one_mul, Fin.sum_univ_one, select_bit]
  have e1 : ∑ e : Fin 128, val_main_v150 (F := Ideal) x3 (ix3 t h e)
        * ((1 / ((args x0 x1 x2 x3).total t.val h.val * (args x0 x1 x2 x3).total t.val h.val) : ℝ) : EReal)
        * val_main_v141 (F := Ideal) x0 x1 x2 (ix3 t h e)
      = ((∑ e : Fin 128, (args x0 x1 x2 x3).g t.val h.val e.val
          * (1 / ((args x0 x1 x2 x3).total t.val h.val * (args x0 x1 x2 x3).total t.val h.val))
          * (args x0 x1 x2 x3).mixed t.val h.val e.val : ℝ) : EReal) := by
    rw [← sum_mul_coe]
    refine Finset.sum_congr rfl fun e _ => ?_
    rw [g_at H, mixed_at H, EReal.coe_mul]
  have e2 : ∑ e : Fin 128, Ideal.div (val_main_v150 (F := Ideal) x3 (ix3 t h e)) (((args x0 x1 x2 x3).total t.val h.val : ℝ) : EReal)
        * val_main_v8 (F := Ideal) x0 (ix3 s h e)
      = ((∑ e : Fin 128, (args x0 x1 x2 x3).g t.val h.val e.val * (1 / (args x0 x1 x2 x3).total t.val h.val)
          * (args x0 x1 x2 x3).v s.val h.val e.val : ℝ) : EReal) := by
    rw [← sum_mul_coe]
    refine Finset.sum_congr rfl fun e _ => ?_
    rw [g_at H, v_at H, Ideal.div_coe hz, EReal.coe_mul]
  rw [e1, e2, ← EReal.coe_neg, ← EReal.coe_add, ← Args.dscore_eq _ _ _ _ hz, EReal.coe_mul]
  split
  · rfl
  · simp only [EReal.coe_zero, zero_mul]

theorem dq_at (t : Fin 8192) (c : Fin 1024) : val_main_v170 (F := Ideal) x0 x1 x2 x3 (ix2 t c)
    = (((args x0 x1 x2 x3).dq t.val (c.val / 128) (c.val % 128) : ℝ) : EReal) := by
  pointwise [val_main_v170, val_main_v169, val_main_v168, val_main_v167]
  unfold Args.dq
  rw [← sum_mul_coe]
  refine Finset.sum_congr rfl fun s _ => ?_
  rw [dscore_at H, k_at H]

end Cert.AttQ.Ref

end
-- ==== Proof.AttQ.lean ====
module

public import proofs.«01_k».proof.Proof.AttQHost
public import proofs.«01_k».proof.Proof.AttQBody
public import proofs.«01_k».proof.Proof.AttQRef

/-!
# The gradient by the queries

What the kernel is given at each point of the grid, and the array it returns.
-/

@[expose] public section

set_option maxRecDepth 16384

noncomputable section

namespace Cert.AttQ

open Cert.Kernel6Ideal Cert.Kernel6Ideal.Gen Idealize.ShloMosaic Idealize.ShloMosaic.TcCoe Idealize.SL.Sem
open Cert.Att Cert.Att.Args Cert.AttQHost

variable (m : (ℓ : Loc nD τ sig) → Buf (Elt Ideal) ℓ) (c : Dev nD)

abbrev x0 : FVec Ideal S8192x3072 .bf16 := m ((c : Thread nD τ).loc main_arg0)
abbrev x1 : FVec Ideal S8192x3072 .bf16 := m ((c : Thread nD τ).loc main_arg1)
abbrev x2 : FVec Ideal S8192x3072 .bf16 := m ((c : Thread nD τ).loc main_arg2)
abbrev x3 : FVec Ideal S8192x1024 .bf16 := m ((c : Thread nD τ).loc main_arg3)

/-- The arguments in the terms of the reference. -/
abbrev inputs : Args := Ref.args (x0 m c) (x1 m c) (x2 m c) (x3 m c)

theorem point_lt (t : Fin cfg0.N) : t.val < 64 := lt_of_lt_of_eq t.isLt N_0

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val - 1, 1] :=
  (by decide +kernel : ∀ t : Fin grid0.N, win0_1.index t = ![t.val - 1, 1])
theorem idx2 : ∀ t : Fin cfg0.N, win0_2.index t = ![t.val, 1] :=
  (by decide +kernel : ∀ t : Fin grid0.N, win0_2.index t = ![t.val, 1])
theorem idx3 : ∀ t : Fin cfg0.N, win0_3.index t = ![t.val - 1, 2] :=
  (by decide +kernel : ∀ t : Fin grid0.N, win0_3.index t = ![t.val - 1, 2])
theorem idx4 : ∀ t : Fin cfg0.N, win0_4.index t = ![t.val, 2] :=
  (by decide +kernel : ∀ t : Fin grid0.N, win0_4.index t = ![t.val, 2])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem coord : ∀ t : Fin cfg0.N, (grid0.coords t 1).val = t.val :=
  (by decide +kernel : ∀ t : Fin grid0.N, (grid0.coords t 1).val = t.val)

theorem padded_at (X : FVec Ideal S8192x8 .f32) (r : Fin 8192) (h : Fin 8) : padded X (ix2 r ⟨h.val, by omega⟩) = X (ix2 r h) := by
  pointwise [padded]

theorem blk0 (t : Fin cfg0.N) (h : Fin 8) (a d : Fin 128) : iblk m c 0 t (ix2 a (lane h d))
    = x0 m c (ix2 ⟨128 * t.val + a.val, by have := point_lt t; omega⟩ ⟨h.val * 128 + d.val, by omega⟩) := by
  have ht := point_lt t
  blk_ext [iblk, V_main_arg0, idx0 t]

theorem blk1 (t : Fin cfg0.N) (h : Fin 8) (a d : Fin 128) : iblk m c 1 t (ix2 a (lane h d))
    = x0 m c (ix2 ⟨128 * (t.val - 1) + a.val, by have := point_lt t; omega⟩ ⟨1024 + (h.val * 128 + d.val), by omega⟩) := by
  have ht := point_lt t
  blk_ext [iblk, V_main_arg0, idx1 t]

theorem blk2 (t : Fin cfg0.N) (h : Fin 8) (a d : Fin 128) : iblk m c 2 t (ix2 a (lane h d))
    = x0 m c (ix2 ⟨128 * t.val + a.val, by have := point_lt t; omega⟩ ⟨1024 + (h.val * 128 + d.val), by omega⟩) := by
  have ht := point_lt t
  blk_ext [iblk, V_main_arg0, idx2 t]

theorem blk3 (t : Fin cfg0.N) (h : Fin 8) (a d : Fin 128) : iblk m c 3 t (ix2 a (lane h d))
    = x0 m c (ix2 ⟨128 * (t.val - 1) + a.val, by have := point_lt t; omega⟩ ⟨2048 + (h.val * 128 + d.val), by omega⟩) := by
  have ht := point_lt t
  blk_ext [iblk, V_main_arg0, idx3 t]

theorem blk4 (t : Fin cfg0.N) (h : Fin 8) (a d : Fin 128) : iblk m c 4 t (ix2 a (lane h d))
    = x0 m c (ix2 ⟨128 * t.val + a.val, by have := point_lt t; omega⟩ ⟨2048 + (h.val * 128 + d.val), by omega⟩) := by
  have ht := point_lt t
  blk_ext [iblk, V_main_arg0, idx4 t]

theorem blk5 (t : Fin cfg0.N) (h : Fin 8) (a d : Fin 128) : iblk m c 5 t (ix2 a (lane h d))
    = x3 m c (ix2 ⟨128 * t.val + a.val, by have := point_lt t; omega⟩ ⟨h.val * 128 + d.val, by omega⟩) := by
  have ht := point_lt t
  blk_ext [iblk, V_main_arg3, idx5 t]

theorem blk6 (t : Fin cfg0.N) (h : Fin 8) (a : Fin 128) : iblk m c 6 t (ix2 a (column h))
    = V m c main_v151 (ix2 ⟨128 * t.val + a.val, by have := point_lt t; omega⟩ ⟨h.val, by omega⟩) := by
  have ht := point_lt t
  blk_ext [iblk, idx6 t]

theorem blk7 (t : Fin cfg0.N) (h : Fin 8) (a : Fin 128) : iblk m c 7 t (ix2 a (column h))
    = V m c main_v152 (ix2 ⟨128 * t.val + a.val, by have := point_lt t; omega⟩ ⟨h.val, by omega⟩) := by
  have ht := point_lt t
  blk_ext [iblk, idx7 t]

variable {m c} (H : Ref.Finite (x0 m c) (x1 m c) (x2 m c) (x3 m c))
include H

theorem log_at (r : Fin 8192) (h : Fin 8) : logsIn (x0 m c) (x1 m c) (x2 m c) (ix2 r h)
    = ((Real.log ((inputs m c).total r.val h.val) : ℝ) : EReal) := by
  pointwise [logsIn]
  rw [Ref.total_at H, Ideal.log_coe, if_neg (not_le.mpr (Ref.total_pos H r _))]

theorem against_at (r : Fin 8192) (h : Fin 8) : againstIn (x0 m c) (x1 m c) (x2 m c) (x3 m c) (ix2 r h)
    = (((inputs m c).against r.val h.val : ℝ) : EReal) := by
  pointwise [againstIn, Cert.Reference6Ideal.Read.val_main_cst_2]
  unfold Args.against
  rw [← sum_mul_coe]
  refine Finset.sum_congr rfl fun e _ => ?_
  rw [Ref.g_at H, Ref.mean_at H]

/-- What one point of the grid is given. -/
theorem given (t : Fin cfg0.N) : Given (inputs m c) t.val (iblk m c 0 t) (iblk m c 1 t) (iblk m c 2 t) (iblk m c 3 t) (iblk m c 4 t)
    (iblk m c 5 t) (iblk m c 6 t) (iblk m c 7 t) where
  lt := point_lt t
  q h a d := (blk0 m c t h a d).trans ((Ref.slice2 H _ h d).symm.trans (Ref.q_at H _ h d))
  kp h a d := (blk1 m c t h a d).trans ((Ref.slice5 H _ h d).symm.trans (Ref.k_at H _ h d))
  kc h a d := (blk2 m c t h a d).trans ((Ref.slice5 H _ h d).symm.trans (Ref.k_at H _ h d))
  vp h a d := (blk3 m c t h a d).trans ((Ref.slice8 H _ h d).symm.trans (Ref.v_at H _ h d))
  vc h a d := (blk4 m c t h a d).trans ((Ref.slice8 H _ h d).symm.trans (Ref.v_at H _ h d))
  g h a d := (blk5 m c t h a d).trans ((Ref.slice150 H _ h d).symm.trans (Ref.g_at H _ h d))
  lse h a := by
    rw [blk6, entry_main_v151, w10_main_v151]
    exact (padded_at _ _ h).trans (log_at H _ h)
  delta h a := by
    rw [blk7, entry_main_v152, w10_main_v152]
    exact (padded_at _ _ h).trans (against_at H _ h)
  pos h a := Ref.total_pos H ⟨128 * t.val + a.val, by have := point_lt t; omega⟩ h.val

/-- The returned array, by token and column. -/
theorem arr : (dats m 0 c).arrAt 8 cfg0.N = Cert.Reference6Ideal.Read.val_main_v170 (F := Ideal) (x0 m c) (x1 m c) (x2 m c) (x3 m c) := by
  refine (dats m 0 c).arrAt_eq_of_covers 8 _ (by decide +kernel) fun t hf y => ?_
  have ht := point_lt t
  blk_simp
  rw [after0_8]
  obtain ⟨a, h, e, rfl⟩ : ∃ (a : Fin 128) (h : Fin 8) (e : Fin 128), y = ix2 a (lane h e) := by
    have h1 : (y 1).val < 1024 := (y 1).isLt
    refine ⟨y 0, ⟨(y 1).val / 128, by omega⟩, ⟨(y 1).val % 128, by omega⟩, (eq_ix2 y).trans ?_⟩
    refine congrArg (ix2 (y 0)) (Fin.ext ?_)
    show (y 1).val = 128 * ((y 1).val / 128) + (y 1).val % 128
    omega
  refine (out_at (given H t) (grid0.coords t) (coord t) h a e).trans ?_
  have hr : ((cfg0.win 8).blk t).view.emb (ix2 a (lane h e)) = ix2 (⟨128 * t.val + a.val, by omega⟩ : Fin 8192) (lane h e) := by
    blk_ext [idx8 t]
  refine Eq.trans ?_ (congrArg _ hr.symm)
  rw [Ref.dq_at H]
  have h1 : (128 * h.val + e.val) / 128 = h.val := by omega
  have h2 : (128 * h.val + e.val) % 128 = e.val := by omega
  dsimp only
  rw [h1, h2]

end Cert.AttQ

end
-- ==== Proof.AttKvHost.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.StableHlo.ReadAt

/-!
# The row sums that the gradients by the keys and values are given

The host operations before the kernel call, run after run, each buffer that is read later in the terms of the reference.
-/

@[expose] public section

set_option maxRecDepth 16384

noncomputable section

namespace Cert.AttKvHost

open Cert.Kernel7Ideal Cert.Kernel7Ideal.Gen Idealize.ShloMosaic Idealize.ShloMosaic.TcCoe Idealize.SL.Sem Idealize.ShloMosaic.StableHlo

/-- The gradient against the result, by token and head. -/
def againstIn (x0 x1 x2 : FVec Ideal S8192x3072 .bf16) (x3 : FVec Ideal S8192x1024 .bf16) : FVec Ideal S8192x8 .f32 :=
  Host.reduceAdd (mulf (Cert.Reference7Ideal.Read.val_main_v150 (F := Ideal) x3) (Cert.Reference7Ideal.Read.val_main_v145 (F := Ideal) x0 x1 x2))
    (Cert.Reference7Ideal.Read.val_main_cst_2 (F := Ideal)) reducesTo_S8192x8x128_S8192x8_d2 h_S_

/-- The logarithms of the sums of the weights, by token and head. -/
def logsIn (x0 x1 x2 : FVec Ideal S8192x3072 .bf16) : FVec Ideal S8192x8 .f32 :=
  Host.log (Cert.Reference7Ideal.Read.val_main_v142 (F := Ideal) x0 x1 x2)

/-- A column for each head, widened to a whole lane row. -/
def padded (x : FVec Ideal S8192x8 .f32) : FVec Ideal S8192x128 .f32 :=
  pad S8192x128 ![0, 0] ![0, 120] ![0, 0] x (sitofp .f32 (Cert.Reference7Ideal.Read.val_main_c (F := Ideal))) pads_S8192x8_S8192x128_000_01200 h_S_

/-- The buffers after 1 of the 10 runs of host operations. -/
def w1 (V0 : Valuation τ sig (Elt Ideal)) : Valuation τ sig (Elt Ideal) := after hostOps0 (V0)

set_option maxHeartbeats 2000000 in
theorem w1_main_arg0 (V0 : Valuation τ sig (Elt Ideal)) : w1 V0 (no_index (Proc.devRef .tc main_arg0)) = V0 (Proc.devRef .tc main_arg0) := by
  unfold w1
  simp only [hostOps0, TRef.nullary, TRef.ternary, TRef.unary, TRef.binary, TRef.toBuf, TRef.ofBuf, cast_eq]
  after_results_simp

set_option maxHeartbeats 2000000 in
theorem w1_main_arg1 (V0 : Valuation τ sig (Elt Ideal)) : w1 V0 (no_index (Proc.devRef .tc main_arg1)) = V0 (Proc.devRef .tc main_arg1) := by
  unfold w1
  simp only [hostOps0, TRef.nullary, TRef.ternary, TRef.unary, TRef.binary, TRef.toBuf, TRef.ofBuf, cast_eq]
  after_results_simp

set_option maxHeartbeats 2000000 in
theorem w1_main_arg2 (V0 : Valuation τ sig (Elt Ideal)) : w1 V0 (no_index (Proc.devRef .tc main_arg2)) = V0 (Proc.devRef .tc main_arg2) := by
  unfold w1
  simp only [hostOps0, TRef.nullary, TRef.ternary, TRef.unary, TRef.binary, TRef.toBuf, TRef.ofBuf, cast_eq]
  after_results_simp

set_option maxHeartbeats 2000000 in
theorem w1_main_arg3 (V0 : Valuation τ sig (Elt Ideal)) : w1 V0 (no_index (Proc.devRef .tc main_arg3)) = V0 (Proc.devRef .tc main_arg3) := by
  unfold w1
  simp only [hostOps0, TRef.nullary, TRef.ternary, TRef.unary, TRef.binary, TRef.toBuf, TRef.ofBuf, cast_eq]
  after_results_simp

set_option maxHeartbeats 2000000 in
theorem w1_main_v8 (V0 : Valuation τ sig (Elt Ideal)) : w1 V0 (no_index (Proc.devRef .tc main_v8)) = Cert.Reference7Ideal.Read.val_main_v17 (F := Ideal) (V0 (Proc.devRef .tc main_arg1)) := by
  unfold w1
  simp only [hostOps0, TRef.nullary, TRef.ternary, TRef.unary, TRef.binary, TRef.toBuf, TRef.ofBuf, cast_eq]
  after_results_simp
  all_goals rfl

set_option maxHeartbeats 2000000 in
theorem w1_main_v28 (V0 : Valuation τ sig (Elt Ideal)) : w1 V0 (no_index (Proc.devRef .tc main_v28)) = Cert.Reference7Ideal.Read.val_main_v37 (F := Ideal) := by
  unfold w1
  simp only [hostOps0, TRef.nullary, TRef.ternary, TRef.unary, TRef.binary, TRef.toBuf, TRef.ofBuf, cast_eq]
  after_results_simp
  all_goals rfl

set_option maxHeartbeats 2000000 in
theorem w1_main_v43 (V0 : Valuation τ sig (Elt Ideal)) : w1 V0 (no_index (Proc.devRef .tc main_v43)) = Cert.Reference7Ideal.Read.val_main_v52 (F := Ideal) (V0 (Proc.devRef .tc main_arg1)) := by
  unfold w1
  simp only [hostOps0, TRef.nullary, TRef.ternary, TRef.unary, TRef.binary, TRef.toBuf, TRef.ofBuf, cast_eq]
  after_results_simp
  all_goals rfl

set_option maxHeartbeats 2000000 in
theorem w1_main_cst_2 (V0 : Valuation τ sig (Elt Ideal)) : w1 V0 (no_index (Proc.devRef .tc main_cst_2)) = Cert.Reference7Ideal.Read.val_main_cst_2 (F := Ideal) := by
  unfold w1
  simp only [hostOps0, TRef.nullary, TRef.ternary, TRef.unary, TRef.binary, TRef.toBuf, TRef.ofBuf, cast_eq]
  after_results_simp
  all_goals rfl

/-- The buffers after 2 of the 10 runs of host operations. -/
def w2 (V0 : Valuation τ sig (Elt Ideal)) : Valuation τ sig (Elt Ideal) := after hostOps0_1 (w1 V0)

set_option maxHeartbeats 2000000 in
theorem w2_main_arg0 (V0 : Valuation τ sig (Elt Ideal)) : w2 V0 (no_index (Proc.devRef .tc main_arg0)) = V0 (Proc.devRef .tc main_arg0) := by
  unfold w2
  simp only [hostOps0_1, TRef.nullary, TRef.ternary, TRef.unary, TRef.binary, TRef.toBuf, TRef.ofBuf, cast_eq]
  after_results_simp
  exact w1_main_arg0 V0

set_option maxHeartbeats 2000000 in
theorem w2_main_arg1 (V0 : Valuation τ sig (Elt Ideal)) : w2 V0 (no_index (Proc.devRef .tc main_arg1)) = V0 (Proc.devRef .tc main_arg1) := by
  unfold w2
  simp only [hostOps0_1, TRef.nullary, TRef.ternary, TRef.unary, TRef.binary, TRef.toBuf, TRef.ofBuf, cast_eq]
  after_results_simp
  exact w1_main_arg1 V0

set_option maxHeartbeats 2000000 in
theorem w2_main_arg2 (V0 : Valuation τ sig (Elt Ideal)) : w2 V0 (no_index (Proc.devRef .tc main_arg2)) = V0 (Proc.devRef .tc main_arg2) := by
  unfold w2
  simp only [hostOps0_1, TRef.nullary, TRef.ternary, TRef.unary, TRef.binary, TRef.toBuf, TRef.ofBuf, cast_eq]
  after_results_simp
  exact w1_main_arg2 V0

set_option maxHeartbeats 2000000 in
theorem w2_main_arg3 (V0 : Valuation τ sig (Elt Ideal)) : w2 V0 (no_index (Proc.devRef .tc main_arg3)) = V0 (Proc.devRef .tc main_arg3) := by
  unfold w2
  simp only [hostOps0_1, TRef.nullary, TRef.ternary, TRef.unary, TRef.binary, TRef.toBuf, TRef.ofBuf, cast_eq]
  after_results_simp
  exact w1_main_arg3 V0

set_option maxHeartbeats 2000000 in
theorem w2_main_v8 (V0 : Valuation τ sig (Elt Ideal)) : w2 V0 (no_index (Proc.devRef .tc main_v8)) = Cert.Reference7Ideal.Read.val_main_v17 (F := Ideal) (V0 (Proc.devRef .tc main_arg1)) := by
  unfold w2
  simp only [hostOps0_1, TRef.nullary, TRef.ternary, TRef.unary, TRef.binary, TRef.toBuf, TRef.ofBuf, cast_eq]
  after_results_simp
  exact w1_main_v8 V0

set_option maxHeartbeats 2000000 in
theorem w2_main_v44 (V0 : Valuation τ sig (Elt Ideal)) : w2 V0 (no_index (Proc.devRef .tc main_v44)) = Cert.Reference7Ideal.Read.val_main_v53 (F := Ideal) (V0 (Proc.devRef .tc main_arg1)) := by
  unfold w2
  simp only [hostOps0_1, TRef.nullary, TRef.ternary, TRef.unary, TRef.binary, TRef.toBuf, TRef.ofBuf, cast_eq]
  after_results_simp
  simp only [w1_main_cst_2, w1_main_v28, w1_main_v43]
  rfl

/-- The buffers after 3 of the 10 runs of host operations. -/
def w3 (V0 : Valuation τ sig (Elt Ideal)) : Valuation τ sig (Elt Ideal) := after hostOps0_2 (w2 V0)

set_option maxHeartbeats 2000000 in
theorem w3_main_arg0 (V0 : Valuation τ sig (Elt Ideal)) : w3 V0 (no_index (Proc.devRef .tc main_arg0)) = V0 (Proc.devRef .tc main_arg0) := by
  unfold w3
  simp only [hostOps0_2, TRef.nullary, TRef.ternary, TRef.unary, TRef.binary, TRef.toBuf, TRef.ofBuf, cast_eq]
  after_results_simp
  exact w2_main_arg0 V0

set_option maxHeartbeats 2000000 in
theorem w3_main_arg1 (V0 : Valuation τ sig (Elt Ideal)) : w3 V0 (no_index (Proc.devRef .tc main_arg1)) = V0 (Proc.devRef .tc main_arg1) := by
  unfold w3
  simp only [hostOps0_2, TRef.nullary, TRef.ternary, TRef.unary, TRef.binary, TRef.toBuf, TRef.ofBuf, cast_eq]
  after_results_simp
  exact w2_main_arg1 V0

set_option maxHeartbeats 2000000 in
theorem w3_main_arg2 (V0 : Valuation τ sig (Elt Ideal)) : w3 V0 (no_index (Proc.devRef .tc main_arg2)) = V0 (Proc.devRef .tc main_arg2) := by
  unfold w3
  simp only [hostOps0_2, TRef.nullary, TRef.ternary, TRef.unary, TRef.binary, TRef.toBuf, TRef.ofBuf, cast_eq]
  after_results_simp
  exact w2_main_arg2 V0

set_option maxHeartbeats 2000000 in
theorem w3_main_arg3 (V0 : Valuation τ sig (Elt Ideal)) : w3 V0 (no_index (Proc.devRef .tc main_arg3)) = V0 (Proc.devRef .tc main_arg3) := by
  unfold w3
  simp only [hostOps0_2, TRef.nullary, TRef.ternary, TRef.unary, TRef.binary, TRef.toBuf, TRef.ofBuf, cast_eq]
  after_results_simp
  exact w2_main_arg3 V0

set_option maxHeartbeats 2000000 in
theorem w3_main_v46 (V0 : Valuation τ sig (Elt Ideal)) : w3 V0 (no_index (Proc.devRef .tc main_v46)) = Cert.Reference7Ideal.Read.val_main_v55 (F := Ideal) (V0 (Proc.devRef .tc main_arg1)) := by
  unfold w3
  simp only [hostOps0_2, TRef.nullary, TRef.ternary, TRef.unary, TRef.binary, TRef.toBuf, TRef.ofBuf, cast_eq]
  after_results_simp
  simp only [w2_main_v44, w2_main_v8]
  rfl

set_option maxHeartbeats 2000000 in
theorem w3_main_v48 (V0 : Valuation τ sig (Elt Ideal)) : w3 V0 (no_index (Proc.devRef .tc main_v48)) = Cert.Reference7Ideal.Read.val_main_v57 (F := Ideal) (V0 (Proc.devRef .tc main_arg1)) := by
  unfold w3
  simp only [hostOps0_2, TRef.nullary, TRef.ternary, TRef.unary, TRef.binary, TRef.toBuf, TRef.ofBuf, cast_eq]
  after_results_simp
  simp only [w2_main_v44]
  rfl

set_option maxHeartbeats 2000000 in
theorem w3_main_v57 (V0 : Valuation τ sig (Elt Ideal)) : w3 V0 (no_index (Proc.devRef .tc main_v57)) = Cert.Reference7Ideal.Read.val_main_v66 (F := Ideal) (V0 (Proc.devRef .tc main_arg2)) := by
  unfold w3
  simp only [hostOps0_2, TRef.nullary, TRef.ternary, TRef.unary, TRef.binary, TRef.toBuf, TRef.ofBuf, cast_eq]
  after_results_simp
  simp only [w2_main_arg2]
  rfl

set_option maxHeartbeats 2000000 in
theorem w3_main_v77 (V0 : Valuation τ sig (Elt Ideal)) : w3 V0 (no_index (Proc.devRef .tc main_v77)) = Cert.Reference7Ideal.Read.val_main_v86 (F := Ideal) := by
  unfold w3
  simp only [hostOps0_2, TRef.nullary, TRef.ternary, TRef.unary, TRef.binary, TRef.toBuf, TRef.ofBuf, cast_eq]
  after_results_simp
  rfl

set_option maxHeartbeats 2000000 in
theorem w3_main_v92 (V0 : Valuation τ sig (Elt Ideal)) : w3 V0 (no_index (Proc.devRef .tc main_v92)) = Cert.Reference7Ideal.Read.val_main_v101 (F := Ideal) (V0 (Proc.devRef .tc main_arg2)) := by
  unfold w3
  simp only [hostOps0_2, TRef.nullary, TRef.ternary, TRef.unary, TRef.binary, TRef.toBuf, TRef.ofBuf, cast_eq]
  after_results_simp
  simp only [w2_main_arg2]
  rfl

set_option maxHeartbeats 2000000 in
theorem w3_main_cst_8 (V0 : Valuation τ sig (Elt Ideal)) : w3 V0 (no_index (Proc.devRef .tc main_cst_8)) = Cert.Reference7Ideal.Read.val_main_cst_2 (F := Ideal) := by
  unfold w3
  simp only [hostOps0_2, TRef.nullary, TRef.ternary, TRef.unary, TRef.binary, TRef.toBuf, TRef.ofBuf, cast_eq]
  after_results_simp
  rfl

/-- The buffers after 4 of the 10 runs of host operations. -/
def w4 (V0 : Valuation τ sig (Elt Ideal)) : Valuation τ sig (Elt Ideal) := after hostOps0_3 (w3 V0)

set_option maxHeartbeats 2000000 in
theorem w4_main_arg0 (V0 : Valuation τ sig (Elt Ideal)) : w4 V0 (no_index (Proc.devRef .tc main_arg0)) = V0 (Proc.devRef .tc main_arg0) := by
  unfold w4
  simp only [hostOps0_3, TRef.nullary, TRef.ternary, TRef.unary, TRef.binary, TRef.toBuf, TRef.ofBuf, cast_eq]
  after_results_simp
  exact w3_main_arg0 V0

set_option maxHeartbeats 2000000 in
theorem w4_main_arg1 (V0 : Valuation τ sig (Elt Ideal)) : w4 V0 (no_index (Proc.devRef .tc main_arg1)) = V0 (Proc.devRef .tc main_arg1) := by
  unfold w4
  simp only [hostOps0_3, TRef.nullary, TRef.ternary, TRef.unary, TRef.binary, TRef.toBuf, TRef.ofBuf, cast_eq]
  after_results_simp
  exact w3_main_arg1 V0

set_option maxHeartbeats 2000000 in
theorem w4_main_arg2 (V0 : Valuation τ sig (Elt Ideal)) : w4 V0 (no_index (Proc.devRef .tc main_arg2)) = V0 (Proc.devRef .tc main_arg2) := by
  unfold w4
  simp only [hostOps0_3, TRef.nullary, TRef.ternary, TRef.unary, TRef.binary, TRef.toBuf, TRef.ofBuf, cast_eq]
  after_results_simp
  exact w3_main_arg2 V0

set_option maxHeartbeats 2000000 in
theorem w4_main_arg3 (V0 : Valuation τ sig (Elt Ideal)) : w4 V0 (no_index (Proc.devRef .tc main_arg3)) = V0 (Proc.devRef .tc main_arg3) := by
  unfold w4
  simp only [hostOps0_3, TRef.nullary, TRef.ternary, TRef.unary, TRef.binary, TRef.toBuf, TRef.ofBuf, cast_eq]
  after_results_simp
  exact w3_main_arg3 V0

set_option maxHeartbeats 2000000 in
theorem w4_main_v46 (V0 : Valuation τ sig (Elt Ideal)) : w4 V0 (no_index (Proc.devRef .tc main_v46)) = Cert.Reference7Ideal.Read.val_main_v55 (F := Ideal) (V0 (Proc.devRef .tc main_arg1)) := by
  unfold w4
  simp only [hostOps0_3, TRef.nullary, TRef.ternary, TRef.unary, TRef.binary, TRef.toBuf, TRef.ofBuf, cast_eq]
  after_results_simp
  exact w3_main_v46 V0

set_option maxHeartbeats 2000000 in
theorem w4_main_v48 (V0 : Valuation τ sig (Elt Ideal)) : w4 V0 (no_index (Proc.devRef .tc main_v48)) = Cert.Reference7Ideal.Read.val_main_v57 (F := Ideal) (V0 (Proc.devRef .tc main_arg1)) := by
  unfold w4
  simp only [hostOps0_3, TRef.nullary, TRef.ternary, TRef.unary, TRef.binary, TRef.toBuf, TRef.ofBuf, cast_eq]
  after_results_simp
  exact w3_main_v48 V0

set_option maxHeartbeats 2000000 in
theorem w4_main_v57 (V0 : Valuation τ sig (Elt Ideal)) : w4 V0 (no_index (Proc.devRef .tc main_v57)) = Cert.Reference7Ideal.Read.val_main_v66 (F := Ideal) (V0 (Proc.devRef .tc main_arg2)) := by
  unfold w4
  simp only [hostOps0_3, TRef.nullary, TRef.ternary, TRef.unary, TRef.binary, TRef.toBuf, TRef.ofBuf, cast_eq]
  after_results_simp
  exact w3_main_v57 V0

set_option maxHeartbeats 2000000 in
theorem w4_main_v93 (V0 : Valuation τ sig (Elt Ideal)) : w4 V0 (no_index (Proc.devRef .tc main_v93)) = Cert.Reference7Ideal.Read.val_main_v102 (F := Ideal) (V0 (Proc.devRef .tc main_arg2)) := by
  unfold w4
  simp only [hostOps0_3, TRef.nullary, TRef.ternary, TRef.unary, TRef.binary, TRef.toBuf, TRef.ofBuf, cast_eq]
  after_results_simp
  simp only [w3_main_cst_8, w3_main_v77, w3_main_v92]
  rfl

/-- The buffers after 5 of the 10 runs of host operations. -/
def w5 (V0 : Valuation τ sig (Elt Ideal)) : Valuation τ sig (Elt Ideal) := after hostOps0_4 (w4 V0)

set_option maxHeartbeats 2000000 in
theorem w5_main_arg0 (V0 : Valuation τ sig (Elt Ideal)) : w5 V0 (no_index (Proc.devRef .tc main_arg0)) = V0 (Proc.devRef .tc main_arg0) := by
  unfold w5
  simp only [hostOps0_4, TRef.nullary, TRef.ternary, TRef.unary, TRef.binary, TRef.toBuf, TRef.ofBuf, cast_eq]
  after_results_simp
  exact w4_main_arg0 V0

set_option maxHeartbeats 2000000 in
theorem w5_main_arg1 (V0 : Valuation τ sig (Elt Ideal)) : w5 V0 (no_index (Proc.devRef .tc main_arg1)) = V0 (Proc.devRef .tc main_arg1) := by
  unfold w5
  simp only [hostOps0_4, TRef.nullary, TRef.ternary, TRef.unary, TRef.binary, TRef.toBuf, TRef.ofBuf, cast_eq]
  after_results_simp
  exact w4_main_arg1 V0

set_option maxHeartbeats 2000000 in
theorem w5_main_arg2 (V0 : Valuation τ sig (Elt Ideal)) : w5 V0 (no_index (Proc.devRef .tc main_arg2)) = V0 (Proc.devRef .tc main_arg2) := by
  unfold w5
  simp only [hostOps0_4, TRef.nullary, TRef.ternary, TRef.unary, TRef.binary, TRef.toBuf, TRef.ofBuf, cast_eq]
  after_results_simp
  exact w4_main_arg2 V0

set_option maxHeartbeats 2000000 in
theorem w5_main_arg3 (V0 : Valuation τ sig (Elt Ideal)) : w5 V0 (no_index (Proc.devRef .tc main_arg3)) = V0 (Proc.devRef .tc main_arg3) := by
  unfold w5
  simp only [hostOps0_4, TRef.nullary, TRef.ternary, TRef.unary, TRef.binary, TRef.toBuf, TRef.ofBuf, cast_eq]
  after_results_simp
  exact w4_main_arg3 V0

set_option maxHeartbeats 2000000 in
theorem w5_main_v98 (V0 : Valuation τ sig (Elt Ideal)) : w5 V0 (no_index (Proc.devRef .tc main_v98)) = Cert.Reference7Ideal.Read.val_main_v107 (F := Ideal) (V0 (Proc.devRef .tc main_arg1)) (V0 (Proc.devRef .tc main_arg2)) := by
  unfold w5
  simp only [hostOps0_4, TRef.nullary, TRef.ternary, TRef.unary, TRef.binary, TRef.toBuf, TRef.ofBuf, cast_eq]
  after_results_simp
  simp only [w4_main_v46, w4_main_v57, w4_main_v93]
  rfl

set_option maxHeartbeats 2000000 in
theorem w5_main_v99 (V0 : Valuation τ sig (Elt Ideal)) : w5 V0 (no_index (Proc.devRef .tc main_v99)) = Cert.Reference7Ideal.Read.val_main_v108 (F := Ideal) (V0 (Proc.devRef .tc main_arg1)) (V0 (Proc.devRef .tc main_arg2)) := by
  unfold w5
  simp only [hostOps0_4, TRef.nullary, TRef.ternary, TRef.unary, TRef.binary, TRef.toBuf, TRef.ofBuf, cast_eq]
  after_results_simp
  simp only [w4_main_v48, w4_main_v93]
  rfl

set_option maxHeartbeats 2000000 in
theorem w5_main_v108 (V0 : Valuation τ sig (Elt Ideal)) : w5 V0 (no_index (Proc.devRef .tc main_v108)) = Cert.Reference7Ideal.Read.val_main_v8 (F := Ideal) (V0 (Proc.devRef .tc main_arg0)) := by
  unfold w5
  simp only [hostOps0_4, TRef.nullary, TRef.ternary, TRef.unary, TRef.binary, TRef.toBuf, TRef.ofBuf, cast_eq]
  after_results_simp
  simp only [w4_main_arg0]
  rfl

set_option maxHeartbeats 2000000 in
theorem w5_main_v120 (V0 : Valuation τ sig (Elt Ideal)) : w5 V0 (no_index (Proc.devRef .tc main_v120)) = Cert.Reference7Ideal.Read.val_main_v120 (F := Ideal) := by
  unfold w5
  simp only [hostOps0_4, TRef.nullary, TRef.ternary, TRef.unary, TRef.binary, TRef.toBuf, TRef.ofBuf, cast_eq]
  after_results_simp
  rfl

set_option maxHeartbeats 2000000 in
theorem w5_main_v135 (V0 : Valuation τ sig (Elt Ideal)) : w5 V0 (no_index (Proc.devRef .tc main_v135)) = Cert.Reference7Ideal.Read.val_main_v135 (F := Ideal) (V0 (Proc.devRef .tc main_arg0)) := by
  unfold w5
  simp only [hostOps0_4, TRef.nullary, TRef.ternary, TRef.unary, TRef.binary, TRef.toBuf, TRef.ofBuf, cast_eq]
  after_results_simp
  simp only [w4_main_arg0]
  rfl

set_option maxHeartbeats 2000000 in
theorem w5_main_cst_14 (V0 : Valuation τ sig (Elt Ideal)) : w5 V0 (no_index (Proc.devRef .tc main_cst_14)) = Cert.Reference7Ideal.Read.val_main_cst_2 (F := Ideal) := by
  unfold w5
  simp only [hostOps0_4, TRef.nullary, TRef.ternary, TRef.unary, TRef.binary, TRef.toBuf, TRef.ofBuf, cast_eq]
  after_results_simp
  rfl

/-- The buffers after 6 of the 10 runs of host operations. -/
def w6 (V0 : Valuation τ sig (Elt Ideal)) : Valuation τ sig (Elt Ideal) := after hostOps0_5 (w5 V0)

set_option maxHeartbeats 2000000 in
theorem w6_main_arg0 (V0 : Valuation τ sig (Elt Ideal)) : w6 V0 (no_index (Proc.devRef .tc main_arg0)) = V0 (Proc.devRef .tc main_arg0) := by
  unfold w6
  simp only [hostOps0_5, TRef.nullary, TRef.ternary, TRef.unary, TRef.binary, TRef.toBuf, TRef.ofBuf, cast_eq]
  after_results_simp
  exact w5_main_arg0 V0

set_option maxHeartbeats 2000000 in
theorem w6_main_arg1 (V0 : Valuation τ sig (Elt Ideal)) : w6 V0 (no_index (Proc.devRef .tc main_arg1)) = V0 (Proc.devRef .tc main_arg1) := by
  unfold w6
  simp only [hostOps0_5, TRef.nullary, TRef.ternary, TRef.unary, TRef.binary, TRef.toBuf, TRef.ofBuf, cast_eq]
  after_results_simp
  exact w5_main_arg1 V0

set_option maxHeartbeats 2000000 in
theorem w6_main_arg2 (V0 : Valuation τ sig (Elt Ideal)) : w6 V0 (no_index (Proc.devRef .tc main_arg2)) = V0 (Proc.devRef .tc main_arg2) := by
  unfold w6
  simp only [hostOps0_5, TRef.nullary, TRef.ternary, TRef.unary, TRef.binary, TRef.toBuf, TRef.ofBuf, cast_eq]
  after_results_simp
  exact w5_main_arg2 V0

set_option maxHeartbeats 2000000 in
theorem w6_main_arg3 (V0 : Valuation τ sig (Elt Ideal)) : w6 V0 (no_index (Proc.devRef .tc main_arg3)) = V0 (Proc.devRef .tc main_arg3) := by
  unfold w6
  simp only [hostOps0_5, TRef.nullary, TRef.ternary, TRef.unary, TRef.binary, TRef.toBuf, TRef.ofBuf, cast_eq]
  after_results_simp
  exact w5_main_arg3 V0

set_option maxHeartbeats 2000000 in
theorem w6_main_v98 (V0 : Valuation τ sig (Elt Ideal)) : w6 V0 (no_index (Proc.devRef .tc main_v98)) = Cert.Reference7Ideal.Read.val_main_v107 (F := Ideal) (V0 (Proc.devRef .tc main_arg1)) (V0 (Proc.devRef .tc main_arg2)) := by
  unfold w6
  simp only [hostOps0_5, TRef.nullary, TRef.ternary, TRef.unary, TRef.binary, TRef.toBuf, TRef.ofBuf, cast_eq]
  after_results_simp
  exact w5_main_v98 V0

set_option maxHeartbeats 2000000 in
theorem w6_main_v99 (V0 : Valuation τ sig (Elt Ideal)) : w6 V0 (no_index (Proc.devRef .tc main_v99)) = Cert.Reference7Ideal.Read.val_main_v108 (F := Ideal) (V0 (Proc.devRef .tc main_arg1)) (V0 (Proc.devRef .tc main_arg2)) := by
  unfold w6
  simp only [hostOps0_5, TRef.nullary, TRef.ternary, TRef.unary, TRef.binary, TRef.toBuf, TRef.ofBuf, cast_eq]
  after_results_simp
  exact w5_main_v99 V0

set_option maxHeartbeats 2000000 in
theorem w6_main_v108 (V0 : Valuation τ sig (Elt Ideal)) : w6 V0 (no_index (Proc.devRef .tc main_v108)) = Cert.Reference7Ideal.Read.val_main_v8 (F := Ideal) (V0 (Proc.devRef .tc main_arg0)) := by
  unfold w6
  simp only [hostOps0_5, TRef.nullary, TRef.ternary, TRef.unary, TRef.binary, TRef.toBuf, TRef.ofBuf, cast_eq]
  after_results_simp
  exact w5_main_v108 V0

set_option maxHeartbeats 2000000 in
theorem w6_main_v136 (V0 : Valuation τ sig (Elt Ideal)) : w6 V0 (no_index (Proc.devRef .tc main_v136)) = Cert.Reference7Ideal.Read.val_main_v136_0 (F := Ideal) (V0 (Proc.devRef .tc main_arg0)) := by
  unfold w6
  simp only [hostOps0_5, TRef.nullary, TRef.ternary, TRef.unary, TRef.binary, TRef.toBuf, TRef.ofBuf, cast_eq]
  after_results_simp
  simp only [w5_main_cst_14, w5_main_v120, w5_main_v135]
  rfl

/-- The buffers after 7 of the 10 runs of host operations. -/
def w7 (V0 : Valuation τ sig (Elt Ideal)) : Valuation τ sig (Elt Ideal) := after hostOps0_6 (w6 V0)

set_option maxHeartbeats 2000000 in
theorem w7_main_arg0 (V0 : Valuation τ sig (Elt Ideal)) : w7 V0 (no_index (Proc.devRef .tc main_arg0)) = V0 (Proc.devRef .tc main_arg0) := by
  unfold w7
  simp only [hostOps0_6, TRef.nullary, TRef.ternary, TRef.unary, TRef.binary, TRef.toBuf, TRef.ofBuf, cast_eq]
  after_results_simp
  exact w6_main_arg0 V0

set_option maxHeartbeats 2000000 in
theorem w7_main_arg1 (V0 : Valuation τ sig (Elt Ideal)) : w7 V0 (no_index (Proc.devRef .tc main_arg1)) = V0 (Proc.devRef .tc main_arg1) := by
  unfold w7
  simp only [hostOps0_6, TRef.nullary, TRef.ternary, TRef.unary, TRef.binary, TRef.toBuf, TRef.ofBuf, cast_eq]
  after_results_simp
  exact w6_main_arg1 V0

set_option maxHeartbeats 2000000 in
theorem w7_main_arg2 (V0 : Valuation τ sig (Elt Ideal)) : w7 V0 (no_index (Proc.devRef .tc main_arg2)) = V0 (Proc.devRef .tc main_arg2) := by
  unfold w7
  simp only [hostOps0_6, TRef.nullary, TRef.ternary, TRef.unary, TRef.binary, TRef.toBuf, TRef.ofBuf, cast_eq]
  after_results_simp
  exact w6_main_arg2 V0

set_option maxHeartbeats 2000000 in
theorem w7_main_arg3 (V0 : Valuation τ sig (Elt Ideal)) : w7 V0 (no_index (Proc.devRef .tc main_arg3)) = V0 (Proc.devRef .tc main_arg3) := by
  unfold w7
  simp only [hostOps0_6, TRef.nullary, TRef.ternary, TRef.unary, TRef.binary, TRef.toBuf, TRef.ofBuf, cast_eq]
  after_results_simp
  exact w6_main_arg3 V0

set_option maxHeartbeats 2000000 in
theorem w7_main_v149 (V0 : Valuation τ sig (Elt Ideal)) : w7 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w7
  simp only [hostOps0_6, TRef.nullary, TRef.ternary, TRef.unary, TRef.binary, TRef.toBuf, TRef.ofBuf, cast_eq]
  after_results_simp
  simp only [w6_main_arg3, w6_main_v108, w6_main_v136, w6_main_v98, w6_main_v99]
  rfl

set_option maxHeartbeats 2000000 in
theorem w7_main_v150 (V0 : Valuation τ sig (Elt Ideal)) : w7 V0 (no_index (Proc.devRef .tc main_v150)) = logsIn (V0 (Proc.devRef .tc main_arg0)) (V0 (Proc.devRef .tc main_arg1)) (V0 (Proc.devRef .tc main_arg2)) := by
  unfold w7
  simp only [hostOps0_6, TRef.nullary, TRef.ternary, TRef.unary, TRef.binary, TRef.toBuf, TRef.ofBuf, cast_eq]
  after_results_simp
  simp only [w6_main_v136, w6_main_v99]
  rfl

set_option maxHeartbeats 2000000 in
theorem w7_main_c_17 (V0 : Valuation τ sig (Elt Ideal)) : w7 V0 (no_index (Proc.devRef .tc main_c_17)) = Cert.Reference7Ideal.Read.val_main_c (F := Ideal) := by
  unfold w7
  simp only [hostOps0_6, TRef.nullary, TRef.ternary, TRef.unary, TRef.binary, TRef.toBuf, TRef.ofBuf, cast_eq]
  after_results_simp
  rfl

/-- The buffers after 8 of the 10 runs of host operations. -/
def w8 (V0 : Valuation τ sig (Elt Ideal)) : Valuation τ sig (Elt Ideal) := after hostOps0_7 (w7 V0)

set_option maxHeartbeats 2000000 in
theorem w8_main_arg0 (V0 : Valuation τ sig (Elt Ideal)) : w8 V0 (no_index (Proc.devRef .tc main_arg0)) = V0 (Proc.devRef .tc main_arg0) := by
  unfold w8
  simp only [hostOps0_7, TRef.nullary, TRef.ternary, TRef.unary, TRef.binary, TRef.toBuf, TRef.ofBuf, cast_eq]
  after_results_simp
  exact w7_main_arg0 V0

set_option maxHeartbeats 2000000 in
theorem w8_main_arg1 (V0 : Valuation τ sig (Elt Ideal)) : w8 V0 (no_index (Proc.devRef .tc main_arg1)) = V0 (Proc.devRef .tc main_arg1) := by
  unfold w8
  simp only [hostOps0_7, TRef.nullary, TRef.ternary, TRef.unary, TRef.binary, TRef.toBuf, TRef.ofBuf, cast_eq]
  after_results_simp
  exact w7_main_arg1 V0

set_option maxHeartbeats 2000000 in
theorem w8_main_arg2 (V0 : Valuation τ sig (Elt Ideal)) : w8 V0 (no_index (Proc.devRef .tc main_arg2)) = V0 (Proc.devRef .tc main_arg2) := by
  unfold w8
  simp only [hostOps0_7, TRef.nullary, TRef.ternary, TRef.unary, TRef.binary, TRef.toBuf, TRef.ofBuf, cast_eq]
  after_results_simp
  exact w7_main_arg2 V0

set_option maxHeartbeats 2000000 in
theorem w8_main_arg3 (V0 : Valuation τ sig (Elt Ideal)) : w8 V0 (no_index (Proc.devRef .tc main_arg3)) = V0 (Proc.devRef .tc main_arg3) := by
  unfold w8
  simp only [hostOps0_7, TRef.nullary, TRef.ternary, TRef.unary, TRef.binary, TRef.toBuf, TRef.ofBuf, cast_eq]
  after_results_simp
  exact w7_main_arg3 V0

set_option maxHeartbeats 2000000 in
theorem w8_main_v149 (V0 : Valuation τ sig (Elt Ideal)) : w8 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w8
  simp only [hostOps0_7, TRef.nullary, TRef.ternary, TRef.unary, TRef.binary, TRef.toBuf, TRef.ofBuf, cast_eq]
  after_results_simp
  exact w7_main_v149 V0

set_option maxHeartbeats 2000000 in
theorem w8_main_v151 (V0 : Valuation τ sig (Elt Ideal)) : w8 V0 (no_index (Proc.devRef .tc main_v151)) = padded (logsIn (V0 (Proc.devRef .tc main_arg0)) (V0 (Proc.devRef .tc main_arg1)) (V0 (Proc.devRef .tc main_arg2))) := by
  unfold w8
  simp only [hostOps0_7, TRef.nullary, TRef.ternary, TRef.unary, TRef.binary, TRef.toBuf, TRef.ofBuf, cast_eq]
  after_results_simp
  simp only [w7_main_c_17, w7_main_v150]
  rfl

/-- The buffers after 9 of the 10 runs of host operations. -/
def w9 (V0 : Valuation τ sig (Elt Ideal)) : Valuation τ sig (Elt Ideal) := after hostOps0_8 (w8 V0)

set_option maxHeartbeats 2000000 in
theorem w9_main_arg0 (V0 : Valuation τ sig (Elt Ideal)) : w9 V0 (no_index (Proc.devRef .tc main_arg0)) = V0 (Proc.devRef .tc main_arg0) := by
  unfold w9
  simp only [hostOps0_8, TRef.nullary, TRef.ternary, TRef.unary, TRef.binary, TRef.toBuf, TRef.ofBuf, cast_eq]
  after_results_simp
  exact w8_main_arg0 V0

set_option maxHeartbeats 2000000 in
theorem w9_main_arg1 (V0 : Valuation τ sig (Elt Ideal)) : w9 V0 (no_index (Proc.devRef .tc main_arg1)) = V0 (Proc.devRef .tc main_arg1) := by
  unfold w9
  simp only [hostOps0_8, TRef.nullary, TRef.ternary, TRef.unary, TRef.binary, TRef.toBuf, TRef.ofBuf, cast_eq]
  after_results_simp
  exact w8_main_arg1 V0

set_option maxHeartbeats 2000000 in
theorem w9_main_arg2 (V0 : Valuation τ sig (Elt Ideal)) : w9 V0 (no_index (Proc.devRef .tc main_arg2)) = V0 (Proc.devRef .tc main_arg2) := by
  unfold w9
  simp only [hostOps0_8, TRef.nullary, TRef.ternary, TRef.unary, TRef.binary, TRef.toBuf, TRef.ofBuf, cast_eq]
  after_results_simp
  exact w8_main_arg2 V0

set_option maxHeartbeats 2000000 in
theorem w9_main_arg3 (V0 : Valuation τ sig (Elt Ideal)) : w9 V0 (no_index (Proc.devRef .tc main_arg3)) = V0 (Proc.devRef .tc main_arg3) := by
  unfold w9
  simp only [hostOps0_8, TRef.nullary, TRef.ternary, TRef.unary, TRef.binary, TRef.toBuf, TRef.ofBuf, cast_eq]
  after_results_simp
  exact w8_main_arg3 V0

set_option maxHeartbeats 2000000 in
theorem w9_main_v149 (V0 : Valuation τ sig (Elt Ideal)) : w9 V0 (no_index (Proc.devRef .tc main_v149)) = againstIn (V0 (Proc.devRef .tc main_arg0)) (V0 (Proc.devRef .tc main_arg1)) (V0 (Proc.devRef .tc main_arg2)) (V0 (Proc.devRef .tc main_arg3)) := by
  unfold w9
  simp only [hostOps0_8, TRef.nullary, TRef.ternary, TRef.unary, TRef.binary, TRef.toBuf, TRef.ofBuf, cast_eq]
  after_results_simp
  exact w8_main_v149 V0

set_option maxHeartbeats 2000000 in
theorem w9_main_v151 (V0 : Valuation τ sig (Elt Ideal)) : w9 V0 (no_index (Proc.devRef .tc main_v151)) = padded (logsIn (V0 (Proc.devRef .tc main_arg0)) (V0 (Proc.devRef .tc main_arg1)) (V0 (Proc.devRef .tc main_arg2))) := by
  unfold w9
  simp only [hostOps0_8, TRef.nullary, TRef.ternary, TRef.unary, TRef.binary, TRef.toBuf, TRef.ofBuf, cast_eq]
  after_results_simp
  exact w8_main_v151 V0

set_option maxHeartbeats 2000000 in
theorem w9_main_c_18 (V0 : Valuation τ sig (Elt Ideal)) : w9 V0 (no_index (Proc.devRef .tc main_c_18)) = Cert.Reference7Ideal.Read.val_main_c (F := Ideal) := by
  unfold w9
  simp only [hostOps0_8, TRef.nullary, TRef.ternary, TRef.unary, TRef.binary, TRef.toBuf, TRef.ofBuf, cast_eq]
  after_results_simp
  rfl

/-- The buffers after 10 of the 10 runs of host operations. -/
def w10 (V0 : Valuation τ sig (Elt Ideal)) : Valuation τ sig (Elt Ideal) := after hostOps0_9 (w9 V0)

set_option maxHeartbeats 2000000 in
theorem w10_main_arg0 (V0 : Valuation τ sig (Elt Ideal)) : w10 V0 (no_index (Proc.devRef .tc main_arg0)) = V0 (Proc.devRef .tc main_arg0) := by
  unfold w10
  simp only [hostOps0_9, TRef.nullary, TRef.ternary, TRef.unary, TRef.binary, TRef.toBuf, TRef.ofBuf, cast_eq]
  after_results_simp
  exact w9_main_arg0 V0

set_option maxHeartbeats 2000000 in
theorem w10_main_arg1 (V0 : Valuation τ sig (Elt Ideal)) : w10 V0 (no_index (Proc.devRef .tc main_arg1)) = V0 (Proc.devRef .tc main_arg1) := by
  unfold w10
  simp only [hostOps0_9, TRef.nullary, TRef.ternary, TRef.unary, TRef.binary, TRef.toBuf, TRef.ofBuf, cast_eq]
  after_results_simp
  exact w9_main_arg1 V0

set_option maxHeartbeats 2000000 in
theorem w10_main_arg2 (V0 : Valuation τ sig (Elt Ideal)) : w10 V0 (no_index (Proc.devRef .tc main_arg2)) = V0 (Proc.devRef .tc main_arg2) := by
  unfold w10
  simp only [hostOps0_9, TRef.nullary, TRef.ternary, TRef.unary, TRef.binary, TRef.toBuf, TRef.ofBuf, cast_eq]
  after_results_simp
  exact w9_main_arg2 V0

set_option maxHeartbeats 2000000 in
theorem w10_main_arg3 (V0 : Valuation τ sig (Elt Ideal)) : w10 V0 (no_index (Proc.devRef .tc main_arg3)) = V0 (Proc.devRef .tc main_arg3) := by
  unfold w10
  simp only [hostOps0_9, TRef.nullary, TRef.ternary, TRef.unary, TRef.binary, TRef.toBuf, TRef.ofBuf, cast_eq]
  after_results_simp
  exact w9_main_arg3 V0

set_option maxHeartbeats 2000000 in
theorem w10_main_v151 (V0 : Valuation τ sig (Elt Ideal)) : w10 V0 (no_index (Proc.devRef .tc main_v151)) = padded (logsIn (V0 (Proc.devRef .tc main_arg0)) (V0 (Proc.devRef .tc main_arg1)) (V0 (Proc.devRef .tc main_arg2))) := by
  unfold w10
  simp only [hostOps0_9, TRef.nullary, TRef.ternary, TRef.unary, TRef.binary, TRef.toBuf, TRef.ofBuf, cast_eq]
  after_results_simp
  exact w9_main_v151 V0

set_option maxHeartbeats 2000000 in
theorem w10_main_v152 (V0 : Valuation τ sig (Elt Ideal)) : w10 V0 (no_index (Proc.devRef .tc main_v152)) = padded (againstIn (V0 (Proc.devRef .tc main_arg0)) (V0 (Proc.devRef .tc main_arg1)) (V0 (Proc.devRef .tc main_arg2)) (V0 (Proc.devRef .tc main_arg3))) := by
  unfold w10
  simp only [hostOps0_9, TRef.nullary, TRef.ternary, TRef.unary, TRef.binary, TRef.toBuf, TRef.ofBuf, cast_eq]
  after_results_simp
  simp only [w9_main_c_18, w9_main_v149]
  rfl

variable (m : (ℓ : Loc nD τ sig) → Buf (Elt Ideal) ℓ)

/-- The row sums as the kernel is given them. -/
theorem entry_main_v151 (c : Dev nD) : V m c main_v151 = w10 (fun b => m (c, b)) (Proc.devRef .tc main_v151) := by
  unfold V w10 w9 w8 w7 w6 w5 w4 w3 w2 w1
  simp only [List.flatten_cons, List.flatten_nil, List.append_nil, after_append]

/-- The row sums as the kernel is given them. -/
theorem entry_main_v152 (c : Dev nD) : V m c main_v152 = w10 (fun b => m (c, b)) (Proc.devRef .tc main_v152) := by
  unfold V w10 w9 w8 w7 w6 w5 w4 w3 w2 w1
  simp only [List.flatten_cons, List.flatten_nil, List.append_nil, after_append]

end Cert.AttKvHost

end
-- ==== Proof.AttKvBody.lean ====
module

public import proofs.«01_k».proof.Proof.Gen.Kernel7Ideal.Value
public import proofs.«01_k».proof.Proof.AttMath
public import proofs.«01_k».proof.Proof.AttBits

public import Idealize.ShloMosaic.Lib.Pipeline.ValueKit
public import Idealize.ShloMosaic.Lib.Pipeline.ReadBack
public import Idealize.ShloMosaic.Lib.StableHlo.ReadAt

/-!
# What the body of the gradients by the keys and values computes

One point holds 128 keys and values, the queries of their own block and of the next one.
-/

@[expose] public section

set_option maxRecDepth 16384

noncomputable section

namespace Cert.AttKv

open Cert.Kernel7Ideal Cert.Kernel7Ideal.Gen Idealize.ShloMosaic Idealize.ShloMosaic.TcCoe Idealize.SL.Sem
open Cert.Att Cert.Att.Args

/-- The lane of a head. -/
abbrev lane (h : Fin 8) (d : Fin 128) : Fin 1024 := ⟨128 * h.val + d.val, by omega⟩

/-- The column of a head among the row sums. -/
abbrev column (h : Fin 8) : Fin 128 := ⟨h.val, by omega⟩

/-- A result of eight heads, side by side. -/
def byLane (P : S8x128x128.Idx → EReal) (y : S128x1024.Idx) : EReal :=
  P (ix3 ⟨(y 1).val / 128, by have := (y 1).isLt; change (y 1).val < 1024 at this; omega⟩ (y 0) ⟨(y 1).val % 128, by omega⟩)

theorem byLane_at (P : S8x128x128.Idx → EReal) (h : Fin 8) (r k : Fin 128) : byLane P (ix2 r (lane h k)) = P (ix3 h r k) := by
  refine congrArg P (congrArg₂ (fun a b => ix3 a r b) (Fin.ext ?_) (Fin.ext ?_))
  · show (128 * h.val + k.val) / 128 = h.val
    omega
  · show (128 * h.val + k.val) % 128 = k.val
    omega

/-- The store of one head. -/
theorem piece_at (P : S8x128x128.Idx → EReal) (h : Fin 8) {o : ℕ} (ho : o = 128 * h.val)
    (inb : ∀ a : Fin 2, (![0, o] : Fin 2 → ℕ) a + S128x128.size a ≤ S128x1024.size a) (r k : Fin 128) :
    P (ix3 h r k) = byLane P ((Rect.unit (s := S128x1024) ![0, o] S128x128.size inb).emb (ix2 r k)) := by
  rw [← byLane_at P h r k]
  refine congrArg (byLane P) (funext fun b => Fin.ext ?_)
  fin_cases b
  · show r.val = 0 + 1 * r.val
    omega
  · show 128 * h.val + k.val = o + 1 * k.val
    omega

/-- The heads of the keys. -/
theorem heads7 (x : Vec Ideal S128x1024 .bf16) (h : Fin 8) (r d : Fin 128) :
    k0_pay7 (View.ld x r0_0) (View.ld x r0_1) (View.ld x r0_2) (View.ld x r0_3)
      (View.ld x r0_4) (View.ld x r0_5) (View.ld x r0_6) (View.ld x r0_7) (ix3 h r d) = x (ix2 r (lane h d)) := by
  fin_cases h <;> pointwise [k0_pay7] <;>
  exact congrArg (fun z => x (ix2 r z)) (Fin.ext (by simp [lane]))

/-- The heads of the values. -/
theorem heads8 (x : Vec Ideal S128x1024 .bf16) (h : Fin 8) (r d : Fin 128) :
    k0_pay8 (View.ld x r0_0) (View.ld x r0_1) (View.ld x r0_2) (View.ld x r0_3)
      (View.ld x r0_4) (View.ld x r0_5) (View.ld x r0_6) (View.ld x r0_7) (ix3 h r d) = x (ix2 r (lane h d)) := by
  fin_cases h <;> pointwise [k0_pay8] <;>
  exact congrArg (fun z => x (ix2 r z)) (Fin.ext (by simp [lane]))

/-- The heads of the queries. -/
theorem heads11 (x : Vec Ideal S128x1024 .bf16) (h : Fin 8) (r d : Fin 128) :
    k0_pay11 (View.ld x r0_0) (View.ld x r0_1) (View.ld x r0_2) (View.ld x r0_3)
      (View.ld x r0_4) (View.ld x r0_5) (View.ld x r0_6) (View.ld x r0_7) (ix3 h r d) = x (ix2 r (lane h d)) := by
  fin_cases h <;> pointwise [k0_pay11] <;>
  exact congrArg (fun z => x (ix2 r z)) (Fin.ext (by simp [lane]))

/-- The heads of the incoming gradient. -/
theorem heads12 (x : Vec Ideal S128x1024 .bf16) (h : Fin 8) (r d : Fin 128) :
    k0_pay12 (View.ld x r0_0) (View.ld x r0_1) (View.ld x r0_2) (View.ld x r0_3)
      (View.ld x r0_4) (View.ld x r0_5) (View.ld x r0_6) (View.ld x r0_7) (ix3 h r d) = x (ix2 r (lane h d)) := by
  fin_cases h <;> pointwise [k0_pay12] <;>
  exact congrArg (fun z => x (ix2 r z)) (Fin.ext (by simp [lane]))

/-- The heads of the queries of the next block. -/
theorem heads22 (x : Vec Ideal S128x1024 .bf16) (h : Fin 8) (r d : Fin 128) :
    k0_pay22 (View.ld x r0_0) (View.ld x r0_1) (View.ld x r0_2) (View.ld x r0_3)
      (View.ld x r0_4) (View.ld x r0_5) (View.ld x r0_6) (View.ld x r0_7) (ix3 h r d) = x (ix2 r (lane h d)) := by
  fin_cases h <;> pointwise [k0_pay22] <;>
  exact congrArg (fun z => x (ix2 r z)) (Fin.ext (by simp [lane]))

/-- The heads of the incoming gradient of the next block. -/
theorem heads24 (x : Vec Ideal S128x1024 .bf16) (h : Fin 8) (r d : Fin 128) :
    k0_pay24 (View.ld x r0_1) (View.ld x r0_2) (View.ld x r0_3) (View.ld x r0_4)
      (View.ld x r0_5) (View.ld x r0_6) (View.ld x r0_7) (k0_pay23 (View.ld x r0_0)) (ix3 h r d) = x (ix2 r (lane h d)) := by
  fin_cases h <;> pointwise [k0_pay24, k0_pay23] <;>
  exact congrArg (fun z => x (ix2 r z)) (Fin.ext (by simp [lane]))

theorem slope6 (h : Fin 8) (z w : Fin 1) : k0_pay6 (F := Ideal) (ix3 h z w) = ((1 / 2 ^ (h.val + 1) : ℝ) : EReal) := by
  pointwise [k0_pay6]
  exact slope_bits h

section Parts

variable (v8 : FVec Ideal S8x1x1 .f32) (v25 v42 v61 v78 v208 v225 : FVec Ideal S8x128x128 .bf16) (h : Fin 8) (a j e : Fin 128)
variable (v82 v233 : IVec S1x128x128 1) (v44 v92 v140 v143 v144 v191 v243 v291 v295 : FVec Ideal S8x128x128 .f32)

theorem mask13 : k0_pay13 (ix3 0 j a) = bit (j.val ≤ a.val) := by
  rw [← sle_bit a.val j.val (by omega) (by omega)]
  pointwise [k0_pay13]

theorem mask25 (n : ℕ) (hn : n < 64) :
    k0_pay25 (Scalar.cmpi .slt (BitVec.ofNat 32 n) 63#32) (ix3 0 j a) = bit (a.val ≤ j.val ∧ n < 63) := by
  rw [← bit_and, ← sge_bit a.val j.val (by omega) (by omega), ← slt_bit n 63 (by omega) (by omega)]
  pointwise [k0_pay25]
  rfl

theorem near_at : k0_pay14 v8 v25 v61 (ix3 h j a) = Scalar.select (bit (j.val ≤ a.val))
    (∑ x : Fin 128, v25 (ix3 h j x) * v61 (ix3 h a x) - v8 (ix3 h 0 0) * (((a.val : ℝ) - j.val : ℝ) : EReal))
    (Ideal.ofBits FTy.f32 4048155338#32) := by
  rw [← mask13, ← dist_sub a.val j.val (by omega) (by omega)]
  pointwise [k0_pay14]

theorem far_at (n : ℕ) (hn : n < 64) : k0_pay26 (Scalar.cmpi .slt (BitVec.ofNat 32 n) 63#32) v8 v25 v208 (ix3 h j a)
    = Scalar.select (bit (a.val ≤ j.val ∧ n < 63))
      (∑ x : Fin 128, v25 (ix3 h j x) * v208 (ix3 h a x) - v8 (ix3 h 0 0) * ((((128 + a.val : ℕ) : ℝ) - j.val : ℝ) : EReal))
      (Ideal.ofBits FTy.f32 4048155338#32) := by
  rw [← mask25 a j n hn, ← dist_sub (128 + a.val) j.val (by omega) (by omega), ← add_word]
  pointwise [k0_pay26]

theorem divided17 (x : Vec Ideal S128x128 .f32) :
    k0_pay17 v82 v92 (k0_pay15 (View.ld x r0_8)) (k0_pay16 (View.ld x r0_8)) (View.ld x r0_8) (View.ld x r0_8) (View.ld x r0_8) (View.ld x r0_8) (View.ld x r0_8) (View.ld x r0_8) (ix3 h j a)
      = Scalar.select (v82 (ix3 0 j a)) (Ideal.exp (v92 (ix3 h j a) - x (ix2 a (column h)))) 0 := by
  fin_cases h <;> pointwise [k0_pay17, k0_pay15, k0_pay16] <;> rfl

theorem divided32 (x : Vec Ideal S128x128 .f32) :
    k0_pay32 v233 v243 (k0_pay27 (View.ld x r0_8)) (k0_pay28 (View.ld x r0_8)) (k0_pay29 (View.ld x r0_8)) (k0_pay30 (View.ld x r0_8))
      (k0_pay31 (View.ld x r0_8)) (View.ld x r0_8) (View.ld x r0_8) (View.ld x r0_8) (ix3 h j a)
      = Scalar.select (v233 (ix3 0 j a)) (Ideal.exp (v243 (ix3 h j a) - x (ix2 a (column h)))) 0 := by
  fin_cases h <;> pointwise [k0_pay32, k0_pay27, k0_pay28, k0_pay29, k0_pay30, k0_pay31] <;> rfl

theorem values18 (b c : FVec Ideal S1x128 .f32) (x : Vec Ideal S128x128 .f32) :
    k0_pay18 v44 v78 v82 v92 b c x x x x x x (ix3 h j e)
      = v44 (ix3 h j e) + ∑ a : Fin 128, k0_pay17 v82 v92 b c x x x x x x (ix3 h j a) * v78 (ix3 h a e) := by
  pointwise [k0_pay18]

theorem values33 (b c d f g : FVec Ideal S1x128 .f32) (x : Vec Ideal S128x128 .f32) :
    k0_pay33 v143 v225 v233 v243 b c d f g x x x (ix3 h j e)
      = v143 (ix3 h j e) + ∑ a : Fin 128, k0_pay32 v233 v243 b c d f g x x x (ix3 h j a) * v225 (ix3 h a e) := by
  pointwise [k0_pay33]

theorem scores20 (x : Vec Ideal S128x128 .f32) :
    k0_pay20 v140 v144 (View.ld x r0_8) (View.ld x r0_8) (View.ld x r0_8) (View.ld x r0_8) (View.ld x r0_8) (View.ld x r0_8) (View.ld x r0_8) (View.ld x r0_8) (ix3 h j a)
      = v140 (ix3 h j a) * (v144 (ix3 h j a) - x (ix2 a (column h))) := by
  fin_cases h <;> pointwise [k0_pay20] <;> rfl

theorem keys21 : k0_pay21 (k0_pay9 (F := Ideal)) v61 v78 (constant S8x128x128 .f32 0x00000000#32) (ix3 h j e)
    = ∑ a : Fin 128, v78 (ix3 h j a) * v61 (ix3 h a e) := by
  pointwise [k0_pay21, k0_pay9]

theorem keys38 (x : Vec Ideal S128x128 .f32) :
    k0_pay38 v191 v208 v291 v295 (k0_pay35 (View.ld x r0_8)) (k0_pay36 (View.ld x r0_8)) (k0_pay37 (View.ld x r0_8)) (View.ld x r0_8) (View.ld x r0_8) (View.ld x r0_8) (View.ld x r0_8) (View.ld x r0_8) (ix3 h j e)
      = v191 (ix3 h j e) + ∑ a : Fin 128, v291 (ix3 h j a) * (v295 (ix3 h j a) - x (ix2 a (column h))) * v208 (ix3 h a e) := by
  fin_cases h <;> pointwise [k0_pay38, k0_pay35, k0_pay36, k0_pay37] <;> rfl

theorem zero10 : k0_pay10 (F := Ideal) (ix3 h j e) = 0 := by
  pointwise [k0_pay10]

theorem dots19 : k0_pay19 v42 v78 (ix3 h j a) = ∑ x : Fin 128, v42 (ix3 h j x) * v78 (ix3 h a x) := by
  pointwise [k0_pay19]

theorem dots34 : k0_pay34 v42 v225 (ix3 h j a) = ∑ x : Fin 128, v42 (ix3 h j x) * v225 (ix3 h a x) := by
  pointwise [k0_pay34]

end Parts

/-- What one point is given: its keys and values, both blocks of queries and their incoming gradient, and the row sums. -/
structure Given (A : Args) (n : ℕ) (x0 x1 x2 x3 x4 x5 : Vec Ideal S128x1024 .bf16) (x6 x7 x8 x9 : Vec Ideal S128x128 .f32) : Prop where
  lt : n < 64
  k : ∀ (h : Fin 8) (j d : Fin 128), x0 (ix2 j (lane h d)) = ((A.k (128 * n + j.val) h.val d.val : ℝ) : EReal)
  v : ∀ (h : Fin 8) (j d : Fin 128), x1 (ix2 j (lane h d)) = ((A.v (128 * n + j.val) h.val d.val : ℝ) : EReal)
  qc : ∀ (h : Fin 8) (a d : Fin 128), x2 (ix2 a (lane h d)) = ((A.q (128 * n + a.val) h.val d.val : ℝ) : EReal)
  qn : ∀ (h : Fin 8) (a d : Fin 128), x3 (ix2 a (lane h d)) = ((A.q (128 * min (n + 1) 63 + a.val) h.val d.val : ℝ) : EReal)
  gc : ∀ (h : Fin 8) (a d : Fin 128), x4 (ix2 a (lane h d)) = ((A.g (128 * n + a.val) h.val d.val : ℝ) : EReal)
  gn : ∀ (h : Fin 8) (a d : Fin 128), x5 (ix2 a (lane h d)) = ((A.g (128 * min (n + 1) 63 + a.val) h.val d.val : ℝ) : EReal)
  lc : ∀ (h : Fin 8) (a : Fin 128), x6 (ix2 a (column h)) = ((Real.log (A.total (128 * n + a.val) h.val) : ℝ) : EReal)
  ln : ∀ (h : Fin 8) (a : Fin 128), x7 (ix2 a (column h)) = ((Real.log (A.total (128 * min (n + 1) 63 + a.val) h.val) : ℝ) : EReal)
  dc : ∀ (h : Fin 8) (a : Fin 128), x8 (ix2 a (column h)) = ((A.against (128 * n + a.val) h.val : ℝ) : EReal)
  dn : ∀ (h : Fin 8) (a : Fin 128), x9 (ix2 a (column h)) = ((A.against (128 * min (n + 1) 63 + a.val) h.val : ℝ) : EReal)
  posc : ∀ (h : Fin 8) (a : Fin 128), 0 < A.total (128 * n + a.val) h.val
  posn : ∀ (h : Fin 8) (a : Fin 128), 0 < A.total (128 * min (n + 1) 63 + a.val) h.val

section Point

variable {A : Args} {n : ℕ} {x0 x1 x2 x3 x4 x5 : Vec Ideal S128x1024 .bf16} {x6 x7 x8 x9 : Vec Ideal S128x128 .f32}
variable (G : Given A n x0 x1 x2 x3 x4 x5 x6 x7 x8 x9) (i : grid0.Coords)
include G

theorem near_real (h : Fin 8) (a j : Fin 128) :
    k0_pay17 (k0_pay56 i x0 x1 x2 x3 x4 x5 x6 x7 x8 x9) (k0_pay57 i x0 x1 x2 x3 x4 x5 x6 x7 x8 x9) (k0_pay58 i x0 x1 x2 x3 x4 x5 x6 x7 x8 x9)
      (k0_pay59 i x0 x1 x2 x3 x4 x5 x6 x7 x8 x9) (View.ld x6 r0_8) (View.ld x6 r0_8) (View.ld x6 r0_8) (View.ld x6 r0_8) (View.ld x6 r0_8)
      (View.ld x6 r0_8) (ix3 h j a)
    = ((if j.val ≤ a.val then Real.exp (A.score (128 * n + a.val) (128 * n + j.val) h.val) / A.total (128 * n + a.val) h.val else 0 : ℝ) : EReal) := by
  unfold k0_pay58 k0_pay59
  rw [divided17]
  unfold k0_pay56 k0_pay57
  rw [mask13, near_at]
  unfold k0_pay51 k0_pay52 k0_pay54
  have e : ∑ x : Fin 128, k0_pay7 (View.ld x0 r0_0) (View.ld x0 r0_1) (View.ld x0 r0_2) (View.ld x0 r0_3)
      (View.ld x0 r0_4) (View.ld x0 r0_5) (View.ld x0 r0_6) (View.ld x0 r0_7) (ix3 h j x) * k0_pay11 (View.ld x2 r0_0) (View.ld x2 r0_1) (View.ld x2 r0_2) (View.ld x2 r0_3)
      (View.ld x2 r0_4) (View.ld x2 r0_5) (View.ld x2 r0_6) (View.ld x2 r0_7) (ix3 h a x)
      = ((∑ d : Fin 128, A.q (128 * n + a.val) h.val d.val * A.k (128 * n + j.val) h.val d.val : ℝ) : EReal) := by
    rw [← sum_mul_coe]
    refine Finset.sum_congr rfl fun x _ => ?_
    rw [heads7, heads11, G.k, G.qc, mul_comm]
  rw [e, slope6, G.lc, ← EReal.coe_mul, ← EReal.coe_sub]
  have s : ∑ d : Fin 128, A.q (128 * n + a.val) h.val d.val * A.k (128 * n + j.val) h.val d.val - 1 / 2 ^ (h.val + 1) * ((a.val : ℝ) - j.val)
      = A.score (128 * n + a.val) (128 * n + j.val) h.val := by
    unfold Args.score
    push_cast
    ring
  rw [s]
  exact weight_coe _ _ _ (G.posc h a) _

theorem far_real (hi : (i 1).val = n) (h : Fin 8) (a j : Fin 128) :
    k0_pay32 (k0_pay63 i x0 x1 x2 x3 x4 x5 x6 x7 x8 x9) (k0_pay64 i x0 x1 x2 x3 x4 x5 x6 x7 x8 x9) (k0_pay65 i x0 x1 x2 x3 x4 x5 x6 x7 x8 x9)
      (k0_pay66 i x0 x1 x2 x3 x4 x5 x6 x7 x8 x9) (k0_pay67 i x0 x1 x2 x3 x4 x5 x6 x7 x8 x9) (k0_pay68 i x0 x1 x2 x3 x4 x5 x6 x7 x8 x9)
      (k0_pay69 i x0 x1 x2 x3 x4 x5 x6 x7 x8 x9) (View.ld x7 r0_8) (View.ld x7 r0_8) (View.ld x7 r0_8) (ix3 h j a)
    = ((if a.val ≤ j.val ∧ n < 63 then Real.exp (A.score (128 * (n + 1) + a.val) (128 * n + j.val) h.val)
        / A.total (128 * (n + 1) + a.val) h.val else 0 : ℝ) : EReal) := by
  unfold k0_pay65 k0_pay66 k0_pay67 k0_pay68 k0_pay69
  rw [divided32]
  unfold k0_pay63 k0_pay64
  rw [hi, mask25 (hn := G.lt), far_at (hn := G.lt)]
  unfold k0_pay51 k0_pay52 k0_pay61
  have e : ∑ x : Fin 128, k0_pay7 (View.ld x0 r0_0) (View.ld x0 r0_1) (View.ld x0 r0_2) (View.ld x0 r0_3)
      (View.ld x0 r0_4) (View.ld x0 r0_5) (View.ld x0 r0_6) (View.ld x0 r0_7) (ix3 h j x) * k0_pay22 (View.ld x3 r0_0) (View.ld x3 r0_1) (View.ld x3 r0_2) (View.ld x3 r0_3)
      (View.ld x3 r0_4) (View.ld x3 r0_5) (View.ld x3 r0_6) (View.ld x3 r0_7) (ix3 h a x)
      = ((∑ d : Fin 128, A.q (128 * min (n + 1) 63 + a.val) h.val d.val * A.k (128 * n + j.val) h.val d.val : ℝ) : EReal) := by
    rw [← sum_mul_coe]
    refine Finset.sum_congr rfl fun x _ => ?_
    rw [heads7, heads22, G.k, G.qn, mul_comm]
  rw [e, slope6, G.ln, ← EReal.coe_mul, ← EReal.coe_sub, weight_coe _ _ _ (G.posn h a) _]
  by_cases hp : n < 63
  · rw [min_eq_left (by omega : n + 1 ≤ 63)]
    have s : ∑ d : Fin 128, A.q (128 * (n + 1) + a.val) h.val d.val * A.k (128 * n + j.val) h.val d.val
        - 1 / 2 ^ (h.val + 1) * (((128 + a.val : ℕ) : ℝ) - j.val) = A.score (128 * (n + 1) + a.val) (128 * n + j.val) h.val := by
      unfold Args.score
      push_cast
      ring
    rw [s]
  · rw [if_neg fun h => hp h.2, if_neg fun h => hp h.2]

/-- The gradient of 128 values. -/
theorem values_at (hi : (i 1).val = n) (h : Fin 8) (j e : Fin 128) :
    k0_pay71 i x0 x1 x2 x3 x4 x5 x6 x7 x8 x9 (ix3 h j e) = ((A.dv (128 * n + j.val) h.val e.val : ℝ) : EReal) := by
  unfold k0_pay71
  rw [values33, values18, zero10, zero_add]
  have f : A.dv (128 * n + j.val) h.val e.val = _ := (Finset.sum_congr rfl fun t _ => by
      unfold Args.prob
      rw [ite_mul, zero_mul]).trans (sum_queries n j.val G.lt j.isLt fun t =>
        Real.exp (A.score t (128 * n + j.val) h.val) / A.total t h.val * A.g t h.val e.val)
  rw [f, EReal.coe_add, coe_sum, coe_sum]
  refine congrArg₂ (· + ·) (Finset.sum_congr rfl fun a _ => ?_) (Finset.sum_congr rfl fun a _ => ?_)
  · rw [near_real G i h a j]
    unfold k0_pay55
    rw [heads12, G.gc, ← EReal.coe_mul, ite_mul, zero_mul]
  · rw [far_real G i hi h a j]
    unfold k0_pay62
    rw [heads24, G.gn, ← EReal.coe_mul, ite_mul, zero_mul]
    by_cases hp : n < 63
    · rw [min_eq_left (by omega : n + 1 ≤ 63)]
    · rw [if_neg fun h => hp h.2, if_neg fun h => hp h.2]

/-- The gradient of 128 keys. -/
theorem keys_at (hi : (i 1).val = n) (h : Fin 8) (j e : Fin 128) :
    k0_pay76 i x0 x1 x2 x3 x4 x5 x6 x7 x8 x9 (ix3 h j e) = ((A.dk (128 * n + j.val) h.val e.val : ℝ) : EReal) := by
  unfold k0_pay76 k0_pay73 k0_pay74 k0_pay75
  rw [keys38]
  unfold k0_pay60
  rw [keys21]
  have own : ∀ a : Fin 128, k0_pay19 (k0_pay53 i x0 x1 x2 x3 x4 x5 x6 x7 x8 x9) (k0_pay55 i x0 x1 x2 x3 x4 x5 x6 x7 x8 x9) (ix3 h j a)
      - x8 (ix2 a (column h))
      = ((∑ x : Fin 128, A.g (128 * n + a.val) h.val x.val * A.v (128 * n + j.val) h.val x.val - A.against (128 * n + a.val) h.val : ℝ) : EReal) := by
    intro a
    rw [dots19, G.dc, EReal.coe_sub, ← sum_mul_coe]
    refine congrArg (· - _) (Finset.sum_congr rfl fun x _ => ?_)
    unfold k0_pay53 k0_pay55
    rw [heads8, heads12, G.gc, G.v, mul_comm]
  have next : ∀ a : Fin 128, k0_pay72 i x0 x1 x2 x3 x4 x5 x6 x7 x8 x9 (ix3 h j a) - x9 (ix2 a (column h))
      = ((∑ x : Fin 128, A.g (128 * min (n + 1) 63 + a.val) h.val x.val * A.v (128 * n + j.val) h.val x.val
        - A.against (128 * min (n + 1) 63 + a.val) h.val : ℝ) : EReal) := by
    intro a
    unfold k0_pay72
    rw [dots34, G.dn, EReal.coe_sub, ← sum_mul_coe]
    refine congrArg (· - _) (Finset.sum_congr rfl fun x _ => ?_)
    unfold k0_pay53 k0_pay62
    rw [heads8, heads24, G.gn, G.v, mul_comm]
  have f : A.dk (128 * n + j.val) h.val e.val = _ := (Finset.sum_congr rfl fun t _ => by
      unfold Args.dscore Args.prob
      rw [ite_mul, ite_mul, zero_mul, zero_mul]).trans (sum_queries n j.val G.lt j.isLt fun t =>
        Real.exp (A.score t (128 * n + j.val) h.val) / A.total t h.val
          * (∑ x : Fin 128, A.g t h.val x.val * A.v (128 * n + j.val) h.val x.val - A.against t h.val) * A.q t h.val e.val)
  rw [f, EReal.coe_add, coe_sum, coe_sum]
  refine congrArg₂ (· + ·) (Finset.sum_congr rfl fun a _ => ?_) (Finset.sum_congr rfl fun a _ => ?_)
  · rw [scores20, own, near_real G i h a j]
    unfold k0_pay54
    rw [heads11, G.qc, ← EReal.coe_mul, ← EReal.coe_mul, ite_mul, ite_mul, zero_mul, zero_mul]
  · unfold k0_pay70
    rw [next, far_real G i hi h a j]
    unfold k0_pay61
    rw [heads22, G.qn, ← EReal.coe_mul, ← EReal.coe_mul, ite_mul, ite_mul, zero_mul, zero_mul]
    by_cases hp : n < 63
    · rw [min_eq_left (by omega : n + 1 ≤ 63)]
    · rw [if_neg fun h => hp h.2, if_neg fun h => hp h.2]

/-- The gradient by the keys as the body stores it, head by head. -/
theorem out_keys (hi : (i 1).val = n) (h : Fin 8) (a e : Fin 128) :
    out0_10 i x0 x1 x2 x3 x4 x5 x6 x7 x8 x9 (ix2 a (lane h e)) = ((A.dk (128 * n + a.val) h.val e.val : ℝ) : EReal) := by
  rw [← keys_at G i hi h a e]
  unfold out0_10
  refine (View.canon_append_of_piecesOf (Val := Elt Ideal) (byLane (k0_pay76 i x0 x1 x2 x3 x4 x5 x6 x7 x8 x9)) [] _ ?_ (ix2 a (lane h e))
    (cover0_10 _ _ _ _ _ _ _ _ _)).trans (byLane_at _ h a e)
  refine ⟨?_, ?_, ?_, ?_, ?_, ?_, ?_, ?_, trivial⟩ <;> intro x <;>
    obtain ⟨r, k, rfl⟩ : ∃ (r k : Fin 128), x = ix2 r k := ⟨x 0, x 1, eq_ix2 x⟩
  · refine Eq.trans ?_ (piece_at _ 7 (o := 896) rfl inb_S128x1024_S128x128_0_896 r k)
    pointwise [k0_pay4]
  · refine Eq.trans ?_ (piece_at _ 6 (o := 768) rfl inb_S128x1024_S128x128_0_768 r k)
    pointwise [k0_pay2]
  · refine Eq.trans ?_ (piece_at _ 5 (o := 640) rfl inb_S128x1024_S128x128_0_640 r k)
    pointwise [k0_pay50]
  · refine Eq.trans ?_ (piece_at _ 4 (o := 512) rfl inb_S128x1024_S128x128_0_512 r k)
    pointwise [k0_pay48]
  · refine Eq.trans ?_ (piece_at _ 3 (o := 384) rfl inb_S128x1024_S128x128_0_384 r k)
    pointwise [k0_pay46]
  · refine Eq.trans ?_ (piece_at _ 2 (o := 256) rfl inb_S128x1024_S128x128_0_256 r k)
    pointwise [k0_pay44]
  · refine Eq.trans ?_ (piece_at _ 1 (o := 128) rfl inb_S128x1024_S128x128_0_128 r k)
    pointwise [k0_pay42, k0_pay41]
    rfl
  · refine Eq.trans ?_ (piece_at _ 0 (o := 0) rfl inb_S128x1024_S128x128_0_0 r k)
    pointwise [k0_pay39]
    rfl

/-- The gradient by the values as the body stores it, head by head. -/
theorem out_values (hi : (i 1).val = n) (h : Fin 8) (a e : Fin 128) :
    out0_11 i x0 x1 x2 x3 x4 x5 x6 x7 x8 x9 (ix2 a (lane h e)) = ((A.dv (128 * n + a.val) h.val e.val : ℝ) : EReal) := by
  rw [← values_at G i hi h a e]
  unfold out0_11
  refine (View.canon_append_of_piecesOf (Val := Elt Ideal) (byLane (k0_pay71 i x0 x1 x2 x3 x4 x5 x6 x7 x8 x9)) [] _ ?_ (ix2 a (lane h e))
    (cover0_11 _ _ _ _ _ _ _ _ _)).trans (byLane_at _ h a e)
  refine ⟨?_, ?_, ?_, ?_, ?_, ?_, ?_, ?_, trivial⟩ <;> intro x <;>
    obtain ⟨r, k, rfl⟩ : ∃ (r k : Fin 128), x = ix2 r k := ⟨x 0, x 1, eq_ix2 x⟩
  · refine Eq.trans ?_ (piece_at _ 7 (o := 896) rfl inb_S128x1024_S128x128_0_896 r k)
    pointwise [k0_pay5]
  · refine Eq.trans ?_ (piece_at _ 6 (o := 768) rfl inb_S128x1024_S128x128_0_768 r k)
    pointwise [k0_pay3]
  · refine Eq.trans ?_ (piece_at _ 5 (o := 640) rfl inb_S128x1024_S128x128_0_640 r k)
    pointwise [k0_pay1]
  · refine Eq.trans ?_ (piece_at _ 4 (o := 512) rfl inb_S128x1024_S128x128_0_512 r k)
    pointwise [k0_pay49]
  · refine Eq.trans ?_ (piece_at _ 3 (o := 384) rfl inb_S128x1024_S128x128_0_384 r k)
    pointwise [k0_pay47]
  · refine Eq.trans ?_ (piece_at _ 2 (o := 256) rfl inb_S128x1024_S128x128_0_256 r k)
    pointwise [k0_pay45]
  · refine Eq.trans ?_ (piece_at _ 1 (o := 128) rfl inb_S128x1024_S128x128_0_128 r k)
    pointwise [k0_pay43]
  · refine Eq.trans ?_ (piece_at _ 0 (o := 0) rfl inb_S128x1024_S128x128_0_0 r k)
    pointwise [k0_pay40]

end Point

end Cert.AttKv

end
-- ==== Proof.AttKvRef.lean ====
module

public import proofs.«01_k».proof.Proof.Gen.Reference7Ideal.Read
public import proofs.«01_k».proof.Proof.AttReal
public import Idealize.ShloMosaic.Lib.Pipeline.ValueKit
public import Idealize.ShloMosaic.Lib.StableHlo.ReadAt

/-!
# What the reference of the gradients by the keys and values computes

Each array of the reference at a token, a head and a lane, over the reals.
-/

@[expose] public section

set_option maxRecDepth 16384

noncomputable section

namespace Cert.AttKv.Ref

open Cert.Reference7Ideal Cert.Reference7Ideal.Read Idealize.ShloMosaic
open Cert.Att Cert.Att.Args

variable (x0 x1 x2 : FVec Ideal S8192x3072 .bf16) (x3 : FVec Ideal S8192x1024 .bf16)

/-- The arguments of one group, what the other groups add computed as the reference does. -/
def args : Args where
  q := at3 (val_main_v2 (F := Ideal) x0)
  k := at3 (val_main_v5 (F := Ideal) x0)
  v := at3 (val_main_v8 (F := Ideal) x0)
  g := at3 (val_main_v150 (F := Ideal) x3)
  num := at3 (val_main_v107 (F := Ideal) x1 x2)
  den := atHead (val_main_v108 (F := Ideal) x1 x2)

variable {x0 x1 x2 x3}

/-- The arguments are real. -/
structure Finite (x0 x1 x2 : FVec Ideal S8192x3072 .bf16) (x3 : FVec Ideal S8192x1024 .bf16) : Prop where
  h0 : ∀ i, IsReal (x0 i)
  h1 : ∀ i, IsReal (x1 i)
  h2 : ∀ i, IsReal (x2 i)
  h3 : ∀ i, IsReal (x3 i)

variable (H : Finite x0 x1 x2 x3)
include H

theorem slice2 (t : Fin 8192) (h : Fin 8) (d : Fin 128) :
    val_main_v2 (F := Ideal) x0 (ix3 t h d) = x0 (ix2 t ⟨h.val * 128 + d.val, by omega⟩) := by
  pointwise [val_main_v2, val_main_v1, val_main_v0]

theorem slice5 (t : Fin 8192) (h : Fin 8) (d : Fin 128) :
    val_main_v5 (F := Ideal) x0 (ix3 t h d) = x0 (ix2 t ⟨1024 + (h.val * 128 + d.val), by omega⟩) := by
  pointwise [val_main_v5, val_main_v4, val_main_v3]

theorem slice8 (t : Fin 8192) (h : Fin 8) (d : Fin 128) :
    val_main_v8 (F := Ideal) x0 (ix3 t h d) = x0 (ix2 t ⟨2048 + (h.val * 128 + d.val), by omega⟩) := by
  pointwise [val_main_v8, val_main_v7, val_main_v6]

theorem slice150 (t : Fin 8192) (h : Fin 8) (d : Fin 128) :
    val_main_v150 (F := Ideal) x3 (ix3 t h d) = x3 (ix2 t ⟨h.val * 128 + d.val, by omega⟩) := by
  pointwise [val_main_v150, val_main_v149]

theorem q_at (t : Fin 8192) (h : Fin 8) (d : Fin 128) :
    val_main_v2 (F := Ideal) x0 (ix3 t h d) = (((args x0 x1 x2 x3).q t.val h.val d.val : ℝ) : EReal) :=
  at3_coe (fun t h d => by rw [slice2 H]; exact H.h0 _) t h d

theorem k_at (t : Fin 8192) (h : Fin 8) (d : Fin 128) :
    val_main_v5 (F := Ideal) x0 (ix3 t h d) = (((args x0 x1 x2 x3).k t.val h.val d.val : ℝ) : EReal) :=
  at3_coe (fun t h d => by rw [slice5 H]; exact H.h0 _) t h d

theorem v_at (t : Fin 8192) (h : Fin 8) (d : Fin 128) :
    val_main_v8 (F := Ideal) x0 (ix3 t h d) = (((args x0 x1 x2 x3).v t.val h.val d.val : ℝ) : EReal) :=
  at3_coe (fun t h d => by rw [slice8 H]; exact H.h0 _) t h d

theorem g_at (t : Fin 8192) (h : Fin 8) (d : Fin 128) :
    val_main_v150 (F := Ideal) x3 (ix3 t h d) = (((args x0 x1 x2 x3).g t.val h.val d.val : ℝ) : EReal) :=
  at3_coe (fun t h d => by rw [slice150 H]; exact H.h3 _) t h d

theorem zero0 : val_main_call0_v0 (F := Ideal) ix0 = (0 : EReal) :=
  (show val_main_call0_v0 (F := Ideal) ix0 = val_main_cst_2 (F := Ideal) ix0 from rfl).trans (by pointwise [val_main_cst_2])

theorem zero1 : val_main_call1_v0 (F := Ideal) ix0 = (0 : EReal) :=
  (show val_main_call1_v0 (F := Ideal) ix0 = val_main_cst_8 (F := Ideal) ix0 from rfl).trans (by pointwise [val_main_cst_8])

theorem zero2 : val_main_call2_v0 (F := Ideal) ix0 = (0 : EReal) :=
  (show val_main_call2_v0 (F := Ideal) ix0 = val_main_cst_14 (F := Ideal) ix0 from rfl).trans (by pointwise [val_main_cst_14])

/-- The weights of the second group are at least zero. -/
theorem weight1 (t s : Fin 8192) (h : Fin 8) : NonNeg (val_main_v53 (F := Ideal) x1 (ix3 h t s)) := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_c_1, val_main_cst,
    val_main_v14, val_main_v13, val_main_v12, val_main_v11, val_main_v10, val_main_v9, val_main_call0_v2]
  rw [zero0 H]
  refine IsReal.weight (IsReal.sub (IsReal.sum fun d => (H.h1 _).mul (H.h1 _)) ?_) _
  rw [slope_host]
  exact IsReal.mul ⟨_, rfl⟩ (isReal_int _)

/-- The weights of the third group are at least zero. -/
theorem weight2 (t s : Fin 8192) (h : Fin 8) : NonNeg (val_main_v102 (F := Ideal) x2 (ix3 h t s)) := by
  pointwise [val_main_v102, val_main_v101, val_main_v100, val_main_v99, val_main_v98, val_main_v97, val_main_v96, val_main_v95, val_main_v94,
    val_main_v93, val_main_v92, val_main_v91, val_main_v90, val_main_v89, val_main_v88, val_main_v87, val_main_c_6, val_main_cst_7,
    val_main_v63, val_main_v62, val_main_v61, val_main_v60, val_main_v59, val_main_v58, val_main_call1_v2]
  rw [zero1 H]
  refine IsReal.weight (IsReal.sub (IsReal.sum fun d => (H.h2 _).mul (H.h2 _)) ?_) _
  rw [slope_host]
  exact IsReal.mul ⟨_, rfl⟩ (isReal_int _)

theorem num_at (t : Fin 8192) (h : Fin 8) (d : Fin 128) :
    val_main_v107 (F := Ideal) x1 x2 (ix3 t h d) = (((args x0 x1 x2 x3).num t.val h.val d.val : ℝ) : EReal) := by
  refine at3_coe (X := val_main_v107 (F := Ideal) x1 x2) (fun t h d => ?_) t h d
  have e : val_main_v107 (F := Ideal) x1 x2 (ix3 t h d)
      = ∑ s : Fin 8192, val_main_v17 (F := Ideal) x1 (ix3 s h d) * val_main_v53 (F := Ideal) x1 (ix3 h t s)
        + ∑ s : Fin 8192, val_main_v66 (F := Ideal) x2 (ix3 s h d) * val_main_v102 (F := Ideal) x2 (ix3 h t s) := by
    pointwise [val_main_v107, val_main_v55, val_main_v54, val_main_v104, val_main_v103]
  rw [e]
  refine IsReal.add (IsReal.sum fun s => IsReal.mul ?_ (weight1 H _ _ _).isReal) (IsReal.sum fun s => IsReal.mul ?_ (weight2 H _ _ _).isReal)
  · pointwise [val_main_v17, val_main_v16, val_main_v15]
    exact H.h1 _
  · pointwise [val_main_v66, val_main_v65, val_main_v64]
    exact H.h2 _

theorem den_nonneg (t : Fin 8192) (h : Fin 8) : NonNeg (val_main_v108 (F := Ideal) x1 x2 (ix2 t h)) := by
  have e : val_main_v108 (F := Ideal) x1 x2 (ix2 t h)
      = ∑ s : Fin 8192, val_main_v53 (F := Ideal) x1 (ix3 h t s) + ∑ s : Fin 8192, val_main_v102 (F := Ideal) x2 (ix3 h t s) := by
    pointwise [val_main_v108, val_main_v57, val_main_v56, val_main_v106, val_main_v105, val_main_cst_3, val_main_cst_9]
  rw [e]
  exact NonNeg.add (NonNeg.sum fun s => weight1 H _ _ _) (NonNeg.sum fun s => weight2 H _ _ _)

theorem den_at (t : Fin 8192) (h : Fin 8) :
    val_main_v108 (F := Ideal) x1 x2 (ix2 t h) = (((args x0 x1 x2 x3).den t.val h.val : ℝ) : EReal) :=
  atHead_coe (den_nonneg H) t h

theorem total_pos (t : Fin 8192) (h : ℕ) : 0 < (args x0 x1 x2 x3).total t.val h :=
  Args.total_pos _ (fun t h => atHead_nonneg (den_nonneg H) t h) t h

theorem exp_at (t s : Fin 8192) (h : Fin 8) :
    val_main_v135 (F := Ideal) x0 (ix3 h t s) = ((Real.exp ((args x0 x1 x2 x3).score t.val s.val h.val) : ℝ) : EReal) := by
  pointwise [val_main_v135, val_main_v134, val_main_v133, val_main_v132, val_main_v131, val_main_v130, val_main_v129, val_main_v128,
    val_main_v127, val_main_v126, val_main_v125, val_main_v124, val_main_v123, val_main_v122, val_main_v121, val_main_c_12, val_main_cst_13,
    val_main_v115, val_main_v114, val_main_v113, val_main_v112, val_main_v111, val_main_v110, val_main_v109]
  rw [slope_host, dist_sub _ _ (by omega) (by omega), Finset.sum_congr rfl fun d _ => by rw [q_at H, k_at H], sum_mul_coe,
    ← EReal.coe_mul, ← EReal.coe_sub, Ideal.exp_coe]
  rfl

theorem band_at (t s : Fin 8192) (h : Fin 8) : val_main_v136_1 (F := Ideal) (ix3 h t s) = bit (band t.val s.val) := by
  pointwise [val_main_v136_1, val_main_v120, val_main_v119, val_main_v118, val_main_v117, val_main_v116, val_main_c_10, val_main_c_11,
    val_main_v115, val_main_v114, val_main_v113, val_main_v112, val_main_v111, val_main_v110, val_main_v109]
  exact band_bit _ _ (by omega) (by omega)

theorem weight_at (t s : Fin 8192) (h : Fin 8) :
    val_main_v136_0 (F := Ideal) x0 (ix3 h t s) = (((args x0 x1 x2 x3).weight t.val s.val h.val : ℝ) : EReal) := by
  have e : val_main_v136_0 (F := Ideal) x0 (ix3 h t s)
      = Scalar.select (val_main_v136_1 (F := Ideal) (ix3 h t s)) (val_main_v135 (F := Ideal) x0 (ix3 h t s)) (0 : EReal) := by
    pointwise [val_main_v136_0, val_main_call2_v2]
    rw [zero2 H]
  rw [e, band_at H, exp_at H, select_bit]
  unfold Args.weight
  split <;> rfl

theorem mixed_at (t : Fin 8192) (h : Fin 8) (d : Fin 128) :
    val_main_v141 (F := Ideal) x0 x1 x2 (ix3 t h d) = (((args x0 x1 x2 x3).mixed t.val h.val d.val : ℝ) : EReal) := by
  pointwise [val_main_v141, val_main_v138, val_main_v137]
  rw [num_at H, Finset.sum_congr rfl fun s _ => by rw [v_at H, weight_at H], sum_mul_coe, ← EReal.coe_add]
  unfold Args.mixed
  rw [Finset.sum_congr rfl fun (s : Fin 8192) _ => mul_comm ((args x0 x1 x2 x3).v s.val h.val d.val) _]

theorem total_at (t : Fin 8192) (h : Fin 8) :
    val_main_v142 (F := Ideal) x0 x1 x2 (ix2 t h) = (((args x0 x1 x2 x3).total t.val h.val : ℝ) : EReal) := by
  pointwise [val_main_v142, val_main_v140, val_main_v139, val_main_cst_15]
  rw [den_at H, Finset.sum_congr rfl fun s _ => weight_at H t s h, ← coe_sum, ← EReal.coe_add]
  rfl

theorem mean_at (t : Fin 8192) (h : Fin 8) (d : Fin 128) : val_main_v145 (F := Ideal) x0 x1 x2 (ix3 t h d)
    = (((args x0 x1 x2 x3).mixed t.val h.val d.val / (args x0 x1 x2 x3).total t.val h.val : ℝ) : EReal) := by
  pointwise [val_main_v145, val_main_v144, val_main_v143]
  rw [mixed_at H, total_at H, Ideal.div_coe (total_pos H t _).ne', ← EReal.coe_mul, mul_one_div]

theorem dscore_at (t s : Fin 8192) (h : Fin 8) :
    val_main_v168 (F := Ideal) x0 x1 x2 x3 (ix3 h t s) = (((args x0 x1 x2 x3).dscore t.val s.val h.val : ℝ) : EReal) := by
  have hz := (total_pos H t h.val).ne'
  have hzz := mul_ne_zero hz hz
  pointwise [val_main_v168, val_main_v167, val_main_v164, val_main_v163, val_main_v162, val_main_v161, val_main_v160, val_main_v159,
    val_main_v158, val_main_v157, val_main_v156, val_main_v155, val_main_v154, val_main_v153, val_main_v152, val_main_v151, val_main_v148,
    val_main_v147, val_main_v146, val_main_v143, val_main_cst_16, val_main_cst_17, val_main_cst_18, val_main_call3_v0, val_main_call3_cst]
  rw [total_at H, exp_at H, band_at H, ← EReal.coe_mul, Ideal.div_coe hzz, one_mul, Fin.sum_univ_one, select_bit]
  have e1 : ∑ e : Fin 128, val_main_v150 (F := Ideal) x3 (ix3 t h e)
        * ((1 / ((args x0 x1 x2 x3).total t.val h.val * (args x0 x1 x2 x3).total t.val h.val) : ℝ) : EReal)
        * val_main_v141 (F := Ideal) x0 x1 x2 (ix3 t h e)
      = ((∑ e : Fin 128, (args x0 x1 x2 x3).g t.val h.val e.val
          * (1 / ((args x0 x1 x2 x3).total t.val h.val * (args x0 x1 x2 x3).total t.val h.val))
          * (args x0 x1 x2 x3).mixed t.val h.val e.val : ℝ) : EReal) := by
    rw [← sum_mul_coe]
    refine Finset.sum_congr rfl fun e _ => ?_
    rw [g_at H, mixed_at H, EReal.coe_mul]
  have e2 : ∑ e : Fin 128, Ideal.div (val_main_v150 (F := Ideal) x3 (ix3 t h e)) (((args x0 x1 x2 x3).total t.val h.val : ℝ) : EReal)
        * val_main_v8 (F := Ideal) x0 (ix3 s h e)
      = ((∑ e : Fin 128, (args x0 x1 x2 x3).g t.val h.val e.val * (1 / (args x0 x1 x2 x3).total t.val h.val)
          * (args x0 x1 x2 x3).v s.val h.val e.val : ℝ) : EReal) := by
    rw [← sum_mul_coe]
    refine Finset.sum_congr rfl fun e _ => ?_
    rw [g_at H, v_at H, Ideal.div_coe hz, EReal.coe_mul]
  rw [e1, e2, ← EReal.coe_neg, ← EReal.coe_add, ← Args.dscore_eq _ _ _ _ hz, EReal.coe_mul]
  split
  · rfl
  · simp only [EReal.coe_zero, zero_mul]

theorem dk_at (s : Fin 8192) (c : Fin 1024) : val_main_v172 (F := Ideal) x0 x1 x2 x3 (ix2 s c)
    = (((args x0 x1 x2 x3).dk s.val (c.val / 128) (c.val % 128) : ℝ) : EReal) := by
  pointwise [val_main_v172, val_main_v171, val_main_v170, val_main_v169]
  unfold Args.dk
  rw [← sum_mul_coe]
  refine Finset.sum_congr rfl fun t _ => ?_
  rw [dscore_at H, q_at H]

theorem dv_at (s : Fin 8192) (c : Fin 1024) : val_main_v174 (F := Ideal) x0 x1 x2 x3 (ix2 s c)
    = (((args x0 x1 x2 x3).dv s.val (c.val / 128) (c.val % 128) : ℝ) : EReal) := by
  pointwise [val_main_v174, val_main_v173, val_main_v166, val_main_v165, val_main_v162, val_main_v158, val_main_v157, val_main_v143]
  unfold Args.dv
  rw [coe_sum]
  refine Finset.sum_congr rfl fun t _ => ?_
  have hz := (total_pos H t (c.val / 128)).ne'
  rw [g_at H, total_at H, weight_at H, Ideal.div_coe hz, ← EReal.coe_mul, ← EReal.coe_mul]
  refine congrArg _ ?_
  unfold Args.prob Args.weight
  split
  · field_simp
  · rw [mul_zero, zero_mul]

end Cert.AttKv.Ref

end
-- ==== Proof.AttKv.lean ====
module

public import proofs.«01_k».proof.Proof.AttKvHost
public import proofs.«01_k».proof.Proof.AttKvBody
public import proofs.«01_k».proof.Proof.AttKvRef

/-!
# The gradients by the keys and values

What the kernel is given at each point of the grid, and the arrays it returns.
-/

@[expose] public section

set_option maxRecDepth 16384

noncomputable section

namespace Cert.AttKv

open Cert.Kernel7Ideal Cert.Kernel7Ideal.Gen Idealize.ShloMosaic Idealize.ShloMosaic.TcCoe Idealize.SL.Sem
open Cert.Att Cert.Att.Args Cert.AttKvHost

variable (m : (ℓ : Loc nD τ sig) → Buf (Elt Ideal) ℓ) (c : Dev nD)

abbrev x0 : FVec Ideal S8192x3072 .bf16 := m ((c : Thread nD τ).loc main_arg0)
abbrev x1 : FVec Ideal S8192x3072 .bf16 := m ((c : Thread nD τ).loc main_arg1)
abbrev x2 : FVec Ideal S8192x3072 .bf16 := m ((c : Thread nD τ).loc main_arg2)
abbrev x3 : FVec Ideal S8192x1024 .bf16 := m ((c : Thread nD τ).loc main_arg3)

/-- The arguments in the terms of the reference. -/
abbrev inputs : Args := Ref.args (x0 m c) (x1 m c) (x2 m c) (x3 m c)

theorem point_lt (t : Fin cfg0.N) : t.val < 64 := lt_of_lt_of_eq t.isLt N_0

theorem idx0 : ∀ t : Fin cfg0.N, win0_0.index t = ![t.val, 1] :=
  (by decide +kernel : ∀ t : Fin grid0.N, win0_0.index t = ![t.val, 1])
theorem idx1 : ∀ t : Fin cfg0.N, win0_1.index t = ![t.val, 2] :=
  (by decide +kernel : ∀ t : Fin grid0.N, win0_1.index t = ![t.val, 2])
theorem idx2 : ∀ t : Fin cfg0.N, win0_2.index t = ![t.val, 0] :=
  (by decide +kernel : ∀ t : Fin grid0.N, win0_2.index t = ![t.val, 0])
theorem idx3 : ∀ t : Fin cfg0.N, win0_3.index t = ![min (t.val + 1) 63, 0] :=
  (by decide +kernel : ∀ t : Fin grid0.N, win0_3.index t = ![min (t.val + 1) 63, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![min (t.val + 1) 63, 0] :=
  (by decide +kernel : ∀ t : Fin grid0.N, win0_5.index t = ![min (t.val + 1) 63, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![min (t.val + 1) 63, 0] :=
  (by decide +kernel : ∀ t : Fin grid0.N, win0_7.index t = ![min (t.val + 1) 63, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![min (t.val + 1) 63, 0] :=
  (by decide +kernel : ∀ t : Fin grid0.N, win0_9.index t = ![min (t.val + 1) 63, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem coord : ∀ t : Fin cfg0.N, (grid0.coords t 1).val = t.val :=
  (by decide +kernel : ∀ t : Fin grid0.N, (grid0.coords t 1).val = t.val)

theorem padded_at (X : FVec Ideal S8192x8 .f32) (r : Fin 8192) (h : Fin 8) : padded X (ix2 r ⟨h.val, by omega⟩) = X (ix2 r h) := by
  pointwise [padded]

theorem blk0 (t : Fin cfg0.N) (h : Fin 8) (a d : Fin 128) : iblk m c 0 t (ix2 a (lane h d))
    = x0 m c (ix2 ⟨128 * t.val + a.val, by have := point_lt t; omega⟩ ⟨1024 + (h.val * 128 + d.val), by omega⟩) := by
  have ht := point_lt t
  blk_ext [iblk, V_main_arg0, idx0 t]

theorem blk1 (t : Fin cfg0.N) (h : Fin 8) (a d : Fin 128) : iblk m c 1 t (ix2 a (lane h d))
    = x0 m c (ix2 ⟨128 * t.val + a.val, by have := point_lt t; omega⟩ ⟨2048 + (h.val * 128 + d.val), by omega⟩) := by
  have ht := point_lt t
  blk_ext [iblk, V_main_arg0, idx1 t]

theorem blk2 (t : Fin cfg0.N) (h : Fin 8) (a d : Fin 128) : iblk m c 2 t (ix2 a (lane h d))
    = x0 m c (ix2 ⟨128 * t.val + a.val, by have := point_lt t; omega⟩ ⟨h.val * 128 + d.val, by omega⟩) := by
  have ht := point_lt t
  blk_ext [iblk, V_main_arg0, idx2 t]

theorem blk3 (t : Fin cfg0.N) (h : Fin 8) (a d : Fin 128) : iblk m c 3 t (ix2 a (lane h d))
    = x0 m c (ix2 ⟨128 * (min (t.val + 1) 63) + a.val, by have := point_lt t; omega⟩ ⟨h.val * 128 + d.val, by omega⟩) := by
  have ht := point_lt t
  blk_ext [iblk, V_main_arg0, idx3 t]

theorem blk4 (t : Fin cfg0.N) (h : Fin 8) (a d : Fin 128) : iblk m c 4 t (ix2 a (lane h d))
    = x3 m c (ix2 ⟨128 * t.val + a.val, by have := point_lt t; omega⟩ ⟨h.val * 128 + d.val, by omega⟩) := by
  have ht := point_lt t
  blk_ext [iblk, V_main_arg3, idx4 t]

theorem blk5 (t : Fin cfg0.N) (h : Fin 8) (a d : Fin 128) : iblk m c 5 t (ix2 a (lane h d))
    = x3 m c (ix2 ⟨128 * (min (t.val + 1) 63) + a.val, by have := point_lt t; omega⟩ ⟨h.val * 128 + d.val, by omega⟩) := by
  have ht := point_lt t
  blk_ext [iblk, V_main_arg3, idx5 t]

theorem blk6 (t : Fin cfg0.N) (h : Fin 8) (a : Fin 128) : iblk m c 6 t (ix2 a (column h))
    = V m c main_v151 (ix2 ⟨128 * t.val + a.val, by have := point_lt t; omega⟩ ⟨h.val, by omega⟩) := by
  have ht := point_lt t
  blk_ext [iblk, idx6 t]

theorem blk7 (t : Fin cfg0.N) (h : Fin 8) (a : Fin 128) : iblk m c 7 t (ix2 a (column h))
    = V m c main_v151 (ix2 ⟨128 * (min (t.val + 1) 63) + a.val, by have := point_lt t; omega⟩ ⟨h.val, by omega⟩) := by
  have ht := point_lt t
  blk_ext [iblk, idx7 t]

theorem blk8 (t : Fin cfg0.N) (h : Fin 8) (a : Fin 128) : iblk m c 8 t (ix2 a (column h))
    = V m c main_v152 (ix2 ⟨128 * t.val + a.val, by have := point_lt t; omega⟩ ⟨h.val, by omega⟩) := by
  have ht := point_lt t
  blk_ext [iblk, idx8 t]

theorem blk9 (t : Fin cfg0.N) (h : Fin 8) (a : Fin 128) : iblk m c 9 t (ix2 a (column h))
    = V m c main_v152 (ix2 ⟨128 * (min (t.val + 1) 63) + a.val, by have := point_lt t; omega⟩ ⟨h.val, by omega⟩) := by
  have ht := point_lt t
  blk_ext [iblk, idx9 t]

variable {m c} (H : Ref.Finite (x0 m c) (x1 m c) (x2 m c) (x3 m c))
include H

theorem log_at (r : Fin 8192) (h : Fin 8) : logsIn (x0 m c) (x1 m c) (x2 m c) (ix2 r h)
    = ((Real.log ((inputs m c).total r.val h.val) : ℝ) : EReal) := by
  pointwise [logsIn]
  rw [Ref.total_at H, Ideal.log_coe, if_neg (not_le.mpr (Ref.total_pos H r _))]

theorem against_at (r : Fin 8192) (h : Fin 8) : againstIn (x0 m c) (x1 m c) (x2 m c) (x3 m c) (ix2 r h)
    = (((inputs m c).against r.val h.val : ℝ) : EReal) := by
  pointwise [againstIn, Cert.Reference7Ideal.Read.val_main_cst_2]
  unfold Args.against
  rw [← sum_mul_coe]
  refine Finset.sum_congr rfl fun e _ => ?_
  rw [Ref.g_at H, Ref.mean_at H]

/-- What one point of the grid is given. -/
theorem given (t : Fin cfg0.N) : Given (inputs m c) t.val (iblk m c 0 t) (iblk m c 1 t) (iblk m c 2 t) (iblk m c 3 t) (iblk m c 4 t)
    (iblk m c 5 t) (iblk m c 6 t) (iblk m c 7 t) (iblk m c 8 t) (iblk m c 9 t) where
  lt := point_lt t
  k h a d := (blk0 m c t h a d).trans ((Ref.slice5 H _ h d).symm.trans (Ref.k_at H _ h d))
  v h a d := (blk1 m c t h a d).trans ((Ref.slice8 H _ h d).symm.trans (Ref.v_at H _ h d))
  qc h a d := (blk2 m c t h a d).trans ((Ref.slice2 H _ h d).symm.trans (Ref.q_at H _ h d))
  qn h a d := (blk3 m c t h a d).trans ((Ref.slice2 H _ h d).symm.trans (Ref.q_at H _ h d))
  gc h a d := (blk4 m c t h a d).trans ((Ref.slice150 H _ h d).symm.trans (Ref.g_at H _ h d))
  gn h a d := (blk5 m c t h a d).trans ((Ref.slice150 H _ h d).symm.trans (Ref.g_at H _ h d))
  lc h a := by
    rw [blk6, entry_main_v151, w10_main_v151]
    exact (padded_at _ _ h).trans (log_at H _ h)
  ln h a := by
    rw [blk7, entry_main_v151, w10_main_v151]
    exact (padded_at _ _ h).trans (log_at H _ h)
  dc h a := by
    rw [blk8, entry_main_v152, w10_main_v152]
    exact (padded_at _ _ h).trans (against_at H _ h)
  dn h a := by
    rw [blk9, entry_main_v152, w10_main_v152]
    exact (padded_at _ _ h).trans (against_at H _ h)
  posc h a := Ref.total_pos H ⟨128 * t.val + a.val, by have := point_lt t; omega⟩ h.val
  posn h a := Ref.total_pos H ⟨128 * min (t.val + 1) 63 + a.val, by omega⟩ h.val

/-- The gradient by the keys, by token and column. -/
theorem arr_keys : (dats m 0 c).arrAt 10 cfg0.N = Cert.Reference7Ideal.Read.val_main_v172 (F := Ideal) (x0 m c) (x1 m c) (x2 m c) (x3 m c) := by
  refine (dats m 0 c).arrAt_eq_of_covers 10 _ (by decide +kernel) fun t hf y => ?_
  have ht := point_lt t
  blk_simp
  rw [after0_10]
  obtain ⟨a, h, e, rfl⟩ : ∃ (a : Fin 128) (h : Fin 8) (e : Fin 128), y = ix2 a (lane h e) := by
    have h1 : (y 1).val < 1024 := (y 1).isLt
    refine ⟨y 0, ⟨(y 1).val / 128, by omega⟩, ⟨(y 1).val % 128, by omega⟩, (eq_ix2 y).trans ?_⟩
    refine congrArg (ix2 (y 0)) (Fin.ext ?_)
    show (y 1).val = 128 * ((y 1).val / 128) + (y 1).val % 128
    omega
  refine (out_keys (given H t) (grid0.coords t) (coord t) h a e).trans ?_
  have hr : ((cfg0.win 10).blk t).view.emb (ix2 a (lane h e)) = ix2 (⟨128 * t.val + a.val, by omega⟩ : Fin 8192) (lane h e) := by
    blk_ext [idx10 t]
  refine Eq.trans ?_ (congrArg _ hr.symm)
  rw [Ref.dk_at H]
  have h1 : (128 * h.val + e.val) / 128 = h.val := by omega
  have h2 : (128 * h.val + e.val) % 128 = e.val := by omega
  dsimp only
  rw [h1, h2]

/-- The gradient by the values, by token and column. -/
theorem arr_values : (dats m 0 c).arrAt 11 cfg0.N = Cert.Reference7Ideal.Read.val_main_v174 (F := Ideal) (x0 m c) (x1 m c) (x2 m c) (x3 m c) := by
  refine (dats m 0 c).arrAt_eq_of_covers 11 _ (by decide +kernel) fun t hf y => ?_
  have ht := point_lt t
  blk_simp
  rw [after0_11]
  obtain ⟨a, h, e, rfl⟩ : ∃ (a : Fin 128) (h : Fin 8) (e : Fin 128), y = ix2 a (lane h e) := by
    have h1 : (y 1).val < 1024 := (y 1).isLt
    refine ⟨y 0, ⟨(y 1).val / 128, by omega⟩, ⟨(y 1).val % 128, by omega⟩, (eq_ix2 y).trans ?_⟩
    refine congrArg (ix2 (y 0)) (Fin.ext ?_)
    show (y 1).val = 128 * ((y 1).val / 128) + (y 1).val % 128
    omega
  refine (out_values (given H t) (grid0.coords t) (coord t) h a e).trans ?_
  have hr : ((cfg0.win 11).blk t).view.emb (ix2 a (lane h e)) = ix2 (⟨128 * t.val + a.val, by omega⟩ : Fin 8192) (lane h e) := by
    blk_ext [idx11 t]
  refine Eq.trans ?_ (congrArg _ hr.symm)
  rw [Ref.dv_at H]
  have h1 : (128 * h.val + e.val) / 128 = h.val := by omega
  have h2 : (128 * h.val + e.val) % 128 = e.val := by omega
  dsimp only
  rw [h1, h2]

end Cert.AttKv

end
-- ==== Proof.Forward.lean ====
module

public import proofs.«01_k».proof.Proof.Projections

/-!
# The forward products

Every product of the forward pass is rows times weights.
-/

@[expose] public section

noncomputable section

namespace Cert.Products

open Idealize.ShloMosaic Cert.FfnMid

/-- The rows times the weights. -/
def product {K N : ℕ} (x : (⟨2, ![8192, K]⟩ : Shape).Idx → EReal) (w : (⟨2, ![K, N]⟩ : Shape).Idx → EReal)
    (i : (⟨2, ![8192, N]⟩ : Shape).Idx) : EReal :=
  ∑ n : Fin K, at2 x (i 0).val n.val * at2 w n.val (i 1).val

end Cert.Products

end
-- ==== Proof.Up.lean ====
module

public import proofs.«01_k».proof.Proof.Gen.Kernel15Ideal.Value
public import proofs.«01_k».proof.Proof.Gen.Reference15Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The first product of the feed-forward layer

Point `t` of the grid writes rows `1024 * (t / 4) …` and columns `1408 * (t % 4) …` of the result.
-/

@[expose] public section

set_option maxRecDepth 16384

noncomputable section

namespace Cert.Up

open Cert.Kernel15Ideal Cert.Kernel15Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev w : (⟨2, ![1024, 5632]⟩ : Shape).Idx → EReal := m ((c : Thread nD τ).loc main_arg1)

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, t.val % 4] :=
  (by decide +kernel : ∀ t : Fin grid0.N, win0_2.index t = ![t.val / 4, t.val % 4])

theorem point_lt (t : Fin cfg0.N) : t.val < 32 := lt_of_lt_of_eq t.isLt N_0

theorem blk0 (t : Fin cfg0.N) (r : Fin 1024) (n : Fin 1024) : iblk m c 0 t (ix2 r n) = at2 (x m c) (1024 * (t.val / 4) + r.val) n.val := by
  have ht := point_lt t
  rw [at2_ix2 _ (by omega) (by omega)]
  blk_ext [iblk, V, idx0 t]

theorem blk1 (t : Fin cfg0.N) (n : Fin 1024) (k : Fin 1408) : iblk m c 1 t (ix2 n k) = at2 (w m c) n.val (1408 * (t.val % 4) + k.val) := by
  have ht := point_lt t
  rw [at2_ix2 _ (by omega) (by omega)]
  blk_ext [iblk, V, idx1 t]

theorem pay_at (t : Fin cfg0.N) (r : Fin 1024) (k : Fin 1408) : k0_pay1 (F := Ideal) (iblk m c 0 t) (iblk m c 1 t) (ix2 r k)
    = ∑ n : Fin 1024, at2 (x m c) (1024 * (t.val / 4) + r.val) n.val * at2 (w m c) n.val (1408 * (t.val % 4) + k.val) := by
  pointwise [k0_pay1]
  refine Finset.sum_congr rfl fun n _ => ?_
  rw [blk0, blk1]

theorem arr : (dats m 0 c).arrAt 2 cfg0.N = product (x m c) (w m c) := by
  refine (dats m 0 c).arrAt_eq_of_covers 2 _ (by decide +kernel) fun t hf y => ?_
  blk_simp
  rw [after0_2]
  obtain ⟨r, k, rfl⟩ : ∃ (r : Fin 1024) (k : Fin 1408), y = ix2 r k := ⟨y 0, y 1, eq_ix2 y⟩
  unfold outsAt0
  frame_out
  refine (pay_at m c t r k).trans ?_
  unfold product
  blk_simp [idx2 t]
  rw [Nat.mul_comm 1024, Nat.mul_comm 1408]

namespace Ref

open Cert.Reference15Ideal.Read

theorem out_eq (X : (⟨2, ![8192, 1024]⟩ : Shape).Idx → EReal) (W : (⟨2, ![1024, 5632]⟩ : Shape).Idx → EReal) :
    val_main_v3 (F := Ideal) X W = product X W := by
  funext i
  obtain ⟨r, k, rfl⟩ : ∃ (r : Fin 8192) (k : Fin 5632), i = ix2 r k := ⟨i 0, i 1, eq_ix2 i⟩
  unfold product
  pointwise [val_main_v3, val_main_v2, val_main_v0, val_main_v1]
  refine Finset.sum_congr rfl fun n _ => ?_
  exact congrArg₂ (· * ·) (at2_ix2 X r.isLt n.isLt).symm (at2_ix2 W n.isLt k.isLt).symm

end Ref

end Cert.Up

end
-- ==== Proof.Down.lean ====
module

public import proofs.«01_k».proof.Proof.Gen.Kernel16Ideal.Value
public import proofs.«01_k».proof.Proof.Gen.Reference16Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The second product of the feed-forward layer

Point `t` of the grid adds the product over columns `1408 * (t % 2) …` of the activations to rows `1024 * (t / 2) …` of the
result, which the scratch buffer carries until the second point writes it out.
-/

@[expose] public section

set_option maxRecDepth 16384

noncomputable section

namespace Cert.Down

open Cert.Kernel16Ideal Cert.Kernel16Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 2816]⟩ : Shape).Idx → EReal := m ((c : Thread nD τ).loc main_arg0)
abbrev w : (⟨2, ![2816, 1024]⟩ : Shape).Idx → EReal := m ((c : Thread nD τ).loc main_arg1)

theorem idx0 : ∀ t : Fin cfg0.N, win0_0.index t = ![t.val / 2, t.val % 2] :=
  (by decide +kernel : ∀ t : Fin grid0.N, win0_0.index t = ![t.val / 2, t.val % 2])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, 0] :=
  (by decide +kernel : ∀ t : Fin grid0.N, win0_2.index t = ![t.val / 2, 0])

theorem point_lt (t : Fin cfg0.N) : t.val < 16 := lt_of_lt_of_eq t.isLt N_0

theorem blk0 (t : Fin cfg0.N) (r : Fin 1024) (n : Fin 1408) :
    iblk m c 0 t (ix2 r n) = at2 (x m c) (1024 * (t.val / 2) + r.val) (1408 * (t.val % 2) + n.val) := by
  have ht := point_lt t
  rw [at2_ix2 _ (by omega) (by omega)]
  blk_ext [iblk, V, idx0 t]

theorem blk1 (t : Fin cfg0.N) (n : Fin 1408) (k : Fin 1024) :
    iblk m c 1 t (ix2 n k) = at2 (w m c) (1408 * (t.val % 2) + n.val) k.val := by
  have ht := point_lt t
  rw [at2_ix2 _ (by omega) (by omega)]
  blk_ext [iblk, V, idx1 t]

/-- What one point adds to the result. -/
def part (t : Fin cfg0.N) (i : S1024x1024.Idx) : EReal :=
  ∑ n : Fin 1408, at2 (x m c) (1024 * (t.val / 2) + (i 0).val) (1408 * (t.val % 2) + n.val)
    * at2 (w m c) (1408 * (t.val % 2) + n.val) (i 1).val

theorem pay_at (t : Fin cfg0.N) (i : S1024x1024.Idx) : k0_pay1 (F := Ideal) (iblk m c 0 t) (iblk m c 1 t) i = part m c t i := by
  obtain ⟨r, k, rfl⟩ : ∃ (r k : Fin 1024), i = ix2 r k := ⟨i 0, i 1, eq_ix2 i⟩
  unfold part
  pointwise [k0_pay1]
  refine Finset.sum_congr rfl fun n _ => ?_
  rw [blk0, blk1]

theorem acc_first (t : Fin cfg0.N) (h : t.val % 2 = 0) (i : S1024x1024.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 2 = 0) (i : S1024x1024.Idx) :
    (outsAt0 m c t.val t.isLt).2 i = (outsAt0 m c (t.val - 1) (by omega)).2 i + part m c t i := by
  rw [← pay_at, outsAt0_B m c t h (by omega) (by omega)]
  frame_out
  pointwise [k0_pay3]
  rw [read_unread_whole]

theorem out_last (t : Fin cfg0.N) (h : t.val % 2 = 1) : (outsAt0 m c t.val t.isLt).1 = (outsAt0 m c t.val t.isLt).2 := by
  rw [outsAt0_B m c t (by omega) (by omega) (by omega)]
  frame_out

/-- The two points of a block of rows meet every column of the activations once. -/
theorem sum_parts (t : Fin cfg0.N) (hs : ∀ s : Fin 2, 2 * (t.val / 2) + s.val < cfg0.N) (i : S1024x1024.Idx) :
    ∑ s : Fin 2, part m c ⟨2 * (t.val / 2) + s.val, hs s⟩ i
      = ∑ n : Fin 2816, at2 (x m c) (t.val / 2 * 1024 + (i 0).val) n.val * at2 (w m c) n.val (i 1).val := by
  rw [← sum_of_pieces (S := 2) (C := 1408) fun n => at2 (x m c) (t.val / 2 * 1024 + (i 0).val) n * at2 (w m c) n (i 1).val]
  refine Finset.sum_congr rfl fun s _ => Finset.sum_congr rfl fun n _ => ?_
  have hd : (2 * (t.val / 2) + s.val) / 2 = t.val / 2 := by omega
  have hm : (2 * (t.val / 2) + s.val) % 2 = s.val := by omega
  dsimp only
  rw [hd, hm, Nat.mul_comm 1024]

theorem arr : (dats m 0 c).arrAt 2 cfg0.N = product (x m c) (w m c) := by
  refine (dats m 0 c).arrAt_eq_of_covers 2 _ (by decide +kernel) fun t hf y => ?_
  have h3 := (flush0_2 t).mp hf
  blk_simp
  rw [after0_2, out_last m c t h3, Pipeline.eq_sum_fin_of_reset_step_apply_of_flush (fun n h => (outsAt0 m c n h).2) 2 (fun _ => 0)
    (part m c) (fun t h i => acc_first m c t h i) (fun t h i => acc_next m c t h i) t h3 y]
  unfold product
  blk_simp [idx2 t]
  rw [zero_add]
  exact sum_parts m c t _ y

namespace Ref

open Cert.Reference16Ideal.Read

theorem out_eq (X : (⟨2, ![8192, 2816]⟩ : Shape).Idx → EReal) (W : (⟨2, ![2816, 1024]⟩ : Shape).Idx → EReal) :
    val_main_v2 (F := Ideal) X W = product X W := by
  funext i
  obtain ⟨r, k, rfl⟩ : ∃ (r : Fin 8192) (k : Fin 1024), i = ix2 r k := ⟨i 0, i 1, eq_ix2 i⟩
  unfold product
  pointwise [val_main_v2, val_main_v0, val_main_v1]
  refine Finset.sum_congr rfl fun n _ => ?_
  exact congrArg₂ (· * ·) (at2_ix2 X r.isLt n.isLt).symm (at2_ix2 W n.isLt k.isLt).symm

end Ref

end Cert.Down

end
-- ==== Proof.OddIn.lean ====
module

public import proofs.«01_k».proof.Proof.Gen.Kernel17Ideal.Value
public import proofs.«01_k».proof.Proof.Gen.Reference17Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The first projection of the attention

Point `t` of the grid writes rows `1024 * (t / 2) …` and columns `1536 * (t % 2) …` of the result.
-/

@[expose] public section

set_option maxRecDepth 16384

noncomputable section

namespace Cert.OddIn

open Cert.Kernel17Ideal Cert.Kernel17Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev w : (⟨2, ![1024, 3072]⟩ : Shape).Idx → EReal := m ((c : Thread nD τ).loc main_arg1)

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, t.val % 2] :=
  (by decide +kernel : ∀ t : Fin grid0.N, win0_2.index t = ![t.val / 2, t.val % 2])

theorem point_lt (t : Fin cfg0.N) : t.val < 16 := lt_of_lt_of_eq t.isLt N_0

theorem blk0 (t : Fin cfg0.N) (r : Fin 1024) (n : Fin 1024) : iblk m c 0 t (ix2 r n) = at2 (x m c) (1024 * (t.val / 2) + r.val) n.val := by
  have ht := point_lt t
  rw [at2_ix2 _ (by omega) (by omega)]
  blk_ext [iblk, V, idx0 t]

theorem blk1 (t : Fin cfg0.N) (n : Fin 1024) (k : Fin 1536) : iblk m c 1 t (ix2 n k) = at2 (w m c) n.val (1536 * (t.val % 2) + k.val) := by
  have ht := point_lt t
  rw [at2_ix2 _ (by omega) (by omega)]
  blk_ext [iblk, V, idx1 t]

theorem pay_at (t : Fin cfg0.N) (r : Fin 1024) (k : Fin 1536) : k0_pay1 (F := Ideal) (iblk m c 0 t) (iblk m c 1 t) (ix2 r k)
    = ∑ n : Fin 1024, at2 (x m c) (1024 * (t.val / 2) + r.val) n.val * at2 (w m c) n.val (1536 * (t.val % 2) + k.val) := by
  pointwise [k0_pay1]
  refine Finset.sum_congr rfl fun n _ => ?_
  rw [blk0, blk1]

theorem arr : (dats m 0 c).arrAt 2 cfg0.N = product (x m c) (w m c) := by
  refine (dats m 0 c).arrAt_eq_of_covers 2 _ (by decide +kernel) fun t hf y => ?_
  blk_simp
  rw [after0_2]
  obtain ⟨r, k, rfl⟩ : ∃ (r : Fin 1024) (k : Fin 1536), y = ix2 r k := ⟨y 0, y 1, eq_ix2 y⟩
  unfold outsAt0
  frame_out
  refine (pay_at m c t r k).trans ?_
  unfold product
  blk_simp [idx2 t]
  rw [Nat.mul_comm 1024, Nat.mul_comm 1536]

namespace Ref

open Cert.Reference17Ideal.Read

theorem out_eq (X : (⟨2, ![8192, 1024]⟩ : Shape).Idx → EReal) (W : (⟨2, ![1024, 3072]⟩ : Shape).Idx → EReal) :
    val_main_v3 (F := Ideal) X W = product X W := by
  funext i
  obtain ⟨r, k, rfl⟩ : ∃ (r : Fin 8192) (k : Fin 3072), i = ix2 r k := ⟨i 0, i 1, eq_ix2 i⟩
  unfold product
  pointwise [val_main_v3, val_main_v2, val_main_v0, val_main_v1]
  refine Finset.sum_congr rfl fun n _ => ?_
  exact congrArg₂ (· * ·) (at2_ix2 X r.isLt n.isLt).symm (at2_ix2 W n.isLt k.isLt).symm

end Ref

end Cert.OddIn

end
-- ==== Proof.OddOut.lean ====
module

public import proofs.«01_k».proof.Proof.Gen.Kernel18Ideal.Value
public import proofs.«01_k».proof.Proof.Gen.Reference18Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The last projection of the attention

Point `t` of the grid writes rows `1024 * t …` of the result.
-/

@[expose] public section

set_option maxRecDepth 16384

noncomputable section

namespace Cert.OddOut

open Cert.Kernel18Ideal Cert.Kernel18Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev w : (⟨2, ![1024, 1024]⟩ : Shape).Idx → EReal := m ((c : Thread nD τ).loc main_arg1)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem blk0 (t : Fin cfg0.N) (r : Fin 1024) (n : Fin 1024) : iblk m c 0 t (ix2 r n) = at2 (x m c) (1024 * t.val + r.val) n.val := by
  have ht := point_lt t
  rw [at2_ix2 _ (by omega) (by omega)]
  blk_ext [iblk, V, idx0 t]

theorem blk1 (t : Fin cfg0.N) (n : Fin 1024) (k : Fin 1024) : iblk m c 1 t (ix2 n k) = at2 (w m c) n.val k.val := by
  have ht := point_lt t
  rw [at2_ix2 _ (by omega) (by omega)]
  blk_ext [iblk, V, idx1 t]

theorem pay_at (t : Fin cfg0.N) (r : Fin 1024) (k : Fin 1024) : k0_pay1 (F := Ideal) (iblk m c 0 t) (iblk m c 1 t) (ix2 r k)
    = ∑ n : Fin 1024, at2 (x m c) (1024 * t.val + r.val) n.val * at2 (w m c) n.val k.val := by
  pointwise [k0_pay1]
  refine Finset.sum_congr rfl fun n _ => ?_
  rw [blk0, blk1]

theorem arr : (dats m 0 c).arrAt 2 cfg0.N = product (x m c) (w m c) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  unfold outsAt0
  frame_out
  refine (pay_at m c t r k).trans ?_
  unfold product
  blk_simp [idx2 t]
  rw [Nat.mul_comm 1024]

namespace Ref

open Cert.Reference18Ideal.Read

theorem out_eq (X : (⟨2, ![8192, 1024]⟩ : Shape).Idx → EReal) (W : (⟨2, ![1024, 1024]⟩ : Shape).Idx → EReal) :
    val_main_v1 (F := Ideal) X W = product X W := by
  funext i
  obtain ⟨r, k, rfl⟩ : ∃ (r : Fin 8192) (k : Fin 1024), i = ix2 r k := ⟨i 0, i 1, eq_ix2 i⟩
  unfold product
  pointwise [val_main_v1, val_main_v0]
  refine Finset.sum_congr rfl fun n _ => ?_
  exact congrArg₂ (· * ·) (at2_ix2 X r.isLt n.isLt).symm (at2_ix2 W n.isLt k.isLt).symm

end Ref

end Cert.OddOut

end
-- ==== Proof.EvenIn.lean ====
module

public import proofs.«01_k».proof.Proof.Gen.Kernel19Ideal.Value
public import proofs.«01_k».proof.Proof.Gen.Reference19Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The first projection of the recurrent mixer

Point `t` of the grid writes rows `1024 * (t / 3) …` and columns `896 * (t % 3) …` of the result.
-/

@[expose] public section

set_option maxRecDepth 16384

noncomputable section

namespace Cert.EvenIn

open Cert.Kernel19Ideal Cert.Kernel19Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev w : (⟨2, ![1024, 2688]⟩ : Shape).Idx → EReal := m ((c : Thread nD τ).loc main_arg1)

theorem idx0 : ∀ t : Fin cfg0.N, win0_0.index t = ![t.val / 3, 0] :=
  (by decide +kernel : ∀ t : Fin grid0.N, win0_0.index t = ![t.val / 3, 0])
theorem idx1 : ∀ t : Fin cfg0.N, win0_1.index t = ![0, t.val % 3] :=
  (by decide +kernel : ∀ t : Fin grid0.N, win0_1.index t = ![0, t.val % 3])
theorem idx2 : ∀ t : Fin cfg0.N, win0_2.index t = ![t.val / 3, t.val % 3] :=
  (by decide +kernel : ∀ t : Fin grid0.N, win0_2.index t = ![t.val / 3, t.val % 3])

theorem point_lt (t : Fin cfg0.N) : t.val < 24 := lt_of_lt_of_eq t.isLt N_0

theorem blk0 (t : Fin cfg0.N) (r : Fin 1024) (n : Fin 1024) : iblk m c 0 t (ix2 r n) = at2 (x m c) (1024 * (t.val / 3) + r.val) n.val := by
  have ht := point_lt t
  rw [at2_ix2 _ (by omega) (by omega)]
  blk_ext [iblk, V, idx0 t]

theorem blk1 (t : Fin cfg0.N) (n : Fin 1024) (k : Fin 896) : iblk m c 1 t (ix2 n k) = at2 (w m c) n.val (896 * (t.val % 3) + k.val) := by
  have ht := point_lt t
  rw [at2_ix2 _ (by omega) (by omega)]
  blk_ext [iblk, V, idx1 t]

theorem pay_at (t : Fin cfg0.N) (r : Fin 1024) (k : Fin 896) : k0_pay1 (F := Ideal) (iblk m c 0 t) (iblk m c 1 t) (ix2 r k)
    = ∑ n : Fin 1024, at2 (x m c) (1024 * (t.val / 3) + r.val) n.val * at2 (w m c) n.val (896 * (t.val % 3) + k.val) := by
  pointwise [k0_pay1]
  refine Finset.sum_congr rfl fun n _ => ?_
  rw [blk0, blk1]

theorem arr : (dats m 0 c).arrAt 2 cfg0.N = product (x m c) (w m c) := by
  refine (dats m 0 c).arrAt_eq_of_covers 2 _ (by decide +kernel) fun t hf y => ?_
  blk_simp
  rw [after0_2]
  obtain ⟨r, k, rfl⟩ : ∃ (r : Fin 1024) (k : Fin 896), y = ix2 r k := ⟨y 0, y 1, eq_ix2 y⟩
  unfold outsAt0
  frame_out
  refine (pay_at m c t r k).trans ?_
  unfold product
  blk_simp [idx2 t]
  rw [Nat.mul_comm 1024, Nat.mul_comm 896]

namespace Ref

open Cert.Reference19Ideal.Read

theorem out_eq (X : (⟨2, ![8192, 1024]⟩ : Shape).Idx → EReal) (W : (⟨2, ![1024, 2688]⟩ : Shape).Idx → EReal) :
    val_main_v2 (F := Ideal) X W = product X W := by
  funext i
  obtain ⟨r, k, rfl⟩ : ∃ (r : Fin 8192) (k : Fin 2688), i = ix2 r k := ⟨i 0, i 1, eq_ix2 i⟩
  unfold product
  pointwise [val_main_v2, val_main_v0, val_main_v1]
  refine Finset.sum_congr rfl fun n _ => ?_
  exact congrArg₂ (· * ·) (at2_ix2 X r.isLt n.isLt).symm (at2_ix2 W n.isLt k.isLt).symm

end Ref

end Cert.EvenIn

end
-- ==== Proof.EvenOut.lean ====
module

public import proofs.«01_k».proof.Proof.Gen.Kernel20Ideal.Value
public import proofs.«01_k».proof.Proof.Gen.Reference20Ideal.Read
public import proofs.«01_k».proof.Proof.Forward
public import Idealize.ShloMosaic.Lib.Pipeline.ValueKit
public import Idealize.ShloMosaic.Lib.Pipeline.ReadBack
public import Idealize.ShloMosaic.Lib.StableHlo.ReadAt

/-!
# The last projection of the recurrent mixer

Point `t` of the grid writes rows `1024 * t …` of the result.
-/

@[expose] public section

set_option maxRecDepth 16384

noncomputable section

namespace Cert.EvenOut

open Cert.Kernel20Ideal Cert.Kernel20Ideal.Gen Idealize.ShloMosaic Idealize.ShloMosaic.TcCoe Idealize.SL.Sem
open Cert.FfnMid Cert.Products

variable (m : (ℓ : Loc nD τ sig) → Buf (Elt Ideal) ℓ) (c : Dev nD)

abbrev x : (⟨2, ![8192, 1024]⟩ : Shape).Idx → EReal := m ((c : Thread nD τ).loc main_arg0)
abbrev w : (⟨2, ![1024, 1024]⟩ : Shape).Idx → EReal := m ((c : Thread nD τ).loc main_arg1)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

theorem point_lt (t : Fin cfg0.N) : t.val < 8 := lt_of_lt_of_eq t.isLt N_0

theorem blk0 (t : Fin cfg0.N) (r : Fin 1024) (n : Fin 1024) : iblk m c 0 t (ix2 r n) = at2 (x m c) (1024 * t.val + r.val) n.val := by
  have ht := point_lt t
  rw [at2_ix2 _ (by omega) (by omega)]
  blk_ext [iblk, V, idx0 t]

theorem blk1 (t : Fin cfg0.N) (n : Fin 1024) (k : Fin 1024) : iblk m c 1 t (ix2 n k) = at2 (w m c) n.val k.val := by
  have ht := point_lt t
  rw [at2_ix2 _ (by omega) (by omega)]
  blk_ext [iblk, V, idx1 t]

theorem pay_at (t : Fin cfg0.N) (r : Fin 1024) (k : Fin 1024) : k0_pay1 (F := Ideal) (iblk m c 0 t) (iblk m c 1 t) (ix2 r k)
    = ∑ n : Fin 1024, at2 (x m c) (1024 * t.val + r.val) n.val * at2 (w m c) n.val k.val := by
  pointwise [k0_pay1]
  refine Finset.sum_congr rfl fun n _ => ?_
  rw [blk0, blk1]

theorem arr : (dats m 0 c).arrAt 2 cfg0.N = product (x m c) (w m c) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, eq_ix2 y⟩
  unfold outsAt0
  frame_out
  refine (pay_at m c t r k).trans ?_
  unfold product
  blk_simp [idx2 t]
  rw [Nat.mul_comm 1024]

namespace Ref

open Cert.Reference20Ideal.Read

theorem out_eq (X : (⟨2, ![8192, 1024]⟩ : Shape).Idx → EReal) (W : (⟨2, ![1024, 1024]⟩ : Shape).Idx → EReal) :
    val_main_v2 (F := Ideal) X W = product X W := by
  funext i
  obtain ⟨r, k, rfl⟩ : ∃ (r : Fin 8192) (k : Fin 1024), i = ix2 r k := ⟨i 0, i 1, eq_ix2 i⟩
  unfold product
  pointwise [val_main_v2, val_main_v0, val_main_v1]
  refine Finset.sum_congr rfl fun n _ => ?_
  exact congrArg₂ (· * ·) (at2_ix2 X r.isLt n.isLt).symm (at2_ix2 W n.isLt k.isLt).symm

end Ref

end Cert.EvenOut

end
-- ==== Proof.EvenOutDw.lean ====
module

public import proofs.«01_k».proof.Proof.Gen.Kernel21Ideal.Value
public import proofs.«01_k».proof.Proof.Gen.Reference21Ideal.Read
public import proofs.«01_k».proof.Proof.Projections
public import proofs.«01_k».proof.Proof.DownDw
public import Idealize.ShloMosaic.Lib.Pipeline.ValueKit
public import Idealize.ShloMosaic.Lib.Pipeline.ReadBack
public import Idealize.ShloMosaic.Lib.StableHlo.ReadAt

/-!
# The gradient by the weights of the recurrent mixer's output projection

Point `t` of the grid adds the product over tokens `2048 * (t % 4) …` to rows `512 * (t / 8) …` and columns
`512 * (t / 4 % 2) …` of the result, which the scratch buffer carries until the fourth point writes it out as two
quarters of the rows.
-/

@[expose] public section

set_option maxRecDepth 16384

noncomputable section

namespace Cert.EvenOutDw

open Cert.Kernel21Ideal Cert.Kernel21Ideal.Gen Idealize.ShloMosaic Idealize.ShloMosaic.TcCoe Idealize.SL.Sem
open Cert.FfnMid Cert.Products

variable (m : (ℓ : Loc nD τ sig) → Buf (Elt Ideal) ℓ) (c : Dev nD)

abbrev o : (⟨2, ![8192, 1024]⟩ : Shape).Idx → EReal := m ((c : Thread nD τ).loc main_arg0)
abbrev dy : (⟨2, ![8192, 1024]⟩ : Shape).Idx → EReal := m ((c : Thread nD τ).loc main_arg1)

theorem idx0 : ∀ t : Fin cfg0.N, win0_0.index t = ![t.val % 4, t.val / 8] :=
  (by decide +kernel : ∀ t : Fin grid0.N, win0_0.index t = ![t.val % 4, t.val / 8])
theorem idx1 : ∀ t : Fin cfg0.N, win0_1.index t = ![t.val % 4, t.val / 4 % 2] :=
  (by decide +kernel : ∀ t : Fin grid0.N, win0_1.index t = ![t.val % 4, t.val / 4 % 2])
theorem idx2 : ∀ t : Fin cfg0.N, win0_2.index t = ![t.val / 4 % 2, t.val / 8, 0, 0] :=
  (by decide +kernel : ∀ t : Fin grid0.N, win0_2.index t = ![t.val / 4 % 2, t.val / 8, 0, 0])

theorem point_lt (t : Fin cfg0.N) : t.val < 16 := lt_of_lt_of_eq t.isLt N_0

theorem blk0 (t : Fin cfg0.N) (x : Fin 2048) (r : Fin 512) :
    iblk m c 0 t (ix2 x r) = at2 (o m c) (2048 * (t.val % 4) + x.val) (512 * (t.val / 8) + r.val) := by
  have ht := point_lt t
  rw [at2_ix2 _ (by omega) (by omega)]
  blk_ext [iblk, V, idx0 t]

theorem blk1 (t : Fin cfg0.N) (x : Fin 2048) (k : Fin 512) :
    iblk m c 1 t (ix2 x k) = at2 (dy m c) (2048 * (t.val % 4) + x.val) (512 * (t.val / 4 % 2) + k.val) := by
  have ht := point_lt t
  rw [at2_ix2 _ (by omega) (by omega)]
  blk_ext [iblk, V, idx1 t]

/-- What one point adds to the result. -/
def part (t : Fin cfg0.N) (i : S512x512.Idx) : EReal :=
  ∑ x : Fin 2048, at2 (o m c) (2048 * (t.val % 4) + x.val) (512 * (t.val / 8) + (i 0).val)
    * at2 (dy m c) (2048 * (t.val % 4) + x.val) (512 * (t.val / 4 % 2) + (i 1).val)

theorem pay_at (t : Fin cfg0.N) (i : S512x512.Idx) : k0_pay1 (F := Ideal) (iblk m c 0 t) (iblk m c 1 t) i = part m c t i := by
  obtain ⟨r, k, rfl⟩ : ∃ (r : Fin 512) (k : Fin 512), i = ix2 r k := ⟨i 0, i 1, eq_ix2 i⟩
  unfold part
  pointwise [k0_pay1]
  refine Finset.sum_congr rfl fun x _ => ?_
  rw [blk0, blk1]

theorem acc_first (t : Fin cfg0.N) (h : t.val % 4 = 0) (i : S512x512.Idx) :
    (outsAt0 m c t.val t.isLt).2 i = (fun _ => 0) i + part m c t i := by
  rw [outsAt0_A m c t h (by omega) (by omega)]
  frame_out
  rw [zero_add, ← pay_at]
  pointwise [k0_pay2]

theorem acc_next (t : Fin cfg0.N) (h : ¬t.val % 4 = 0) (i : S512x512.Idx) :
    (outsAt0 m c t.val t.isLt).2 i = (outsAt0 m c (t.val - 1) (by omega)).2 i + part m c t i := by
  rw [← pay_at]
  by_cases h2 : t.val % 4 = 3
  · rw [outsAt0_C m c t h (by omega) h2]
    frame_out
    pointwise [k0_pay3]
    rw [read_unread_whole]
  · rw [outsAt0_B m c t h (by omega) h2]
    frame_out
    pointwise [k0_pay3]
    rw [read_unread_whole]

theorem out_last (t : Fin cfg0.N) (h : t.val % 4 = 3) (a : Fin 1) (q : Fin 2) (r : Fin 256) (k : Fin 512) :
    (outsAt0 m c t.val t.isLt).1 (ix4 a q r k) = (outsAt0 m c t.val t.isLt).2 (ix2 ⟨256 * q.val + r.val, by omega⟩ k) := by
  rw [outsAt0_C m c t (by omega) (by omega) h]
  frame_out
  generalize k0_pay3 (F := Ideal) _ _ _ = S
  refine (DownDw.canon_slab _ _ _ a q r k).trans ?_
  by_cases h1 : q.val = 1
  · rw [if_pos h1]
    pointwise [k0_pay5]
    exact congrArg (fun x => S (ix2 x k)) (Fin.ext (by dsimp only; omega))
  · rw [if_neg h1]
    refine (DownDw.canon_slab _ _ _ a q r k).trans ?_
    rw [if_pos (by omega)]
    pointwise [k0_pay4]
    exact congrArg (fun x => S (ix2 x k)) (Fin.ext (by dsimp only; omega))

/-- The four points of a block meet every token once. -/
theorem sum_parts (t : Fin cfg0.N) (hs : ∀ s : Fin 4, 4 * (t.val / 4) + s.val < cfg0.N) (i : S512x512.Idx) :
    ∑ s : Fin 4, part m c ⟨4 * (t.val / 4) + s.val, hs s⟩ i
      = ∑ n : Fin 8192, at2 (o m c) n.val (512 * (t.val / 8) + (i 0).val)
          * at2 (dy m c) n.val (512 * (t.val / 4 % 2) + (i 1).val) := by
  rw [← sum_tokens fun n => at2 (o m c) n (512 * (t.val / 8) + (i 0).val) * at2 (dy m c) n (512 * (t.val / 4 % 2) + (i 1).val)]
  refine Finset.sum_congr rfl fun s _ => Finset.sum_congr rfl fun x _ => ?_
  have hd : (4 * (t.val / 4) + s.val) / 8 = t.val / 8 := by omega
  have hq : (4 * (t.val / 4) + s.val) / 4 % 2 = t.val / 4 % 2 := by omega
  have hm : (4 * (t.val / 4) + s.val) % 4 = s.val := by omega
  dsimp only
  rw [hd, hq, hm]

theorem arr : (dats m 0 c).arrAt 2 cfg0.N = byWeightsPieces (o m c) (dy m c) := by
  refine (dats m 0 c).arrAt_eq_of_covers 2 _ (by decide +kernel) fun t hf y => ?_
  have h3 := (flush0_2 t).mp hf
  blk_simp
  obtain ⟨a, q, r, k, rfl⟩ : ∃ (a : Fin 1) (q : Fin 2) (r : Fin 256) (k : Fin 512), y = ix4 a q r k :=
    ⟨y 0, y 1, y 2, y 3, eq_ix4 y⟩
  rw [after0_2]
  refine (out_last m c t h3 a q r k).trans ?_
  rw [Pipeline.eq_sum_fin_of_reset_step_apply_of_flush (fun n h => (outsAt0 m c n h).2) 4 (fun _ => 0)
    (part m c) (fun t h i => acc_first m c t h i) (fun t h i => acc_next m c t h i) t h3 (ix2 ⟨256 * q.val + r.val, by omega⟩ k)]
  unfold byWeightsPieces
  blk_simp [idx2 t]
  rw [zero_add]
  refine (sum_parts m c t _ (ix2 ⟨256 * q.val + r.val, by omega⟩ k)).trans (Finset.sum_congr rfl fun n _ => ?_)
  exact congrArg (fun x => at2 (o m c) n.val x * at2 (dy m c) n.val (512 * (t.val / 4 % 2) + k.val))
    (by show 512 * (t.val / 8) + (256 * q.val + r.val) = _; omega)

namespace Ref

open Cert.Reference21Ideal.Read

variable (X : (⟨2, ![8192, 1024]⟩ : Shape).Idx → EReal) (D : (⟨2, ![8192, 1024]⟩ : Shape).Idx → EReal)

/-- The gradient by the second weights as one matrix. -/
theorem matrix_at (r : Fin 1024) (n : Fin 1024) :
    val_main_v5 (F := Ideal) X D (ix2 r n) = ∑ t : Fin 8192, at2 X t.val r.val * at2 D t.val n.val := by
  pointwise [val_main_v5, val_main_v4, val_main_v1, val_main_v0]
  refine Finset.sum_congr rfl fun t _ => ?_
  exact (congrArg₂ (· * ·) (at2_ix2 D t.isLt n.isLt).symm (at2_ix2 X t.isLt r.isLt).symm).trans (EReal.mul_comm _ _)

/-- A quarter of the rows of the first columns. -/
theorem left_at (q : Fin 4) (r : Fin 256) (k : Fin 512) : val_main_v16 (F := Ideal) X D (ix3 q r k)
    = ∑ t : Fin 8192, at2 X t.val (256 * q.val + r.val) * at2 D t.val k.val := by
  have h := matrix_at X D ⟨256 * q.val + r.val, by omega⟩ ⟨k.val, by omega⟩
  refine Eq.trans ?_ h
  fin_cases q <;>
  pointwise [val_main_v16, val_main_v15, val_main_v14, val_main_v13, val_main_v12, val_main_v11, val_main_v10, val_main_v9,
    val_main_v8, val_main_v6]

/-- A quarter of the rows of the last columns. -/
theorem right_at (q : Fin 4) (r : Fin 256) (k : Fin 512) : val_main_v25 (F := Ideal) X D (ix3 q r k)
    = ∑ t : Fin 8192, at2 X t.val (256 * q.val + r.val) * at2 D t.val (512 + k.val) := by
  have h := matrix_at X D ⟨256 * q.val + r.val, by omega⟩ ⟨512 + k.val, by omega⟩
  refine Eq.trans ?_ h
  fin_cases q <;>
  pointwise [val_main_v25, val_main_v24, val_main_v23, val_main_v22, val_main_v21, val_main_v20, val_main_v19, val_main_v18,
    val_main_v17, val_main_v7]

theorem out_eq : val_main_v28 (F := Ideal) X D = byWeightsPieces X D := by
  funext i
  obtain ⟨a, q, r, k, rfl⟩ : ∃ (a : Fin 2) (q : Fin 4) (r : Fin 256) (k : Fin 512), i = ix4 a q r k :=
    ⟨i 0, i 1, i 2, i 3, eq_ix4 i⟩
  have hu : ∀ z : Fin 1, val_main_v26 (F := Ideal) X D (ix4 z q r k) = byWeightsPieces X D (ix4 0 q r k) := fun z => by
    pointwise [val_main_v26]
    refine (left_at X D q r k).trans ?_
    unfold byWeightsPieces
    dsimp
    rw [zero_add]
  have hl : ∀ z : Fin 1, val_main_v27 (F := Ideal) X D (ix4 z q r k) = byWeightsPieces X D (ix4 1 q r k) := fun z => by
    pointwise [val_main_v27]
    exact right_at X D q r k
  fin_cases a <;> pointwise [val_main_v28]
  · exact hu 0
  · exact hl 0

end Ref

end Cert.EvenOutDw

end
-- ==== Proof.Blocks.lean ====
module

public import proofs.«01_k».proof.Proof.Gen.KernelIdeal.Value
public import proofs.«01_k».proof.Proof.Spec
public import Idealize.ShloMosaic.Lib.Pipeline.ValueKit
public import Idealize.ShloMosaic.Lib.StableHlo.ReadAt

/-!
# What the kernel's windows hold at a grid point

Point `t` of the grid works on rows `256 * (t % 32) …` and columns `1408 * (t / 32) …`. Each input block is read here
as a function of the launched arguments.
-/

@[expose] public section

set_option maxRecDepth 16384

noncomputable section

namespace Cert.FfnMid

open Cert.KernelIdeal Cert.KernelIdeal.Gen Idealize.ShloMosaic Idealize.ShloMosaic.TcCoe Idealize.SL.Sem

variable (m : (ℓ : Loc nD τ sig) → Buf (Elt Ideal) ℓ) (c : Dev nD)

/-- The gradient's arguments, as the memory holds them at the launch. -/
abbrev inputs : Args :=
  args (m ((c : Thread nD τ).loc main_arg0)) (m ((c : Thread nD τ).loc main_arg1)) (m ((c : Thread nD τ).loc main_arg2))
    (m ((c : Thread nD τ).loc main_arg3))

theorem idx0 : ∀ t : Fin cfg0.N, win0_0.index t = ![t.val % 32, t.val / 32] :=
  (by decide +kernel : ∀ t : Fin grid0.N, win0_0.index t = ![t.val % 32, t.val / 32])
theorem idx1 : ∀ t : Fin cfg0.N, win0_1.index t = ![16 * (t.val % 32) - 1, t.val / 32] :=
  (by decide +kernel : ∀ t : Fin grid0.N, win0_1.index t = ![16 * (t.val % 32) - 1, t.val / 32])
theorem idx2 : ∀ t : Fin cfg0.N, win0_2.index t = ![16 * min (t.val % 32 + 1) 31, t.val / 32] :=
  (by decide +kernel : ∀ t : Fin grid0.N, win0_2.index t = ![16 * min (t.val % 32 + 1) 31, t.val / 32])
theorem idx3 : ∀ t : Fin cfg0.N, win0_3.index t = ![t.val % 32, t.val / 32 + 2] :=
  (by decide +kernel : ∀ t : Fin grid0.N, win0_3.index t = ![t.val % 32, t.val / 32 + 2])
theorem idx4 : ∀ t : Fin cfg0.N, win0_4.index t = ![16 * min (t.val % 32 + 1) 31, t.val / 32 + 2] :=
  (by decide +kernel : ∀ t : Fin grid0.N, win0_4.index t = ![16 * min (t.val % 32 + 1) 31, t.val / 32 + 2])
theorem idx5 : ∀ t : Fin cfg0.N, win0_5.index t = ![t.val % 32, t.val / 32] :=
  (by decide +kernel : ∀ t : Fin grid0.N, win0_5.index t = ![t.val % 32, t.val / 32])
theorem idx6 : ∀ t : Fin cfg0.N, win0_6.index t = ![16 * min (t.val % 32 + 1) 31, t.val / 32] :=
  (by decide +kernel : ∀ t : Fin grid0.N, win0_6.index t = ![16 * min (t.val % 32 + 1) 31, t.val / 32])
theorem idx7 : ∀ t : Fin cfg0.N, win0_7.index t = ![0, t.val / 32] :=
  (by decide +kernel : ∀ t : Fin grid0.N, win0_7.index t = ![0, t.val / 32])
theorem idx8 : ∀ t : Fin cfg0.N, win0_8.index t = ![0, t.val / 32] :=
  (by decide +kernel : ∀ t : Fin grid0.N, win0_8.index t = ![0, t.val / 32])
theorem idx9 : ∀ t : Fin cfg0.N, win0_9.index t = ![0, t.val % 32, t.val / 32] :=
  (by decide +kernel : ∀ t : Fin grid0.N, win0_9.index t = ![0, t.val % 32, t.val / 32])
theorem idx10 : ∀ t : Fin cfg0.N, win0_10.index t = ![0, t.val / 32] :=
  (by decide +kernel : ∀ t : Fin grid0.N, win0_10.index t = ![0, t.val / 32])
theorem idx11 : ∀ t : Fin cfg0.N, win0_11.index t = ![0, t.val / 32] :=
  (by decide +kernel : ∀ t : Fin grid0.N, win0_11.index t = ![0, t.val / 32])

/-- The kernel's test that a block has rows above it. -/
theorem first_word : ∀ t : Fin cfg0.N, Scalar.cmpi .sgt (BitVec.ofNat 32 (grid0.coords t 1).val) 0#32 = if t.val % 32 = 0 then 0#1 else 1#1 :=
  (by decide +kernel : ∀ t : Fin grid0.N, Scalar.cmpi .sgt (BitVec.ofNat 32 (grid0.coords t 1).val) 0#32 = if t.val % 32 = 0 then 0#1 else 1#1)

/-- The kernel's test that a block has rows below it. -/
theorem last_word : ∀ t : Fin cfg0.N, Scalar.cmpi .slt (BitVec.ofNat 32 (grid0.coords t 1).val) 31#32 = if t.val % 32 = 31 then 0#1 else 1#1 :=
  (by decide +kernel : ∀ t : Fin grid0.N, Scalar.cmpi .slt (BitVec.ofNat 32 (grid0.coords t 1).val) 31#32 = if t.val % 32 = 31 then 0#1 else 1#1)

theorem point_lt (t : Fin cfg0.N) : t.val < 64 := lt_of_lt_of_eq t.isLt N_0

variable (t : Fin cfg0.N)

theorem blk0 (r : Fin 256) (k : Fin 1408) :
    iblk m c 0 t (ix2 r k) = (inputs m c).gate (256 * (t.val % 32) + r.val) (1408 * (t.val / 32) + k.val) := by
  have ht := point_lt t
  show _ = at2 _ _ _
  rw [at2_ix2 _ (by omega) (by omega)]
  blk_ext [iblk, V, idx0 t]

theorem blk1 (r : Fin 16) (k : Fin 1408) :
    iblk m c 1 t (ix2 r k) = (inputs m c).gate (16 * (16 * (t.val % 32) - 1) + r.val) (1408 * (t.val / 32) + k.val) := by
  have ht := point_lt t
  show _ = at2 _ _ _
  rw [at2_ix2 _ (by omega) (by omega)]
  blk_ext [iblk, V, idx1 t]

theorem blk2 (r : Fin 16) (k : Fin 1408) :
    iblk m c 2 t (ix2 r k) = (inputs m c).gate (256 * min (t.val % 32 + 1) 31 + r.val) (1408 * (t.val / 32) + k.val) := by
  have ht := point_lt t
  show _ = at2 _ _ _
  rw [at2_ix2 _ (by omega) (by omega)]
  blk_ext [iblk, V, idx2 t]

theorem blk3 (r : Fin 256) (k : Fin 1408) :
    iblk m c 3 t (ix2 r k) = (inputs m c).val (256 * (t.val % 32) + r.val) (1408 * (t.val / 32) + k.val) := by
  have ht := point_lt t
  show _ = at2 _ _ _
  rw [at2_ix2 _ (by omega) (by omega)]
  blk_ext [iblk, V, idx3 t]

theorem blk4 (r : Fin 16) (k : Fin 1408) :
    iblk m c 4 t (ix2 r k) = (inputs m c).val (256 * min (t.val % 32 + 1) 31 + r.val) (1408 * (t.val / 32) + k.val) := by
  have ht := point_lt t
  show _ = at2 _ _ _
  rw [at2_ix2 _ (by omega) (by omega)]
  blk_ext [iblk, V, idx4 t]

theorem blk5 (r : Fin 256) (k : Fin 1408) :
    iblk m c 5 t (ix2 r k) = (inputs m c).da (256 * (t.val % 32) + r.val) (1408 * (t.val / 32) + k.val) := by
  have ht := point_lt t
  show _ = at2 _ _ _
  rw [at2_ix2 _ (by omega) (by omega)]
  blk_ext [iblk, V, idx5 t]

theorem blk6 (r : Fin 16) (k : Fin 1408) :
    iblk m c 6 t (ix2 r k) = (inputs m c).da (256 * min (t.val % 32 + 1) 31 + r.val) (1408 * (t.val / 32) + k.val) := by
  have ht := point_lt t
  show _ = at2 _ _ _
  rw [at2_ix2 _ (by omega) (by omega)]
  blk_ext [iblk, V, idx6 t]

/-- The taps, behind the rows of zeros that the host adds. -/
theorem taps_entry (r : Fin 8) (k : Fin 2816) (hr : r.val < 3) :
    V m c main_v0 (ix2 r k) = (inputs m c).w r.val k.val := by
  show _ = at2 _ _ _
  rw [at2_ix2 _ hr k.isLt]
  unfold V
  after_reads_at
  exact dif_pos hr

theorem bias_entry (r : Fin 1) (k : Fin 2816) : V m c main_v1 (ix2 r k) = (inputs m c).b k.val := by
  show _ = at1 _ _
  rw [at1_ix1 _ k.isLt]
  unfold V
  after_reads_at

theorem blk7 (r : Fin 8) (k : Fin 1408) (hr : r.val < 3) :
    iblk m c 7 t (ix2 r k) = (inputs m c).w r.val (1408 * (t.val / 32) + k.val) := by
  have ht := point_lt t
  rw [← taps_entry m c r ⟨1408 * (t.val / 32) + k.val, by omega⟩ hr]
  blk_ext [iblk, idx7 t]

theorem blk8 (r : Fin 1) (k : Fin 1408) :
    iblk m c 8 t (ix2 r k) = (inputs m c).b (1408 * (t.val / 32) + k.val) := by
  have ht := point_lt t
  rw [← bias_entry m c 0 ⟨1408 * (t.val / 32) + k.val, by omega⟩]
  blk_ext [iblk, idx8 t]

end Cert.FfnMid

end
-- ==== Proof.Body.lean ====
module

public import proofs.«01_k».proof.Proof.Blocks

/-!
# What the kernel's body computes at a grid point

The body's values, read at an index of the block and stated by the functions of `Spec`. Row `r` of point `t`'s block is
row `256 * (t % 32) + r` of the arrays, and column `k` is column `1408 * (t / 32) + k`.
-/

@[expose] public section

set_option maxRecDepth 16384

noncomputable section

namespace Cert.FfnMid

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The gate block between the rows above it and the rows below it. -/
abbrev extB : FVec Ideal S288x1408 .f32 := k0_pay2 (grid0.coords t) (iblk m c 0 t) (iblk m c 1 t) (iblk m c 2 t)

/-- The convolved gate, for the block's rows and the 16 rows below. -/
abbrev convB : FVec Ideal S272x1408 .f32 :=
  k0_pay6 (grid0.coords t) (iblk m c 0 t) (iblk m c 1 t) (iblk m c 2 t) (iblk m c 7 t) (iblk m c 8 t)

/-- The value half, for the same rows. -/
abbrev valB : FVec Ideal S272x1408 .f32 := k0_pay7 (iblk m c 3 t) (iblk m c 4 t)

/-- Whether the block has rows below it. -/
abbrev lastB : BitVec 1 := Scalar.cmpi .slt (BitVec.ofNat 32 (grid0.coords t 1).val) 31#32

/-- The gradient of the convolved gate, for the same rows. -/
abbrev dconvB : FVec Ideal S272x1408 .f32 :=
  k0_pay12 (convB m c t) (valB m c t) (lastB t) (k0_pay8 (iblk m c 6 t)) (iblk m c 5 t)

/-- Row of the arrays at row `r` of the block. -/
abbrev row (r : ℕ) : ℕ := 256 * (t.val % 32) + r

/-- Column of the arrays at column `k` of the block. -/
abbrev col (k : ℕ) : ℕ := 1408 * (t.val / 32) + k

theorem select_zero {α : Type} (x y : α) : Scalar.select 0#1 x y = y := rfl
theorem select_one {α : Type} (x y : α) : Scalar.select 1#1 x y = x := rfl

theorem add_eq {a a' b b' : EReal} (h : a = a') (h' : b = b') : a + b = a' + b' := by rw [h, h']
theorem mul_eq {a a' b b' : EReal} (h : a = a') (h' : b = b') : a * b = a' * b' := by rw [h, h']

theorem extB_back (s r : ℕ) (hs : s ≤ 2) (hr : row t r < rows) (e : Fin 288) (k : Fin 1408) (he : e.val + s = 16 + r) :
    extB m c t (ix2 e k) = (inputs m c).back s (row t r) (col t k) := by
  have ht := point_lt t
  unfold row rows at hr
  pointwise [k0_pay2, k0_pay1]
  rw [first_word]
  unfold Args.back row
  by_cases h1 : e.val < 16
  · rw [dif_pos h1]
    by_cases h2 : t.val % 32 = 0
    · rw [if_pos h2, select_zero]
      exact (if_neg (by omega)).symm
    · rw [if_neg h2, select_one]
      refine (blk1 m c t ⟨e.val, h1⟩ k).trans ?_
      rw [if_pos (by omega)]
      congr 1; dsimp only; omega
  · rw [dif_neg h1]
    by_cases h2 : e.val - 16 < 256
    · rw [dif_pos h2]
      refine (blk0 m c t ⟨e.val - 16, h2⟩ k).trans ?_
      rw [if_pos (by omega)]
      congr 1; dsimp only; omega
    · rw [dif_neg h2]
      refine (blk2 m c t ⟨e.val - 16 - 256, by omega⟩ k).trans ?_
      rw [if_pos (by omega)]
      congr 1; dsimp only; omega

theorem convB_apply (r : Fin 272) (k : Fin 1408) (hr : row t r < rows) :
    convB m c t (ix2 r k) = (inputs m c).conv (row t r) (col t k) := by
  pointwise [k0_pay6, k0_pay4, k0_pay5, k0_pay3]
  exact add_eq (add_eq (add_eq
      (mul_eq (blk7 m c t 2 k (by decide)) (extB_back m c t 0 r (by omega) hr ⟨16 + r.val, by omega⟩ k (by dsimp only; omega)))
      (mul_eq (blk7 m c t 1 k (by decide))
        (extB_back m c t 1 r (by omega) hr ⟨(16 + r.val + 288 - 1) % 288, by omega⟩ k (by dsimp only; omega))))
      (mul_eq (blk7 m c t 0 k (by decide))
        (extB_back m c t 2 r (by omega) hr ⟨(16 + r.val + 288 - 2) % 288, by omega⟩ k (by dsimp only; omega))))
    (blk8 m c t 0 k)

theorem valB_apply (r : Fin 272) (k : Fin 1408) (hr : row t r < rows) :
    valB m c t (ix2 r k) = (inputs m c).val (row t r) (col t k) := by
  have ht := point_lt t
  unfold row rows at hr
  pointwise [k0_pay7]
  by_cases h : r.val < 256
  · rw [dif_pos h]
    exact blk3 m c t ⟨r.val, h⟩ k
  · rw [dif_neg h]
    refine (blk4 m c t ⟨r.val - 256, by omega⟩ k).trans ?_
    congr 1; dsimp only; unfold row; omega

theorem daB_apply (r : Fin 272) (k : Fin 1408) :
    k0_pay9 (lastB t) (k0_pay8 (iblk m c 6 t)) (iblk m c 5 t) (ix2 r k) = (inputs m c).da (row t r) (col t k) := by
  have ht := point_lt t
  pointwise [k0_pay9, k0_pay8]
  by_cases h : r.val < 256
  · rw [dif_pos h]
    exact blk5 m c t ⟨r.val, h⟩ k
  · rw [dif_neg h]
    refine (congrArg (fun w => Scalar.select w _ _) (last_word t)).trans ?_
    by_cases h2 : t.val % 32 = 31
    · rw [if_pos h2, select_zero]
      exact (at2_of_le _ _ (by unfold row; omega)).symm
    · rw [if_neg h2, select_one]
      refine (blk6 m c t ⟨r.val - 256, by omega⟩ k).trans ?_
      congr 1; dsimp only; unfold row; omega

theorem dconvB_apply (r : Fin 272) (k : Fin 1408) :
    dconvB m c t (ix2 r k) = (inputs m c).dconv (row t r) (col t k) := by
  pointwise [k0_pay12, k0_pay10]
  rw [daB_apply]
  by_cases hr : row t r < rows
  · rw [convB_apply m c t r k hr, valB_apply m c t r k hr]
    rfl
  · have h : (inputs m c).da (row t r) (col t k) = 0 := at2_of_le _ _ (not_lt.mp hr)
    rw [dconv_of_le _ _ _ _ _ (not_lt.mp hr), h, zero_mul, zero_mul]

theorem row_lt (r : Fin 256) : row t r < rows := by
  have ht := point_lt t
  unfold row rows; omega

/-- What is stored as the gradient of the value half. -/
theorem dvalB_apply (z : Fin 1) (r : Fin 256) (k : Fin 1408) :
    k0_pay11 (convB m c t) (lastB t) (k0_pay8 (iblk m c 6 t)) (iblk m c 5 t) (ix3 z r k)
      = (inputs m c).dval (row t r) (col t k) := by
  pointwise [k0_pay11, k0_pay10]
  rw [daB_apply, convB_apply m c t _ k (row_lt t r)]
  rfl

/-- What is stored as the gradient of the gate half. -/
theorem dgateB_apply (z : Fin 1) (r : Fin 256) (k : Fin 1408) :
    k0_pay14 (k0_pay13 (k0_pay3 (iblk m c 7 t)) (convB m c t) (valB m c t) (lastB t) (k0_pay8 (iblk m c 6 t)) (iblk m c 5 t))
      (ix3 z r k) = (inputs m c).dgate (row t r) (col t k) := by
  have h1 : (r.val + 272 - 271) % 272 = r.val + 1 := by omega
  have h2 : (r.val + 272 - 270) % 272 = r.val + 2 := by omega
  pointwise [k0_pay14, k0_pay13, k0_pay3]
  refine add_eq (add_eq (mul_eq (blk7 m c t 2 k (by decide)) (dconvB_apply m c t ⟨r.val, by omega⟩ k))
    (mul_eq (blk7 m c t 1 k (by decide)) ((dconvB_apply m c t ⟨(r.val + 272 - 271) % 272, by omega⟩ k).trans ?_)))
    (mul_eq (blk7 m c t 0 k (by decide)) ((dconvB_apply m c t ⟨(r.val + 272 - 270) % 272, by omega⟩ k).trans ?_))
  · simp only [h1]; rfl
  · simp only [h2]; rfl

/-- The block's part of the gradient of tap `2 - s`. -/
def tapB (s : ℕ) (k : ℕ) : EReal := ∑ x : Fin 256, (inputs m c).dtap s (row t x) (col t k)

/-- The block's part of the gradient of the bias. -/
def biasB (k : ℕ) : EReal := ∑ x : Fin 256, (inputs m c).dconv (row t x) (col t k)

theorem tap0_apply (v : FVec Ideal S1x1408 .f32) (z : Fin 1) (k : Fin 1408) :
    k0_pay18 (k0_pay1 (iblk m c 0 t)) (dconvB m c t) v (ix2 z k) = v (ix2 z k) + tapB m c t 0 k := by
  pointwise [k0_pay18, k0_pay15, k0_pay1]
  refine congrArg (v (ix2 z k) + ·) (Finset.sum_congr rfl fun x _ => ?_)
  refine mul_eq (dconvB_apply m c t ⟨x.val, by omega⟩ k) ((blk0 m c t x k).trans ?_)
  rw [Args.back_zero]

theorem tap1_apply (v : FVec Ideal S1x1408 .f32) (z : Fin 1) (k : Fin 1408) :
    k0_pay19 (k0_pay4 (grid0.coords t) (iblk m c 0 t) (iblk m c 1 t) (iblk m c 2 t)) (dconvB m c t) v (ix2 z k)
      = v (ix2 z k) + tapB m c t 1 k := by
  pointwise [k0_pay19, k0_pay15, k0_pay4]
  refine congrArg (v (ix2 z k) + ·) (Finset.sum_congr rfl fun x _ => ?_)
  exact mul_eq (dconvB_apply m c t ⟨x.val, by omega⟩ k)
    (extB_back m c t 1 x (by omega) (row_lt t x) ⟨(16 + x.val + 288 - 1) % 288, by omega⟩ k (by dsimp only; omega))

theorem tap2_apply (v : FVec Ideal S1x1408 .f32) (z : Fin 1) (k : Fin 1408) :
    k0_pay20 (k0_pay5 (grid0.coords t) (iblk m c 0 t) (iblk m c 1 t) (iblk m c 2 t)) (dconvB m c t) v (ix2 z k)
      = v (ix2 z k) + tapB m c t 2 k := by
  pointwise [k0_pay20, k0_pay15, k0_pay5]
  refine congrArg (v (ix2 z k) + ·) (Finset.sum_congr rfl fun x _ => ?_)
  exact mul_eq (dconvB_apply m c t ⟨x.val, by omega⟩ k)
    (extB_back m c t 2 x (by omega) (row_lt t x) ⟨(16 + x.val + 288 - 2) % 288, by omega⟩ k (by dsimp only; omega))

theorem bias_apply (v : FVec Ideal S1x1408 .f32) (z : Fin 1) (k : Fin 1408) :
    k0_pay21 (dconvB m c t) v (ix2 z k) = v (ix2 z k) + biasB m c t k := by
  pointwise [k0_pay21, k0_pay15]
  exact congrArg (v (ix2 z k) + ·) (Finset.sum_congr rfl fun x _ => dconvB_apply m c t ⟨x.val, by omega⟩ k)

end Cert.FfnMid

end
-- ==== Proof.Outs.lean ====
module

public import proofs.«01_k».proof.Proof.Body
public import Idealize.ShloMosaic.Lib.WritesUnit
public import Idealize.ShloMosaic.Lib.Pipeline.ReadBack

/-!
# What the kernel's output windows hold after a grid point

The two halves of the gradient are stored once per point. The gradients of the taps and of the bias are carried over
the 32 points that share a range of columns: the first of them clears the window, and every point adds its part.
-/

@[expose] public section

set_option maxRecDepth 16384

noncomputable section

namespace Cert.FfnMid

open Cert.KernelIdeal Cert.KernelIdeal.Gen Idealize.ShloMosaic Idealize.ShloMosaic.TcCoe Idealize.SL.Sem

theorem unit_row {R C o : ℕ} (inb : ∀ a : Fin 2, (![o, 0] : Fin 2 → ℕ) a + (![1, C] : Fin 2 → ℕ) a ≤ (⟨2, ![R, C]⟩ : Shape).size a)
    (r : Fin R) (k : Fin C) (h : r.val = o) : (Rect.unit (s := ⟨2, ![R, C]⟩) ![o, 0] ![1, C] inb).emb (ix2 0 k) = ix2 r k := by
  funext a
  refine Fin.ext ?_
  fin_cases a
  · show o + 1 * 0 = r.val
    omega
  · show 0 + 1 * k.val = k.val
    omega

theorem not_mem_row {R C o : ℕ} (inb : ∀ a : Fin 2, (![o, 0] : Fin 2 → ℕ) a + (![1, C] : Fin 2 → ℕ) a ≤ (⟨2, ![R, C]⟩ : Shape).size a)
    (r : Fin R) (k : Fin C) (h : ¬ r.val = o) : (ix2 r k : (⟨2, ![R, C]⟩ : Shape).Idx) ∉ (Rect.unit (s := ⟨2, ![R, C]⟩) ![o, 0] ![1, C] inb).set := by
  rw [Rect.mem_set_unit]
  intro hall
  have h0 : o ≤ r.val ∧ r.val < o + 1 := hall 0
  omega

/-- The last store being row `o`, that row is what was stored and the other rows are what the earlier stores left. -/
theorem canon_row {R C o : ℕ} (inb : ∀ a : Fin 2, (![o, 0] : Fin 2 → ℕ) a + (![1, C] : Fin 2 → ℕ) a ≤ (⟨2, ![R, C]⟩ : Shape).size a)
    (w : (⟨2, ![1, C]⟩ : Shape).Idx → EReal) (L : List (View.Piece (Elt Ideal) ⟨2, ![R, C]⟩ .f32)) (r : Fin R) (k : Fin C) :
    View.canon (Val := Elt Ideal) ((⟨Rect.unit ![o, 0] ![1, C] inb, w⟩ : View.Piece (Elt Ideal) ⟨2, ![R, C]⟩ .f32) :: L) (ix2 r k)
      = if r.val = o then w (ix2 0 k) else View.canon L (ix2 r k) := by
  by_cases h : r.val = o
  · rw [if_pos h, ← unit_row inb r k h]
    exact View.canon_cons_emb (Val := Elt Ideal) (e := .f32) (Rect.unit (s := ⟨2, ![R, C]⟩) ![o, 0] ![1, C] inb) w L (ix2 0 k)
  · rw [if_neg h]
    exact View.canon_cons_of_not_mem (Val := Elt Ideal) (e := .f32) ⟨Rect.unit (s := ⟨2, ![R, C]⟩) ![o, 0] ![1, C] inb, w⟩ L (not_mem_row inb r k h)

/-- The same for the contents that the stores leave in a buffer which held `f`. -/
theorem read_row {sp : Space} {κ : Kind} {R C o : ℕ} (v : View sig κ sp ⟨2, ![R, C]⟩ .f32) (f : v.ty.Contents (Elt Ideal))
    (inb : ∀ a : Fin 2, (![o, 0] : Fin 2 → ℕ) a + (![1, C] : Fin 2 → ℕ) a ≤ (⟨2, ![R, C]⟩ : Shape).size a)
    (w : (⟨2, ![1, C]⟩ : Shape).Idx → EReal) (L : List (View.Piece (Elt Ideal) ⟨2, ![R, C]⟩ .f32)) (r : Fin R) (k : Fin C) :
    v.read (Elt Ideal) (v.writes (Elt Ideal) f ((⟨Rect.unit ![o, 0] ![1, C] inb, w⟩ : View.Piece (Elt Ideal) ⟨2, ![R, C]⟩ .f32) :: L)) (ix2 r k)
      = if r.val = o then w (ix2 0 k) else v.read (Elt Ideal) (v.writes (Elt Ideal) f L) (ix2 r k) := by
  by_cases h : r.val = o
  · rw [if_pos h]
    exact View.read_writes_cons_rows_of_mem v f inb w L (ix2 r k) (ix2 0 k) rfl h rfl
  · rw [if_neg h]
    exact View.read_writes_cons_rows_of_not_mem v f inb w L (ix2 r k) rfl (W := 1) rfl
      (by show r.val < o ∨ o + 1 ≤ r.val; omega)

/-- A load of row `o`. -/
theorem ld_row {R C o : ℕ} (inb : ∀ a : Fin 2, (![o, 0] : Fin 2 → ℕ) a + (![1, C] : Fin 2 → ℕ) a ≤ (⟨2, ![R, C]⟩ : Shape).size a)
    (X : (⟨2, ![R, C]⟩ : Shape).Idx → EReal) (r : Fin R) (k : Fin C) (h : r.val = o) :
    View.ld (Val := Elt Ideal) (e' := .f32) X (Rect.unit (s := ⟨2, ![R, C]⟩) ![o, 0] ![1, C] inb) (ix2 0 k) = X (ix2 r k) :=
  congrArg X (unit_row inb r k h)

/-- Of two stores of one slab each, the slab `o` stored last. -/
theorem canon_slab {Z R C o : ℕ}
    (inb : ∀ a : Fin 3, (![o, 0, 0] : Fin 3 → ℕ) a + (![1, R, C] : Fin 3 → ℕ) a ≤ (⟨3, ![Z, R, C]⟩ : Shape).size a)
    (w : (⟨3, ![1, R, C]⟩ : Shape).Idx → EReal) (L : List (View.Piece (Elt Ideal) ⟨3, ![Z, R, C]⟩ .bf16)) (z : Fin Z)
    (r : Fin R) (k : Fin C) :
    View.canon (Val := Elt Ideal) ((⟨Rect.unit ![o, 0, 0] ![1, R, C] inb, w⟩ : View.Piece (Elt Ideal) ⟨3, ![Z, R, C]⟩ .bf16) :: L) (ix3 z r k)
      = if z.val = o then w (ix3 0 r k) else View.canon L (ix3 z r k) := by
  by_cases h : z.val = o
  · rw [if_pos h]
    have e : (Rect.unit (s := ⟨3, ![Z, R, C]⟩) ![o, 0, 0] ![1, R, C] inb).emb (ix3 0 r k) = ix3 z r k := by
      funext a
      refine Fin.ext ?_
      fin_cases a
      · show o + 1 * 0 = z.val
        omega
      · show 0 + 1 * r.val = r.val
        omega
      · show 0 + 1 * k.val = k.val
        omega
    rw [← e]
    exact View.canon_cons_emb (Val := Elt Ideal) (e := .bf16) (Rect.unit (s := ⟨3, ![Z, R, C]⟩) ![o, 0, 0] ![1, R, C] inb) w L (ix3 0 r k)
  · rw [if_neg h]
    refine View.canon_cons_of_not_mem (Val := Elt Ideal) (e := .bf16) ⟨Rect.unit (s := ⟨3, ![Z, R, C]⟩) ![o, 0, 0] ![1, R, C] inb, w⟩ L ?_
    rw [Rect.mem_set_unit]
    intro hall
    have h0 : o ≤ z.val ∧ z.val < o + 1 := hall 0
    omega

variable (m : (ℓ : Loc nD τ sig) → Buf (Elt Ideal) ℓ) (c : Dev nD) (t : Fin cfg0.N)

/-- What a point adds to the window of the taps' gradient. -/
def tapW (i : S8x1408.Idx) : EReal :=
  if (i 0).val = 0 then tapB m c t 2 (i 1).val else if (i 0).val = 1 then tapB m c t 1 (i 1).val
    else if (i 0).val = 2 then tapB m c t 0 (i 1).val else 0

/-- What a point adds to the window of the bias's gradient. -/
def biasW (i : S1x1408.Idx) : EReal := biasB m c t (i 1).val

theorem outW_A (h : t.val % 32 = 0) (i : S8x1408.Idx) : (outsAt0 m c t.val t.isLt).2.1 i = 0 + tapW m c t i := by
  obtain ⟨r, k, rfl⟩ : ∃ (r : Fin 8) (k : Fin 1408), i = ix2 r k := ⟨i 0, i 1, eq_ix2 i⟩
  rw [outsAt0_A m c t h]
  frame_open
  simp (disch := decide) only [↓ View.readCov_skip, ↓ View.readCov_cons_toLoadRect, ↓ View.readCov_fill]
  frame_out
  refine (canon_row _ _ _ r k).trans ?_
  refine (congrArg (fun x => if r.val = 0 then _ else x) (canon_row _ _ _ r k)).trans ?_
  refine (congrArg (fun x => if r.val = 0 then _ else if r.val = 1 then _ else x) (canon_row _ _ _ r k)).trans ?_
  rw [View.canon_cons_unit_lit _ _ _ (by decide)]
  have z16 : ∀ i, k0_pay16 (F := Ideal) i = 0 := fun i => by pointwise [k0_pay16]
  show _ = 0 + (if r.val = 0 then tapB m c t 2 k.val else if r.val = 1 then tapB m c t 1 k.val
    else if r.val = 2 then tapB m c t 0 k.val else 0)
  by_cases h0 : r.val = 0
  · rw [if_pos h0, if_pos h0]
    exact (tap2_apply m c t _ 0 k).trans (congrArg (· + tapB m c t 2 k.val) (z16 _))
  rw [if_neg h0, if_neg h0]
  by_cases h1 : r.val = 1
  · rw [if_pos h1, if_pos h1]
    exact (tap1_apply m c t _ 0 k).trans (congrArg (· + tapB m c t 1 k.val) (z16 _))
  rw [if_neg h1, if_neg h1]
  by_cases h2 : r.val = 2
  · rw [if_pos h2, if_pos h2]
    exact (tap0_apply m c t _ 0 k).trans (congrArg (· + tapB m c t 0 k.val) (z16 _))
  rw [if_neg h2, if_neg h2, z16, add_zero]

theorem outW_B (h : ¬ t.val % 32 = 0) (i : S8x1408.Idx) :
    (outsAt0 m c t.val t.isLt).2.1 i = (outsAt0 m c (t.val - 1) (Nat.lt_of_le_of_lt (Nat.sub_le _ _) t.isLt)).2.1 i + tapW m c t i := by
  obtain ⟨r, k, rfl⟩ : ∃ (r : Fin 8) (k : Fin 1408), i = ix2 r k := ⟨i 0, i 1, eq_ix2 i⟩
  rw [outsAt0_B m c t h]
  frame_out
  refine (read_row _ _ _ _ _ r k).trans ?_
  refine (congrArg (fun x => if r.val = 0 then _ else x) (read_row _ _ _ _ _ r k)).trans ?_
  refine (congrArg (fun x => if r.val = 0 then _ else if r.val = 1 then _ else x) (read_row _ _ _ _ _ r k)).trans ?_
  show _ = _ + (if r.val = 0 then tapB m c t 2 k.val else if r.val = 1 then tapB m c t 1 k.val
    else if r.val = 2 then tapB m c t 0 k.val else 0)
  by_cases h0 : r.val = 0
  · rw [if_pos h0, if_pos h0]
    exact (tap2_apply m c t _ 0 k).trans (congrArg (· + tapB m c t 2 k.val) (ld_row _ _ r k h0))
  rw [if_neg h0, if_neg h0]
  by_cases h1 : r.val = 1
  · rw [if_pos h1, if_pos h1]
    exact (tap1_apply m c t _ 0 k).trans (congrArg (· + tapB m c t 1 k.val) (ld_row _ _ r k h1))
  rw [if_neg h1, if_neg h1]
  by_cases h2 : r.val = 2
  · rw [if_pos h2, if_pos h2]
    exact (tap0_apply m c t _ 0 k).trans (congrArg (· + tapB m c t 0 k.val) (ld_row _ _ r k h2))
  rw [if_neg h2, if_neg h2, add_zero]
  exact congrFun ((hs0_10 t).read_unread _) _

theorem outB_A (h : t.val % 32 = 0) (i : S1x1408.Idx) : (outsAt0 m c t.val t.isLt).2.2 i = 0 + biasW m c t i := by
  obtain ⟨z, k, rfl⟩ : ∃ (z : Fin 1) (k : Fin 1408), i = ix2 z k := ⟨i 0, i 1, eq_ix2 i⟩
  rw [outsAt0_A m c t h]
  frame_open
  simp (disch := decide) only [↓ View.readCov_skip, ↓ View.readCov_cons_toLoadRect, ↓ View.readCov_fill]
  frame_out
  exact (bias_apply m c t _ z k).trans (congrArg (· + biasB m c t k.val) (by pointwise [k0_pay17]))

theorem outB_B (h : ¬ t.val % 32 = 0) (i : S1x1408.Idx) :
    (outsAt0 m c t.val t.isLt).2.2 i = (outsAt0 m c (t.val - 1) (Nat.lt_of_le_of_lt (Nat.sub_le _ _) t.isLt)).2.2 i + biasW m c t i := by
  obtain ⟨z, k, rfl⟩ : ∃ (z : Fin 1) (k : Fin 1408), i = ix2 z k := ⟨i 0, i 1, eq_ix2 i⟩
  rw [outsAt0_B m c t h]
  frame_out
  exact bias_apply m c t _ z k

theorem outG (z : Fin 2) (r : Fin 256) (k : Fin 1408) :
    (outsAt0 m c t.val t.isLt).1 (ix3 z r k)
      = if z.val = 0 then (inputs m c).dgate (row t r) (col t k) else (inputs m c).dval (row t r) (col t k) := by
  have key : ∀ f : S2x256x1408.Idx → EReal, f = View.canon (Val := Elt Ideal) (s := S2x256x1408) (e := .bf16)
      [⟨Rect.unit ![0, 0, 0] ![1, 256, 1408] inb_S2x256x1408_S1x256x1408_0_0_0,
          k0_pay14 (k0_pay13 (k0_pay3 (iblk m c 7 t)) (convB m c t) (valB m c t) (lastB t) (k0_pay8 (iblk m c 6 t)) (iblk m c 5 t))⟩,
        ⟨Rect.unit ![1, 0, 0] ![1, 256, 1408] inb_S2x256x1408_S1x256x1408_1_0_0,
          k0_pay11 (convB m c t) (lastB t) (k0_pay8 (iblk m c 6 t)) (iblk m c 5 t)⟩] →
      f (ix3 z r k) = if z.val = 0 then (inputs m c).dgate (row t r) (col t k) else (inputs m c).dval (row t r) (col t k) := by
    rintro f rfl
    refine (canon_slab _ _ _ z r k).trans ?_
    refine (congrArg (fun x => if z.val = 0 then _ else x) (canon_slab _ _ _ z r k)).trans ?_
    by_cases hz : z.val = 0
    · rw [if_pos hz, if_pos hz]
      exact dgateB_apply m c t 0 r k
    · rw [if_neg hz, if_neg hz, if_pos (by omega)]
      exact dvalB_apply m c t 0 r k
  by_cases h : t.val % 32 = 0
  · rw [outsAt0_A m c t h]
    frame_out
    exact key _ rfl
  · rw [outsAt0_B m c t h]
    frame_out
    exact key _ rfl

end Cert.FfnMid

end
-- ==== Proof.Arrays.lean ====
module

public import proofs.«01_k».proof.Proof.Outs

/-!
# The kernel's result arrays

Each array that the kernel returns, after the whole grid, as the functions of `Spec`.
-/

@[expose] public section

set_option maxRecDepth 16384

noncomputable section

namespace Cert.FfnMid

open Cert.KernelIdeal Cert.KernelIdeal.Gen Idealize.ShloMosaic Idealize.ShloMosaic.TcCoe Idealize.SL.Sem

/-- The gradients of the two halves, one behind the other. -/
def gradUp (A : Args) (i : (⟨3, ![2, 8192, 2816]⟩ : Shape).Idx) : EReal :=
  if (i 0).val = 0 then A.dgate (i 1).val (i 2).val else A.dval (i 1).val (i 2).val

/-- The gradients of the taps, above rows of zeros. -/
def gradTaps (A : Args) (i : (⟨2, ![8, 2816]⟩ : Shape).Idx) : EReal :=
  if (i 0).val = 0 then A.dw 2 (i 1).val else if (i 0).val = 1 then A.dw 1 (i 1).val
    else if (i 0).val = 2 then A.dw 0 (i 1).val else 0

/-- The gradient of the bias. -/
def gradBias (A : Args) (i : (⟨2, ![1, 2816]⟩ : Shape).Idx) : EReal := A.db (i 1).val

/-- A sum over all rows, taken 256 rows at a time. -/
theorem sum_rows (f : ℕ → EReal) : ∑ s : Fin 32, ∑ x : Fin 256, f (256 * s.val + x.val) = ∑ r : Fin rows, f r.val :=
  Fin.sum_mul_add_congr (fun s k _ => by rw [Nat.mul_comm])

variable (m : (ℓ : Loc nD τ sig) → Buf (Elt Ideal) ℓ) (c : Dev nD)

/-- The 32 points of a range of columns meet every row once. -/
theorem sum_points (g : ℕ → ℕ → EReal) (t : Fin cfg0.N) (hs : ∀ s : Fin 32, 32 * (t.val / 32) + s.val < cfg0.N) (k : ℕ) :
    ∑ s : Fin 32, ∑ x : Fin 256, g (row ⟨32 * (t.val / 32) + s.val, hs s⟩ x) (col ⟨32 * (t.val / 32) + s.val, hs s⟩ k)
      = ∑ r : Fin rows, g r.val (t.val / 32 * 1408 + k) := by
  rw [← sum_rows fun r => g r (t.val / 32 * 1408 + k)]
  refine Finset.sum_congr rfl fun s _ => Finset.sum_congr rfl fun x _ => ?_
  refine congrArg₂ g ?_ ?_
  · show 256 * ((32 * (t.val / 32) + s.val) % 32) + x.val = 256 * s.val + x.val
    omega
  · show 1408 * ((32 * (t.val / 32) + s.val) / 32) + k = t.val / 32 * 1408 + k
    omega

theorem arr_up : (dats m 0 c).arrAt 9 cfg0.N = gradUp (inputs m c) := by
  refine (dats m 0 c).arrAt_eq_of_covers 9 _ (by decide +kernel) fun t hf y => ?_
  blk_simp
  rw [after0_9]
  obtain ⟨z, r, k, rfl⟩ : ∃ (z : Fin 2) (r : Fin 256) (k : Fin 1408), y = ix3 z r k := ⟨y 0, y 1, y 2, eq_ix3 y⟩
  refine (outG m c t z r k).trans ?_
  unfold gradUp
  blk_simp [idx9 t]
  rw [Nat.mul_comm (t.val % 32), Nat.mul_comm (t.val / 32)]

theorem arr_taps : (dats m 0 c).arrAt 10 cfg0.N = gradTaps (inputs m c) := by
  refine (dats m 0 c).arrAt_eq_of_covers 10 _ (by decide +kernel) fun t hf y => ?_
  blk_simp
  rw [after0_10, Pipeline.eq_sum_fin_of_reset_step_apply_of_flush (fun n h => (outsAt0 m c n h).2.1) 32 (fun _ => 0) (tapW m c)
    (fun t h i => outW_A m c t h i) (fun t h i => outW_B m c t h i) t ((flush0_10 t).mp hf) y]
  unfold gradTaps
  blk_simp [idx10 t]
  rw [zero_add]
  simp only [tapW]
  by_cases h0 : (y 0).val = 0
  · simp only [if_pos h0]
    exact sum_points ((inputs m c).dtap 2) t _ _
  by_cases h1 : (y 0).val = 1
  · simp only [if_neg h0, if_pos h1]
    exact sum_points ((inputs m c).dtap 1) t _ _
  by_cases h2 : (y 0).val = 2
  · simp only [if_neg h0, if_neg h1, if_pos h2]
    exact sum_points ((inputs m c).dtap 0) t _ _
  · simp only [if_neg h0, if_neg h1, if_neg h2]
    exact Finset.sum_const_zero (ι := Fin 32) (M := EReal) (s := Finset.univ)

theorem arr_bias : (dats m 0 c).arrAt 11 cfg0.N = gradBias (inputs m c) := by
  refine (dats m 0 c).arrAt_eq_of_covers 11 _ (by decide +kernel) fun t hf y => ?_
  blk_simp
  rw [after0_11, Pipeline.eq_sum_fin_of_reset_step_apply_of_flush (fun n h => (outsAt0 m c n h).2.2) 32 (fun _ => 0) (biasW m c)
    (fun t h i => outB_A m c t h i) (fun t h i => outB_B m c t h i) t ((flush0_11 t).mp hf) y]
  unfold gradBias
  blk_simp [idx11 t]
  rw [zero_add]
  exact sum_points (inputs m c).dconv t _ _

end Cert.FfnMid

end
-- ==== Proof.Gate.lean ====
module

public import proofs.«01_k».proof.Proof.Spec

/-!
# The derivative of the gate

The kernel writes the derivative of `x * σ x` as `σ x * (1 + x * (1 - σ x))`; the reference adds the two terms of the
product rule. Times a finite number the two agree, at infinite `x` too. Times an infinite number they need not: then the
two terms may be infinities of opposite signs.
-/

@[expose] public section

noncomputable section

namespace Cert.FfnMid

open Idealize.ShloMosaic

/-- The logistic function at a real number, or a limit of it. -/
theorem sigmoid_real (x : EReal) : ∃ s : ℝ, Ideal.div 1 (1 + Ideal.exp (0 - x)) = s ∧ (x = ⊤ → s = 1) ∧ (x = ⊥ → s = 0) := by
  induction x with
  | bot =>
    refine ⟨0, ?_, fun h => absurd h (by decide), fun _ => rfl⟩
    rw [zero_sub, EReal.neg_bot, Ideal.exp_top, EReal.add_top_of_ne_bot (by decide), Ideal.div, if_neg (by decide)]
    simp
  | top =>
    refine ⟨1, ?_, fun _ => rfl, fun h => absurd h (by decide)⟩
    rw [zero_sub, EReal.neg_top, Ideal.exp_bot, add_zero, Ideal.div, if_neg one_ne_zero]
    simp
  | coe x =>
    have h : (1 : ℝ) + Real.exp (-x) ≠ 0 := by positivity
    refine ⟨1 / (1 + Real.exp (-x)), ?_, fun h => absurd h (EReal.coe_ne_top x), fun h => absurd h (EReal.coe_ne_bot x)⟩
    rw [zero_sub, ← EReal.coe_neg, Ideal.exp_coe, ← EReal.coe_one, ← EReal.coe_add, Ideal.div_coe h, EReal.coe_one, one_mul]

theorem gate_eq (u x : EReal) (hu : ∃ v : ℝ, u = v) :
    u * Ideal.div 1 (1 + Ideal.exp (0 - x)) + x * u * (Ideal.div 1 (1 + Ideal.exp (0 - x)) * (1 - Ideal.div 1 (1 + Ideal.exp (0 - x))))
      = u * (Ideal.div 1 (1 + Ideal.exp (0 - x)) * (1 + x * (1 - Ideal.div 1 (1 + Ideal.exp (0 - x))))) := by
  obtain ⟨v, rfl⟩ := hu
  obtain ⟨s, hs, ht, hb⟩ := sigmoid_real x
  rw [hs]
  induction x with
  | bot => rw [hb rfl]; simp
  | top => rw [ht rfl, EReal.coe_one, EReal.sub_self (by decide) (by decide)]; simp
  | coe x =>
    norm_cast
    ring_nf

/-- The value half and the incoming gradient are finite. -/
def Finite (A : Args) : Prop := ∀ r c, ∃ v : ℝ, A.da r c * A.val r c = v

end Cert.FfnMid

end
-- ==== Proof.Ref.lean ====
module

public import proofs.«01_k».proof.Proof.Gen.ReferenceIdeal.Read
public import proofs.«01_k».proof.Proof.Gate

/-!
# What the reference computes

The reference's values, read at an index and stated by the functions of `Spec`.
-/

@[expose] public section

set_option maxRecDepth 16384

noncomputable section

namespace Cert.FfnMid.Ref

open Cert.ReferenceIdeal Cert.ReferenceIdeal.Gen Cert.ReferenceIdeal.Read Idealize.ShloMosaic Idealize.ShloMosaic.TcCoe
open Idealize.ShloMosaic.StableHlo

variable (U : (⟨2, ![8192, 5632]⟩ : Shape).Idx → EReal) (W : (⟨2, ![3, 2816]⟩ : Shape).Idx → EReal)
  (B : (⟨1, ![2816]⟩ : Shape).Idx → EReal) (D : (⟨2, ![8192, 2816]⟩ : Shape).Idx → EReal)

theorem gate_at (r : Fin 8192) (k : Fin 2816) : val_main_v1 (F := Ideal) U (ix2 r k) = (args U W B D).gate r k := by
  pointwise [val_main_v1, val_main_v0]
  exact (at2_ix2 U r.isLt (by omega)).symm

theorem val_at (r : Fin 8192) (k : Fin 2816) : val_main_v2 (F := Ideal) U (ix2 r k) = (args U W B D).val r k := by
  pointwise [val_main_v2, val_main_v0]
  exact ((at2_ix2 U r.isLt (by omega)).trans (by congr 2; ext; dsimp only; omega)).symm

theorem back1_at (r : Fin 8192) (k : Fin 2816) : val_main_v8 (F := Ideal) U (ix2 r k) = (args U W B D).back 1 r k := by
  have hz : ∀ i, val_main_v6 (F := Ideal) i = 0 := fun i => by pointwise [val_main_v6, val_main_cst]
  have hg : ∀ (e : Fin 8191) (k : Fin 2816), val_main_v7 (F := Ideal) U (ix2 e k) = (args U W B D).gate e k := fun e k => by
    pointwise [val_main_v7]
    exact gate_at U W B D _ k
  pointwise [val_main_v8]
  unfold Args.back
  by_cases h : r.val < 1
  · rw [dif_pos h]
    exact (hz _).trans (if_neg (by omega)).symm
  · rw [dif_neg h]
    exact (hg ⟨r.val - 1, by omega⟩ k).trans (if_pos (by omega)).symm

theorem back2_at (r : Fin 8192) (k : Fin 2816) : val_main_v19 (F := Ideal) U (ix2 r k) = (args U W B D).back 2 r k := by
  have hz : ∀ i, val_main_v17 (F := Ideal) i = 0 := fun i => by pointwise [val_main_v17, val_main_cst_2]
  have hg : ∀ (e : Fin 8190) (k : Fin 2816), val_main_v18 (F := Ideal) U (ix2 e k) = (args U W B D).gate e k := fun e k => by
    pointwise [val_main_v18]
    exact gate_at U W B D _ k
  pointwise [val_main_v19]
  unfold Args.back
  by_cases h : r.val < 2
  · rw [dif_pos h]
    exact (hz _).trans (if_neg (by omega)).symm
  · rw [dif_neg h]
    exact (hg ⟨r.val - 2, by omega⟩ k).trans (if_pos (by omega)).symm

theorem tap_at (s : Fin 3) (k : Fin 2816) : W (ix2 s k) = (args U W B D).w s k := (at2_ix2 W s.isLt k.isLt).symm

theorem bias_at (k : Fin 2816) : B (ix1 k) = (args U W B D).b k := (at1_ix1 B k.isLt).symm

theorem da_at (r : Fin 8192) (k : Fin 2816) : D (ix2 r k) = (args U W B D).da r k := (at2_ix2 D r.isLt k.isLt).symm

theorem conv_at (r : Fin 8192) (k : Fin 2816) : val_main_v32 (F := Ideal) U W B (ix2 r k) = (args U W B D).conv r k := by
  pointwise [val_main_v32, val_main_v31, val_main_v30, val_main_v29, val_main_v28, val_main_v27, val_main_v26, val_main_v25,
    val_main_v24, val_main_v23, val_main_v22, val_main_v21, val_main_v16, val_main_v15, val_main_v14, val_main_v13,
    val_main_v12, val_main_cst_1, val_main_v11, val_main_v10, val_main_v5, val_main_v4, val_main_v3]
  rw [gate_at U W B D, back1_at U W B D, back2_at U W B D, bias_at U W B D, tap_at U W B D, tap_at U W B D, tap_at U W B D]
  unfold Args.conv
  rw [Args.back_zero, add_comm (_ + _) ((args U W B D).w (2 : Fin 3) k * _), ← add_assoc]
  rfl

theorem sig_at (r : Fin 8192) (k : Fin 2816) : val_main_v33_2 (F := Ideal) U W B (ix2 r k) = (args U W B D).sig r k := by
  pointwise [val_main_v33_2, val_main_call0_v4, val_main_call0_cst_0, val_main_call0_v3, val_main_call0_v2, val_main_call0_cst,
    val_main_call0_v1, val_main_call0_v0]
  rw [conv_at U W B D]
  unfold Args.sig
  rw [zero_sub]

theorem dval_at (r : Fin 8192) (k : Fin 2816) : val_main_v36 (F := Ideal) U W B D (ix2 r k) = (args U W B D).dval r k := by
  pointwise [val_main_v36, val_main_v35, val_main_v33_0]
  rw [conv_at U W B D, sig_at U W B D, da_at U W B D]
  unfold Args.dval
  rw [mul_comm, mul_assoc]

variable {U W B D} (hf : Finite (args U W B D))
include hf

theorem dconv_at (r : Fin 8192) (k : Fin 2816) : val_main_v38 (F := Ideal) U W B D (ix2 r k) = (args U W B D).dconv r k := by
  pointwise [val_main_v38, val_main_call1_v2, val_main_call1_v1, val_main_call1_v0, val_main_v37, val_main_v35, val_main_v33_1,
    val_main_call0_v7, val_main_call0_v6, val_main_call0_cst_1]
  rw [conv_at U W B D, sig_at U W B D, da_at U W B D, val_at U W B D]
  exact gate_eq _ _ (hf r k)

theorem db_at (z : Fin 1) (k : Fin 2816) : val_main_v81 (F := Ideal) U W B D (ix2 z k) = (args U W B D).db k := by
  pointwise [val_main_v81, val_main_v41, val_main_cst_5, val_main_v40, val_main_v39, val_main_cst_4]
  rw [Fin.sum_univ_one]
  exact Finset.sum_congr rfl fun r _ => dconv_at hf r k

theorem dgate_at (r : Fin 8192) (k : Fin 2816) : val_main_v71 (F := Ideal) U W B D (ix2 r k) = (args U W B D).dgate r k := by
  have h1 : val_main_v70 (F := Ideal) U W B D (ix2 r k) = (args U W B D).w 1 k * (args U W B D).dconv (r.val + 1) k := by
    pointwise [val_main_v70, val_main_cst_14, val_main_v69, val_main_v64, val_main_v63, val_main_v5, val_main_v4, val_main_v3]
    by_cases h : r.val < 8191
    · rw [dif_pos h, dconv_at hf, tap_at U W B D]
      exact congrArg (fun x => _ * (args U W B D).dconv x k) (Nat.add_comm 1 r.val)
    · rw [dif_neg h, dconv_of_le _ _ _ _ _ (by show 8192 ≤ _; omega), mul_zero]
  have h2 : val_main_v57 (F := Ideal) U W B D (ix2 r k) = (args U W B D).w 0 k * (args U W B D).dconv (r.val + 2) k := by
    pointwise [val_main_v57, val_main_cst_10, val_main_v56, val_main_v51, val_main_v50, val_main_v16, val_main_v15, val_main_v14]
    by_cases h : r.val < 8190
    · rw [dif_pos h, dconv_at hf, tap_at U W B D]
      exact congrArg (fun x => _ * (args U W B D).dconv x k) (Nat.add_comm 2 r.val)
    · rw [dif_neg h, dconv_of_le _ _ _ _ _ (by show 8192 ≤ _; omega), mul_zero]
  pointwise [val_main_v71, val_main_v58, val_main_v43, val_main_v42, val_main_v26, val_main_v25, val_main_v24]
  rw [h1, h2, dconv_at hf, tap_at U W B D, add_right_comm]
  rfl

theorem dw_at (r : Fin 8) (k : Fin 2816) : val_main_v80 (F := Ideal) U W B D (ix2 r k)
    = if r.val = 0 then (args U W B D).dw 2 k else if r.val = 1 then (args U W B D).dw 1 k
      else if r.val = 2 then (args U W B D).dw 0 k else 0 := by
  have h0 : ∑ x : Fin 8192, val_main_v44 (F := Ideal) U W B D (ix2 x k) = (args U W B D).dw 0 k :=
    Finset.sum_congr rfl fun x _ => by
      pointwise [val_main_v44]
      rw [gate_at U W B D, dconv_at hf, Args.dtap, Args.back_zero]
  have h1 : ∑ x : Fin 8192, val_main_v65 (F := Ideal) U W B D (ix2 x k) = (args U W B D).dw 1 k :=
    Finset.sum_congr rfl fun x _ => by
      pointwise [val_main_v65]
      rw [back1_at U W B D, dconv_at hf, Args.dtap]
  have h2 : ∑ x : Fin 8192, val_main_v52 (F := Ideal) U W B D (ix2 x k) = (args U W B D).dw 2 k :=
    Finset.sum_congr rfl fun x _ => by
      pointwise [val_main_v52]
      rw [back2_at U W B D, dconv_at hf, Args.dtap]
  pointwise [val_main_v80, val_main_v75, val_main_v62, val_main_v49, val_main_v61, val_main_v74, val_main_call2_v0, val_main_c,
    val_main_cst_8, val_main_cst_12, val_main_cst_16, val_main_v48, val_main_v47, val_main_cst_7, val_main_v60, val_main_v59, val_main_cst_11,
    val_main_v73, val_main_v72, val_main_cst_15, val_main_v46, val_main_v45, val_main_cst_6, val_main_v54, val_main_v53, val_main_cst_9, val_main_v67, val_main_v66,
    val_main_cst_13]
  simp only [Fin.sum_univ_one]
  rw [h0, h1, h2]
  by_cases e0 : r.val = 0
  · rw [dif_pos (by omega), dif_neg (by omega), dif_pos (by omega), dif_neg (by omega), if_pos e0, zero_add, add_zero]
  rw [if_neg e0]
  by_cases e1 : r.val = 1
  · rw [dif_pos (by omega), dif_neg (by omega), dif_neg (by omega), dif_pos (by omega), if_pos e1, zero_add, zero_add]
  rw [if_neg e1]
  by_cases e2 : r.val = 2
  · rw [dif_pos (by omega), dif_pos (by omega), dif_neg (by omega), dif_neg (by omega), if_pos e2, add_zero, add_zero]
  rw [if_neg e2, dif_neg (by omega)]
  show (((0#32 : BitVec 32).toInt : ℝ) : EReal) = 0
  simp

theorem dup_at (z : Fin 2) (r : Fin 8192) (k : Fin 2816) : val_main_v79 (F := Ideal) U W B D (ix3 z r k) =
    if z.val = 0 then (args U W B D).dgate r k else (args U W B D).dval r k := by
  pointwise [val_main_v79, val_main_v78, val_main_v77, val_main_v76]
  by_cases h : z.val < 1
  · rw [dif_pos h, if_pos (by omega)]
    exact dgate_at hf r k
  · rw [dif_neg h, if_neg (by omega)]
    exact dval_at U W B D r k

end Cert.FfnMid.Ref

end
-- ==== Proof.Equation.lean ====
module

public import proofs.«01_k».proof.Defs
public import proofs.«01_k».proof.Proof.Gen.Pre_finite
public import proofs.«01_k».proof.Proof.Arrays
public import proofs.«01_k».proof.Proof.Ref

/-!
# The kernel's arrays are the reference's

Under the precondition the three arrays of `Arrays` are the three results of the reference.
-/

@[expose] public section

noncomputable section

namespace Cert.FfnMid

open Idealize.ShloMosaic Idealize.ShloMosaic.TcCoe

/-- A number whose absolute value compares below infinity is real. -/
theorem real_of_abs_lt {x : EReal} (h : Ideal.cmp .olt (max x (-x)) (Ideal.ofBits .bf16 0x7F80#16) = 1#1) :
    ∃ v : ℝ, x = v := by
  have htop : Ideal.ofBits .bf16 0x7F80#16 = (⊤ : EReal) := by simp [Ideal.ofBits, Ideal.ieee]
  rw [htop] at h
  induction x with
  | bot => simp [Ideal.cmp] at h
  | top => simp [Ideal.cmp] at h
  | coe v => exact ⟨v, rfl⟩

/-- The precondition says that what multiplies the gate's derivative is real. -/
theorem finite_of_pre (U : (⟨2, ![8192, 5632]⟩ : Shape).Idx → EReal) (W : (⟨2, ![3, 2816]⟩ : Shape).Idx → EReal)
    (B : (⟨1, ![2816]⟩ : Shape).Idx → EReal) (D : (⟨2, ![8192, 2816]⟩ : Shape).Idx → EReal)
    (h : (Cert.Pre_finite.fn (F := Ideal) U W B D).1 = (fun _ => 1#1) ∧ (Cert.Pre_finite.fn (F := Ideal) U W B D).2 = fun _ => 1#1) :
    Finite (args U W B D) := by
  intro r c
  by_cases hr : r < 8192 ∧ c < 2816
  · obtain ⟨hv, hd⟩ := h
    obtain ⟨d, hd⟩ : ∃ v : ℝ, D (ix2 ⟨r, hr.1⟩ ⟨c, hr.2⟩) = v := real_of_abs_lt (congrFun hd (ix2 ⟨r, hr.1⟩ ⟨c, hr.2⟩))
    obtain ⟨v, hv⟩ := real_of_abs_lt (congrFun hv (ix2 ⟨r, hr.1⟩ ⟨c, hr.2⟩))
    have hval : (args U W B D).val r c = v := by
      refine (at2_ix2 U hr.1 (by omega)).trans (Eq.trans (congrArg U ?_) hv)
      funext a
      fin_cases a
      · exact Fin.ext (Nat.zero_add _).symm
      · exact Fin.ext (Nat.add_comm _ _)
    have hda : (args U W B D).da r c = d := (at2_ix2 D hr.1 hr.2).trans hd
    exact ⟨d * v, by rw [hda, hval, EReal.coe_mul]⟩
  · have hda : (args U W B D).da r c = 0 := dif_neg hr
    exact ⟨0, by rw [hda, zero_mul, EReal.coe_zero]⟩

open Cert.ReferenceIdeal.Read

variable {U : (⟨2, ![8192, 5632]⟩ : Shape).Idx → EReal} {W : (⟨2, ![3, 2816]⟩ : Shape).Idx → EReal}
  {B : (⟨1, ![2816]⟩ : Shape).Idx → EReal} {D : (⟨2, ![8192, 2816]⟩ : Shape).Idx → EReal} (hf : Finite (args U W B D))

include hf

theorem up_eq : gradUp (args U W B D) = val_main_v79 (F := Ideal) U W B D := by
  funext i
  obtain ⟨z, r, k, rfl⟩ : ∃ (z : Fin 2) (r : Fin 8192) (k : Fin 2816), i = ix3 z r k := ⟨i 0, i 1, i 2, eq_ix3 i⟩
  exact (Ref.dup_at hf z r k).symm

theorem taps_eq : gradTaps (args U W B D) = val_main_v80 (F := Ideal) U W B D := by
  funext i
  obtain ⟨r, k, rfl⟩ : ∃ (r : Fin 8) (k : Fin 2816), i = ix2 r k := ⟨i 0, i 1, eq_ix2 i⟩
  exact (Ref.dw_at hf r k).symm

theorem bias_eq : gradBias (args U W B D) = val_main_v81 (F := Ideal) U W B D := by
  funext i
  obtain ⟨r, k, rfl⟩ : ∃ (r : Fin 1) (k : Fin 2816), i = ix2 r k := ⟨i 0, i 1, eq_ix2 i⟩
  exact (Ref.db_at hf r k).symm

end Cert.FfnMid

end
-- ==== Proof.Norm.lean ====
module

public import Idealize.ShloMosaic.Lib.Pointwise
public import Idealize.ShloMosaic.PureOps.Ideal.Laws
public import Idealize.ShloMosaic.Lib.Pipeline.Value

/-!
# The gradient of the modulated norm of the residual stream, as formulas

A row `x + g * y` of the residual stream is divided by the root of its mean square and multiplied by the gain and by one
more than the scale. The formulas are those of the kernel: the gradient by the row is the inverse root times what is left
of the incoming gradient after its part along the row is taken away. `row_eq` brings the derivative of the quotient,
written out term by term, to that form. It holds for all extended reals: the inverse root of a positive number is a real
number that is not negative, and multiplying by such a number distributes over every sum.
-/

@[expose] public section

noncomputable section

namespace Cert.Norm

open Idealize.ShloMosaic

/-- The number of columns, as the programs write it. -/
abbrev width : EReal := Ideal.ofBits .f32 0x44800000#32

/-- The number added to the mean square. -/
abbrev eps : EReal := Ideal.ofBits .f32 0x358637BD#32

/-- The factor of the derivative of the inverse root. -/
abbrev minusHalf : EReal := Ideal.ofBits .f32 0xBF000000#32

theorem width_eq : width = ((1024 : ℝ) : EReal) := by
  simp [width, Ideal.ofBits, Ideal.ieee]
  norm_num
  rw [← EReal.coe_mul]
  norm_num

theorem minusHalf_eq : minusHalf = ((-(1 / 2) : ℝ) : EReal) := by
  simp [minusHalf, Ideal.ofBits, Ideal.ieee]
  norm_num
  rw [← EReal.coe_mul]
  norm_num

theorem eps_pos : 0 < eps := by
  simp [eps, Ideal.ofBits, Ideal.ieee]
  rw [← EReal.coe_mul]
  exact EReal.coe_pos.mpr (by positivity)

/-- A mean over a row. -/
def mean (f : Fin 1024 → EReal) : EReal := Ideal.div (∑ k, f k) width

theorem mean_eq (f : Fin 1024 → EReal) : mean f = (∑ k, f k) * ((1 / 1024 : ℝ) : EReal) := by
  unfold mean
  rw [width_eq, Ideal.div_coe (by norm_num)]

/-- The mean square of a row, with the small number added. -/
def square (x : Fin 1024 → EReal) : EReal := mean (fun k => x k * x k) + eps

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

theorem square_pos (x : Fin 1024 → EReal) : 0 < square x := by
  refine lt_of_lt_of_le eps_pos (le_add_of_nonneg_left ?_)
  rw [mean_eq]
  refine mul_nonneg (Finset.sum_nonneg fun k _ => mul_self_nonneg' _) ?_
  exact EReal.coe_nonneg.mpr (by norm_num)

/-- The inverse root of a positive number is a real number, and divided by the number it is its own cube. -/
theorem inverse_root (s : EReal) (hs : 0 < s) :
    ∃ ρ : ℝ, 0 ≤ ρ ∧ Ideal.rsqrt s = ρ ∧ Ideal.div (Ideal.rsqrt s) s = ((ρ ^ 3 : ℝ) : EReal) := by
  induction s with
  | bot => exact absurd hs (by decide)
  | top => exact ⟨0, le_rfl, rfl, by simp [Ideal.div]⟩
  | coe s =>
    have h : 0 < s := EReal.coe_pos.mp hs
    have hr : Ideal.rsqrt (s : EReal) = (((Real.sqrt s)⁻¹ : ℝ) : EReal) := by
      rw [Ideal.rsqrt_coe, if_neg (not_lt.mpr h.le), if_neg h.ne']
    refine ⟨(Real.sqrt s)⁻¹, inv_nonneg.mpr (Real.sqrt_nonneg s), hr, ?_⟩
    rw [hr, Ideal.div_coe h.ne', ← EReal.coe_mul]
    congr 1
    have hq : Real.sqrt s ^ 2 = s := Real.sq_sqrt h.le
    have hp : Real.sqrt s ≠ 0 := (Real.sqrt_pos.mpr h).ne'
    rw [show (1 : ℝ) / s = ((Real.sqrt s)⁻¹) ^ 2 by rw [inv_pow, hq, one_div]]
    ring

theorem distrib {ρ : ℝ} (h : 0 ≤ ρ) (a b : EReal) : (ρ : EReal) * (a + b) = ρ * a + ρ * b :=
  EReal.left_distrib_of_nonneg_of_ne_top (EReal.coe_nonneg.mpr h) (EReal.coe_ne_top ρ) a b

theorem sum_distrib {n : ℕ} {ρ : ℝ} (h : 0 ≤ ρ) (f : Fin n → EReal) : ∑ k, (ρ : EReal) * f k = ρ * ∑ k, f k := by
  induction n with
  | zero => simp
  | succ n ih => rw [Fin.sum_univ_castSucc, Fin.sum_univ_castSucc, ih, distrib h]

theorem add_self (a : EReal) : a + a = a * ((2 : ℝ) : EReal) := by
  have e : ((2 : ℝ) : EReal) = 1 + 1 := by rw [← EReal.coe_one, ← EReal.coe_add]; norm_num
  rw [e, mul_comm, EReal.right_distrib_of_nonneg zero_le_one zero_le_one, one_mul]

/-- The gradient by one entry of a row `x` of the residual stream, `e` the gradient that comes past the norm and `d` the
    gradient of the row over its root mean square. -/
theorem row_eq (x d : Fin 1024 → EReal) (e : EReal) (k : Fin 1024) :
    e + d k * Ideal.rsqrt (square x)
        + x k * Ideal.div ((∑ j, x j * d j) * (minusHalf * Ideal.div (Ideal.rsqrt (square x)) (square x))) width
        + Ideal.div ((∑ j, x j * d j) * (minusHalf * Ideal.div (Ideal.rsqrt (square x)) (square x))) width * x k
      = Ideal.rsqrt (square x) * (d k - x k * Ideal.rsqrt (square x) * mean (fun j => d j * (x j * Ideal.rsqrt (square x)))) + e := by
  obtain ⟨ρ, h0, hr, hd⟩ := inverse_root _ (square_pos x)
  rw [hr] at hd
  rw [hr, hd, mean_eq, minusHalf_eq, width_eq, Ideal.div_coe (by norm_num)]
  have hs : ∑ j, d j * (x j * (ρ : EReal)) = ρ * ∑ j, x j * d j := by
    rw [← sum_distrib h0]
    exact Finset.sum_congr rfl fun j _ => by rw [mul_comm (x j), mul_left_comm, mul_comm (d j)]
  rw [hs]
  generalize ∑ j, x j * d j = S
  rw [sub_eq_add_neg, distrib h0, add_comm _ e, ← add_assoc, add_assoc (e + _), mul_comm (d k)]
  refine congrArg _ ?_
  rw [mul_comm _ (x k), add_self]
  have hl : x k * (S * (((-(1 / 2) : ℝ) : EReal) * ((ρ ^ 3 : ℝ) : EReal)) * ((1 / 1024 : ℝ) : EReal)) * ((2 : ℝ) : EReal)
      = (x k * S) * ((-(ρ ^ 3 * (1 / 1024)) : ℝ) : EReal) := by
    have e : (-(ρ ^ 3 * (1 / 1024)) : ℝ) = -(1 / 2) * ρ ^ 3 * (1 / 1024) * 2 := by ring
    rw [e]
    push_cast
    simp only [mul_assoc]
  have hm : (ρ : EReal) * -(x k * ρ * (ρ * S * ((1 / 1024 : ℝ) : EReal))) = (x k * S) * ((-(ρ ^ 3 * (1 / 1024)) : ℝ) : EReal) := by
    rw [EReal.coe_neg, mul_neg, mul_neg]
    refine congrArg _ ?_
    have e : (ρ ^ 3 * (1 / 1024) : ℝ) = ρ * (ρ * (ρ * (1 / 1024))) := by ring
    rw [e, EReal.coe_mul, EReal.coe_mul, EReal.coe_mul]
    ac_rfl
  rw [hl, hm]

/-- The arguments: the residual stream, its gate, the layer's result, the gain, the scale, and the gradients that come
    through the norm and past it. -/
structure Args where
  x : (⟨2, ![8192, 1024]⟩ : Shape).Idx → EReal
  g : (⟨2, ![1, 1024]⟩ : Shape).Idx → EReal
  y : (⟨2, ![8192, 1024]⟩ : Shape).Idx → EReal
  gain : (⟨2, ![1, 1024]⟩ : Shape).Idx → EReal
  scale : (⟨2, ![1, 1024]⟩ : Shape).Idx → EReal
  dh : (⟨2, ![8192, 1024]⟩ : Shape).Idx → EReal
  dres : (⟨2, ![8192, 1024]⟩ : Shape).Idx → EReal

namespace Args

variable (A : Args)

/-- A row of the residual stream. -/
def row (r : Fin 8192) (k : Fin 1024) : EReal := A.x (ix2 r k) + A.g (ix2 0 k) * A.y (ix2 r k)

/-- The inverse of its root mean square. -/
def root (r : Fin 8192) : EReal := Ideal.rsqrt (square (A.row r))

/-- The row over its root mean square. -/
def unit (r : Fin 8192) (k : Fin 1024) : EReal := A.row r k * A.root r

/-- The gradient by that. -/
def dunit (r : Fin 8192) (k : Fin 1024) : EReal := A.dh (ix2 r k) * (A.gain (ix2 0 k) * (1 + A.scale (ix2 0 k)))

/-- The gradient by the residual stream. -/
def dx (r : Fin 8192) (k : Fin 1024) : EReal :=
  A.root r * (A.dunit r k - A.unit r k * mean (fun j => A.dunit r j * A.unit r j)) + A.dres (ix2 r k)

/-- One row's parts of the gradients by the gain, the scale, the shift and the gate. -/
def gainPart (r : Fin 8192) (k : Fin 1024) : EReal := A.dh (ix2 r k) * A.unit r k * (1 + A.scale (ix2 0 k))
def scalePart (r : Fin 8192) (k : Fin 1024) : EReal := A.dh (ix2 r k) * A.unit r k * A.gain (ix2 0 k)
def shiftPart (r : Fin 8192) (k : Fin 1024) : EReal := A.dh (ix2 r k)
def gatePart (r : Fin 8192) (k : Fin 1024) : EReal := A.dx r k * A.y (ix2 r k)

/-- The gradient by the residual stream, as an array. -/
def gradX (i : (⟨2, ![8192, 1024]⟩ : Shape).Idx) : EReal := A.dx (i 0) (i 1)

/-- The gradient by the layer's result. -/
def gradY (i : (⟨2, ![8192, 1024]⟩ : Shape).Idx) : EReal := A.dx (i 0) (i 1) * A.g (ix2 0 (i 1))

/-- A sum over the rows, as an array of one row. -/
def total (f : Fin 8192 → Fin 1024 → EReal) (i : (⟨2, ![1, 1024]⟩ : Shape).Idx) : EReal := ∑ r : Fin 8192, f r (i 1)

end Args

end Cert.Norm

end
-- ==== Proof.NormBody.lean ====
module

public import proofs.«01_k».proof.Proof.Gen.Kernel22Ideal.Value
public import proofs.«01_k».proof.Proof.Norm
public import Idealize.ShloMosaic.Lib.Pipeline.ValueKit
public import Idealize.ShloMosaic.Lib.StableHlo.ReadAt

/-!
# What the norm's backward call computes at a grid point

Point `t` works on rows `512 * t …`. The residual stream is added up by the host before the call.
-/

@[expose] public section

set_option maxRecDepth 16384

noncomputable section

namespace Cert.Norm

open Cert.Kernel22Ideal Cert.Kernel22Ideal.Gen Idealize.ShloMosaic Idealize.ShloMosaic.TcCoe Idealize.SL.Sem

variable (m : (ℓ : Loc nD τ sig) → Buf (Elt Ideal) ℓ) (c : Dev nD)

/-- The gradient's arguments, as the memory holds them at the launch. -/
abbrev inputs : Args where
  x := m ((c : Thread nD τ).loc main_arg0)
  g := m ((c : Thread nD τ).loc main_arg1)
  y := m ((c : Thread nD τ).loc main_arg2)
  gain := m ((c : Thread nD τ).loc main_arg3)
  scale := m ((c : Thread nD τ).loc main_arg4)
  dh := m ((c : Thread nD τ).loc main_arg5)
  dres := m ((c : Thread nD τ).loc main_arg6)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem stream_entry (r : Fin 8192) (k : Fin 1024) : V m c main_v2 (ix2 r k) = (inputs m c).row r k := by
  unfold V
  after_reads_at
  rfl

theorem blk0 (r : Fin 512) (k : Fin 1024) : iblk m c 0 t (ix2 r k) = (inputs m c).row (at' t r) k := by
  have ht := point_lt t
  rw [← stream_entry m c]
  blk_ext [iblk, idx0 t]

theorem blk1 (k : Fin 1024) : iblk m c 1 t (ix2 0 k) = (inputs m c).gain (ix2 0 k) := by
  blk_ext [iblk, V, idx1 t]

theorem blk2 (k : Fin 1024) : iblk m c 2 t (ix2 0 k) = (inputs m c).scale (ix2 0 k) := by
  blk_ext [iblk, V, idx2 t]

theorem blk3 (r : Fin 512) (k : Fin 1024) : iblk m c 3 t (ix2 r k) = (inputs m c).dh (ix2 (at' t r) k) := by
  have ht := point_lt t
  blk_ext [iblk, V, idx3 t]

theorem blk4 (r : Fin 512) (k : Fin 1024) : iblk m c 4 t (ix2 r k) = (inputs m c).dres (ix2 (at' t r) k) := by
  have ht := point_lt t
  blk_ext [iblk, V, idx4 t]

theorem blk5 (k : Fin 1024) : iblk m c 5 t (ix2 0 k) = (inputs m c).g (ix2 0 k) := by
  blk_ext [iblk, V, idx5 t]

theorem blk6 (r : Fin 512) (k : Fin 1024) : iblk m c 6 t (ix2 r k) = (inputs m c).y (ix2 (at' t r) k) := by
  have ht := point_lt t
  blk_ext [iblk, V, idx6 t]

/-- The inverse root mean square of the block's rows. -/
theorem rootB (r : Fin 512) (z : Fin 1) : k0_pay3 (iblk m c 0 t) (ix2 r z) = (inputs m c).root (at' t r) := by
  pointwise [k0_pay3, k0_pay2]
  simp only [blk0]
  rfl

theorem unitB (r : Fin 512) (k : Fin 1024) : k0_pay4 (iblk m c 0 t) (ix2 r k) = (inputs m c).unit (at' t r) k := by
  pointwise [k0_pay4, k0_pay2]
  rw [blk0, rootB]
  rfl

/-- The gradient by the residual stream, at the block's rows. -/
abbrev dxB : FVec Ideal S512x1024 .f32 := k0_pay7 (iblk m c 0 t) (iblk m c 3 t) (iblk m c 1 t) (iblk m c 2 t) (iblk m c 4 t)

theorem dxB_apply (r : Fin 512) (k : Fin 1024) : dxB m c t (ix2 r k) = (inputs m c).dx (at' t r) k := by
  pointwise [k0_pay7, k0_pay6, k0_pay5]
  simp only [blk1, blk2, blk3, blk4, unitB, rootB]
  rfl

/-- The incoming gradient times the row over its root mean square. -/
theorem dhnB_apply (r : Fin 512) (k : Fin 1024) : k0_pay9 (k0_pay4 (iblk m c 0 t)) (k0_pay5 (iblk m c 3 t)) (ix2 r k)
    = (inputs m c).dh (ix2 (at' t r) k) * (inputs m c).unit (at' t r) k := by
  pointwise [k0_pay9, k0_pay5]
  rw [blk3, unitB]

/-- A sum over the block's rows. -/
def part (f : Fin 8192 → Fin 1024 → EReal) (i : S1x1024.Idx) : EReal := ∑ r : Fin 512, f (at' t r) (i 1)

end Cert.Norm

end
-- ==== Proof.NormOuts.lean ====
module

public import proofs.«01_k».proof.Proof.NormBody
public import Idealize.ShloMosaic.Lib.WritesUnit
public import Idealize.ShloMosaic.Lib.Pipeline.ReadBack

/-!
# The result arrays of the norm's backward call

The gradients by the residual stream and by the layer's result are stored once per point. The other four are sums over
all rows: the first point clears their windows, and every point adds its block's part.
-/

@[expose] public section

set_option maxRecDepth 16384

noncomputable section

namespace Cert.Norm

open Cert.Kernel22Ideal Cert.Kernel22Ideal.Gen Idealize.ShloMosaic Idealize.ShloMosaic.TcCoe Idealize.SL.Sem

variable (m : (ℓ : Loc nD τ sig) → Buf (Elt Ideal) ℓ) (c : Dev nD) (t : Fin cfg0.N)

theorem gain_apply (v : FVec Ideal S1x1024 .f32) (i : S1x1024.Idx) :
    k0_pay14 (k0_pay4 (iblk m c 0 t)) (k0_pay5 (iblk m c 3 t)) (k0_pay6 (iblk m c 2 t)) v i
      = v i + part t (inputs m c).gainPart i := by
  obtain ⟨z, k, rfl⟩ : ∃ (z : Fin 1) (k : Fin 1024), i = ix2 z k := ⟨i 0, i 1, eq_ix2 i⟩
  pointwise [k0_pay14, k0_pay6]
  simp only [dhnB_apply, blk2]
  rfl

theorem scale_apply (v : FVec Ideal S1x1024 .f32) (i : S1x1024.Idx) :
    k0_pay15 (k0_pay4 (iblk m c 0 t)) (k0_pay5 (iblk m c 3 t)) (iblk m c 1 t) v i
      = v i + part t (inputs m c).scalePart i := by
  obtain ⟨z, k, rfl⟩ : ∃ (z : Fin 1) (k : Fin 1024), i = ix2 z k := ⟨i 0, i 1, eq_ix2 i⟩
  pointwise [k0_pay15]
  simp only [dhnB_apply, blk1]
  rfl

theorem shift_apply (v : FVec Ideal S1x1024 .f32) (i : S1x1024.Idx) :
    k0_pay16 (k0_pay5 (iblk m c 3 t)) v i = v i + part t (inputs m c).shiftPart i := by
  obtain ⟨z, k, rfl⟩ : ∃ (z : Fin 1) (k : Fin 1024), i = ix2 z k := ⟨i 0, i 1, eq_ix2 i⟩
  pointwise [k0_pay16, k0_pay5]
  simp only [blk3]
  rfl

theorem gate_apply (v : FVec Ideal S1x1024 .f32) (i : S1x1024.Idx) :
    k0_pay1 (k0_pay17 v) (k0_pay18 (dxB m c t) (iblk m c 6 t)) i = v i + part t (inputs m c).gatePart i := by
  obtain ⟨z, k, rfl⟩ : ∃ (z : Fin 1) (k : Fin 1024), i = ix2 z k := ⟨i 0, i 1, eq_ix2 i⟩
  pointwise [k0_pay1, k0_pay17, k0_pay18]
  simp only [dxB_apply, blk6]
  rfl

theorem outX (r : Fin 512) (k : Fin 1024) : (outsAt0 m c t.val t.isLt).1 (ix2 r k) = (inputs m c).dx (at' t r) k := by
  by_cases h : t.val % 16 = 0
  · rw [outsAt0_A m c t h]
    frame_out
    exact dxB_apply m c t r k
  · rw [outsAt0_B m c t h]
    frame_out
    exact dxB_apply m c t r k

/-- What is stored as the gradient by the layer's result. -/
theorem dyB_apply (r : Fin 512) (k : Fin 1024) :
    k0_pay8 (iblk m c 0 t) (iblk m c 3 t) (iblk m c 1 t) (iblk m c 2 t) (iblk m c 4 t) (iblk m c 5 t) (ix2 r k)
      = (inputs m c).dx (at' t r) k * (inputs m c).g (ix2 0 k) := by
  pointwise [k0_pay8]
  rw [blk5]
  exact congrArg (· * _) (dxB_apply m c t r k)

theorem outY (r : Fin 512) (k : Fin 1024) :
    (outsAt0 m c t.val t.isLt).2.2.2.2.1 (ix2 r k) = (inputs m c).dx (at' t r) k * (inputs m c).g (ix2 0 k) := by
  by_cases h : t.val % 16 = 0
  · rw [outsAt0_A m c t h]
    frame_out
    exact dyB_apply m c t r k
  · rw [outsAt0_B m c t h]
    frame_out
    exact dyB_apply m c t r k

theorem outGain_A (h : t.val % 16 = 0) (i : S1x1024.Idx) :
    (outsAt0 m c t.val t.isLt).2.1 i = 0 + part t (inputs m c).gainPart i := by
  rw [outsAt0_A m c t h]
  frame_open
  simp (disch := decide) only [↓ View.readCov_skip, ↓ View.readCov_cons_toLoadRect, ↓ View.readCov_fill]
  frame_out
  exact (gain_apply m c t _ i).trans (congrArg (· + _) (by pointwise [k0_pay10]))

theorem outGain_B (h : ¬ t.val % 16 = 0) (i : S1x1024.Idx) : (outsAt0 m c t.val t.isLt).2.1 i
    = (outsAt0 m c (t.val - 1) (Nat.lt_of_le_of_lt (Nat.sub_le _ _) t.isLt)).2.1 i + part t (inputs m c).gainPart i := by
  rw [outsAt0_B m c t h]
  frame_out
  exact gain_apply m c t _ i

theorem outScale_A (h : t.val % 16 = 0) (i : S1x1024.Idx) :
    (outsAt0 m c t.val t.isLt).2.2.1 i = 0 + part t (inputs m c).scalePart i := by
  rw [outsAt0_A m c t h]
  frame_open
  simp (disch := decide) only [↓ View.readCov_skip, ↓ View.readCov_cons_toLoadRect, ↓ View.readCov_fill]
  frame_out
  exact (scale_apply m c t _ i).trans (congrArg (· + _) (by pointwise [k0_pay11]))

theorem outScale_B (h : ¬ t.val % 16 = 0) (i : S1x1024.Idx) : (outsAt0 m c t.val t.isLt).2.2.1 i
    = (outsAt0 m c (t.val - 1) (Nat.lt_of_le_of_lt (Nat.sub_le _ _) t.isLt)).2.2.1 i + part t (inputs m c).scalePart i := by
  rw [outsAt0_B m c t h]
  frame_out
  exact scale_apply m c t _ i

theorem outShift_A (h : t.val % 16 = 0) (i : S1x1024.Idx) :
    (outsAt0 m c t.val t.isLt).2.2.2.1 i = 0 + part t (inputs m c).shiftPart i := by
  rw [outsAt0_A m c t h]
  frame_open
  simp (disch := decide) only [↓ View.readCov_skip, ↓ View.readCov_cons_toLoadRect, ↓ View.readCov_fill]
  frame_out
  exact (shift_apply m c t _ i).trans (congrArg (· + _) (by pointwise [k0_pay12]))

theorem outShift_B (h : ¬ t.val % 16 = 0) (i : S1x1024.Idx) : (outsAt0 m c t.val t.isLt).2.2.2.1 i
    = (outsAt0 m c (t.val - 1) (Nat.lt_of_le_of_lt (Nat.sub_le _ _) t.isLt)).2.2.2.1 i + part t (inputs m c).shiftPart i := by
  rw [outsAt0_B m c t h]
  frame_out
  exact shift_apply m c t _ i

theorem outGate_A (h : t.val % 16 = 0) (i : S1x1024.Idx) :
    (outsAt0 m c t.val t.isLt).2.2.2.2.2 i = 0 + part t (inputs m c).gatePart i := by
  rw [outsAt0_A m c t h]
  frame_open
  simp (disch := decide) only [↓ View.readCov_skip, ↓ View.readCov_cons_toLoadRect, ↓ View.readCov_fill]
  frame_out
  exact (gate_apply m c t _ i).trans (congrArg (· + _) (by pointwise [k0_pay13]))

theorem outGate_B (h : ¬ t.val % 16 = 0) (i : S1x1024.Idx) : (outsAt0 m c t.val t.isLt).2.2.2.2.2 i
    = (outsAt0 m c (t.val - 1) (Nat.lt_of_le_of_lt (Nat.sub_le _ _) t.isLt)).2.2.2.2.2 i + part t (inputs m c).gatePart i := by
  rw [outsAt0_B m c t h]
  frame_out
  exact gate_apply m c t _ i

/-! ## The arrays -/

theorem idx7 : ∀ t : Fin cfg0.N, win0_7.index t = ![t.val, 0] :=
  (by decide +kernel : ∀ t : Fin grid0.N, win0_7.index t = ![t.val, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![0, 0] :=
  (by decide +kernel : ∀ t : Fin grid0.N, win0_12.index t = ![0, 0])

/-- The parts of the sixteen points make up the sum over all rows. -/
theorem sum_parts (f : Fin 8192 → Fin 1024 → EReal) (t : Fin cfg0.N) (hs : ∀ s : Fin 16, 16 * (t.val / 16) + s.val < cfg0.N)
    (i : S1x1024.Idx) : 0 + ∑ s : Fin 16, part ⟨16 * (t.val / 16) + s.val, hs s⟩ f i = Args.total f i := by
  have ht := point_lt t
  rw [zero_add]
  have h : ∑ s : Fin 16, ∑ r : Fin 512, f ⟨512 * s.val + r.val, by omega⟩ (i 1) = ∑ r : Fin 8192, f r (i 1) :=
    Fin.sum_mul_add_congr (fun s r _ => by congr 1; ext; exact congrArg (· + r.val) (Nat.mul_comm _ _))
  refine Eq.trans (Finset.sum_congr rfl fun s _ => Finset.sum_congr rfl fun r _ => ?_) h
  congr 1
  ext
  show 512 * (16 * (t.val / 16) + s.val) + r.val = 512 * s.val + r.val
  omega

theorem arr_x : (dats m 0 c).arrAt 7 cfg0.N = (inputs m c).gradX := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, eq_ix2 y⟩
  refine (outX m c t r k).trans ?_
  unfold Args.gradX
  congr 1 <;> ext <;> blk_simp [idx7 t]
  show 512 * t.val + r.val = _
  omega

theorem arr_y : (dats m 0 c).arrAt 11 cfg0.N = (inputs m c).gradY := by
  refine (dats m 0 c).arrAt_eq_of_covers 11 _ (by decide +kernel) fun t hf y => ?_
  blk_simp
  rw [after0_11]
  obtain ⟨r, k, rfl⟩ : ∃ (r : Fin 512) (k : Fin 1024), y = ix2 r k := ⟨y 0, y 1, eq_ix2 y⟩
  refine (outY m c t r k).trans ?_
  unfold Args.gradY
  congr 3 <;> ext <;> blk_simp [idx11 t]
  show 512 * t.val + r.val = _
  omega

theorem arr_gain : (dats m 0 c).arrAt 8 cfg0.N = Args.total (inputs m c).gainPart := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => 0)
    (fun t => part t (inputs m c).gainPart) (outGain_A m c) (outGain_B m c) t ((flush0_8 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx8 t]

theorem arr_scale : (dats m 0 c).arrAt 9 cfg0.N = Args.total (inputs m c).scalePart := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0)
    (fun t => part t (inputs m c).scalePart) (outScale_A m c) (outScale_B m c) t ((flush0_9 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx9 t]

theorem arr_shift : (dats m 0 c).arrAt 10 cfg0.N = Args.total (inputs m c).shiftPart := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun t => part t (inputs m c).shiftPart) (outShift_A m c) (outShift_B m c) t ((flush0_10 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx10 t]

theorem arr_gate : (dats m 0 c).arrAt 12 cfg0.N = Args.total (inputs m c).gatePart := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0)
    (fun t => part t (inputs m c).gatePart) (outGate_A m c) (outGate_B m c) t ((flush0_12 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx12 t]

end Cert.Norm

end
-- ==== Proof.NormRef.lean ====
module

public import proofs.«01_k».proof.Proof.Gen.Reference22Ideal.Read
public import proofs.«01_k».proof.Proof.Norm

/-!
# What the reference of the norm's backward call computes

The reference is the derivative of `x * r * gain * (1 + scale) + shift` with `r` the inverse root mean square, as the chain
rule writes it. `Norm.row_eq` brings the gradient by the row to the kernel's form.
-/

@[expose] public section

set_option maxRecDepth 16384

noncomputable section

namespace Cert.Norm.Ref

open Cert.Reference22Ideal Cert.Reference22Ideal.Gen Cert.Reference22Ideal.Read Idealize.ShloMosaic Idealize.ShloMosaic.TcCoe
open Idealize.ShloMosaic.StableHlo

variable (A : Args)

theorem row_at (r : Fin 8192) (k : Fin 1024) : val_main_v4 (F := Ideal) A.x A.g A.y (ix2 r k) = A.row r k := by
  pointwise [val_main_v4, val_main_v3, val_main_v2]
  rfl

theorem square_at (r : Fin 8192) (z : Fin 1) : val_main_v11 (F := Ideal) A.x A.g A.y (ix2 r z) = square (A.row r) := by
  pointwise [val_main_v11, val_main_v10, val_main_cst_2, val_main_v9, val_main_v8, val_main_cst_1, val_main_v7, val_main_v6,
    val_main_cst_0, val_main_v5]
  simp only [row_at]
  rfl

theorem root_at (r : Fin 8192) (z : Fin 1) : val_main_v12 (F := Ideal) A.x A.g A.y (ix2 r z) = A.root r := by
  pointwise [val_main_v12]
  rw [square_at]
  rfl

theorem unit_at (r : Fin 8192) (k : Fin 1024) : val_main_v17 (F := Ideal) A.x A.g A.y (ix2 r k) = A.unit r k := by
  pointwise [val_main_v17, val_main_v16]
  rw [row_at, root_at]
  rfl

theorem dunit_at (r : Fin 8192) (k : Fin 1024) : val_main_v37 (F := Ideal) A.gain A.scale A.dh (ix2 r k) = A.dunit r k := by
  pointwise [val_main_v37, val_main_v36, val_main_v32, val_main_v31, val_main_v21, val_main_v20, val_main_cst_4, val_main_v0]
  unfold Args.dunit
  rw [mul_assoc, mul_comm (1 + _) (A.gain _)]

/-- The gradient by a row that comes through the mean square, over one element of the row. -/
theorem mean_at (r : Fin 8192) (k : Fin 1024) : val_main_v48 (F := Ideal) A.x A.g A.y A.gain A.scale A.dh (ix2 r k)
    = Ideal.div ((∑ j, A.row r j * A.dunit r j) * (minusHalf * Ideal.div (Ideal.rsqrt (square (A.row r))) (square (A.row r)))) width := by
  pointwise [val_main_v48, val_main_v47, val_main_cst_10, val_main_v46, val_main_v45, val_main_cst_9, val_main_v44, val_main_v40,
    val_main_v39, val_main_cst_8, val_main_v38, val_main_v15, val_main_v14, val_main_cst_3, val_main_v13]
  simp only [row_at, dunit_at, root_at, square_at]
  exact Fin.sum_univ_one _

theorem dx_at (r : Fin 8192) (k : Fin 1024) :
    val_main_v52 (F := Ideal) A.x A.g A.y A.gain A.scale A.dh A.dres (ix2 r k) = A.dx r k := by
  pointwise [val_main_v52, val_main_v51, val_main_v50, val_main_v49, val_main_v43, val_main_v42, val_main_v41]
  rw [row_at, dunit_at, root_at, mean_at]
  exact row_eq (A.row r) (A.dunit r) (A.dres (ix2 r k)) k

theorem gradX : val_main_v52 (F := Ideal) A.x A.g A.y A.gain A.scale A.dh A.dres = A.gradX := by
  funext i
  obtain ⟨r, k, rfl⟩ : ∃ (r : Fin 8192) (k : Fin 1024), i = ix2 r k := ⟨i 0, i 1, eq_ix2 i⟩
  exact dx_at A r k

theorem gradY : val_main_v59 (F := Ideal) A.x A.g A.y A.gain A.scale A.dh A.dres = A.gradY := by
  funext i
  obtain ⟨r, k, rfl⟩ : ∃ (r : Fin 8192) (k : Fin 1024), i = ix2 r k := ⟨i 0, i 1, eq_ix2 i⟩
  pointwise [val_main_v59, val_main_v55, val_main_v54, val_main_v53]
  rw [dx_at]
  exact mul_comm _ _

theorem gradGain : val_main_v35 (F := Ideal) A.x A.g A.y A.scale A.dh = Args.total A.gainPart := by
  funext i
  obtain ⟨z, k, rfl⟩ : ∃ (z : Fin 1) (k : Fin 1024), i = ix2 z k := ⟨i 0, i 1, eq_ix2 i⟩
  pointwise [val_main_v35, val_main_v34, val_main_cst_7, val_main_v33, val_main_v32, val_main_v31, val_main_v21, val_main_v20,
    val_main_cst_4, val_main_v0]
  simp only [unit_at]
  exact Finset.sum_congr rfl fun r _ => by rw [mul_left_comm, ← mul_assoc]; rfl

theorem gradScale : val_main_v30 (F := Ideal) A.x A.g A.y A.gain A.dh = Args.total A.scalePart := by
  funext i
  obtain ⟨z, k, rfl⟩ : ∃ (z : Fin 1) (k : Fin 1024), i = ix2 z k := ⟨i 0, i 1, eq_ix2 i⟩
  pointwise [val_main_v30, val_main_v29, val_main_cst_6, val_main_v28, val_main_v19, val_main_v18, val_main_v0]
  simp only [unit_at]
  exact Finset.sum_congr rfl fun r _ => by rw [mul_comm, ← mul_assoc]; rfl

theorem gradShift : val_main_v27 (F := Ideal) A.dh = Args.total A.shiftPart := by
  funext i
  obtain ⟨z, k, rfl⟩ : ∃ (z : Fin 1) (k : Fin 1024), i = ix2 z k := ⟨i 0, i 1, eq_ix2 i⟩
  pointwise [val_main_v27, val_main_v26, val_main_cst_5, val_main_v0]
  rfl

theorem gradGate : val_main_v58 (F := Ideal) A.x A.g A.y A.gain A.scale A.dh A.dres = Args.total A.gatePart := by
  funext i
  obtain ⟨z, k, rfl⟩ : ∃ (z : Fin 1) (k : Fin 1024), i = ix2 z k := ⟨i 0, i 1, eq_ix2 i⟩
  pointwise [val_main_v58, val_main_v57, val_main_cst_11, val_main_v56, val_main_v53]
  simp only [dx_at]
  rfl

end Cert.Norm.Ref

end
-- ==== Proof.MidFwd.lean ====
module

public import proofs.«01_k».proof.Proof.Gen.Kernel23Ideal.Value
public import proofs.«01_k».proof.Proof.Spec
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# What the gated convolution's forward call computes

Point `t` works on rows `256 * (t / 2) …` and columns `1408 * (t % 2) …`. The two rows above a block come from the block
of 16 rows above it, and are zeros for the first rows.
-/

@[expose] public section

set_option maxRecDepth 16384

noncomputable section

namespace Cert.FfnMid

/-- The layer's result: the convolved gate times its logistic function times the value half. -/
def Args.act (A : Args) (r c : ℕ) : EReal := A.conv r c * A.sig r c * A.val r c

/-- The layer's result as an array. -/
def result (A : Args) (i : (⟨2, ![8192, 2816]⟩ : Idealize.ShloMosaic.Shape).Idx) : EReal := A.act (i 0).val (i 1).val

namespace Fwd

open Cert.Kernel23Ideal Cert.Kernel23Ideal.Gen Idealize.ShloMosaic Idealize.ShloMosaic.TcCoe Idealize.SL.Sem

variable (m : (ℓ : Loc nD τ sig) → Buf (Elt Ideal) ℓ) (c : Dev nD)

/-- The arguments, as the memory holds them at the launch. The forward call has no incoming gradient. -/
abbrev inputs : Args :=
  args (m ((c : Thread nD τ).loc main_arg0)) (m ((c : Thread nD τ).loc main_arg1)) (m ((c : Thread nD τ).loc main_arg2)) fun _ => 0

theorem idx0 : ∀ t : Fin cfg0.N, win0_0.index t = ![t.val / 2, t.val % 2] :=
  (by decide +kernel : ∀ t : Fin grid0.N, win0_0.index t = ![t.val / 2, t.val % 2])
theorem idx1 : ∀ t : Fin cfg0.N, win0_1.index t = ![16 * (t.val / 2) - 1, t.val % 2] :=
  (by decide +kernel : ∀ t : Fin grid0.N, win0_1.index t = ![16 * (t.val / 2) - 1, t.val % 2])
theorem idx2 : ∀ t : Fin cfg0.N, win0_2.index t = ![t.val / 2, t.val % 2 + 2] :=
  (by decide +kernel : ∀ t : Fin grid0.N, win0_2.index t = ![t.val / 2, t.val % 2 + 2])
theorem idx3 : ∀ t : Fin cfg0.N, win0_3.index t = ![0, t.val % 2] :=
  (by decide +kernel : ∀ t : Fin grid0.N, win0_3.index t = ![0, t.val % 2])
theorem idx4 : ∀ t : Fin cfg0.N, win0_4.index t = ![0, t.val % 2] :=
  (by decide +kernel : ∀ t : Fin grid0.N, win0_4.index t = ![0, t.val % 2])
theorem idx5 : ∀ t : Fin cfg0.N, win0_5.index t = ![t.val / 2, t.val % 2] :=
  (by decide +kernel : ∀ t : Fin grid0.N, win0_5.index t = ![t.val / 2, t.val % 2])

/-- The kernel's test that a block has rows above it. -/
theorem first_word : ∀ t : Fin cfg0.N, Scalar.cmpi .sgt (BitVec.ofNat 32 (grid0.coords t 0).val) 0#32 = if t.val / 2 = 0 then 0#1 else 1#1 :=
  (by decide +kernel : ∀ t : Fin grid0.N, Scalar.cmpi .sgt (BitVec.ofNat 32 (grid0.coords t 0).val) 0#32 = if t.val / 2 = 0 then 0#1 else 1#1)

theorem point_lt (t : Fin cfg0.N) : t.val < 64 := lt_of_lt_of_eq t.isLt N_0

variable (t : Fin cfg0.N)

theorem blk0 (r : Fin 256) (k : Fin 1408) : iblk m c 0 t (ix2 r k) = (inputs m c).gate (256 * (t.val / 2) + r.val) (1408 * (t.val % 2) + k.val) := by
  have ht := point_lt t
  show _ = at2 _ _ _
  rw [at2_ix2 _ (by omega) (by omega)]
  blk_ext [iblk, V, idx0 t]

theorem blk1 (r : Fin 16) (k : Fin 1408) :
    iblk m c 1 t (ix2 r k) = (inputs m c).gate (16 * (16 * (t.val / 2) - 1) + r.val) (1408 * (t.val % 2) + k.val) := by
  have ht := point_lt t
  show _ = at2 _ _ _
  rw [at2_ix2 _ (by omega) (by omega)]
  blk_ext [iblk, V, idx1 t]

theorem blk2 (r : Fin 256) (k : Fin 1408) : iblk m c 2 t (ix2 r k) = (inputs m c).val (256 * (t.val / 2) + r.val) (1408 * (t.val % 2) + k.val) := by
  have ht := point_lt t
  show _ = at2 _ _ _
  rw [at2_ix2 _ (by omega) (by omega)]
  blk_ext [iblk, V, idx2 t]

/-- The taps, behind the rows of zeros that the host adds. -/
theorem taps_entry (r : Fin 8) (k : Fin 2816) (hr : r.val < 3) : V m c main_v0 (ix2 r k) = (inputs m c).w r.val k.val := by
  show _ = at2 _ _ _
  rw [at2_ix2 _ hr k.isLt]
  unfold V
  after_reads_at
  exact dif_pos hr

theorem bias_entry (r : Fin 1) (k : Fin 2816) : V m c main_v1 (ix2 r k) = (inputs m c).b k.val := by
  show _ = at1 _ _
  rw [at1_ix1 _ k.isLt]
  unfold V
  after_reads_at

theorem blk3 (r : Fin 8) (k : Fin 1408) (hr : r.val < 3) : iblk m c 3 t (ix2 r k) = (inputs m c).w r.val (1408 * (t.val % 2) + k.val) := by
  have ht := point_lt t
  rw [← taps_entry m c r ⟨1408 * (t.val % 2) + k.val, by omega⟩ hr]
  blk_ext [iblk, idx3 t]

theorem blk4 (r : Fin 1) (k : Fin 1408) : iblk m c 4 t (ix2 r k) = (inputs m c).b (1408 * (t.val % 2) + k.val) := by
  have ht := point_lt t
  rw [← bias_entry m c r ⟨1408 * (t.val % 2) + k.val, by omega⟩]
  blk_ext [iblk, idx4 t]

/-- A row of the block behind the 16 rows above it is the gate `s` rows back. -/
theorem above (s : ℕ) (r : Fin 256) (k : Fin 1408) (e : ℕ) (hs : s ≤ 2) (he : e + s = 16 + r.val) (p : ¬ e < 16 → e - 16 < 256) :
    (if h : e < 16 then Scalar.select (Scalar.cmpi .sgt (BitVec.ofNat 32 (grid0.coords t 0).val) 0#32) (iblk m c 1 t (ix2 ⟨e, h⟩ k) : EReal) (0 : EReal)
      else (iblk m c 0 t (ix2 ⟨e - 16, p h⟩ k) : EReal)) = (inputs m c).back s (256 * (t.val / 2) + r.val) (1408 * (t.val % 2) + k.val) := by
  have ht := point_lt t
  rw [first_word]
  unfold Args.back
  by_cases h1 : e < 16
  · rw [dif_pos h1]
    by_cases h2 : t.val / 2 = 0
    · rw [if_pos h2]
      exact (if_neg (by omega)).symm
    · rw [if_neg h2]
      refine (blk1 m c t ⟨e, h1⟩ k).trans ?_
      rw [if_pos (by omega)]
      congr 1; dsimp only; omega
  · rw [dif_neg h1, blk0, if_pos (by omega)]
    congr 1; dsimp only; omega

theorem add_eq {a a' b b' : EReal} (h : a = a') (h' : b = b') : a + b = a' + b' := by rw [h, h']
theorem mul_eq {a a' b b' : EReal} (h : a = a') (h' : b = b') : a * b = a' * b' := by rw [h, h']

theorem silu_eq {a a' : EReal} (h : a = a') : a * Ideal.div 1 (1 + Ideal.exp (0 - a)) = a' * Ideal.div 1 (1 + Ideal.exp (0 - a')) := by
  rw [h]

/-- What is stored. -/
theorem actB_apply (r : Fin 256) (k : Fin 1408) :
    k0_pay1 (grid0.coords t) (iblk m c 0 t) (iblk m c 1 t) (iblk m c 3 t) (iblk m c 4 t) (iblk m c 2 t) (ix2 r k)
      = (inputs m c).act (256 * (t.val / 2) + r.val) (1408 * (t.val % 2) + k.val) := by
  pointwise [k0_pay1]
  exact mul_eq (silu_eq (add_eq (add_eq (add_eq
      (mul_eq (blk3 m c t 2 k (by decide)) ((blk0 m c t r k).trans ((inputs m c).back_zero _ _).symm))
      (mul_eq (blk3 m c t 1 k (by decide)) (above m c t 1 r k ((16 + r.val + 272 - 1) % 272) (by omega) (by omega) (by omega))))
      (mul_eq (blk3 m c t 0 k (by decide)) (above m c t 2 r k ((16 + r.val + 272 - 2) % 272) (by omega) (by omega) (by omega))))
    (blk4 m c t 0 k))) (blk2 m c t r k)

theorem arr : (dats m 0 c).arrAt 5 cfg0.N = result (inputs m c) := by
  refine (dats m 0 c).arrAt_eq_of_covers 5 _ (by decide +kernel) fun t hf y => ?_
  blk_simp
  obtain ⟨r, k, rfl⟩ : ∃ (r : Fin 256) (k : Fin 1408), y = ix2 r k := ⟨y 0, y 1, eq_ix2 y⟩
  rw [after0_5]
  unfold out0_5
  frame_out
  refine (actB_apply m c t r k).trans ?_
  unfold result
  blk_simp [idx5 t]
  rw [Nat.mul_comm (t.val / 2), Nat.mul_comm (t.val % 2)]

end Fwd

end Cert.FfnMid

end
-- ==== Proof.MidFwdRef.lean ====
module

public import proofs.«01_k».proof.Proof.Gen.Reference23Ideal.Read
public import proofs.«01_k».proof.Proof.MidFwd

/-!
# What the reference of the gated convolution computes

The reference's values, read at an index and stated by the functions of `Spec`.
-/

@[expose] public section

set_option maxRecDepth 16384

noncomputable section

namespace Cert.FfnMid.FwdRef

open Cert.Reference23Ideal Cert.Reference23Ideal.Gen Cert.Reference23Ideal.Read Idealize.ShloMosaic Idealize.ShloMosaic.TcCoe
open Idealize.ShloMosaic.StableHlo

variable (U : (⟨2, ![8192, 5632]⟩ : Shape).Idx → EReal) (W : (⟨2, ![3, 2816]⟩ : Shape).Idx → EReal)
  (B : (⟨1, ![2816]⟩ : Shape).Idx → EReal) (D : (⟨2, ![8192, 2816]⟩ : Shape).Idx → EReal)

theorem gate_at (r : Fin 8192) (k : Fin 2816) : val_main_v1 (F := Ideal) U (ix2 r k) = (args U W B D).gate r k := by
  pointwise [val_main_v1, val_main_v0]
  exact (at2_ix2 U r.isLt (by omega)).symm

theorem val_at (r : Fin 8192) (k : Fin 2816) : val_main_v2 (F := Ideal) U (ix2 r k) = (args U W B D).val r k := by
  pointwise [val_main_v2, val_main_v0]
  exact ((at2_ix2 U r.isLt (by omega)).trans (by congr 2; ext; dsimp only; omega)).symm

theorem back1_at (r : Fin 8192) (k : Fin 2816) : val_main_v8 (F := Ideal) U (ix2 r k) = (args U W B D).back 1 r k := by
  have hz : ∀ i, val_main_v6 (F := Ideal) i = 0 := fun i => by pointwise [val_main_v6, val_main_cst]
  have hg : ∀ (e : Fin 8191) (k : Fin 2816), val_main_v7 (F := Ideal) U (ix2 e k) = (args U W B D).gate e k := fun e k => by
    pointwise [val_main_v7]
    exact gate_at U W B D _ k
  pointwise [val_main_v8]
  unfold Args.back
  by_cases h : r.val < 1
  · rw [dif_pos h]
    exact (hz _).trans (if_neg (by omega)).symm
  · rw [dif_neg h]
    exact (hg ⟨r.val - 1, by omega⟩ k).trans (if_pos (by omega)).symm

theorem back2_at (r : Fin 8192) (k : Fin 2816) : val_main_v18 (F := Ideal) U (ix2 r k) = (args U W B D).back 2 r k := by
  have hz : ∀ i, val_main_v16 (F := Ideal) i = 0 := fun i => by pointwise [val_main_v16, val_main_cst_1]
  have hg : ∀ (e : Fin 8190) (k : Fin 2816), val_main_v17 (F := Ideal) U (ix2 e k) = (args U W B D).gate e k := fun e k => by
    pointwise [val_main_v17]
    exact gate_at U W B D _ k
  pointwise [val_main_v18]
  unfold Args.back
  by_cases h : r.val < 2
  · rw [dif_pos h]
    exact (hz _).trans (if_neg (by omega)).symm
  · rw [dif_neg h]
    exact (hg ⟨r.val - 2, by omega⟩ k).trans (if_pos (by omega)).symm

theorem tap_at (s : Fin 3) (k : Fin 2816) : W (ix2 s k) = (args U W B D).w s k := (at2_ix2 W s.isLt k.isLt).symm

theorem bias_at (k : Fin 2816) : B (ix1 k) = (args U W B D).b k := (at1_ix1 B k.isLt).symm

theorem conv_at (r : Fin 8192) (k : Fin 2816) : val_main_v30 (F := Ideal) U W B (ix2 r k) = (args U W B D).conv r k := by
  pointwise [val_main_v30, val_main_v29, val_main_v28, val_main_v27, val_main_v26, val_main_v25, val_main_v24, val_main_v23,
    val_main_v22, val_main_v21, val_main_v20, val_main_v19, val_main_v15, val_main_v14, val_main_v13, val_main_v12, val_main_v11,
    val_main_cst_0, val_main_v10, val_main_v9, val_main_v5, val_main_v4, val_main_v3]
  rw [gate_at U W B D, back1_at U W B D, back2_at U W B D, bias_at U W B D, tap_at U W B D, tap_at U W B D, tap_at U W B D]
  unfold Args.conv
  rw [Args.back_zero, add_comm (_ + _) ((args U W B D).w (2 : Fin 3) k * _), ← add_assoc]
  rfl

theorem sig_at (r : Fin 8192) (k : Fin 2816) : val_main_call0_v5 (F := Ideal) U W B (ix2 r k) = (args U W B D).sig r k := by
  pointwise [val_main_call0_v5, val_main_call0_v4, val_main_call0_cst_0, val_main_call0_v3, val_main_call0_v2, val_main_call0_cst,
    val_main_call0_v1, val_main_call0_v0]
  rw [conv_at U W B D]
  unfold Args.sig
  rw [zero_sub]

theorem act : val_main_v33 (F := Ideal) U W B = result (args U W B D) := by
  funext i
  obtain ⟨r, k, rfl⟩ : ∃ (r : Fin 8192) (k : Fin 2816), i = ix2 r k := ⟨i 0, i 1, eq_ix2 i⟩
  pointwise [val_main_v33, val_main_v32, val_main_v31]
  rw [conv_at U W B D, sig_at U W B D, val_at U W B D]
  rfl

end Cert.FfnMid.FwdRef

end
-- ==== Proof.NormTotal.lean ====
module

public import proofs.«01_k».proof.Proof.Norm
public import Idealize.ShloMosaic.Lib.Pipeline.ValueKit.Acc

/-!
# The norm without a residual step, and sums over blocks of rows

A norm of `x` alone is the norm of `x + g * y` at `g` and `y` zero. Sixteen blocks of 512 rows make up all rows.
-/

@[expose] public section

noncomputable section

namespace Cert.Norm

open Idealize.ShloMosaic

/-- The arguments of a norm of `x` alone. -/
abbrev plain (x : (⟨2, ![8192, 1024]⟩ : Shape).Idx → EReal) (gain scale : (⟨2, ![1, 1024]⟩ : Shape).Idx → EReal)
    (dh dres : (⟨2, ![8192, 1024]⟩ : Shape).Idx → EReal) : Args where
  x := x
  g := fun _ => 0
  y := fun _ => 0
  gain := gain
  scale := scale
  dh := dh
  dres := dres

theorem plain_row (x : (⟨2, ![8192, 1024]⟩ : Shape).Idx → EReal) (gain scale : (⟨2, ![1, 1024]⟩ : Shape).Idx → EReal)
    (dh dres : (⟨2, ![8192, 1024]⟩ : Shape).Idx → EReal) (r : Fin 8192) (k : Fin 1024) :
    (plain x gain scale dh dres).row r k = x (ix2 r k) := by
  show x (ix2 r k) + 0 * 0 = x (ix2 r k)
  rw [zero_mul, add_zero]

/-- The norm's result: the row over its root mean square, times the gain and one more than the scale, plus the shift. -/
def Args.shifted (A : Args) (shift : (⟨2, ![1, 1024]⟩ : Shape).Idx → EReal) (i : (⟨2, ![8192, 1024]⟩ : Shape).Idx) : EReal :=
  A.unit (i 0) (i 1) * A.gain (ix2 0 (i 1)) * (1 + A.scale (ix2 0 (i 1))) + shift (ix2 0 (i 1))

/-- The residual stream as an array. -/
def Args.stream (A : Args) (i : (⟨2, ![8192, 1024]⟩ : Shape).Idx) : EReal := A.row (i 0) (i 1)

/-- The parts of the sixteen blocks make up the sum over all rows. -/
theorem total_blocks (f : Fin 8192 → Fin 1024 → EReal) (k : Fin 1024) (e : Fin 16 → Fin 512 → Fin 8192)
    (he : ∀ s r, (e s r).val = 512 * s.val + r.val) : 0 + ∑ s : Fin 16, ∑ r : Fin 512, f (e s r) k = ∑ r : Fin 8192, f r k := by
  rw [zero_add]
  exact Fin.sum_mul_add_congr (fun s r _ => by congr 1; ext; exact (he s r).trans (congrArg (· + r.val) (Nat.mul_comm _ _)))

end Cert.Norm

end
-- ==== Proof.NormPlain.lean ====
module

public import proofs.«01_k».proof.Proof.Gen.Kernel24Ideal.Value
public import proofs.«01_k».proof.Proof.NormTotal
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# What the backward call of the first norm computes

The first layer's norm has no residual step before it. Point `t` works on rows `512 * t …`; the gradients by the gain, the
scale and the shift are sums over all rows, which the points add up.
-/

@[expose] public section

set_option maxRecDepth 16384

noncomputable section

namespace Cert.Norm.Plain

open Cert.Kernel24Ideal Cert.Kernel24Ideal.Gen Idealize.ShloMosaic Idealize.ShloMosaic.TcCoe Idealize.SL.Sem

variable (m : (ℓ : Loc nD τ sig) → Buf (Elt Ideal) ℓ) (c : Dev nD)

/-- The gradient's arguments, as the memory holds them at the launch. -/
abbrev inputs : Args := plain (m ((c : Thread nD τ).loc main_arg0)) (m ((c : Thread nD τ).loc main_arg1))
  (m ((c : Thread nD τ).loc main_arg2)) (m ((c : Thread nD τ).loc main_arg3)) (m ((c : Thread nD τ).loc main_arg4))

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem blk0 (r : Fin 512) (k : Fin 1024) : iblk m c 0 t (ix2 r k) = (inputs m c).row (at' t r) k := by
  have ht := point_lt t
  rw [plain_row]
  blk_ext [iblk, V, idx0 t]

theorem blk1 (k : Fin 1024) : iblk m c 1 t (ix2 0 k) = (inputs m c).gain (ix2 0 k) := by
  blk_ext [iblk, V, idx1 t]

theorem blk2 (k : Fin 1024) : iblk m c 2 t (ix2 0 k) = (inputs m c).scale (ix2 0 k) := by
  blk_ext [iblk, V, idx2 t]

theorem blk3 (r : Fin 512) (k : Fin 1024) : iblk m c 3 t (ix2 r k) = (inputs m c).dh (ix2 (at' t r) k) := by
  have ht := point_lt t
  blk_ext [iblk, V, idx3 t]

theorem blk4 (r : Fin 512) (k : Fin 1024) : iblk m c 4 t (ix2 r k) = (inputs m c).dres (ix2 (at' t r) k) := by
  have ht := point_lt t
  blk_ext [iblk, V, idx4 t]

theorem rootB (r : Fin 512) (z : Fin 1) : k0_pay4 (iblk m c 0 t) (ix2 r z) = (inputs m c).root (at' t r) := by
  pointwise [k0_pay4]
  simp only [blk0]
  rfl

theorem unitB (r : Fin 512) (k : Fin 1024) : k0_pay5 (iblk m c 0 t) (ix2 r k) = (inputs m c).unit (at' t r) k := by
  pointwise [k0_pay5]
  rw [blk0, rootB]
  rfl

/-- The gradient by the norm's input, at the block's rows. -/
theorem dxB_apply (r : Fin 512) (k : Fin 1024) :
    k0_pay8 (iblk m c 0 t) (iblk m c 3 t) (iblk m c 1 t) (iblk m c 2 t) (iblk m c 4 t) (ix2 r k) = (inputs m c).dx (at' t r) k := by
  pointwise [k0_pay8, k0_pay7, k0_pay6]
  simp only [blk1, blk2, blk3, blk4, unitB, rootB]
  rfl

theorem dhnB_apply (r : Fin 512) (k : Fin 1024) : k0_pay9 (iblk m c 0 t) (iblk m c 3 t) (ix2 r k)
    = (inputs m c).dh (ix2 (at' t r) k) * (inputs m c).unit (at' t r) k := by
  pointwise [k0_pay9, k0_pay6]
  rw [blk3, unitB]

/-- A sum over the block's rows. -/
def part (f : Fin 8192 → Fin 1024 → EReal) (i : S1x1024.Idx) : EReal := ∑ r : Fin 512, f (at' t r) (i 1)

theorem gain_apply (v : FVec Ideal S1x1024 .f32) (i : S1x1024.Idx) :
    k0_pay1 (k0_pay7 (iblk m c 2 t)) (k0_pay9 (iblk m c 0 t) (iblk m c 3 t)) v i = v i + part t (inputs m c).gainPart i := by
  obtain ⟨z, k, rfl⟩ : ∃ (z : Fin 1) (k : Fin 1024), i = ix2 z k := ⟨i 0, i 1, eq_ix2 i⟩
  pointwise [k0_pay1, k0_pay7]
  simp only [dhnB_apply, blk2]
  rfl

theorem scale_apply (v : FVec Ideal S1x1024 .f32) (i : S1x1024.Idx) :
    k0_pay2 (iblk m c 1 t) (k0_pay9 (iblk m c 0 t) (iblk m c 3 t)) v i = v i + part t (inputs m c).scalePart i := by
  obtain ⟨z, k, rfl⟩ : ∃ (z : Fin 1) (k : Fin 1024), i = ix2 z k := ⟨i 0, i 1, eq_ix2 i⟩
  pointwise [k0_pay2]
  simp only [dhnB_apply, blk1]
  rfl

theorem shift_apply (v : FVec Ideal S1x1024 .f32) (i : S1x1024.Idx) :
    k0_pay3 (k0_pay6 (iblk m c 3 t)) v i = v i + part t (inputs m c).shiftPart i := by
  obtain ⟨z, k, rfl⟩ : ∃ (z : Fin 1) (k : Fin 1024), i = ix2 z k := ⟨i 0, i 1, eq_ix2 i⟩
  pointwise [k0_pay3, k0_pay6]
  simp only [blk3]
  rfl

theorem outX (r : Fin 512) (k : Fin 1024) : (outsAt0 m c t.val t.isLt).1 (ix2 r k) = (inputs m c).dx (at' t r) k := by
  by_cases h : t.val % 16 = 0
  · rw [outsAt0_A m c t h]
    frame_out
    exact dxB_apply m c t r k
  · rw [outsAt0_B m c t h]
    frame_out
    exact dxB_apply m c t r k

theorem outGain_A (h : t.val % 16 = 0) (i : S1x1024.Idx) :
    (outsAt0 m c t.val t.isLt).2.1 i = 0 + part t (inputs m c).gainPart i := by
  rw [outsAt0_A m c t h]
  frame_open
  simp (disch := decide) only [↓ View.readCov_skip, ↓ View.readCov_cons_toLoadRect, ↓ View.readCov_fill]
  frame_out
  exact (gain_apply m c t _ i).trans (congrArg (· + _) (by pointwise [k0_pay10]))

theorem outGain_B (h : ¬ t.val % 16 = 0) (i : S1x1024.Idx) : (outsAt0 m c t.val t.isLt).2.1 i
    = (outsAt0 m c (t.val - 1) (Nat.lt_of_le_of_lt (Nat.sub_le _ _) t.isLt)).2.1 i + part t (inputs m c).gainPart i := by
  rw [outsAt0_B m c t h]
  frame_out
  exact gain_apply m c t _ i

theorem outScale_A (h : t.val % 16 = 0) (i : S1x1024.Idx) :
    (outsAt0 m c t.val t.isLt).2.2.1 i = 0 + part t (inputs m c).scalePart i := by
  rw [outsAt0_A m c t h]
  frame_open
  simp (disch := decide) only [↓ View.readCov_skip, ↓ View.readCov_cons_toLoadRect, ↓ View.readCov_fill]
  frame_out
  exact (scale_apply m c t _ i).trans (congrArg (· + _) (by pointwise [k0_pay11]))

theorem outScale_B (h : ¬ t.val % 16 = 0) (i : S1x1024.Idx) : (outsAt0 m c t.val t.isLt).2.2.1 i
    = (outsAt0 m c (t.val - 1) (Nat.lt_of_le_of_lt (Nat.sub_le _ _) t.isLt)).2.2.1 i + part t (inputs m c).scalePart i := by
  rw [outsAt0_B m c t h]
  frame_out
  exact scale_apply m c t _ i

theorem outShift_A (h : t.val % 16 = 0) (i : S1x1024.Idx) :
    (outsAt0 m c t.val t.isLt).2.2.2 i = 0 + part t (inputs m c).shiftPart i := by
  rw [outsAt0_A m c t h]
  frame_open
  simp (disch := decide) only [↓ View.readCov_skip, ↓ View.readCov_cons_toLoadRect, ↓ View.readCov_fill]
  frame_out
  exact (shift_apply m c t _ i).trans (congrArg (· + _) (by pointwise [k0_pay12]))

theorem outShift_B (h : ¬ t.val % 16 = 0) (i : S1x1024.Idx) : (outsAt0 m c t.val t.isLt).2.2.2 i
    = (outsAt0 m c (t.val - 1) (Nat.lt_of_le_of_lt (Nat.sub_le _ _) t.isLt)).2.2.2 i + part t (inputs m c).shiftPart i := by
  rw [outsAt0_B m c t h]
  frame_out
  exact shift_apply m c t _ i

/-! ## The arrays -/

theorem sum_parts (f : Fin 8192 → Fin 1024 → EReal) (t : Fin cfg0.N) (hs : ∀ s : Fin 16, 16 * (t.val / 16) + s.val < cfg0.N)
    (i : S1x1024.Idx) : 0 + ∑ s : Fin 16, part ⟨16 * (t.val / 16) + s.val, hs s⟩ f i = Args.total f i := by
  have ht := point_lt t
  refine total_blocks f (i 1) (fun s r => at' ⟨16 * (t.val / 16) + s.val, hs s⟩ r) fun s r => ?_
  show 512 * (16 * (t.val / 16) + s.val) + r.val = 512 * s.val + r.val
  omega

theorem arr_x : (dats m 0 c).arrAt 5 cfg0.N = (inputs m c).gradX := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  refine (outX m c t r k).trans ?_
  unfold Args.gradX
  congr 1 <;> ext <;> blk_simp [idx5 t]
  show 512 * t.val + r.val = _
  omega

theorem arr_gain : (dats m 0 c).arrAt 6 cfg0.N = Args.total (inputs m c).gainPart := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0)
    (fun t => part t (inputs m c).gainPart) (outGain_A m c) (outGain_B m c) t ((flush0_6 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx6 t]

theorem arr_scale : (dats m 0 c).arrAt 7 cfg0.N = Args.total (inputs m c).scalePart := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun t => part t (inputs m c).scalePart) (outScale_A m c) (outScale_B m c) t ((flush0_7 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx7 t]

theorem arr_shift : (dats m 0 c).arrAt 8 cfg0.N = Args.total (inputs m c).shiftPart := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun t => part t (inputs m c).shiftPart) (outShift_A m c) (outShift_B m c) t ((flush0_8 t).mp hf) y]
  obtain ⟨z, k, rfl⟩ : ∃ (z : Fin 1) (k : Fin 1024), y = ix2 z k := ⟨y 0, y 1, eq_ix2 y⟩
  refine (sum_parts _ t _ (ix2 z k)).trans (Finset.sum_congr rfl fun r _ => congrArg _ (Fin.ext ?_))
  blk_simp [idx8 t]

end Cert.Norm.Plain

end
-- ==== Proof.NormPlainRef.lean ====
module

public import proofs.«01_k».proof.Proof.Gen.Reference24Ideal.Read
public import proofs.«01_k».proof.Proof.NormTotal

/-!
# What the reference of the first norm's backward call computes

The same derivative as the one of a residual step and the norm behind it, at `x` in place of `x + g * y`.
-/

@[expose] public section

set_option maxRecDepth 16384

noncomputable section

namespace Cert.Norm.PlainRef

open Cert.Reference24Ideal Cert.Reference24Ideal.Gen Cert.Reference24Ideal.Read Idealize.ShloMosaic Idealize.ShloMosaic.TcCoe
open Idealize.ShloMosaic.StableHlo

variable (X : (⟨2, ![8192, 1024]⟩ : Shape).Idx → EReal) (G S : (⟨2, ![1, 1024]⟩ : Shape).Idx → EReal)
  (H E : (⟨2, ![8192, 1024]⟩ : Shape).Idx → EReal)

theorem row_at (r : Fin 8192) (k : Fin 1024) : X (ix2 r k) = (plain X G S H E).row r k := (plain_row X G S H E r k).symm

theorem square_at (r : Fin 8192) (z : Fin 1) : val_main_v7 (F := Ideal) X (ix2 r z) = square ((plain X G S H E).row r) := by
  pointwise [val_main_v7, val_main_v6, val_main_cst_2, val_main_v5, val_main_v4, val_main_cst_1, val_main_v3, val_main_v2,
    val_main_cst_0, val_main_v1]
  simp only [row_at X G S H E]
  rfl

theorem root_at (r : Fin 8192) (z : Fin 1) : val_main_v8 (F := Ideal) X (ix2 r z) = (plain X G S H E).root r := by
  pointwise [val_main_v8]
  rw [square_at X G S H E]
  rfl

theorem unit_at (r : Fin 8192) (k : Fin 1024) : val_main_v13 (F := Ideal) X (ix2 r k) = (plain X G S H E).unit r k := by
  pointwise [val_main_v13, val_main_v12]
  rw [row_at X G S H E, root_at X G S H E]
  rfl

theorem dunit_at (r : Fin 8192) (k : Fin 1024) : val_main_v34 (F := Ideal) G S H (ix2 r k) = (plain X G S H E).dunit r k := by
  pointwise [val_main_v34, val_main_v33, val_main_v29, val_main_v28, val_main_v17, val_main_v16, val_main_cst_4, val_main_v22]
  unfold Args.dunit
  rw [mul_assoc, mul_comm (1 + _) (G _)]

/-- The gradient by a row that comes through the mean square, over one element of the row. -/
theorem mean_at (r : Fin 8192) (k : Fin 1024) : val_main_v45 (F := Ideal) X G S H (ix2 r k)
    = Ideal.div ((∑ j, (plain X G S H E).row r j * (plain X G S H E).dunit r j)
        * (minusHalf * Ideal.div (Ideal.rsqrt (square ((plain X G S H E).row r))) (square ((plain X G S H E).row r)))) width := by
  pointwise [val_main_v45, val_main_v44, val_main_cst_10, val_main_v43, val_main_v42, val_main_cst_9, val_main_v41, val_main_v37,
    val_main_v36, val_main_cst_8, val_main_v35, val_main_v11, val_main_v10, val_main_cst_3, val_main_v9]
  simp only [row_at X G S H E, dunit_at X G S H E, root_at X G S H E, square_at X G S H E]
  exact Fin.sum_univ_one _

theorem gradX : val_main_v49 (F := Ideal) X G S H E = (plain X G S H E).gradX := by
  funext i
  obtain ⟨r, k, rfl⟩ : ∃ (r : Fin 8192) (k : Fin 1024), i = ix2 r k := ⟨i 0, i 1, eq_ix2 i⟩
  pointwise [val_main_v49, val_main_v48, val_main_v47, val_main_v46, val_main_v40, val_main_v39, val_main_v38]
  rw [row_at X G S H E, dunit_at X G S H E, root_at X G S H E, mean_at X G S H E]
  exact row_eq ((plain X G S H E).row r) ((plain X G S H E).dunit r) (E (ix2 r k)) k

theorem gradGain : val_main_v32 (F := Ideal) X S H = Args.total (plain X G S H E).gainPart := by
  funext i
  obtain ⟨z, k, rfl⟩ : ∃ (z : Fin 1) (k : Fin 1024), i = ix2 z k := ⟨i 0, i 1, eq_ix2 i⟩
  pointwise [val_main_v32, val_main_v31, val_main_cst_7, val_main_v30, val_main_v29, val_main_v28, val_main_v17, val_main_v16,
    val_main_cst_4, val_main_v22]
  simp only [unit_at X G S H E]
  exact Finset.sum_congr rfl fun r _ => by rw [mul_left_comm, ← mul_assoc]; rfl

theorem gradScale : val_main_v27 (F := Ideal) X G H = Args.total (plain X G S H E).scalePart := by
  funext i
  obtain ⟨z, k, rfl⟩ : ∃ (z : Fin 1) (k : Fin 1024), i = ix2 z k := ⟨i 0, i 1, eq_ix2 i⟩
  pointwise [val_main_v27, val_main_v26, val_main_cst_6, val_main_v25, val_main_v15, val_main_v14, val_main_v22]
  simp only [unit_at X G S H E]
  exact Finset.sum_congr rfl fun r _ => by rw [mul_comm, ← mul_assoc]; rfl

theorem gradShift : val_main_v24 (F := Ideal) H = Args.total (plain X G S H E).shiftPart := by
  funext i
  obtain ⟨z, k, rfl⟩ : ∃ (z : Fin 1) (k : Fin 1024), i = ix2 z k := ⟨i 0, i 1, eq_ix2 i⟩
  pointwise [val_main_v24, val_main_v23, val_main_cst_5, val_main_v22]
  rfl

end Cert.Norm.PlainRef

end
-- ==== Proof.Residual.lean ====
module

public import proofs.«01_k».proof.Proof.Gen.Kernel25Ideal.Value
public import proofs.«01_k».proof.Proof.Gen.Reference25Ideal.Read
public import proofs.«01_k».proof.Proof.NormTotal
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# The gradient of the last residual step

The gradients of `g * y` by `y` and by `g`. Point `t` works on rows `512 * t …`; the gradient by `g` is a sum over all rows,
which the points add up.
-/

@[expose] public section

set_option maxRecDepth 16384

noncomputable section

namespace Cert.Residual

/-- The gradient by the layer's result. -/
def gradY (dx : (⟨2, ![8192, 1024]⟩ : Idealize.ShloMosaic.Shape).Idx → EReal)
    (g : (⟨2, ![1, 1024]⟩ : Idealize.ShloMosaic.Shape).Idx → EReal)
    (i : (⟨2, ![8192, 1024]⟩ : Idealize.ShloMosaic.Shape).Idx) : EReal :=
  dx i * g (Idealize.ShloMosaic.ix2 0 (i 1))

/-- One row's part of the gradient by the gate. -/
def gatePart (dx y : (⟨2, ![8192, 1024]⟩ : Idealize.ShloMosaic.Shape).Idx → EReal) (r : Fin 8192) (k : Fin 1024) : EReal :=
  dx (Idealize.ShloMosaic.ix2 r k) * y (Idealize.ShloMosaic.ix2 r k)

section Kernel

open Cert.Kernel25Ideal Cert.Kernel25Ideal.Gen Idealize.ShloMosaic Idealize.ShloMosaic.TcCoe Idealize.SL.Sem

variable (m : (ℓ : Loc nD τ sig) → Buf (Elt Ideal) ℓ) (c : Dev nD)

/-- The arguments, as the memory holds them at the launch. -/
abbrev dx : (⟨2, ![8192, 1024]⟩ : Shape).Idx → EReal := m ((c : Thread nD τ).loc main_arg0)
abbrev g : (⟨2, ![1, 1024]⟩ : Shape).Idx → EReal := m ((c : Thread nD τ).loc main_arg1)
abbrev y : (⟨2, ![8192, 1024]⟩ : Shape).Idx → EReal := m ((c : Thread nD τ).loc main_arg2)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, 0] :=
  (by decide +kernel : ∀ t : Fin grid0.N, win0_4.index t = ![0, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem blk0 (r : Fin 512) (k : Fin 1024) : iblk m c 0 t (ix2 r k) = dx m c (ix2 (at' t r) k) := by
  have ht := point_lt t
  blk_ext [iblk, V, idx0 t]

theorem blk1 (k : Fin 1024) : iblk m c 1 t (ix2 0 k) = g m c (ix2 0 k) := by
  blk_ext [iblk, V, idx1 t]

theorem blk2 (r : Fin 512) (k : Fin 1024) : iblk m c 2 t (ix2 r k) = y m c (ix2 (at' t r) k) := by
  have ht := point_lt t
  blk_ext [iblk, V, idx2 t]

theorem dyB_apply (r : Fin 512) (k : Fin 1024) :
    k0_pay1 (iblk m c 0 t) (iblk m c 1 t) (ix2 r k) = gradY (dx m c) (g m c) (ix2 (at' t r) k) := by
  pointwise [k0_pay1]
  rw [blk0, blk1]
  rfl

/-- A sum over the block's rows. -/
def part (f : Fin 8192 → Fin 1024 → EReal) (i : S1x1024.Idx) : EReal := ∑ r : Fin 512, f (at' t r) (i 1)

theorem gate_apply (v : FVec Ideal S1x1024 .f32) (i : S1x1024.Idx) :
    k0_pay3 (iblk m c 0 t) v (iblk m c 2 t) i = v i + part t (gatePart (dx m c) (y m c)) i := by
  obtain ⟨z, k, rfl⟩ : ∃ (z : Fin 1) (k : Fin 1024), i = ix2 z k := ⟨i 0, i 1, eq_ix2 i⟩
  pointwise [k0_pay3]
  simp only [blk0, blk2]
  rfl

theorem outY (r : Fin 512) (k : Fin 1024) : (outsAt0 m c t.val t.isLt).1 (ix2 r k) = gradY (dx m c) (g m c) (ix2 (at' t r) k) := by
  by_cases h : t.val % 16 = 0
  · rw [outsAt0_A m c t h]
    frame_out
    exact dyB_apply m c t r k
  · rw [outsAt0_B m c t h]
    frame_out
    exact dyB_apply m c t r k

theorem outGate_A (h : t.val % 16 = 0) (i : S1x1024.Idx) :
    (outsAt0 m c t.val t.isLt).2 i = 0 + part t (gatePart (dx m c) (y m c)) i := by
  rw [outsAt0_A m c t h]
  frame_open
  simp (disch := decide) only [↓ View.readCov_skip, ↓ View.readCov_cons_toLoadRect, ↓ View.readCov_fill]
  frame_out
  exact (gate_apply m c t _ i).trans (congrArg (· + _) (by pointwise [k0_pay2]))

theorem outGate_B (h : ¬ t.val % 16 = 0) (i : S1x1024.Idx) : (outsAt0 m c t.val t.isLt).2 i
    = (outsAt0 m c (t.val - 1) (Nat.lt_of_le_of_lt (Nat.sub_le _ _) t.isLt)).2 i + part t (gatePart (dx m c) (y m c)) i := by
  rw [outsAt0_B m c t h]
  frame_out
  exact gate_apply m c t _ i

theorem arr_y : (dats m 0 c).arrAt 3 cfg0.N = gradY (dx m c) (g m c) := by
  refine (dats m 0 c).arrAt_eq_of_covers 3 _ (by decide +kernel) fun t hf y => ?_
  blk_simp
  rw [after0_3]
  obtain ⟨r, k, rfl⟩ : ∃ (r : Fin 512) (k : Fin 1024), y = ix2 r k := ⟨y 0, y 1, eq_ix2 y⟩
  refine (outY m c t r k).trans (congrArg _ (funext fun a => ?_))
  match a with
  | 0 => ext; blk_simp [idx3 t]; show 512 * t.val + r.val = _; omega
  | 1 => ext; blk_simp [idx3 t]

theorem arr_gate : (dats m 0 c).arrAt 4 cfg0.N = Norm.Args.total (gatePart (dx m c) (y m c)) := by
  refine (dats m 0 c).arrAt_eq_of_covers 4 _ (by decide +kernel) fun t hf y => ?_
  have ht := point_lt t
  blk_simp
  rw [after0_4, Pipeline.eq_sum_fin_of_reset_step_apply_of_flush (fun n h => (outsAt0 m c n h).2) 16 (fun _ => 0)
    (fun t => part t (gatePart (dx m c) (Residual.y m c))) (outGate_A m c) (outGate_B m c) t ((flush0_4 t).mp hf) y]
  obtain ⟨z, k, rfl⟩ : ∃ (z : Fin 1) (k : Fin 1024), y = ix2 z k := ⟨y 0, y 1, eq_ix2 y⟩
  refine (Norm.total_blocks _ k (fun s r => at' _ r) fun s r => ?_).trans
    (Finset.sum_congr rfl fun r _ => congrArg _ (Fin.ext ?_))
  · show 512 * (16 * (t.val / 16) + s.val) + r.val = 512 * s.val + r.val
    omega
  · blk_simp [idx4 t]

end Kernel

namespace Ref

open Cert.Reference25Ideal Cert.Reference25Ideal.Gen Cert.Reference25Ideal.Read Idealize.ShloMosaic Idealize.ShloMosaic.TcCoe
open Idealize.ShloMosaic.StableHlo

variable (X Y : (⟨2, ![8192, 1024]⟩ : Shape).Idx → EReal) (G : (⟨2, ![1, 1024]⟩ : Shape).Idx → EReal)

theorem gradY : val_main_v7 (F := Ideal) X G = Residual.gradY X G := by
  funext i
  obtain ⟨r, k, rfl⟩ : ∃ (r : Fin 8192) (k : Fin 1024), i = ix2 r k := ⟨i 0, i 1, eq_ix2 i⟩
  pointwise [val_main_v7, val_main_v3, val_main_v2]
  exact mul_comm _ _

theorem gradGate : val_main_v6 (F := Ideal) X Y = Norm.Args.total (gatePart X Y) := by
  funext i
  obtain ⟨z, k, rfl⟩ : ∃ (z : Fin 1) (k : Fin 1024), i = ix2 z k := ⟨i 0, i 1, eq_ix2 i⟩
  pointwise [val_main_v6, val_main_v5, val_main_cst, val_main_v4]
  rfl

end Ref

end Cert.Residual

end
-- ==== Proof.ResNorm.lean ====
module

public import proofs.«01_k».proof.Proof.Gen.Kernel26Ideal.Value
public import proofs.«01_k».proof.Proof.Gen.Reference26Ideal.Read
public import proofs.«01_k».proof.Proof.NormTotal
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# What the residual step and the norm behind it compute

Point `t` works on rows `512 * t …`. The reference does the same operations on whole arrays.
-/

@[expose] public section

set_option maxRecDepth 16384

noncomputable section

namespace Cert.Norm.Res

section Kernel

open Cert.Kernel26Ideal Cert.Kernel26Ideal.Gen Idealize.ShloMosaic Idealize.ShloMosaic.TcCoe Idealize.SL.Sem

variable (m : (ℓ : Loc nD τ sig) → Buf (Elt Ideal) ℓ) (c : Dev nD)

/-- The arguments, as the memory holds them at the launch. The forward call has no incoming gradients. -/
abbrev inputs : Args where
  x := m ((c : Thread nD τ).loc main_arg0)
  g := m ((c : Thread nD τ).loc main_arg1)
  y := m ((c : Thread nD τ).loc main_arg2)
  gain := m ((c : Thread nD τ).loc main_arg3)
  scale := m ((c : Thread nD τ).loc main_arg4)
  dh := fun _ => 0
  dres := fun _ => 0

abbrev shift : (⟨2, ![1, 1024]⟩ : Shape).Idx → EReal := m ((c : Thread nD τ).loc main_arg5)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem blk0 (r : Fin 512) (k : Fin 1024) : iblk m c 0 t (ix2 r k) = (inputs m c).x (ix2 (at' t r) k) := by
  have ht := point_lt t
  blk_ext [iblk, V, idx0 t]

theorem blk1 (k : Fin 1024) : iblk m c 1 t (ix2 0 k) = (inputs m c).g (ix2 0 k) := by
  blk_ext [iblk, V, idx1 t]

theorem blk2 (r : Fin 512) (k : Fin 1024) : iblk m c 2 t (ix2 r k) = (inputs m c).y (ix2 (at' t r) k) := by
  have ht := point_lt t
  blk_ext [iblk, V, idx2 t]

theorem blk3 (k : Fin 1024) : iblk m c 3 t (ix2 0 k) = (inputs m c).gain (ix2 0 k) := by
  blk_ext [iblk, V, idx3 t]

theorem blk4 (k : Fin 1024) : iblk m c 4 t (ix2 0 k) = (inputs m c).scale (ix2 0 k) := by
  blk_ext [iblk, V, idx4 t]

theorem blk5 (k : Fin 1024) : iblk m c 5 t (ix2 0 k) = shift m c (ix2 0 k) := by
  blk_ext [iblk, V, idx5 t]

theorem rowB (r : Fin 512) (k : Fin 1024) :
    k0_pay1 (iblk m c 0 t) (iblk m c 1 t) (iblk m c 2 t) (ix2 r k) = (inputs m c).row (at' t r) k := by
  pointwise [k0_pay1]
  rw [blk0, blk1, blk2]
  rfl

theorem normB (r : Fin 512) (k : Fin 1024) :
    k0_pay2 (iblk m c 0 t) (iblk m c 1 t) (iblk m c 2 t) (iblk m c 3 t) (iblk m c 4 t) (iblk m c 5 t) (ix2 r k)
      = (inputs m c).shifted (shift m c) (ix2 (at' t r) k) := by
  pointwise [k0_pay2]
  simp only [rowB, blk3, blk4, blk5]
  rfl

theorem arr_stream : (dats m 0 c).arrAt 6 cfg0.N = (inputs m c).stream := by
  refine (dats m 0 c).arrAt_eq_of_covers 6 _ (by decide +kernel) fun t hf y => ?_
  blk_simp
  rw [after0_6]
  unfold out0_6
  frame_out
  obtain ⟨r, k, rfl⟩ : ∃ (r : Fin 512) (k : Fin 1024), y = ix2 r k := ⟨y 0, y 1, eq_ix2 y⟩
  refine (rowB m c t r k).trans (congrArg (inputs m c).stream (a₁ := ix2 (at' t r) k) (funext fun a => ?_))
  match a with
  | 0 => ext; blk_simp [idx6 t]; show 512 * t.val + r.val = _; omega
  | 1 => ext; blk_simp [idx6 t]

theorem arr_norm : (dats m 0 c).arrAt 7 cfg0.N = (inputs m c).shifted (shift m c) := by
  refine (dats m 0 c).arrAt_eq_of_covers 7 _ (by decide +kernel) fun t hf y => ?_
  blk_simp
  rw [after0_7]
  unfold out0_7
  frame_out
  obtain ⟨r, k, rfl⟩ : ∃ (r : Fin 512) (k : Fin 1024), y = ix2 r k := ⟨y 0, y 1, eq_ix2 y⟩
  refine (normB m c t r k).trans (congrArg _ (funext fun a => ?_))
  match a with
  | 0 => ext; blk_simp [idx7 t]; show 512 * t.val + r.val = _; omega
  | 1 => ext; blk_simp [idx7 t]

end Kernel

namespace Ref

open Cert.Reference26Ideal Cert.Reference26Ideal.Gen Cert.Reference26Ideal.Read Idealize.ShloMosaic Idealize.ShloMosaic.TcCoe
open Idealize.ShloMosaic.StableHlo

variable (A : Args) (B : (⟨2, ![1, 1024]⟩ : Shape).Idx → EReal)

theorem row_at (r : Fin 8192) (k : Fin 1024) : val_main_v2 (F := Ideal) A.x A.g A.y (ix2 r k) = A.row r k := by
  pointwise [val_main_v2, val_main_v1, val_main_v0]
  rfl

theorem stream : val_main_v2 (F := Ideal) A.x A.g A.y = A.stream := by
  funext i
  obtain ⟨r, k, rfl⟩ : ∃ (r : Fin 8192) (k : Fin 1024), i = ix2 r k := ⟨i 0, i 1, eq_ix2 i⟩
  exact row_at A r k

theorem norm : val_main_v21 (F := Ideal) A.x A.g A.y A.gain A.scale B = A.shifted B := by
  funext i
  obtain ⟨r, k, rfl⟩ : ∃ (r : Fin 8192) (k : Fin 1024), i = ix2 r k := ⟨i 0, i 1, eq_ix2 i⟩
  pointwise [val_main_v21, val_main_v20, val_main_v19, val_main_v18, val_main_v17, val_main_v16, val_main_v15, val_main_cst_2,
    val_main_v14, val_main_v13, val_main_v12, val_main_v11, val_main_v10, val_main_v9, val_main_v8, val_main_cst_1, val_main_v7,
    val_main_v6, val_main_cst_0, val_main_v5, val_main_v4, val_main_cst, val_main_v3]
  simp only [row_at]
  rfl

end Ref

end Cert.Norm.Res

end
-- ==== Proof.ModNorm.lean ====
module

public import proofs.«01_k».proof.Proof.Gen.Kernel27Ideal.Value
public import proofs.«01_k».proof.Proof.Gen.Reference27Ideal.Read
public import proofs.«01_k».proof.Proof.NormTotal
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# What the first norm computes

Point `t` works on rows `512 * t …`. The reference does the same operations on whole arrays.
-/

@[expose] public section

set_option maxRecDepth 16384

noncomputable section

namespace Cert.Norm.First

section Kernel

open Cert.Kernel27Ideal Cert.Kernel27Ideal.Gen Idealize.ShloMosaic Idealize.ShloMosaic.TcCoe Idealize.SL.Sem

variable (m : (ℓ : Loc nD τ sig) → Buf (Elt Ideal) ℓ) (c : Dev nD)

/-- The arguments, as the memory holds them at the launch. The forward call has no incoming gradients. -/
abbrev inputs : Args := plain (m ((c : Thread nD τ).loc main_arg0)) (m ((c : Thread nD τ).loc main_arg1))
  (m ((c : Thread nD τ).loc main_arg2)) (fun _ => 0) (fun _ => 0)

abbrev shift : (⟨2, ![1, 1024]⟩ : Shape).Idx → EReal := m ((c : Thread nD τ).loc main_arg3)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem blk0 (r : Fin 512) (k : Fin 1024) : iblk m c 0 t (ix2 r k) = (inputs m c).row (at' t r) k := by
  have ht := point_lt t
  rw [plain_row]
  blk_ext [iblk, V, idx0 t]

theorem blk1 (k : Fin 1024) : iblk m c 1 t (ix2 0 k) = (inputs m c).gain (ix2 0 k) := by
  blk_ext [iblk, V, idx1 t]

theorem blk2 (k : Fin 1024) : iblk m c 2 t (ix2 0 k) = (inputs m c).scale (ix2 0 k) := by
  blk_ext [iblk, V, idx2 t]

theorem blk3 (k : Fin 1024) : iblk m c 3 t (ix2 0 k) = shift m c (ix2 0 k) := by
  blk_ext [iblk, V, idx3 t]

theorem normB (r : Fin 512) (k : Fin 1024) : k0_pay1 (iblk m c 0 t) (iblk m c 1 t) (iblk m c 2 t) (iblk m c 3 t) (ix2 r k)
    = (inputs m c).shifted (shift m c) (ix2 (at' t r) k) := by
  pointwise [k0_pay1]
  simp only [blk0, blk1, blk2, blk3]
  rfl

theorem arr : (dats m 0 c).arrAt 4 cfg0.N = (inputs m c).shifted (shift m c) := by
  refine (dats m 0 c).arrAt_eq_of_covers 4 _ (by decide +kernel) fun t hf y => ?_
  blk_simp
  rw [after0_4]
  unfold out0_4
  frame_out
  obtain ⟨r, k, rfl⟩ : ∃ (r : Fin 512) (k : Fin 1024), y = ix2 r k := ⟨y 0, y 1, eq_ix2 y⟩
  refine (normB m c t r k).trans (congrArg _ (funext fun a => ?_))
  match a with
  | 0 => ext; blk_simp [idx4 t]; show 512 * t.val + r.val = _; omega
  | 1 => ext; blk_simp [idx4 t]

end Kernel

namespace Ref

open Cert.Reference27Ideal Cert.Reference27Ideal.Gen Cert.Reference27Ideal.Read Idealize.ShloMosaic Idealize.ShloMosaic.TcCoe
open Idealize.ShloMosaic.StableHlo

variable (X : (⟨2, ![8192, 1024]⟩ : Shape).Idx → EReal) (G S B : (⟨2, ![1, 1024]⟩ : Shape).Idx → EReal)

theorem norm : val_main_v18 (F := Ideal) X G S B = (plain X G S (fun _ => 0) (fun _ => 0)).shifted B := by
  funext i
  obtain ⟨r, k, rfl⟩ : ∃ (r : Fin 8192) (k : Fin 1024), i = ix2 r k := ⟨i 0, i 1, eq_ix2 i⟩
  pointwise [val_main_v18, val_main_v17, val_main_v16, val_main_v15, val_main_v14, val_main_v13, val_main_v12, val_main_cst_2,
    val_main_v11, val_main_v10, val_main_v9, val_main_v8, val_main_v7, val_main_v6, val_main_v5, val_main_cst_1, val_main_v4,
    val_main_v3, val_main_cst_0, val_main_v2, val_main_v1, val_main_cst, val_main_v0]
  simp only [← plain_row X G S (fun _ => 0) (fun _ => 0)]
  rfl

end Ref

end Cert.Norm.First

end
-- ==== Proof.ResidualFwd.lean ====
module

public import proofs.«01_k».proof.Proof.Gen.Kernel28Ideal.Value
public import proofs.«01_k».proof.Proof.Gen.Reference28Ideal.Read
public import Idealize.ShloMosaic.Lib.Pointwise
public import Idealize.ShloMosaic.Lib.Pipeline.ValueKit
public import Idealize.ShloMosaic.Lib.WritesUnit
public import Idealize.ShloMosaic.Lib.Pipeline.ReadBack

/-!
# What the last residual step computes

Point `t` works on rows `512 * t …`. Kernel and reference do the same two operations on every element.
-/

@[expose] public section

set_option maxRecDepth 16384

noncomputable section

namespace Cert.Residual.Fwd

open Idealize.ShloMosaic

/-- `x + g * y`, with one row `g` for all rows. -/
def sum (x : (⟨2, ![8192, 1024]⟩ : Shape).Idx → EReal) (g : (⟨2, ![1, 1024]⟩ : Shape).Idx → EReal)
    (y : (⟨2, ![8192, 1024]⟩ : Shape).Idx → EReal) (i : (⟨2, ![8192, 1024]⟩ : Shape).Idx) : EReal :=
  x i + g (ix2 0 (i 1)) * y i

section Kernel

open Cert.Kernel28Ideal Cert.Kernel28Ideal.Gen Idealize.ShloMosaic.TcCoe Idealize.SL.Sem

variable (m : (ℓ : Loc nD τ sig) → Buf (Elt Ideal) ℓ) (c : Dev nD)

/-- The arguments, as the memory holds them at the launch. -/
abbrev x : (⟨2, ![8192, 1024]⟩ : Shape).Idx → EReal := m ((c : Thread nD τ).loc main_arg0)
abbrev g : (⟨2, ![1, 1024]⟩ : Shape).Idx → EReal := m ((c : Thread nD τ).loc main_arg1)
abbrev y : (⟨2, ![8192, 1024]⟩ : Shape).Idx → EReal := m ((c : Thread nD τ).loc main_arg2)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])

theorem point_lt (t : Fin cfg0.N) : t.val < 16 := lt_of_lt_of_eq t.isLt N_0

variable (t : Fin cfg0.N)

/-- Row `r` of the block. -/
abbrev at' (r : Fin 512) : Fin 8192 := ⟨512 * t.val + r.val, by have := point_lt t; omega⟩

theorem blk0 (r : Fin 512) (k : Fin 1024) : iblk m c 0 t (ix2 r k) = x m c (ix2 (at' t r) k) := by
  have ht := point_lt t
  blk_ext [iblk, V, idx0 t]

theorem blk1 (k : Fin 1024) : iblk m c 1 t (ix2 0 k) = g m c (ix2 0 k) := by
  blk_ext [iblk, V, idx1 t]

theorem blk2 (r : Fin 512) (k : Fin 1024) : iblk m c 2 t (ix2 r k) = y m c (ix2 (at' t r) k) := by
  have ht := point_lt t
  blk_ext [iblk, V, idx2 t]

theorem sumB (r : Fin 512) (k : Fin 1024) : k0_pay1 (iblk m c 0 t) (iblk m c 1 t) (iblk m c 2 t) (ix2 r k)
    = sum (x m c) (g m c) (y m c) (ix2 (at' t r) k) := by
  pointwise [k0_pay1]
  rw [blk0, blk1, blk2]
  rfl

theorem arr : (dats m 0 c).arrAt 3 cfg0.N = sum (x m c) (g m c) (y m c) := by
  refine (dats m 0 c).arrAt_eq_of_covers 3 _ (by decide +kernel) fun t hf y => ?_
  blk_simp
  rw [after0_3]
  unfold out0_3
  frame_out
  obtain ⟨r, k, rfl⟩ : ∃ (r : Fin 512) (k : Fin 1024), y = ix2 r k := ⟨y 0, y 1, eq_ix2 y⟩
  refine (sumB m c t r k).trans (congrArg _ (funext fun a => ?_))
  match a with
  | 0 => ext; blk_simp [idx3 t]; show 512 * t.val + r.val = _; omega
  | 1 => ext; blk_simp [idx3 t]

end Kernel

namespace Ref

open Cert.Reference28Ideal Cert.Reference28Ideal.Gen Cert.Reference28Ideal.Read Idealize.ShloMosaic.TcCoe
open Idealize.ShloMosaic.StableHlo

variable (X Y : (⟨2, ![8192, 1024]⟩ : Shape).Idx → EReal) (G : (⟨2, ![1, 1024]⟩ : Shape).Idx → EReal)

theorem sum_eq : val_main_v2 (F := Ideal) X G Y = sum X G Y := by
  funext i
  obtain ⟨r, k, rfl⟩ : ∃ (r : Fin 8192) (k : Fin 1024), i = ix2 r k := ⟨i 0, i 1, eq_ix2 i⟩
  pointwise [val_main_v2, val_main_v1, val_main_v0]
  rfl

end Ref

end Cert.Residual.Fwd

end
-- ==== Proof.HeadConv.lean ====
module

public import proofs.«01_k».proof.Proof.Spec
public import proofs.«01_k».proof.Proof.Norm
public import proofs.«01_k».proof.Proof.Gate

/-!
# The convolution before the recurrence and its norms, as formulas

Queries, keys and values pass a causal convolution of four taps along the rows and `silu`. The queries and the keys, the
first 1024 columns, are then divided by the root of the sum of squares of their head of 128 columns. `head_eq` brings the
derivative of that quotient, written out term by term, to the form in which the kernel computes it. It holds for all
extended reals, as `Norm.row_eq` does.
-/

@[expose] public section

noncomputable section

namespace Cert.HeadConv

open Idealize.ShloMosaic FfnMid

/-- The number added to the sum of squares. -/
abbrev eps : EReal := Norm.eps

/-- What the calls are taken at: the projected input, the four taps of every column, and the incoming gradient. -/
structure Args where
  x : ℕ → ℕ → EReal
  w : ℕ → ℕ → EReal
  d : ℕ → ℕ → EReal

/-- The arguments in the order in which both programs take them. -/
def args (X : (⟨2, ![8192, 2688]⟩ : Shape).Idx → EReal) (W : (⟨2, ![4, 1536]⟩ : Shape).Idx → EReal)
    (D : (⟨2, ![8192, 1536]⟩ : Shape).Idx → EReal) : Args where
  x := at2 X
  w := at2 W
  d := at2 D

/-- The small number plus a head's sum of squares. -/
def square (a : Fin 128 → EReal) : EReal := (∑ k, a k * a k) + eps

theorem square_pos (a : Fin 128 → EReal) : 0 < square a :=
  lt_of_lt_of_le Norm.eps_pos (le_add_of_nonneg_left (Finset.sum_nonneg fun k _ => Norm.mul_self_nonneg' _))

/-- The gradient by an entry of a head `a`, `d` the gradient of the head over its root. -/
def headGrad (a d : Fin 128 → EReal) (x y : EReal) : EReal :=
  Ideal.rsqrt (square a) * (y - x * Ideal.rsqrt (square a) * ∑ j, d j * (a j * Ideal.rsqrt (square a)))

theorem head_eq (a d : Fin 128 → EReal) (x y : EReal) :
    y * Ideal.rsqrt (square a) + x * ((∑ j, a j * d j) * (Norm.minusHalf * Ideal.div (Ideal.rsqrt (square a)) (square a)))
        + (∑ j, a j * d j) * (Norm.minusHalf * Ideal.div (Ideal.rsqrt (square a)) (square a)) * x = headGrad a d x y := by
  unfold headGrad
  obtain ⟨ρ, h0, hr, hd⟩ := Norm.inverse_root _ (square_pos a)
  rw [hr] at hd
  rw [hr, hd, Norm.minusHalf_eq]
  have hs : ∑ j, d j * (a j * (ρ : EReal)) = ρ * ∑ j, a j * d j := by
    rw [← Norm.sum_distrib h0]
    exact Finset.sum_congr rfl fun j _ => by rw [mul_comm (a j), mul_left_comm, mul_comm (d j)]
  rw [hs]
  generalize ∑ j, a j * d j = S
  rw [sub_eq_add_neg, Norm.distrib h0, add_assoc, mul_comm y]
  refine congrArg _ ?_
  rw [mul_comm _ x, Norm.add_self]
  have hl : x * (S * (((-(1 / 2) : ℝ) : EReal) * ((ρ ^ 3 : ℝ) : EReal))) * ((2 : ℝ) : EReal) = (x * S) * ((-(ρ ^ 3) : ℝ) : EReal) := by
    have e : (-(ρ ^ 3) : ℝ) = -(1 / 2) * ρ ^ 3 * 2 := by ring
    rw [e]
    push_cast
    simp only [mul_assoc]
  have hm : (ρ : EReal) * -(x * ρ * (ρ * S)) = (x * S) * ((-(ρ ^ 3) : ℝ) : EReal) := by
    rw [EReal.coe_neg, mul_neg, mul_neg]
    refine congrArg _ ?_
    have e : (ρ ^ 3 : ℝ) = ρ * (ρ * ρ) := by ring
    rw [e, EReal.coe_mul, EReal.coe_mul]
    ac_rfl
  rw [hl, hm]

/-- An entry of a head, divided by the head's root, is real: an infinite entry has an infinite root. -/
theorem unit_real (a : Fin 128 → EReal) (k : Fin 128) : ∃ v : ℝ, a k * Ideal.rsqrt (square a) = v := by
  obtain ⟨ρ, -, hr, -⟩ := Norm.inverse_root _ (square_pos a)
  by_cases h : ∃ v : ℝ, a k = v
  · obtain ⟨v, hv⟩ := h
    exact ⟨v * ρ, by rw [hr, hv, EReal.coe_mul]⟩
  · have hk : a k * a k = ⊤ := by
      generalize a k = z at h
      induction z with
      | bot => rfl
      | top => rfl
      | coe v => exact absurd ⟨v, rfl⟩ h
    have hs : square a = ⊤ := by
      refine top_le_iff.mp ?_
      rw [← hk]
      exact (Finset.single_le_sum (f := fun k => a k * a k) (fun j _ => Norm.mul_self_nonneg' _) (Finset.mem_univ k)).trans
        (le_add_of_nonneg_right Norm.eps_pos.le)
    refine ⟨0, ?_⟩
    rw [hs, show Ideal.rsqrt (⊤ : EReal) = 0 from rfl, mul_zero, EReal.coe_zero]

theorem sum_real {n : ℕ} (f : Fin n → EReal) (h : ∀ j, ∃ v : ℝ, f j = v) : ∃ v : ℝ, ∑ j, f j = v := by
  refine Finset.sum_induction f (fun x => ∃ v : ℝ, x = v) ?_ ⟨0, rfl⟩ fun j _ => h j
  rintro _ _ ⟨u, rfl⟩ ⟨v, rfl⟩
  exact ⟨u + v, rfl⟩

theorem headGrad_real (a d : Fin 128 → EReal) (k : Fin 128) (hd : ∀ j, ∃ v : ℝ, d j = v) :
    ∃ v : ℝ, headGrad a d (a k) (d k) = v := by
  obtain ⟨ρ, -, hr, -⟩ := Norm.inverse_root _ (square_pos a)
  obtain ⟨s, hs⟩ := sum_real (fun j => d j * (a j * Ideal.rsqrt (square a))) fun j => by
    obtain ⟨u, hu⟩ := unit_real a j
    obtain ⟨v, hv⟩ := hd j
    exact ⟨v * u, by rw [hu, hv, EReal.coe_mul]⟩
  obtain ⟨u, hu⟩ := unit_real a k
  obtain ⟨v, hv⟩ := hd k
  refine ⟨ρ * (v - u * s), ?_⟩
  unfold headGrad
  rw [hs, hu, hv, hr]
  push_cast
  rfl

namespace Args

variable (A : Args)

/-- The input `s` rows above, `0` above the first row. -/
def back (s r c : ℕ) : EReal := if s ≤ r then A.x (r - s) c else 0

/-- The convolved input. -/
def conv (r c : ℕ) : EReal := A.w 3 c * A.back 0 r c + A.w 2 c * A.back 1 r c + A.w 1 c * A.back 2 r c + A.w 0 c * A.back 3 r c

/-- The logistic function of the convolved input. -/
def sig (r c : ℕ) : EReal := Ideal.div 1 (1 + Ideal.exp (0 - A.conv r c))

/-- What the norms are taken of. -/
def act (r c : ℕ) : EReal := A.conv r c * A.sig r c

/-- The head of 128 columns in which column `c` lies. -/
def head (r c : ℕ) (k : Fin 128) : EReal := A.act r (c / 128 * 128 + k.val)

/-- The incoming gradient of that head. -/
def dhead (r c : ℕ) (k : Fin 128) : EReal := A.d r (c / 128 * 128 + k.val)

/-- The result: queries and keys are divided by their head's root, values are not. -/
def heads (r c : ℕ) : EReal := if c < 1024 then A.act r c * Ideal.rsqrt (square (A.head r c)) else A.act r c

/-- The gradient of `act`. -/
def dact (r c : ℕ) : EReal := if c < 1024 then headGrad (A.head r c) (A.dhead r c) (A.act r c) (A.d r c) else A.d r c

/-- The gradient of the convolved input. -/
def dconv (r c : ℕ) : EReal := A.dact r c * (A.sig r c * (1 + A.conv r c * (1 - A.sig r c)))

/-- The gradient of the input: the taps applied towards later rows. -/
def dx (r c : ℕ) : EReal :=
  A.w 3 c * A.dconv r c + A.w 2 c * A.dconv (r + 1) c + A.w 1 c * A.dconv (r + 2) c + A.w 0 c * A.dconv (r + 3) c

/-- One row's part of the gradient of tap `3 - s`. -/
def dtap (s r c : ℕ) : EReal := A.dconv r c * A.back s r c

/-- The gradient of tap `3 - s`. -/
def dw (s c : ℕ) : EReal := ∑ r : Fin rows, A.dtap s r c

theorem back_zero (r c : ℕ) : A.back 0 r c = A.x r c := by simp [back]

/-- A column over its head's root, however the head is read. -/
theorem unit_of {r c : ℕ} {y : EReal} {f : Fin 128 → EReal} (hc : c < 1024) (hy : y = A.act r c)
    (hf : ∀ k : Fin 128, f k = A.act r (c / 128 * 128 + k.val)) :
    y * Ideal.rsqrt ((∑ k, f k * f k) + eps) = A.heads r c := by
  obtain rfl : f = A.head r c := funext hf
  rw [hy, heads, if_pos hc]
  rfl

/-- The gradient by a column of a head, however the head is read. -/
theorem grad_of {r c : ℕ} {x y : EReal} {f g : Fin 128 → EReal} (hc : c < 1024) (hx : x = A.act r c) (hy : y = A.d r c)
    (hf : ∀ k : Fin 128, f k = A.act r (c / 128 * 128 + k.val)) (hg : ∀ k : Fin 128, g k = A.d r (c / 128 * 128 + k.val)) :
    Ideal.rsqrt ((∑ k, f k * f k) + eps)
        * (y - x * Ideal.rsqrt ((∑ k, f k * f k) + eps) * ∑ j, g j * (f j * Ideal.rsqrt ((∑ k, f k * f k) + eps)))
      = A.dact r c := by
  obtain rfl : f = A.head r c := funext hf
  obtain rfl : g = A.dhead r c := funext hg
  rw [hx, hy, dact, if_pos hc]
  rfl

/-- Without an incoming gradient the gradient vanishes. -/
theorem dact_of_zero {r : ℕ} (c : ℕ) (h : ∀ c, A.d r c = 0) : A.dact r c = 0 := by
  unfold dact headGrad
  by_cases hc : c < 1024
  · have hz : ∀ j, A.dhead r c j = 0 := fun j => h _
    simp only [if_pos hc, h, hz, zero_mul, Finset.sum_const_zero, mul_zero, sub_zero]
  · rw [if_neg hc, h]

theorem dconv_of_zero {r : ℕ} (c : ℕ) (h : ∀ c, A.d r c = 0) : A.dconv r c = 0 := by
  rw [dconv, A.dact_of_zero c h, zero_mul]

/-- Then the head does not matter. -/
theorem grad_of_zero {r c : ℕ} {x y s : EReal} {f g : Fin 128 → EReal} (h : ∀ c, A.d r c = 0) (hy : y = A.d r c)
    (hg : ∀ k : Fin 128, g k = A.d r (c / 128 * 128 + k.val)) :
    s * (y - x * s * ∑ j, g j * (f j * s)) = A.dact r c := by
  rw [A.dact_of_zero c h]
  simp only [hy, hg, h, zero_mul, Finset.sum_const_zero, mul_zero, sub_zero]

/-- The gradient of `act` is real where the incoming gradient is. -/
theorem dact_real (hd : ∀ r c, ∃ v : ℝ, A.d r c = v) (r c : ℕ) : ∃ v : ℝ, A.dact r c = v := by
  unfold dact
  by_cases hc : c < 1024
  · rw [if_pos hc]
    have e : c / 128 * 128 + c % 128 = c := by omega
    have h := headGrad_real (A.head r c) (A.dhead r c) ⟨c % 128, by omega⟩ fun j => hd _ _
    simp only [head, dhead, e] at h
    exact h
  · rw [if_neg hc]
    exact hd r c

end Args

/-- The result as an array. -/
def result (A : Args) (i : (⟨2, ![8192, 1536]⟩ : Shape).Idx) : EReal := A.heads (i 0).val (i 1).val

/-- The gradient of the input as an array. -/
def gradInput (A : Args) (i : (⟨2, ![8192, 1536]⟩ : Shape).Idx) : EReal := A.dx (i 0).val (i 1).val

/-- The gradients of the taps, above rows of zeros. -/
def gradTaps (A : Args) (i : (⟨2, ![8, 1536]⟩ : Shape).Idx) : EReal :=
  if (i 0).val = 0 then A.dw 3 (i 1).val else if (i 0).val = 1 then A.dw 2 (i 1).val
    else if (i 0).val = 2 then A.dw 1 (i 1).val else if (i 0).val = 3 then A.dw 0 (i 1).val else 0

/-- Below the last row the gradient of the convolved input vanishes, since the incoming gradient does. -/
theorem dconv_of_le (X W D) {r : ℕ} (c : ℕ) (hr : rows ≤ r) : (args X W D).dconv r c = 0 :=
  Args.dconv_of_zero _ c fun c => at2_of_le D c hr

end Cert.HeadConv

end
-- ==== Proof.HeadConvFwd.lean ====
module

public import proofs.«01_k».proof.Proof.Gen.Kernel30Ideal.Value
public import proofs.«01_k».proof.Proof.HeadConv
public import Idealize.ShloMosaic.Lib.Pipeline.ValueKit
public import Idealize.ShloMosaic.Lib.StableHlo.ReadAt
public import Idealize.ShloMosaic.Lib.WritesUnit
public import Idealize.ShloMosaic.Lib.Pipeline.ReadBack

/-!
# What the forward call of the convolution before the recurrence computes

Point `t` works on rows `512 * (t / 3) …` and columns `512 * (t % 3) …`: four heads of queries, of keys, or of values.
The three rows above a block come from the block of 8 rows above it, and are zeros for the first rows.
-/

@[expose] public section

set_option maxRecDepth 16384

noncomputable section

namespace Cert.HeadConv.Fwd

open Cert.Kernel30Ideal Cert.Kernel30Ideal.Gen Idealize.ShloMosaic Idealize.ShloMosaic.TcCoe Idealize.SL.Sem
open FfnMid

variable (m : (ℓ : Loc nD τ sig) → Buf (Elt Ideal) ℓ) (c : Dev nD)

/-- The arguments, as the memory holds them at the launch. The forward call has no incoming gradient. -/
abbrev inputs : Args := args (m ((c : Thread nD τ).loc main_arg0)) (m ((c : Thread nD τ).loc main_arg1)) fun _ => 0

theorem idx0 : ∀ t : Fin cfg0.N, win0_0.index t = ![t.val / 3, t.val % 3] :=
  (by decide +kernel : ∀ t : Fin grid0.N, win0_0.index t = ![t.val / 3, t.val % 3])
theorem idx1 : ∀ t : Fin cfg0.N, win0_1.index t = ![64 * (t.val / 3) - 1, t.val % 3] :=
  (by decide +kernel : ∀ t : Fin grid0.N, win0_1.index t = ![64 * (t.val / 3) - 1, t.val % 3])
theorem idx2 : ∀ t : Fin cfg0.N, win0_2.index t = ![0, t.val % 3] :=
  (by decide +kernel : ∀ t : Fin grid0.N, win0_2.index t = ![0, t.val % 3])
theorem idx3 : ∀ t : Fin cfg0.N, win0_3.index t = ![t.val / 3, t.val % 3] :=
  (by decide +kernel : ∀ t : Fin grid0.N, win0_3.index t = ![t.val / 3, t.val % 3])

/-- The kernel's test that a block has rows above it. -/
theorem first_word : ∀ t : Fin cfg0.N, Scalar.cmpi .sgt (BitVec.ofNat 32 (grid0.coords t 0).val) 0#32 = if t.val / 3 = 0 then 0#1 else 1#1 :=
  (by decide +kernel : ∀ t : Fin grid0.N, Scalar.cmpi .sgt (BitVec.ofNat 32 (grid0.coords t 0).val) 0#32 = if t.val / 3 = 0 then 0#1 else 1#1)

/-- The kernel's test that a block holds queries or keys. -/
theorem head_word : ∀ t : Fin cfg0.N, Scalar.cmpi .slt (BitVec.ofNat 32 (grid0.coords t 1).val) 2#32 = if t.val % 3 = 2 then 0#1 else 1#1 :=
  (by decide +kernel : ∀ t : Fin grid0.N, Scalar.cmpi .slt (BitVec.ofNat 32 (grid0.coords t 1).val) 2#32 = if t.val % 3 = 2 then 0#1 else 1#1)

theorem point_lt (t : Fin cfg0.N) : t.val < 48 := lt_of_lt_of_eq t.isLt N_0

variable (t : Fin cfg0.N)

theorem blk0 (r k : Fin 512) : X0_0 m c t (ix2 r k) = (inputs m c).x (512 * (t.val / 3) + r.val) (512 * (t.val % 3) + k.val) := by
  have ht := point_lt t
  show _ = at2 _ _ _
  rw [at2_ix2 _ (by omega) (by omega)]
  unfold X0_0 Pipeline.Window.fill
  rw [dif_pos (moved0_0 t _)]
  blk_ext [iblk, V, idx0 t]

theorem blk1 (r : Fin 8) (k : Fin 512) :
    X0_1 m c t (ix2 r k) = (inputs m c).x (8 * (64 * (t.val / 3) - 1) + r.val) (512 * (t.val % 3) + k.val) := by
  have ht := point_lt t
  show _ = at2 _ _ _
  rw [at2_ix2 _ (by omega) (by omega)]
  unfold X0_1 Pipeline.Window.fill
  rw [dif_pos (moved0_1 t _)]
  blk_ext [iblk, V, idx1 t]

/-- The taps, above the rows of zeros that the host adds. -/
theorem taps_entry (r : Fin 8) (k : Fin 1536) (hr : r.val < 4) : V m c main_v0 (ix2 r k) = (inputs m c).w r.val k.val := by
  show _ = at2 _ _ _
  rw [at2_ix2 _ hr k.isLt]
  unfold V
  after_reads_at
  exact dif_pos hr

theorem blk2 (r : Fin 8) (k : Fin 512) (hr : r.val < 4) : iblk m c 2 t (ix2 r k) = (inputs m c).w r.val (512 * (t.val % 3) + k.val) := by
  have ht := point_lt t
  rw [← taps_entry m c r ⟨512 * (t.val % 3) + k.val, by omega⟩ hr]
  blk_ext [iblk, idx2 t]

/-- A row of the block behind the 8 rows above it is the input `s` rows back. -/
theorem above (s : ℕ) (r k : Fin 512) (e : ℕ) (hs : s ≤ 3) (he : e + s = 8 + r.val) (p : ¬ e < 8 → e - 8 < 512) :
    (if h : e < 8 then Scalar.select (Scalar.cmpi .sgt (BitVec.ofNat 32 (grid0.coords t 0).val) 0#32) (X0_1 m c t (ix2 ⟨e, h⟩ k) : EReal) (0 : EReal)
      else (X0_0 m c t (ix2 ⟨e - 8, p h⟩ k) : EReal)) = (inputs m c).back s (512 * (t.val / 3) + r.val) (512 * (t.val % 3) + k.val) := by
  have ht := point_lt t
  rw [first_word]
  unfold Args.back
  by_cases h1 : e < 8
  · rw [dif_pos h1]
    by_cases h2 : t.val / 3 = 0
    · rw [if_pos h2]
      exact (if_neg (by omega)).symm
    · rw [if_neg h2]
      refine (blk1 m c t ⟨e, h1⟩ k).trans ?_
      rw [if_pos (by omega)]
      congr 1; dsimp only; omega
  · rw [dif_neg h1, blk0, if_pos (by omega)]
    congr 1; dsimp only; omega

theorem add_eq {a a' b b' : EReal} (h : a = a') (h' : b = b') : a + b = a' + b' := by rw [h, h']
theorem mul_eq {a a' b b' : EReal} (h : a = a') (h' : b = b') : a * b = a' * b' := by rw [h, h']

theorem silu_eq {a a' : EReal} (h : a = a') : a * Ideal.div 1 (1 + Ideal.exp (0 - a)) = a' * Ideal.div 1 (1 + Ideal.exp (0 - a')) := by
  rw [h]

/-- What the norms are taken of. -/
abbrev actB : FVec Ideal S512x512 .f32 := k0_pay2 (grid0.coords t) (X0_0 m c t) (X0_1 m c t) (iblk m c 2 t)

theorem actB_apply (r k : Fin 512) : actB m c t (ix2 r k) = (inputs m c).act (512 * (t.val / 3) + r.val) (512 * (t.val % 3) + k.val) := by
  pointwise [k0_pay2]
  exact silu_eq (add_eq (add_eq (add_eq
      (mul_eq (blk2 m c t 3 k (by decide)) ((blk0 m c t r k).trans ((inputs m c).back_zero _ _).symm))
      (mul_eq (blk2 m c t 2 k (by decide)) (above m c t 1 r k ((8 + r.val + 520 - 1) % 520) (by omega) (by omega) (by omega))))
      (mul_eq (blk2 m c t 1 k (by decide)) (above m c t 2 r k ((8 + r.val + 520 - 2) % 520) (by omega) (by omega) (by omega))))
      (mul_eq (blk2 m c t 0 k (by decide)) (above m c t 3 r k ((8 + r.val + 520 - 3) % 520) (by omega) (by omega) (by omega))))

theorem actB_at (r k : Fin 512) (n : ℕ) (h : 512 * (t.val % 3) + k.val = n) :
    actB m c t (ix2 r k) = (inputs m c).act (512 * (t.val / 3) + r.val) n := (actB_apply m c t r k).trans (by rw [h])

/-- What is stored. -/
theorem headB_apply (r k : Fin 512) :
    k0_pay1 (actB m c t) (Scalar.cmpi .slt (BitVec.ofNat 32 (grid0.coords t 1).val) 2#32)
        (k0_pay3 (grid0.coords t) (X0_0 m c t) (X0_1 m c t) (iblk m c 2 t))
        (k0_pay4 (grid0.coords t) (X0_0 m c t) (X0_1 m c t) (iblk m c 2 t)) (ix2 r k)
      = (inputs m c).heads (512 * (t.val / 3) + r.val) (512 * (t.val % 3) + k.val) := by
  have ht := point_lt t
  pointwise [k0_pay1, k0_pay3, k0_pay4]
  rw [head_word]
  by_cases hv : t.val % 3 = 2
  · rw [if_pos hv]
    exact (actB_apply m c t r k).trans (if_neg (by omega)).symm
  · rw [if_neg hv]
    show (if h : k.val < 128 then _ else _ : EReal) = _
    have hc : 512 * (t.val % 3) + k.val < 1024 := by omega
    by_cases h0 : k.val < 128
    · rw [dif_pos h0]
      exact Args.unit_of _ hc (actB_at m c t _ _ _ rfl) fun x => actB_at m c t _ _ _ (by dsimp only; omega)
    rw [dif_neg h0]
    by_cases h1 : k.val - 128 < 128
    · rw [dif_pos h1]
      exact Args.unit_of _ hc (actB_at m c t _ _ _ (by dsimp only; omega)) fun x => actB_at m c t _ _ _ (by dsimp only; omega)
    rw [dif_neg h1]
    by_cases h2 : k.val - 128 - 128 < 128
    · rw [dif_pos h2]
      exact Args.unit_of _ hc (actB_at m c t _ _ _ (by dsimp only; omega)) fun x => actB_at m c t _ _ _ (by dsimp only; omega)
    · rw [dif_neg h2]
      exact Args.unit_of _ hc (actB_at m c t _ _ _ (by dsimp only; omega)) fun x => actB_at m c t _ _ _ (by dsimp only; omega)

theorem arr : (dats m 0 c).arrAt 3 cfg0.N = result (inputs m c) := by
  refine (dats m 0 c).arrAt_eq_of_covers 3 _ (by decide +kernel) fun t hf y => ?_
  blk_simp
  obtain ⟨r, k, rfl⟩ : ∃ (r : Fin 512) (k : Fin 512), y = ix2 r k := ⟨y 0, y 1, eq_ix2 y⟩
  rw [after0_3]
  unfold outsAt0 out0_A_3
  frame_out
  refine (headB_apply m c t r k).trans ?_
  unfold result
  blk_simp [idx3 t]
  rw [Nat.mul_comm (t.val / 3), Nat.mul_comm (t.val % 3)]

end Cert.HeadConv.Fwd

end
-- ==== Proof.HeadConvFwdRef.lean ====
module

public import proofs.«01_k».proof.Proof.Gen.Reference30Ideal.Read
public import proofs.«01_k».proof.Proof.HeadConv

/-!
# What the reference of the convolution before the recurrence computes

The reference's values, read at an index and stated by the functions of `HeadConv`.
-/

@[expose] public section

set_option maxRecDepth 16384

noncomputable section

namespace Cert.HeadConv.FwdRef

open Cert.Reference30Ideal Cert.Reference30Ideal.Gen Cert.Reference30Ideal.Read Idealize.ShloMosaic Idealize.ShloMosaic.TcCoe
open Idealize.ShloMosaic.StableHlo
open FfnMid

variable (X : (⟨2, ![8192, 2688]⟩ : Shape).Idx → EReal) (W : (⟨2, ![4, 1536]⟩ : Shape).Idx → EReal)
  (D : (⟨2, ![8192, 1536]⟩ : Shape).Idx → EReal)

theorem x_at (r : Fin 8192) (k : Fin 1536) : val_main_v0 (F := Ideal) X (ix2 r k) = (args X W D).x r k := by
  pointwise [val_main_v0]
  exact (at2_ix2 X r.isLt (by omega)).symm

theorem tap_at (s : Fin 4) (k : Fin 1536) : W (ix2 s k) = (args X W D).w s k := (at2_ix2 W s.isLt k.isLt).symm

theorem back1_at (r : Fin 8192) (k : Fin 1536) : val_main_v6 (F := Ideal) X (ix2 r k) = (args X W D).back 1 r k := by
  have hz : ∀ i, val_main_v4 (F := Ideal) i = 0 := fun i => by pointwise [val_main_v4, val_main_cst]
  have hg : ∀ (e : Fin 8191) (k : Fin 1536), val_main_v5 (F := Ideal) X (ix2 e k) = (args X W D).x e k := fun e k => by
    pointwise [val_main_v5]
    exact x_at X W D _ k
  pointwise [val_main_v6]
  unfold Args.back
  by_cases h : r.val < 1
  · rw [dif_pos h]
    exact (hz _).trans (if_neg (by omega)).symm
  · rw [dif_neg h]
    exact (hg ⟨r.val - 1, by omega⟩ k).trans (if_pos (by omega)).symm

theorem back2_at (r : Fin 8192) (k : Fin 1536) : val_main_v16 (F := Ideal) X (ix2 r k) = (args X W D).back 2 r k := by
  have hz : ∀ i, val_main_v14 (F := Ideal) i = 0 := fun i => by pointwise [val_main_v14, val_main_cst_1]
  have hg : ∀ (e : Fin 8190) (k : Fin 1536), val_main_v15 (F := Ideal) X (ix2 e k) = (args X W D).x e k := fun e k => by
    pointwise [val_main_v15]
    exact x_at X W D _ k
  pointwise [val_main_v16]
  unfold Args.back
  by_cases h : r.val < 2
  · rw [dif_pos h]
    exact (hz _).trans (if_neg (by omega)).symm
  · rw [dif_neg h]
    exact (hg ⟨r.val - 2, by omega⟩ k).trans (if_pos (by omega)).symm

theorem back3_at (r : Fin 8192) (k : Fin 1536) : val_main_v25 (F := Ideal) X (ix2 r k) = (args X W D).back 3 r k := by
  have hz : ∀ i, val_main_v23 (F := Ideal) i = 0 := fun i => by pointwise [val_main_v23, val_main_cst_2]
  have hg : ∀ (e : Fin 8189) (k : Fin 1536), val_main_v24 (F := Ideal) X (ix2 e k) = (args X W D).x e k := fun e k => by
    pointwise [val_main_v24]
    exact x_at X W D _ k
  pointwise [val_main_v25]
  unfold Args.back
  by_cases h : r.val < 3
  · rw [dif_pos h]
    exact (hz _).trans (if_neg (by omega)).symm
  · rw [dif_neg h]
    exact (hg ⟨r.val - 3, by omega⟩ k).trans (if_pos (by omega)).symm

/-- The reference adds the tap of the row itself last. -/
theorem taps_order (a b e f : EReal) : 0 + a + b + e + f = f + a + b + e := by
  rw [zero_add, add_comm _ f, ← add_assoc, ← add_assoc]

theorem conv_at (r : Fin 8192) (k : Fin 1536) : val_main_v34 (F := Ideal) X W (ix2 r k) = (args X W D).conv r k := by
  pointwise [val_main_v34, val_main_v33, val_main_v32, val_main_v31, val_main_v30, val_main_v29, val_main_v28, val_main_v27,
    val_main_v26, val_main_v22, val_main_v21, val_main_v20, val_main_v19, val_main_v18, val_main_v17, val_main_v13, val_main_v12,
    val_main_v11, val_main_v10, val_main_v9, val_main_cst_0, val_main_v8, val_main_v7, val_main_v3, val_main_v2, val_main_v1]
  rw [x_at X W D, back1_at X W D, back2_at X W D, back3_at X W D, tap_at X W D, tap_at X W D, tap_at X W D, tap_at X W D]
  unfold Args.conv
  rw [Args.back_zero]
  first | exact taps_order _ _ _ _ | exact (congrArg (· + _ + _ + _) (zero_add _).symm).trans (taps_order _ _ _ _)

theorem act_at (r : Fin 8192) (k : Fin 1536) : val_main_v35 (F := Ideal) X W (ix2 r k) = (args X W D).act r k := by
  pointwise [val_main_v35, val_main_call0_v5, val_main_call0_v4, val_main_call0_cst_0, val_main_call0_v3, val_main_call0_v2, val_main_call0_cst,
    val_main_call0_v1, val_main_call0_v0]
  rw [conv_at X W D]
  unfold Args.act Args.sig
  rw [zero_sub]

theorem act_of (r : Fin 8192) (k : Fin 1536) (n : ℕ) (h : k.val = n) : val_main_v35 (F := Ideal) X W (ix2 r k) = (args X W D).act r n := by
  rw [act_at X W D, h]

theorem query_at (r : Fin 8192) (h : Fin 4) (k : Fin 128) (c : ℕ) (hc : 128 * h.val + k.val = c) :
    val_main_v47 (F := Ideal) X W (ix3 r h k) = (args X W D).heads r c := by
  pointwise [val_main_v47, val_main_v46, val_main_v45, val_main_v44, val_main_v43, val_main_cst_4, val_main_v42, val_main_v41, val_main_cst_3,
    val_main_v40, val_main_v39, val_main_v36]
  exact Args.unit_of _ (by omega) (act_of X W D _ _ _ (by dsimp only; omega)) fun x => act_of X W D _ _ _ (by dsimp only; omega)

theorem key_at (r : Fin 8192) (h : Fin 4) (k : Fin 128) (c : ℕ) (hc : 512 + 128 * h.val + k.val = c) :
    val_main_v56 (F := Ideal) X W (ix3 r h k) = (args X W D).heads r c := by
  pointwise [val_main_v56, val_main_v55, val_main_v54, val_main_v53, val_main_v52, val_main_cst_6, val_main_v51, val_main_v50, val_main_cst_5,
    val_main_v49, val_main_v48, val_main_v37]
  exact Args.unit_of _ (by omega) (act_of X W D _ _ _ (by dsimp only; omega)) fun x => act_of X W D _ _ _ (by dsimp only; omega)

theorem heads : val_main_v59 (F := Ideal) X W = result (args X W D) := by
  funext i
  obtain ⟨r, k, rfl⟩ : ∃ (r : Fin 8192) (k : Fin 1536), i = ix2 r k := ⟨i 0, i 1, eq_ix2 i⟩
  pointwise [val_main_v59, val_main_v58, val_main_v57, val_main_v38]
  show _ = (args X W D).heads r.val k.val
  by_cases h0 : k.val < 512
  · rw [dif_pos h0]
    exact query_at X W D _ _ _ _ (by dsimp only; omega)
  rw [dif_neg h0]
  by_cases h1 : k.val - 512 < 512
  · rw [dif_pos h1]
    exact key_at X W D _ _ _ _ (by dsimp only; omega)
  · rw [dif_neg h1]
    exact (act_of X W D _ _ k.val (by dsimp only; omega)).trans (if_neg (by omega)).symm

end Cert.HeadConv.FwdRef

end
-- ==== Proof.HeadConvBody.lean ====
module

public import proofs.«01_k».proof.Proof.Gen.Kernel29Ideal.Value
public import proofs.«01_k».proof.Proof.HeadConv
public import Idealize.ShloMosaic.Lib.Pipeline.ValueKit
public import Idealize.ShloMosaic.Lib.StableHlo.ReadAt

/-!
# What the backward call of the convolution before the recurrence computes at a grid point

Point `t` of the grid works on rows `512 * (t % 16) …` and columns `512 * (t / 16) …`: four heads of queries, of keys, or
of values. The body's values are read at an index of the block and stated by the functions of `HeadConv`. Beside its own
rows a point reads the 8 rows above and the 8 rows below.
-/

@[expose] public section

set_option maxRecDepth 16384

noncomputable section

namespace Cert.HeadConv

open Cert.Kernel29Ideal Cert.Kernel29Ideal.Gen Idealize.ShloMosaic Idealize.ShloMosaic.TcCoe Idealize.SL.Sem
open FfnMid (rows at2 at2_ix2 at2_of_le)

variable (m : (ℓ : Loc nD τ sig) → Buf (Elt Ideal) ℓ) (c : Dev nD)

/-- The arguments, as the memory holds them at the launch. -/
abbrev inputs : Args :=
  args (m ((c : Thread nD τ).loc main_arg0)) (m ((c : Thread nD τ).loc main_arg1)) (m ((c : Thread nD τ).loc main_arg2))

theorem idx0 : ∀ t : Fin cfg0.N, win0_0.index t = ![t.val % 16, t.val / 16] :=
  (by decide +kernel : ∀ t : Fin grid0.N, win0_0.index t = ![t.val % 16, t.val / 16])
theorem idx1 : ∀ t : Fin cfg0.N, win0_1.index t = ![64 * (t.val % 16) - 1, t.val / 16] :=
  (by decide +kernel : ∀ t : Fin grid0.N, win0_1.index t = ![64 * (t.val % 16) - 1, t.val / 16])
theorem idx2 : ∀ t : Fin cfg0.N, win0_2.index t = ![64 * min (t.val % 16 + 1) 15, t.val / 16] :=
  (by decide +kernel : ∀ t : Fin grid0.N, win0_2.index t = ![64 * min (t.val % 16 + 1) 15, t.val / 16])
theorem idx3 : ∀ t : Fin cfg0.N, win0_3.index t = ![t.val % 16, t.val / 16] :=
  (by decide +kernel : ∀ t : Fin grid0.N, win0_3.index t = ![t.val % 16, t.val / 16])
theorem idx4 : ∀ t : Fin cfg0.N, win0_4.index t = ![64 * min (t.val % 16 + 1) 15, t.val / 16] :=
  (by decide +kernel : ∀ t : Fin grid0.N, win0_4.index t = ![64 * min (t.val % 16 + 1) 15, t.val / 16])
theorem idx5 : ∀ t : Fin cfg0.N, win0_5.index t = ![0, t.val / 16] :=
  (by decide +kernel : ∀ t : Fin grid0.N, win0_5.index t = ![0, t.val / 16])
theorem idx6 : ∀ t : Fin cfg0.N, win0_6.index t = ![t.val % 16, t.val / 16] :=
  (by decide +kernel : ∀ t : Fin grid0.N, win0_6.index t = ![t.val % 16, t.val / 16])
theorem idx7 : ∀ t : Fin cfg0.N, win0_7.index t = ![0, t.val / 16] :=
  (by decide +kernel : ∀ t : Fin grid0.N, win0_7.index t = ![0, t.val / 16])

/-- The kernel's test that a block has rows above it. -/
theorem first_word : ∀ t : Fin cfg0.N, Scalar.cmpi .sgt (BitVec.ofNat 32 (grid0.coords t 1).val) 0#32 = if t.val % 16 = 0 then 0#1 else 1#1 :=
  (by decide +kernel : ∀ t : Fin grid0.N, Scalar.cmpi .sgt (BitVec.ofNat 32 (grid0.coords t 1).val) 0#32 = if t.val % 16 = 0 then 0#1 else 1#1)

/-- The kernel's test that a block has rows below it. -/
theorem last_word : ∀ t : Fin cfg0.N, Scalar.cmpi .slt (BitVec.ofNat 32 (grid0.coords t 1).val) 15#32 = if t.val % 16 = 15 then 0#1 else 1#1 :=
  (by decide +kernel : ∀ t : Fin grid0.N, Scalar.cmpi .slt (BitVec.ofNat 32 (grid0.coords t 1).val) 15#32 = if t.val % 16 = 15 then 0#1 else 1#1)

/-- The kernel's test that a block holds queries or keys. -/
theorem head_word : ∀ t : Fin cfg0.N, Scalar.cmpi .slt (BitVec.ofNat 32 (grid0.coords t 0).val) 2#32 = if t.val / 16 = 2 then 0#1 else 1#1 :=
  (by decide +kernel : ∀ t : Fin grid0.N, Scalar.cmpi .slt (BitVec.ofNat 32 (grid0.coords t 0).val) 2#32 = if t.val / 16 = 2 then 0#1 else 1#1)

theorem point_lt (t : Fin cfg0.N) : t.val < 48 := lt_of_lt_of_eq t.isLt N_0

variable (t : Fin cfg0.N)

theorem blk0 (r k : Fin 512) : X0_0 m c t (ix2 r k) = (inputs m c).x (512 * (t.val % 16) + r.val) (512 * (t.val / 16) + k.val) := by
  have ht := point_lt t
  show _ = at2 _ _ _
  rw [at2_ix2 _ (by omega) (by omega)]
  unfold X0_0 Pipeline.Window.fill
  rw [dif_pos (moved0_0 t _)]
  blk_ext [iblk, V, idx0 t]

theorem blk1 (r : Fin 8) (k : Fin 512) :
    X0_1 m c t (ix2 r k) = (inputs m c).x (8 * (64 * (t.val % 16) - 1) + r.val) (512 * (t.val / 16) + k.val) := by
  have ht := point_lt t
  show _ = at2 _ _ _
  rw [at2_ix2 _ (by omega) (by omega)]
  unfold X0_1 Pipeline.Window.fill
  rw [dif_pos (moved0_1 t _)]
  blk_ext [iblk, V, idx1 t]

theorem blk2 (r : Fin 8) (k : Fin 512) :
    X0_2 m c t (ix2 r k) = (inputs m c).x (512 * min (t.val % 16 + 1) 15 + r.val) (512 * (t.val / 16) + k.val) := by
  have ht := point_lt t
  show _ = at2 _ _ _
  rw [at2_ix2 _ (by omega) (by omega)]
  unfold X0_2 Pipeline.Window.fill
  rw [dif_pos (moved0_2 t _)]
  blk_ext [iblk, V, idx2 t]

theorem blk3 (r k : Fin 512) : iblk m c 3 t (ix2 r k) = (inputs m c).d (512 * (t.val % 16) + r.val) (512 * (t.val / 16) + k.val) := by
  have ht := point_lt t
  show _ = at2 _ _ _
  rw [at2_ix2 _ (by omega) (by omega)]
  blk_ext [iblk, V, idx3 t]

theorem blk4 (r : Fin 8) (k : Fin 512) :
    iblk m c 4 t (ix2 r k) = (inputs m c).d (512 * min (t.val % 16 + 1) 15 + r.val) (512 * (t.val / 16) + k.val) := by
  have ht := point_lt t
  show _ = at2 _ _ _
  rw [at2_ix2 _ (by omega) (by omega)]
  blk_ext [iblk, V, idx4 t]

/-- The taps, above the rows of zeros that the host adds. -/
theorem taps_entry (r : Fin 8) (k : Fin 1536) (hr : r.val < 4) : V m c main_v0 (ix2 r k) = (inputs m c).w r.val k.val := by
  show _ = at2 _ _ _
  rw [at2_ix2 _ hr k.isLt]
  unfold V
  after_reads_at
  exact dif_pos hr

theorem blk5 (r : Fin 8) (k : Fin 512) (hr : r.val < 4) : iblk m c 5 t (ix2 r k) = (inputs m c).w r.val (512 * (t.val / 16) + k.val) := by
  have ht := point_lt t
  rw [← taps_entry m c r ⟨512 * (t.val / 16) + k.val, by omega⟩ hr]
  blk_ext [iblk, idx5 t]

/-- The block between the rows above it and the rows below it. -/
abbrev extB : FVec Ideal S528x512 .f32 := k0_pay2 (grid0.coords t) (X0_0 m c t) (X0_1 m c t) (X0_2 m c t)

/-- The convolved input, for the block's rows and the 8 rows below. -/
abbrev convB : FVec Ideal S520x512 .f32 := k0_pay7 (grid0.coords t) (X0_0 m c t) (X0_1 m c t) (X0_2 m c t) (iblk m c 5 t)

/-- Its logistic function. -/
abbrev sigB : FVec Ideal S520x512 .f32 := k0_pay8 (grid0.coords t) (X0_0 m c t) (X0_1 m c t) (X0_2 m c t) (iblk m c 5 t)

/-- What the norms are taken of, for the same rows. -/
abbrev actB : FVec Ideal S520x512 .f32 := k0_pay11 (convB m c t) (sigB m c t)

/-- Whether the block has rows below it. -/
abbrev lastB : BitVec 1 := Scalar.cmpi .slt (BitVec.ofNat 32 (grid0.coords t 1).val) 15#32

/-- The incoming gradient, for the same rows. -/
abbrev doB : FVec Ideal S520x512 .f32 := k0_pay10 (lastB t) (iblk m c 4 t) k0_pay9 (iblk m c 3 t)

/-- The gradient of the convolved input, for the same rows. -/
abbrev dconvB : FVec Ideal S520x512 .f32 :=
  k0_pay17 (convB m c t) (sigB m c t) (doB m c t) (actB m c t) (Scalar.cmpi .slt (BitVec.ofNat 32 (grid0.coords t 0).val) 2#32)
    (k0_pay12 (convB m c t) (sigB m c t) (lastB t) (iblk m c 4 t) k0_pay9 (iblk m c 3 t))
    (k0_pay13 (convB m c t) (sigB m c t) (lastB t) (iblk m c 4 t) k0_pay9 (iblk m c 3 t))
    (k0_pay14 (convB m c t) (sigB m c t)) (k0_pay15 (lastB t) (iblk m c 4 t) k0_pay9 (iblk m c 3 t))
    (k0_pay16 (convB m c t) (sigB m c t))

theorem select_zero {α : Type} (x y : α) : Scalar.select 0#1 x y = y := rfl
theorem select_one {α : Type} (x y : α) : Scalar.select 1#1 x y = x := rfl

theorem add_eq {a a' b b' : EReal} (h : a = a') (h' : b = b') : a + b = a' + b' := by rw [h, h']
theorem mul_eq {a a' b b' : EReal} (h : a = a') (h' : b = b') : a * b = a' * b' := by rw [h, h']

theorem extB_back (s r : ℕ) (hs : s ≤ 3) (hr : 512 * (t.val % 16) + r < rows) (e : Fin 528) (k : Fin 512) (he : e.val + s = 8 + r) :
    extB m c t (ix2 e k) = (inputs m c).back s (512 * (t.val % 16) + r) (512 * (t.val / 16) + k.val) := by
  have ht := point_lt t
  unfold rows at hr
  pointwise [k0_pay2]
  rw [first_word]
  unfold Args.back
  by_cases h1 : e.val < 8
  · rw [dif_pos h1]
    by_cases h2 : t.val % 16 = 0
    · rw [if_pos h2, select_zero]
      exact (if_neg (by omega)).symm
    · rw [if_neg h2, select_one]
      refine (blk1 m c t ⟨e.val, h1⟩ k).trans ?_
      rw [if_pos (by omega)]
      congr 1; dsimp only; omega
  · rw [dif_neg h1]
    by_cases h2 : e.val - 8 < 512
    · rw [dif_pos h2]
      refine (blk0 m c t ⟨e.val - 8, h2⟩ k).trans ?_
      rw [if_pos (by omega)]
      congr 1; dsimp only; omega
    · rw [dif_neg h2]
      refine (blk2 m c t ⟨e.val - 8 - 512, by omega⟩ k).trans ?_
      rw [if_pos (by omega)]
      congr 1; dsimp only; omega

theorem convB_apply (r : Fin 520) (k : Fin 512) (hr : 512 * (t.val % 16) + r.val < rows) :
    convB m c t (ix2 r k) = (inputs m c).conv (512 * (t.val % 16) + r.val) (512 * (t.val / 16) + k.val) := by
  pointwise [k0_pay7, k0_pay4, k0_pay5, k0_pay6, k0_pay3]
  exact add_eq (add_eq (add_eq
      (mul_eq (blk5 m c t 3 k (by decide)) (extB_back m c t 0 r (by omega) hr ⟨8 + r.val, by omega⟩ k (by dsimp only; omega)))
      (mul_eq (blk5 m c t 2 k (by decide))
        (extB_back m c t 1 r (by omega) hr ⟨(8 + r.val + 528 - 1) % 528, by omega⟩ k (by dsimp only; omega))))
      (mul_eq (blk5 m c t 1 k (by decide))
        (extB_back m c t 2 r (by omega) hr ⟨(8 + r.val + 528 - 2) % 528, by omega⟩ k (by dsimp only; omega))))
    (mul_eq (blk5 m c t 0 k (by decide))
      (extB_back m c t 3 r (by omega) hr ⟨(8 + r.val + 528 - 3) % 528, by omega⟩ k (by dsimp only; omega)))

theorem sigB_apply (r : Fin 520) (k : Fin 512) (hr : 512 * (t.val % 16) + r.val < rows) :
    sigB m c t (ix2 r k) = (inputs m c).sig (512 * (t.val % 16) + r.val) (512 * (t.val / 16) + k.val) := by
  pointwise [k0_pay8]
  exact congrArg (fun x => Ideal.div 1 (1 + Ideal.exp (0 - x))) (convB_apply m c t r k hr)

theorem actB_at (r : Fin 520) (k : Fin 512) (hr : 512 * (t.val % 16) + r.val < rows) (n : ℕ) (h : 512 * (t.val / 16) + k.val = n) :
    actB m c t (ix2 r k) = (inputs m c).act (512 * (t.val % 16) + r.val) n := by
  rw [← h]
  pointwise [k0_pay11]
  exact mul_eq (convB_apply m c t r k hr) (sigB_apply m c t r k hr)

theorem doB_at (r : Fin 520) (k : Fin 512) (n : ℕ) (hn : 512 * (t.val / 16) + k.val = n) :
    doB m c t (ix2 r k) = (inputs m c).d (512 * (t.val % 16) + r.val) n := by
  have ht := point_lt t
  rw [← hn]
  pointwise [k0_pay10, k0_pay9]
  by_cases h : r.val < 512
  · rw [dif_pos h]
    exact blk3 m c t ⟨r.val, h⟩ k
  · rw [dif_neg h]
    refine (congrArg (fun w => Scalar.select w _ _) (last_word t)).trans ?_
    by_cases h2 : t.val % 16 = 15
    · rw [if_pos h2, select_zero]
      exact (at2_of_le _ _ (by omega)).symm
    · rw [if_neg h2, select_one]
      refine (blk4 m c t ⟨r.val - 512, by omega⟩ k).trans ?_
      congr 1; dsimp only; omega

/-- The gradient by a column of a head; below the last row, where the head is not that of the arrays, it vanishes. -/
theorem grad_at (r : Fin 520) {n : ℕ} {x y : EReal} {f g : Fin 128 → EReal} (hn : n < 1024)
    (hx : 512 * (t.val % 16) + r.val < rows → x = (inputs m c).act (512 * (t.val % 16) + r.val) n)
    (hy : y = (inputs m c).d (512 * (t.val % 16) + r.val) n)
    (hf : 512 * (t.val % 16) + r.val < rows → ∀ k : Fin 128, f k = (inputs m c).act (512 * (t.val % 16) + r.val) (n / 128 * 128 + k.val))
    (hg : ∀ k : Fin 128, g k = (inputs m c).d (512 * (t.val % 16) + r.val) (n / 128 * 128 + k.val)) :
    Ideal.rsqrt ((∑ k, f k * f k) + eps)
        * (y - x * Ideal.rsqrt ((∑ k, f k * f k) + eps) * ∑ j, g j * (f j * Ideal.rsqrt ((∑ k, f k * f k) + eps)))
      = (inputs m c).dact (512 * (t.val % 16) + r.val) n := by
  by_cases hr : 512 * (t.val % 16) + r.val < rows
  · exact Args.grad_of _ hn (hx hr) hy (hf hr) hg
  · exact Args.grad_of_zero _ (fun c' => at2_of_le _ c' (not_lt.mp hr)) hy hg

theorem dconvB_apply (r : Fin 520) (k : Fin 512) :
    dconvB m c t (ix2 r k) = (inputs m c).dconv (512 * (t.val % 16) + r.val) (512 * (t.val / 16) + k.val) := by
  have ht := point_lt t
  pointwise [k0_pay17, k0_pay12, k0_pay13, k0_pay14, k0_pay15, k0_pay16]
  refine Eq.trans (congrArg (· * _) (?_ : _ = (inputs m c).dact (512 * (t.val % 16) + r.val) (512 * (t.val / 16) + k.val))) ?_
  · rw [head_word]
    by_cases hv : t.val / 16 = 2
    · rw [if_pos hv, select_zero]
      exact (doB_at m c t r k _ rfl).trans (if_neg (by omega)).symm
    · rw [if_neg hv, select_one]
      have hc : 512 * (t.val / 16) + k.val < 1024 := by omega
      by_cases h0 : k.val < 128
      · rw [dif_pos h0]
        exact grad_at m c t r hc (fun hr => actB_at m c t _ _ hr _ rfl) (doB_at m c t _ _ _ rfl)
          (fun hr x => actB_at m c t _ _ hr _ (by dsimp only; omega)) fun x => doB_at m c t _ _ _ (by dsimp only; omega)
      rw [dif_neg h0]
      by_cases h1 : k.val - 128 < 128
      · rw [dif_pos h1]
        exact grad_at m c t r hc (fun hr => actB_at m c t _ _ hr _ (by dsimp only; omega)) (doB_at m c t _ _ _ (by dsimp only; omega))
          (fun hr x => actB_at m c t _ _ hr _ (by dsimp only; omega)) fun x => doB_at m c t _ _ _ (by dsimp only; omega)
      rw [dif_neg h1]
      by_cases h2 : k.val - 128 - 128 < 128
      · rw [dif_pos h2]
        exact grad_at m c t r hc (fun hr => actB_at m c t _ _ hr _ (by dsimp only; omega)) (doB_at m c t _ _ _ (by dsimp only; omega))
          (fun hr x => actB_at m c t _ _ hr _ (by dsimp only; omega)) fun x => doB_at m c t _ _ _ (by dsimp only; omega)
      · rw [dif_neg h2]
        exact grad_at m c t r hc (fun hr => actB_at m c t _ _ hr _ (by dsimp only; omega)) (doB_at m c t _ _ _ (by dsimp only; omega))
          (fun hr x => actB_at m c t _ _ hr _ (by dsimp only; omega)) fun x => doB_at m c t _ _ _ (by dsimp only; omega)
  · by_cases hr : 512 * (t.val % 16) + r.val < rows
    · show _ * (sigB m c t (ix2 r k) * (1 + convB m c t (ix2 r k) * (1 - sigB m c t (ix2 r k)))) = _
      rw [convB_apply m c t r k hr, sigB_apply m c t r k hr]
      rfl
    · have hz : ∀ c', (inputs m c).d (512 * (t.val % 16) + r.val) c' = 0 := fun c' => at2_of_le _ c' (not_lt.mp hr)
      rw [Args.dconv_of_zero _ _ hz, Args.dact_of_zero _ _ hz, zero_mul]

theorem row_lt (r : Fin 512) : 512 * (t.val % 16) + r.val < rows := by
  have ht := point_lt t
  unfold rows; omega

/-- What is stored as the gradient of the input. -/
theorem dxB_apply (r k : Fin 512) :
    k0_pay20 (dconvB m c t) (k0_pay18 (k0_pay3 (iblk m c 5 t)) (convB m c t) (sigB m c t) (doB m c t) (actB m c t)
        (Scalar.cmpi .slt (BitVec.ofNat 32 (grid0.coords t 0).val) 2#32)
        (k0_pay12 (convB m c t) (sigB m c t) (lastB t) (iblk m c 4 t) k0_pay9 (iblk m c 3 t))
        (k0_pay13 (convB m c t) (sigB m c t) (lastB t) (iblk m c 4 t) k0_pay9 (iblk m c 3 t))
        (k0_pay14 (convB m c t) (sigB m c t)) (k0_pay15 (lastB t) (iblk m c 4 t) k0_pay9 (iblk m c 3 t))
        (k0_pay16 (convB m c t) (sigB m c t))) (k0_pay19 (k0_pay3 (iblk m c 5 t))) 517#32 (ix2 r k)
      = (inputs m c).dx (512 * (t.val % 16) + r.val) (512 * (t.val / 16) + k.val) := by
  have h1 : (r.val + 520 - 519) % 520 = r.val + 1 := by omega
  have h2 : (r.val + 520 - 518) % 520 = r.val + 2 := by omega
  have h3 : (r.val + 520 - 517) % 520 = r.val + 3 := by omega
  pointwise [k0_pay20, k0_pay18, k0_pay19, k0_pay3]
  refine add_eq (add_eq (add_eq (mul_eq (blk5 m c t 3 k (by decide)) (dconvB_apply m c t ⟨r.val, by omega⟩ k))
    (mul_eq (blk5 m c t 2 k (by decide)) ((dconvB_apply m c t ⟨(r.val + 520 - 519) % 520, by omega⟩ k).trans ?_)))
    (mul_eq (blk5 m c t 1 k (by decide)) ((dconvB_apply m c t ⟨(r.val + 520 - 518) % 520, by omega⟩ k).trans ?_)))
    (mul_eq (blk5 m c t 0 k (by decide)) ((dconvB_apply m c t ⟨(r.val + 520 - 517) % 520, by omega⟩ k).trans ?_))
  · simp only [h1]; rfl
  · simp only [h2]; rfl
  · simp only [h3]; rfl

/-- The block's part of the gradient of tap `3 - s`. -/
def tapB (s : ℕ) (k : ℕ) : EReal :=
  ∑ x : Fin 512, (inputs m c).dtap s (512 * (t.val % 16) + x.val) (512 * (t.val / 16) + k)

theorem tap0_apply (v : FVec Ideal S1x512 .f32) (z : Fin 1) (k : Fin 512) :
    k0_pay23 (X0_0 m c t) (dconvB m c t) v (ix2 z k) = v (ix2 z k) + tapB m c t 0 k := by
  pointwise [k0_pay23, k0_pay21]
  refine congrArg (v (ix2 z k) + ·) (Finset.sum_congr rfl fun x _ => ?_)
  refine mul_eq (dconvB_apply m c t ⟨x.val, by omega⟩ k) ((blk0 m c t x k).trans ?_)
  rw [Args.back_zero]

theorem tap1_apply (v : FVec Ideal S1x512 .f32) (z : Fin 1) (k : Fin 512) :
    k0_pay24 (k0_pay4 (grid0.coords t) (X0_0 m c t) (X0_1 m c t) (X0_2 m c t)) (dconvB m c t) v (ix2 z k)
      = v (ix2 z k) + tapB m c t 1 k := by
  pointwise [k0_pay24, k0_pay21, k0_pay4]
  refine congrArg (v (ix2 z k) + ·) (Finset.sum_congr rfl fun x _ => ?_)
  exact mul_eq (dconvB_apply m c t ⟨x.val, by omega⟩ k)
    (extB_back m c t 1 x (by omega) (row_lt t x) ⟨(8 + x.val + 528 - 1) % 528, by omega⟩ k (by dsimp only; omega))

theorem tap2_apply (v : FVec Ideal S1x512 .f32) (z : Fin 1) (k : Fin 512) :
    k0_pay25 (k0_pay5 (grid0.coords t) (X0_0 m c t) (X0_1 m c t) (X0_2 m c t)) (dconvB m c t) v (ix2 z k)
      = v (ix2 z k) + tapB m c t 2 k := by
  pointwise [k0_pay25, k0_pay21, k0_pay5]
  refine congrArg (v (ix2 z k) + ·) (Finset.sum_congr rfl fun x _ => ?_)
  exact mul_eq (dconvB_apply m c t ⟨x.val, by omega⟩ k)
    (extB_back m c t 2 x (by omega) (row_lt t x) ⟨(8 + x.val + 528 - 2) % 528, by omega⟩ k (by dsimp only; omega))

theorem tap3_apply (v : FVec Ideal S1x512 .f32) (z : Fin 1) (k : Fin 512) :
    k0_pay1 (k0_pay6 (grid0.coords t) (X0_0 m c t) (X0_1 m c t) (X0_2 m c t)) (k0_pay21 (dconvB m c t)) v (ix2 z k)
      = v (ix2 z k) + tapB m c t 3 k := by
  pointwise [k0_pay1, k0_pay21, k0_pay6]
  refine congrArg (v (ix2 z k) + ·) (Finset.sum_congr rfl fun x _ => ?_)
  exact mul_eq (dconvB_apply m c t ⟨x.val, by omega⟩ k)
    (extB_back m c t 3 x (by omega) (row_lt t x) ⟨(8 + x.val + 528 - 3) % 528, by omega⟩ k (by dsimp only; omega))

end Cert.HeadConv

end
-- ==== Proof.HeadConvOuts.lean ====
module

public import proofs.«01_k».proof.Proof.HeadConvBody
public import proofs.«01_k».proof.Proof.Outs

/-!
# The result arrays of the backward call of the convolution before the recurrence

The gradient of the input is stored once per point. The gradients of the taps are carried over the 16 points that share a
range of columns: the first of them clears the window, and every point adds its part.
-/

@[expose] public section

set_option maxRecDepth 16384

noncomputable section

namespace Cert.HeadConv

open Cert.Kernel29Ideal Cert.Kernel29Ideal.Gen Idealize.ShloMosaic Idealize.ShloMosaic.TcCoe Idealize.SL.Sem
open FfnMid (rows canon_row ld_row)

/-- With the last store being row `o`, what the stores leave in a buffer which held `f`. -/
theorem read_row {sp : Space} {κ : Kind} {R C o : ℕ} (v : View sig κ sp ⟨2, ![R, C]⟩ .f32) (f : v.ty.Contents (Elt Ideal))
    (inb : ∀ a : Fin 2, (![o, 0] : Fin 2 → ℕ) a + (![1, C] : Fin 2 → ℕ) a ≤ (⟨2, ![R, C]⟩ : Shape).size a)
    (w : (⟨2, ![1, C]⟩ : Shape).Idx → EReal) (L : List (View.Piece (Elt Ideal) ⟨2, ![R, C]⟩ .f32)) (r : Fin R) (k : Fin C) :
    v.read (Elt Ideal) (v.writes (Elt Ideal) f ((⟨Rect.unit ![o, 0] ![1, C] inb, w⟩ : View.Piece (Elt Ideal) ⟨2, ![R, C]⟩ .f32) :: L)) (ix2 r k)
      = if r.val = o then w (ix2 0 k) else v.read (Elt Ideal) (v.writes (Elt Ideal) f L) (ix2 r k) := by
  by_cases h : r.val = o
  · rw [if_pos h]
    exact View.read_writes_cons_rows_of_mem v f inb w L (ix2 r k) (ix2 0 k) rfl h rfl
  · rw [if_neg h]
    exact View.read_writes_cons_rows_of_not_mem v f inb w L (ix2 r k) rfl (W := 1) rfl
      (by show r.val < o ∨ o + 1 ≤ r.val; omega)

variable (m : (ℓ : Loc nD τ sig) → Buf (Elt Ideal) ℓ) (c : Dev nD) (t : Fin cfg0.N)

/-- What a point adds to the window of the taps' gradient. -/
def tapW (i : S8x512.Idx) : EReal :=
  if (i 0).val = 0 then tapB m c t 3 (i 1).val else if (i 0).val = 1 then tapB m c t 2 (i 1).val
    else if (i 0).val = 2 then tapB m c t 1 (i 1).val else if (i 0).val = 3 then tapB m c t 0 (i 1).val else 0

theorem outW_A (h : t.val % 16 = 0) (i : S8x512.Idx) : (outsAt0 m c t.val t.isLt).2 i = 0 + tapW m c t i := by
  obtain ⟨r, k, rfl⟩ : ∃ (r : Fin 8) (k : Fin 512), i = ix2 r k := ⟨i 0, i 1, eq_ix2 i⟩
  rw [outsAt0_A m c t h]
  frame_open
  simp (disch := decide) only [↓ View.readCov_skip, ↓ View.readCov_cons_toLoadRect, ↓ View.readCov_fill]
  frame_out
  refine (canon_row _ _ _ r k).trans ?_
  refine (congrArg (fun x => if r.val = 0 then _ else x) (canon_row _ _ _ r k)).trans ?_
  refine (congrArg (fun x => if r.val = 0 then _ else if r.val = 1 then _ else x) (canon_row _ _ _ r k)).trans ?_
  refine (congrArg (fun x => if r.val = 0 then _ else if r.val = 1 then _ else if r.val = 2 then _ else x) (canon_row _ _ _ r k)).trans ?_
  rw [View.canon_cons_unit_lit _ _ _ (by decide)]
  have z22 : ∀ i, k0_pay22 (F := Ideal) i = 0 := fun i => by pointwise [k0_pay22]
  show _ = 0 + (if r.val = 0 then tapB m c t 3 k.val else if r.val = 1 then tapB m c t 2 k.val
    else if r.val = 2 then tapB m c t 1 k.val else if r.val = 3 then tapB m c t 0 k.val else 0)
  by_cases h0 : r.val = 0
  · rw [if_pos h0, if_pos h0]
    exact (tap3_apply m c t _ 0 k).trans (congrArg (· + tapB m c t 3 k.val) (z22 _))
  rw [if_neg h0, if_neg h0]
  by_cases h1 : r.val = 1
  · rw [if_pos h1, if_pos h1]
    exact (tap2_apply m c t _ 0 k).trans (congrArg (· + tapB m c t 2 k.val) (z22 _))
  rw [if_neg h1, if_neg h1]
  by_cases h2 : r.val = 2
  · rw [if_pos h2, if_pos h2]
    exact (tap1_apply m c t _ 0 k).trans (congrArg (· + tapB m c t 1 k.val) (z22 _))
  rw [if_neg h2, if_neg h2]
  by_cases h3 : r.val = 3
  · rw [if_pos h3, if_pos h3]
    exact (tap0_apply m c t _ 0 k).trans (congrArg (· + tapB m c t 0 k.val) (z22 _))
  rw [if_neg h3, if_neg h3, z22, add_zero]

theorem outW_B (h : ¬ t.val % 16 = 0) (i : S8x512.Idx) :
    (outsAt0 m c t.val t.isLt).2 i = (outsAt0 m c (t.val - 1) (Nat.lt_of_le_of_lt (Nat.sub_le _ _) t.isLt)).2 i + tapW m c t i := by
  obtain ⟨r, k, rfl⟩ : ∃ (r : Fin 8) (k : Fin 512), i = ix2 r k := ⟨i 0, i 1, eq_ix2 i⟩
  rw [outsAt0_B m c t h]
  frame_out
  refine (read_row _ _ _ _ _ r k).trans ?_
  refine (congrArg (fun x => if r.val = 0 then _ else x) (read_row _ _ _ _ _ r k)).trans ?_
  refine (congrArg (fun x => if r.val = 0 then _ else if r.val = 1 then _ else x) (read_row _ _ _ _ _ r k)).trans ?_
  refine (congrArg (fun x => if r.val = 0 then _ else if r.val = 1 then _ else if r.val = 2 then _ else x) (read_row _ _ _ _ _ r k)).trans ?_
  show _ = _ + (if r.val = 0 then tapB m c t 3 k.val else if r.val = 1 then tapB m c t 2 k.val
    else if r.val = 2 then tapB m c t 1 k.val else if r.val = 3 then tapB m c t 0 k.val else 0)
  by_cases h0 : r.val = 0
  · rw [if_pos h0, if_pos h0]
    exact (tap3_apply m c t _ 0 k).trans (congrArg (· + tapB m c t 3 k.val) (ld_row _ _ r k h0))
  rw [if_neg h0, if_neg h0]
  by_cases h1 : r.val = 1
  · rw [if_pos h1, if_pos h1]
    exact (tap2_apply m c t _ 0 k).trans (congrArg (· + tapB m c t 2 k.val) (ld_row _ _ r k h1))
  rw [if_neg h1, if_neg h1]
  by_cases h2 : r.val = 2
  · rw [if_pos h2, if_pos h2]
    exact (tap1_apply m c t _ 0 k).trans (congrArg (· + tapB m c t 1 k.val) (ld_row _ _ r k h2))
  rw [if_neg h2, if_neg h2]
  by_cases h3 : r.val = 3
  · rw [if_pos h3, if_pos h3]
    exact (tap0_apply m c t _ 0 k).trans (congrArg (· + tapB m c t 0 k.val) (ld_row _ _ r k h3))
  rw [if_neg h3, if_neg h3, add_zero]
  exact congrFun ((hs0_7 t).read_unread _) _

theorem outX (r k : Fin 512) :
    (outsAt0 m c t.val t.isLt).1 (ix2 r k) = (inputs m c).dx (512 * (t.val % 16) + r.val) (512 * (t.val / 16) + k.val) := by
  by_cases h : t.val % 16 = 0
  · rw [outsAt0_A m c t h]
    frame_out
    exact dxB_apply m c t r k
  · rw [outsAt0_B m c t h]
    frame_out
    exact dxB_apply m c t r k

/-- A sum over all rows, taken 512 rows at a time. -/
theorem sum_rows (f : ℕ → EReal) : ∑ s : Fin 16, ∑ x : Fin 512, f (512 * s.val + x.val) = ∑ r : Fin rows, f r.val :=
  Fin.sum_mul_add_congr (fun s k _ => by rw [Nat.mul_comm])

/-- The 16 points of a range of columns meet every row once. -/
theorem sum_points (g : ℕ → ℕ → EReal) (q : ℕ) (k : ℕ) :
    ∑ s : Fin 16, ∑ x : Fin 512, g (512 * ((16 * q + s.val) % 16) + x.val) (512 * ((16 * q + s.val) / 16) + k)
      = ∑ r : Fin rows, g r.val (q * 512 + k) := by
  rw [← sum_rows fun r => g r (q * 512 + k)]
  refine Finset.sum_congr rfl fun s _ => Finset.sum_congr rfl fun x _ => ?_
  refine congrArg₂ g ?_ ?_ <;> omega

theorem arr_x : (dats m 0 c).arrAt 6 cfg0.N = gradInput (inputs m c) := by
  refine (dats m 0 c).arrAt_eq_of_covers 6 _ (by decide +kernel) fun t hf y => ?_
  blk_simp
  rw [after0_6]
  obtain ⟨r, k, rfl⟩ : ∃ (r : Fin 512) (k : Fin 512), y = ix2 r k := ⟨y 0, y 1, eq_ix2 y⟩
  refine (outX m c t r k).trans ?_
  unfold gradInput
  blk_simp [idx6 t]
  rw [Nat.mul_comm (t.val % 16), Nat.mul_comm (t.val / 16)]

theorem arr_taps : (dats m 0 c).arrAt 7 cfg0.N = gradTaps (inputs m c) := by
  refine (dats m 0 c).arrAt_eq_of_covers 7 _ (by decide +kernel) fun t hf y => ?_
  blk_simp
  rw [after0_7, Pipeline.eq_sum_fin_of_reset_step_apply_of_flush (fun n h => (outsAt0 m c n h).2) 16 (fun _ => 0) (tapW m c)
    (fun t h i => outW_A m c t h i) (fun t h i => outW_B m c t h i) t ((flush0_7 t).mp hf) y]
  unfold gradTaps
  blk_simp [idx7 t]
  rw [zero_add]
  simp only [tapW]
  by_cases h0 : (y 0).val = 0
  · simp only [if_pos h0]
    exact sum_points ((inputs m c).dtap 3) _ _
  by_cases h1 : (y 0).val = 1
  · simp only [if_neg h0, if_pos h1]
    exact sum_points ((inputs m c).dtap 2) _ _
  by_cases h2 : (y 0).val = 2
  · simp only [if_neg h0, if_neg h1, if_pos h2]
    exact sum_points ((inputs m c).dtap 1) _ _
  by_cases h3 : (y 0).val = 3
  · simp only [if_neg h0, if_neg h1, if_neg h2, if_pos h3]
    exact sum_points ((inputs m c).dtap 0) _ _
  · simp only [if_neg h0, if_neg h1, if_neg h2, if_neg h3]
    exact Finset.sum_const_zero (ι := Fin 16) (M := EReal) (s := Finset.univ)

end Cert.HeadConv

end
-- ==== Proof.HeadConvBwdRef.lean ====
module

public import proofs.«01_k».proof.Defs
public import proofs.«01_k».proof.Proof.Gen.Pre_finite_conv
public import proofs.«01_k».proof.Proof.Gen.Reference29Ideal.Read
public import proofs.«01_k».proof.Proof.HeadConv

/-!
# What the derivative of the convolution before the recurrence computes

The values of the reference of the backward call, read at an index and stated by the functions of `HeadConv`, where the
incoming gradient is real.
-/

@[expose] public section

set_option maxRecDepth 16384

noncomputable section

namespace Cert.HeadConv.BwdRef

open Cert.Reference29Ideal Cert.Reference29Ideal.Gen Cert.Reference29Ideal.Read Idealize.ShloMosaic Idealize.ShloMosaic.TcCoe
open Idealize.ShloMosaic.StableHlo
open FfnMid (rows at2 at2_ix2 at2_of_le gate_eq)

variable (X : (⟨2, ![8192, 2688]⟩ : Shape).Idx → EReal) (W : (⟨2, ![4, 1536]⟩ : Shape).Idx → EReal)
  (D : (⟨2, ![8192, 1536]⟩ : Shape).Idx → EReal)

theorem x_at (r : Fin 8192) (k : Fin 1536) : val_main_v0 (F := Ideal) X (ix2 r k) = (args X W D).x r k := by
  pointwise [val_main_v0]
  exact (at2_ix2 X r.isLt (by omega)).symm

theorem tap_at (s : Fin 4) (k : Fin 1536) : W (ix2 s k) = (args X W D).w s k := (at2_ix2 W s.isLt k.isLt).symm

theorem back1_at (r : Fin 8192) (k : Fin 1536) : val_main_v6 (F := Ideal) X (ix2 r k) = (args X W D).back 1 r k := by
  have hz : ∀ i, val_main_v4 (F := Ideal) i = 0 := fun i => by pointwise [val_main_v4, val_main_cst]
  have hg : ∀ (e : Fin 8191) (k : Fin 1536), val_main_v5 (F := Ideal) X (ix2 e k) = (args X W D).x e k := fun e k => by
    pointwise [val_main_v5]
    exact x_at X W D _ k
  pointwise [val_main_v6]
  unfold Args.back
  by_cases h : r.val < 1
  · rw [dif_pos h]
    exact (hz _).trans (if_neg (by omega)).symm
  · rw [dif_neg h]
    exact (hg ⟨r.val - 1, by omega⟩ k).trans (if_pos (by omega)).symm

theorem back2_at (r : Fin 8192) (k : Fin 1536) : val_main_v17 (F := Ideal) X (ix2 r k) = (args X W D).back 2 r k := by
  have hz : ∀ i, val_main_v15 (F := Ideal) i = 0 := fun i => by pointwise [val_main_v15, val_main_cst_2]
  have hg : ∀ (e : Fin 8190) (k : Fin 1536), val_main_v16 (F := Ideal) X (ix2 e k) = (args X W D).x e k := fun e k => by
    pointwise [val_main_v16]
    exact x_at X W D _ k
  pointwise [val_main_v17]
  unfold Args.back
  by_cases h : r.val < 2
  · rw [dif_pos h]
    exact (hz _).trans (if_neg (by omega)).symm
  · rw [dif_neg h]
    exact (hg ⟨r.val - 2, by omega⟩ k).trans (if_pos (by omega)).symm

theorem back3_at (r : Fin 8192) (k : Fin 1536) : val_main_v27 (F := Ideal) X (ix2 r k) = (args X W D).back 3 r k := by
  have hz : ∀ i, val_main_v25 (F := Ideal) i = 0 := fun i => by pointwise [val_main_v25, val_main_cst_4]
  have hg : ∀ (e : Fin 8189) (k : Fin 1536), val_main_v26 (F := Ideal) X (ix2 e k) = (args X W D).x e k := fun e k => by
    pointwise [val_main_v26]
    exact x_at X W D _ k
  pointwise [val_main_v27]
  unfold Args.back
  by_cases h : r.val < 3
  · rw [dif_pos h]
    exact (hz _).trans (if_neg (by omega)).symm
  · rw [dif_neg h]
    exact (hg ⟨r.val - 3, by omega⟩ k).trans (if_pos (by omega)).symm

/-- The reference adds the tap of the row itself last. -/
theorem taps_order (a b e f : EReal) : 0 + a + b + e + f = f + a + b + e := by
  rw [zero_add, add_comm _ f, ← add_assoc, ← add_assoc]

theorem conv_at (r : Fin 8192) (k : Fin 1536) : val_main_v37 (F := Ideal) X W (ix2 r k) = (args X W D).conv r k := by
  pointwise [val_main_v37, val_main_v36, val_main_v35, val_main_v34, val_main_v33, val_main_v32, val_main_v31, val_main_v30,
    val_main_v29, val_main_v24, val_main_v23, val_main_v22, val_main_v21, val_main_v20, val_main_v19, val_main_v14, val_main_v13,
    val_main_v12, val_main_v11, val_main_v10, val_main_cst_1, val_main_v9, val_main_v8, val_main_v3, val_main_v2, val_main_v1]
  rw [x_at X W D, back1_at X W D, back2_at X W D, back3_at X W D, tap_at X W D, tap_at X W D, tap_at X W D, tap_at X W D]
  unfold Args.conv
  rw [Args.back_zero]
  first | exact taps_order _ _ _ _ | exact (congrArg (· + _ + _ + _) (zero_add _).symm).trans (taps_order _ _ _ _)

theorem sig_at (r : Fin 8192) (k : Fin 1536) : val_main_v38_2 (F := Ideal) X W (ix2 r k) = (args X W D).sig r k := by
  pointwise [val_main_v38_2, val_main_call0_v4, val_main_call0_cst_0, val_main_call0_v3, val_main_call0_v2, val_main_call0_cst,
    val_main_call0_v1, val_main_call0_v0]
  rw [conv_at X W D]
  unfold Args.sig
  rw [zero_sub]

theorem act_of (r : Fin 8192) (k : Fin 1536) (n : ℕ) (h : k.val = n) :
    val_main_v38_0 (F := Ideal) X W (ix2 r k) = (args X W D).act r n := by
  pointwise [val_main_v38_0]
  rw [conv_at X W D, sig_at X W D, h]
  rfl

theorem d_of (r : Fin 8192) (k : Fin 1536) (n : ℕ) (h : k.val = n) : D (ix2 r k) = (args X W D).d r n :=
  h ▸ (at2_ix2 D r.isLt k.isLt).symm

/-- The gradient by a column of a head, as the reference has it. -/
theorem head_of {r c : ℕ} {x y : EReal} {f g : Fin 128 → EReal} (hc : c < 1024) (hx : x = (args X W D).act r c)
    (hy : y = (args X W D).d r c) (hf : ∀ k : Fin 128, f k = (args X W D).act r (c / 128 * 128 + k.val))
    (hg : ∀ k : Fin 128, g k = (args X W D).d r (c / 128 * 128 + k.val)) :
    y * Ideal.rsqrt ((∑ j, f j * f j) + eps)
        + x * ((∑ j, f j * g j) * (Norm.minusHalf * Ideal.div (Ideal.rsqrt ((∑ j, f j * f j) + eps)) ((∑ j, f j * f j) + eps)))
        + (∑ j, f j * g j) * (Norm.minusHalf * Ideal.div (Ideal.rsqrt ((∑ j, f j * f j) + eps)) ((∑ j, f j * f j) + eps)) * x
      = (args X W D).dact r c := by
  obtain rfl : f = (args X W D).head r c := funext hf
  obtain rfl : g = (args X W D).dhead r c := funext hg
  rw [hx, hy, Args.dact, if_pos hc]
  exact head_eq _ _ _ _

theorem query_at (r : Fin 8192) (h : Fin 4) (k : Fin 128) (c : ℕ) (hc : 128 * h.val + k.val = c) :
    val_main_v98 (F := Ideal) X W D (ix3 r h k) = (args X W D).dact r c := by
  pointwise [val_main_v98, val_main_v97, val_main_v96, val_main_v95, val_main_v94, val_main_v93, val_main_cst_15, val_main_v92, val_main_v91,
    val_main_v90, val_main_v89, val_main_v88, val_main_cst_14, val_main_v87, val_main_v73, val_main_v69, val_main_v51, val_main_v50,
    val_main_cst_8, val_main_v49, val_main_v48, val_main_v47, val_main_v46, val_main_cst_7, val_main_v45, val_main_v44, val_main_cst_6,
    val_main_v43, val_main_v42, val_main_v39]
  simp only [Fin.sum_univ_one]
  exact head_of X W D (by omega) (act_of X W D _ _ _ (by dsimp only; omega)) (d_of X W D _ _ _ (by dsimp only; omega))
    (fun x => act_of X W D _ _ _ (by dsimp only; omega)) fun x => d_of X W D _ _ _ (by dsimp only; omega)

theorem key_at (r : Fin 8192) (h : Fin 4) (k : Fin 128) (c : ℕ) (hc : 512 + 128 * h.val + k.val = c) :
    val_main_v85 (F := Ideal) X W D (ix3 r h k) = (args X W D).dact r c := by
  pointwise [val_main_v85, val_main_v84, val_main_v83, val_main_v82, val_main_v81, val_main_v80, val_main_cst_13, val_main_v79, val_main_v78,
    val_main_v77, val_main_v76, val_main_v75, val_main_cst_12, val_main_v74, val_main_v72, val_main_v70, val_main_v63, val_main_v62,
    val_main_cst_11, val_main_v61, val_main_v60, val_main_v59, val_main_v58, val_main_cst_10, val_main_v57, val_main_v56, val_main_cst_9,
    val_main_v55, val_main_v54, val_main_v40]
  simp only [Fin.sum_univ_one]
  exact head_of X W D (by omega) (act_of X W D _ _ _ (by dsimp only; omega)) (d_of X W D _ _ _ (by dsimp only; omega))
    (fun x => act_of X W D _ _ _ (by dsimp only; omega)) fun x => d_of X W D _ _ _ (by dsimp only; omega)

theorem dact_at (r : Fin 8192) (k : Fin 1536) : val_main_v100 (F := Ideal) X W D (ix2 r k) = (args X W D).dact r k := by
  pointwise [val_main_v100, val_main_v99, val_main_v86, val_main_v71]
  by_cases h0 : k.val < 512
  · rw [dif_pos h0]
    exact query_at X W D _ _ _ _ (by dsimp only; omega)
  rw [dif_neg h0]
  by_cases h1 : k.val - 512 < 512
  · rw [dif_pos h1]
    exact key_at X W D _ _ _ _ (by dsimp only; omega)
  · rw [dif_neg h1]
    exact (d_of X W D _ _ k.val (by dsimp only; omega)).trans (if_neg (by omega)).symm

variable {X W D}
variable (hd : ∀ r c, ∃ v : ℝ, (args X W D).d r c = v)

include hd

theorem dconv_at (r : Fin 8192) (k : Fin 1536) : val_main_v101 (F := Ideal) X W D (ix2 r k) = (args X W D).dconv r k := by
  pointwise [val_main_v101, val_main_call1_v2, val_main_call1_v1, val_main_call1_v0, val_main_v38_1, val_main_call0_v7, val_main_call0_v6,
    val_main_call0_cst_1]
  rw [conv_at X W D, sig_at X W D, dact_at X W D]
  exact gate_eq _ _ (Args.dact_real _ hd r k)

/-- What the row below adds. -/
theorem dx1_at (r : Fin 8192) (k : Fin 1536) :
    val_main_v143 (F := Ideal) X W D (ix2 r k) = (args X W D).w 2 k * (args X W D).dconv (r.val + 1) k := by
  pointwise [val_main_v143, val_main_cst_28, val_main_v142, val_main_v137, val_main_v136, val_main_v3, val_main_v2, val_main_v1]
  by_cases h : r.val < 8191
  · rw [dif_pos h, dconv_at hd, tap_at X W D]
    exact congrArg (fun x => _ * (args X W D).dconv x k) (Nat.add_comm 1 r.val)
  · rw [dif_neg h, dconv_of_le _ _ _ _ (by show 8192 ≤ _; omega), mul_zero]

/-- What the row two below adds. -/
theorem dx2_at (r : Fin 8192) (k : Fin 1536) :
    val_main_v130 (F := Ideal) X W D (ix2 r k) = (args X W D).w 1 k * (args X W D).dconv (r.val + 2) k := by
  pointwise [val_main_v130, val_main_cst_24, val_main_v129, val_main_v124, val_main_v123, val_main_v14, val_main_v13, val_main_v12]
  by_cases h : r.val < 8190
  · rw [dif_pos h, dconv_at hd, tap_at X W D]
    exact congrArg (fun x => _ * (args X W D).dconv x k) (Nat.add_comm 2 r.val)
  · rw [dif_neg h, dconv_of_le _ _ _ _ (by show 8192 ≤ _; omega), mul_zero]

/-- What the row three below adds. -/
theorem dx3_at (r : Fin 8192) (k : Fin 1536) :
    val_main_v117 (F := Ideal) X W D (ix2 r k) = (args X W D).w 0 k * (args X W D).dconv (r.val + 3) k := by
  pointwise [val_main_v117, val_main_cst_20, val_main_v116, val_main_v111, val_main_v110, val_main_v24, val_main_v23, val_main_v22]
  by_cases h : r.val < 8189
  · rw [dif_pos h, dconv_at hd, tap_at X W D]
    exact congrArg (fun x => _ * (args X W D).dconv x k) (Nat.add_comm 3 r.val)
  · rw [dif_neg h, dconv_of_le _ _ _ _ (by show 8192 ≤ _; omega), mul_zero]

omit hd in
/-- The reference adds the first tap's term before the later ones'. -/
theorem dx_order (a b e f : EReal) : a + f + e + b = a + b + e + f := by
  rw [add_right_comm (a + f) e b, add_right_comm a f b, add_right_comm (a + b) f e]

theorem dx_at (r : Fin 8192) (k : Fin 1536) : val_main_v149 (F := Ideal) X W D (ix2 r k) = (args X W D).dx r k := by
  pointwise [val_main_v149, val_main_v144, val_main_v131, val_main_v118, val_main_v103, val_main_v102, val_main_v34, val_main_v33,
    val_main_v32]
  rw [dx1_at hd, dx2_at hd, dx3_at hd, dconv_at hd, tap_at X W D]
  exact dx_order _ _ _ _

theorem dw_at (r : Fin 8) (k : Fin 1536) : val_main_v150 (F := Ideal) X W D (ix2 r k)
    = if r.val = 0 then (args X W D).dw 3 k else if r.val = 1 then (args X W D).dw 2 k
      else if r.val = 2 then (args X W D).dw 1 k else if r.val = 3 then (args X W D).dw 0 k else 0 := by
  have h0 : ∑ x : Fin 8192, val_main_v104 (F := Ideal) X W D (ix2 x k) = (args X W D).dw 0 k :=
    Finset.sum_congr rfl fun x _ => by
      pointwise [val_main_v104]
      rw [x_at X W D, dconv_at hd, Args.dtap, Args.back_zero]
  have h1 : ∑ x : Fin 8192, val_main_v138 (F := Ideal) X W D (ix2 x k) = (args X W D).dw 1 k :=
    Finset.sum_congr rfl fun x _ => by
      pointwise [val_main_v138]
      rw [back1_at X W D, dconv_at hd, Args.dtap]
  have h2 : ∑ x : Fin 8192, val_main_v125 (F := Ideal) X W D (ix2 x k) = (args X W D).dw 2 k :=
    Finset.sum_congr rfl fun x _ => by
      pointwise [val_main_v125]
      rw [back2_at X W D, dconv_at hd, Args.dtap]
  have h3 : ∑ x : Fin 8192, val_main_v112 (F := Ideal) X W D (ix2 x k) = (args X W D).dw 3 k :=
    Finset.sum_congr rfl fun x _ => by
      pointwise [val_main_v112]
      rw [back3_at X W D, dconv_at hd, Args.dtap]
  pointwise [val_main_v150, val_main_call2_v0, val_main_c, val_main_v148, val_main_v147, val_main_cst_30, val_main_v146, val_main_v145,
    val_main_cst_29, val_main_v140, val_main_v139, val_main_cst_27, val_main_v135, val_main_v134, val_main_cst_26, val_main_v133,
    val_main_v132, val_main_cst_25, val_main_v127, val_main_v126, val_main_cst_23, val_main_v122, val_main_v121, val_main_cst_22,
    val_main_v120, val_main_v119, val_main_cst_21, val_main_v114, val_main_v113, val_main_cst_19, val_main_v109, val_main_cst_18,
    val_main_v108, val_main_v107, val_main_cst_17, val_main_v106, val_main_v105, val_main_cst_16]
  simp only [Fin.sum_univ_one]
  rw [h0, h1, h2, h3]
  by_cases e0 : r.val = 0
  · rw [dif_pos (by omega), dif_neg (by omega), dif_pos (by omega), dif_neg (by omega), dif_neg (by omega), if_pos e0, zero_add,
      add_zero, add_zero]
  rw [if_neg e0]
  by_cases e1 : r.val = 1
  · rw [dif_pos (by omega), dif_neg (by omega), dif_neg (by omega), dif_pos (by omega), dif_neg (by omega), if_pos e1, zero_add,
      zero_add, add_zero]
  rw [if_neg e1]
  by_cases e2 : r.val = 2
  · rw [dif_pos (by omega), dif_neg (by omega), dif_neg (by omega), dif_neg (by omega), dif_pos (by omega), if_pos e2, zero_add,
      zero_add, zero_add]
  rw [if_neg e2]
  by_cases e3 : r.val = 3
  · rw [dif_pos (by omega), dif_pos (by omega), dif_neg (by omega), dif_neg (by omega), dif_neg (by omega), if_pos e3, add_zero,
      add_zero, add_zero]
  rw [if_neg e3, dif_neg (by omega)]
  show (((0#32 : BitVec 32).toInt : ℝ) : EReal) = 0
  simp

theorem input_eq : val_main_v149 (F := Ideal) X W D = gradInput (args X W D) := by
  funext i
  obtain ⟨r, k, rfl⟩ : ∃ (r : Fin 8192) (k : Fin 1536), i = ix2 r k := ⟨i 0, i 1, eq_ix2 i⟩
  exact dx_at hd r k

theorem taps_eq : val_main_v150 (F := Ideal) X W D = gradTaps (args X W D) := by
  funext i
  obtain ⟨r, k, rfl⟩ : ∃ (r : Fin 8) (k : Fin 1536), i = ix2 r k := ⟨i 0, i 1, eq_ix2 i⟩
  exact dw_at hd r k

omit hd

/-- A number whose absolute value compares below infinity is real. -/
theorem real_of_abs_lt {x : EReal} (h : Ideal.cmp .olt (max x (-x)) (Ideal.ofBits .f32 0x7F800000#32) = 1#1) :
    ∃ v : ℝ, x = v := by
  have htop : Ideal.ofBits .f32 0x7F800000#32 = (⊤ : EReal) := by simp [Ideal.ofBits, Ideal.ieee]
  rw [htop] at h
  induction x with
  | bot => simp [Ideal.cmp] at h
  | top => simp [Ideal.cmp] at h
  | coe v => exact ⟨v, rfl⟩

/-- The precondition says that the incoming gradient is real. -/
theorem real_of_pre (X : (⟨2, ![8192, 2688]⟩ : Shape).Idx → EReal) (W : (⟨2, ![4, 1536]⟩ : Shape).Idx → EReal)
    (D : (⟨2, ![8192, 1536]⟩ : Shape).Idx → EReal) (h : Cert.Pre_finite_conv.fn (F := Ideal) X W D = fun _ => 1#1) (r c : ℕ) :
    ∃ v : ℝ, (args X W D).d r c = v := by
  show ∃ v : ℝ, at2 D r c = v
  by_cases hr : r < 8192 ∧ c < 1536
  · obtain ⟨v, hv⟩ : ∃ v : ℝ, D (ix2 ⟨r, hr.1⟩ ⟨c, hr.2⟩) = v := real_of_abs_lt (congrFun h (ix2 ⟨r, hr.1⟩ ⟨c, hr.2⟩))
    exact ⟨v, (at2_ix2 D hr.1 hr.2).trans hv⟩
  · exact ⟨0, dif_neg hr⟩

end Cert.HeadConv.BwdRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Pre_finite
public import proofs.«01_k».proof.Proof.Gen.Pre_finite_attention
public import proofs.«01_k».proof.Proof.Gen.Kernel6Ideal.Value
public import proofs.«01_k».proof.Proof.Gen.Kernel6Ideal.Frame
public import proofs.«01_k».proof.Proof.Gen.Kernel6.Frame
public import proofs.«01_k».proof.Proof.Gen.Reference6Ideal.Read
public import proofs.«01_k».proof.Proof.Gen.Kernel7Ideal.Value
public import proofs.«01_k».proof.Proof.Gen.Kernel7Ideal.Frame
public import proofs.«01_k».proof.Proof.Gen.Kernel7.Frame
public import proofs.«01_k».proof.Proof.Gen.Reference7Ideal.Read
public import proofs.«01_k».proof.Proof.Gen.Kernel8Ideal.Value
public import proofs.«01_k».proof.Proof.Gen.Kernel8.Frame
public import proofs.«01_k».proof.Proof.Gen.Reference8Ideal.Read
public import proofs.«01_k».proof.Proof.Gen.Kernel9Ideal.Value
public import proofs.«01_k».proof.Proof.Gen.Kernel9.Frame
public import proofs.«01_k».proof.Proof.Gen.Reference9Ideal.Read
public import proofs.«01_k».proof.Proof.Gen.Kernel10Ideal.Value
public import proofs.«01_k».proof.Proof.Gen.Kernel10.Frame
public import proofs.«01_k».proof.Proof.Gen.Reference10Ideal.Read
public import proofs.«01_k».proof.Proof.Gen.Kernel11Ideal.Value
public import proofs.«01_k».proof.Proof.Gen.Kernel11.Frame
public import proofs.«01_k».proof.Proof.Gen.Reference11Ideal.Read
public import proofs.«01_k».proof.Proof.Gen.Kernel12Ideal.Value
public import proofs.«01_k».proof.Proof.Gen.Kernel12.Frame
public import proofs.«01_k».proof.Proof.Gen.Reference12Ideal.Read
public import proofs.«01_k».proof.Proof.Gen.Kernel13Ideal.Value
public import proofs.«01_k».proof.Proof.Gen.Kernel13.Frame
public import proofs.«01_k».proof.Proof.Gen.Reference13Ideal.Read
public import proofs.«01_k».proof.Proof.Gen.Kernel14Ideal.Value
public import proofs.«01_k».proof.Proof.Gen.Kernel14.Frame
public import proofs.«01_k».proof.Proof.Gen.Reference14Ideal.Read
public import proofs.«01_k».proof.Proof.Gen.Kernel15Ideal.Value
public import proofs.«01_k».proof.Proof.Gen.Kernel15.Frame
public import proofs.«01_k».proof.Proof.Gen.Reference15Ideal.Read
public import proofs.«01_k».proof.Proof.Gen.Kernel16Ideal.Value
public import proofs.«01_k».proof.Proof.Gen.Kernel16.Frame
public import proofs.«01_k».proof.Proof.Gen.Reference16Ideal.Read
public import proofs.«01_k».proof.Proof.Gen.Kernel17Ideal.Value
public import proofs.«01_k».proof.Proof.Gen.Kernel17.Frame
public import proofs.«01_k».proof.Proof.Gen.Reference17Ideal.Read
public import proofs.«01_k».proof.Proof.Gen.Kernel18Ideal.Value
public import proofs.«01_k».proof.Proof.Gen.Kernel18.Frame
public import proofs.«01_k».proof.Proof.Gen.Reference18Ideal.Read
public import proofs.«01_k».proof.Proof.Gen.Kernel19Ideal.Value
public import proofs.«01_k».proof.Proof.Gen.Kernel19.Frame
public import proofs.«01_k».proof.Proof.Gen.Reference19Ideal.Read
public import proofs.«01_k».proof.Proof.Gen.Kernel20Ideal.Value
public import proofs.«01_k».proof.Proof.Gen.Kernel20.Frame
public import proofs.«01_k».proof.Proof.Gen.Reference20Ideal.Read
public import proofs.«01_k».proof.Proof.Gen.Kernel21Ideal.Value
public import proofs.«01_k».proof.Proof.Gen.Kernel21.Frame
public import proofs.«01_k».proof.Proof.Gen.Reference21Ideal.Read
public import proofs.«01_k».proof.Proof.Gen.Kernel22Ideal.Value
public import proofs.«01_k».proof.Proof.Gen.Kernel22.Frame
public import proofs.«01_k».proof.Proof.Gen.Reference22Ideal.Read
public import proofs.«01_k».proof.Proof.Gen.Kernel23Ideal.Value
public import proofs.«01_k».proof.Proof.Gen.Kernel23.Frame
public import proofs.«01_k».proof.Proof.Gen.Reference23Ideal.Read
public import proofs.«01_k».proof.Proof.Gen.Kernel24Ideal.Value
public import proofs.«01_k».proof.Proof.Gen.Kernel24.Frame
public import proofs.«01_k».proof.Proof.Gen.Reference24Ideal.Read
public import proofs.«01_k».proof.Proof.Gen.Kernel25Ideal.Value
public import proofs.«01_k».proof.Proof.Gen.Kernel25.Frame
public import proofs.«01_k».proof.Proof.Gen.Reference25Ideal.Read
public import proofs.«01_k».proof.Proof.Gen.Kernel26Ideal.Value
public import proofs.«01_k».proof.Proof.Gen.Kernel26.Frame
public import proofs.«01_k».proof.Proof.Gen.Reference26Ideal.Read
public import proofs.«01_k».proof.Proof.Gen.Kernel27Ideal.Value
public import proofs.«01_k».proof.Proof.Gen.Kernel27.Frame
public import proofs.«01_k».proof.Proof.Gen.Reference27Ideal.Read
public import proofs.«01_k».proof.Proof.Gen.Kernel28Ideal.Value
public import proofs.«01_k».proof.Proof.Gen.Kernel28.Frame
public import proofs.«01_k».proof.Proof.Gen.Reference28Ideal.Read
public import proofs.«01_k».proof.Proof.Gen.Kernel29Ideal.Value
public import proofs.«01_k».proof.Proof.Gen.Kernel29Ideal.Frame
public import proofs.«01_k».proof.Proof.Gen.Kernel29.Frame
public import proofs.«01_k».proof.Proof.Gen.Reference29Ideal.Read
public import proofs.«01_k».proof.Proof.Gen.Kernel30Ideal.Value
public import proofs.«01_k».proof.Proof.Gen.Kernel30Ideal.Frame
public import proofs.«01_k».proof.Proof.Gen.Kernel30.Frame
public import proofs.«01_k».proof.Proof.Gen.Reference30Ideal.Read
public import proofs.«01_k».proof.Proof.Gen.Pre_finite_conv
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.UpDa
public import proofs.«01_k».proof.Proof.UpDw
public import proofs.«01_k».proof.Proof.DownDa
public import proofs.«01_k».proof.Proof.DownDw
public import proofs.«01_k».proof.Proof.OddInDa
public import proofs.«01_k».proof.Proof.OddInDw
public import proofs.«01_k».proof.Proof.OddOutDa
public import proofs.«01_k».proof.Proof.OutDw
public import proofs.«01_k».proof.Proof.EvenInDa
public import proofs.«01_k».proof.Proof.EvenInDw
public import proofs.«01_k».proof.Proof.EvenOutDa
public import proofs.«01_k».proof.Proof.AttQ
public import proofs.«01_k».proof.Proof.AttKv
public import proofs.«01_k».proof.Proof.Up
public import proofs.«01_k».proof.Proof.Down
public import proofs.«01_k».proof.Proof.OddIn
public import proofs.«01_k».proof.Proof.OddOut
public import proofs.«01_k».proof.Proof.EvenIn
public import proofs.«01_k».proof.Proof.EvenOut
public import proofs.«01_k».proof.Proof.EvenOutDw
public import proofs.«01_k».proof.Proof.Equation
public import proofs.«01_k».proof.Proof.NormOuts
public import proofs.«01_k».proof.Proof.NormRef
public import proofs.«01_k».proof.Proof.MidFwdRef
public import proofs.«01_k».proof.Proof.NormPlain
public import proofs.«01_k».proof.Proof.NormPlainRef
public import proofs.«01_k».proof.Proof.Residual
public import proofs.«01_k».proof.Proof.ResNorm
public import proofs.«01_k».proof.Proof.ModNorm
public import proofs.«01_k».proof.Proof.ResidualFwd
public import proofs.«01_k».proof.Proof.HeadConvFwd
public import proofs.«01_k».proof.Proof.HeadConvFwdRef
public import proofs.«01_k».proof.Proof.HeadConvOuts
public import proofs.«01_k».proof.Proof.HeadConvBwdRef
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference leaves its arguments unchanged; it has no semaphore. -/
theorem ffn_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

/-- The kernel's three gradients are the reference's. -/
theorem ffn_gradients : Cert.algebraic_KernelIdeal_ReferenceIdeal_pre_finite := by
  intro m g m' g' hpre hagree
  have hf (c) := FfnMid.finite_of_pre _ _ _ _ (hpre c)
  refine ⟨fun c => FfnMid.gradUp (FfnMid.inputs m c), fun c => FfnMid.gradTaps (FfnMid.inputs m c),
    fun c => FfnMid.gradBias (FfnMid.inputs m c), ?_, ?_⟩
  · refine θ_run_mono (Cert.KernelIdeal.Value.run_blocks (F := Ideal) m g) fun r h c => ?_
    obtain ⟨h0, h1, h2, hargs⟩ := h c
    exact ⟨h0.trans (FfnMid.arr_up m c), h1.trans (FfnMid.arr_taps m c), h2.trans (FfnMid.arr_bias m c), hargs⟩
  · refine θ_run_mono (Cert.ReferenceIdeal.Value.run (F := Ideal) m' g') fun r h c => ?_
    obtain ⟨h0, h1, h2, hargs⟩ := h c
    obtain ⟨a0, a1, a2, a3⟩ := hagree c
    refine ⟨h0.trans ?_, h1.trans ?_, h2.trans ?_, hargs⟩
    · rw [Cert.ReferenceIdeal.Read.val_main_v79_eq, a0, a1, a2, a3]
      exact (FfnMid.up_eq (hf c)).symm
    · rw [Cert.ReferenceIdeal.Read.val_main_v80_eq, a0, a1, a2, a3]
      exact (FfnMid.taps_eq (hf c)).symm
    · rw [Cert.ReferenceIdeal.Read.val_main_v81_eq, a0, a1, a2, a3]
      exact (FfnMid.bias_eq (hf c)).symm

theorem upInput_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The gradient by the layer's input: the kernel's is the reference's. -/
theorem upInput_gradient : Cert.algebraic_Kernel2Ideal_Reference2Ideal := by
  intro m g m' g' _ hagree
  refine ⟨fun c => Products.upInput (UpDa.dup m c) (UpDa.w m c), ?_, ?_⟩
  · refine θ_run_mono (Cert.Kernel2Ideal.Value.run_blocks (F := Ideal) m g) fun r h c => ?_
    obtain ⟨h0, hargs⟩ := h c
    exact ⟨h0.trans (UpDa.arr m c), hargs⟩
  · refine θ_run_mono (Cert.Reference2Ideal.Value.run (F := Ideal) m' g') fun r h c => ?_
    obtain ⟨h0, hargs⟩ := h c
    obtain ⟨a0, a1⟩ := hagree c
    refine ⟨h0.trans ?_, hargs⟩
    rw [Cert.Reference2Ideal.Read.val_main_v14_eq, a0, a1]
    exact UpDa.Ref.out_eq _ _

theorem upWeights_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

/-- The gradient by the first weights: the kernel's is the reference's. -/
theorem upWeights_gradient : Cert.algebraic_Kernel3Ideal_Reference3Ideal := by
  intro m g m' g' _ hagree
  refine ⟨fun c => Products.upWeights (UpDw.act m c) (UpDw.dup m c), ?_, ?_⟩
  · refine θ_run_mono (Cert.Kernel3Ideal.Value.run_blocks (F := Ideal) m g) fun r h c => ?_
    obtain ⟨h0, hargs⟩ := h c
    exact ⟨h0.trans (UpDw.arr m c), hargs⟩
  · refine θ_run_mono (Cert.Reference3Ideal.Value.run (F := Ideal) m' g') fun r h c => ?_
    obtain ⟨h0, hargs⟩ := h c
    obtain ⟨a0, a1⟩ := hagree c
    refine ⟨h0.trans ?_, hargs⟩
    rw [Cert.Reference3Ideal.Read.val_main_v38_eq, a0, a1]
    exact UpDw.Ref.out_eq _ _

theorem downInput_reference : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The gradient by the activations: the kernel's is the reference's. -/
theorem downInput_gradient : Cert.algebraic_Kernel4Ideal_Reference4Ideal := by
  intro m g m' g' _ hagree
  refine ⟨fun c => Products.downInput (DownDa.df m c) (DownDa.w m c), ?_, ?_⟩
  · refine θ_run_mono (Cert.Kernel4Ideal.Value.run_blocks (F := Ideal) m g) fun r h c => ?_
    obtain ⟨h0, hargs⟩ := h c
    exact ⟨h0.trans (DownDa.arr m c), hargs⟩
  · refine θ_run_mono (Cert.Reference4Ideal.Value.run (F := Ideal) m' g') fun r h c => ?_
    obtain ⟨h0, hargs⟩ := h c
    obtain ⟨a0, a1⟩ := hagree c
    refine ⟨h0.trans ?_, hargs⟩
    rw [Cert.Reference4Ideal.Read.val_main_v5_eq, a0, a1]
    exact DownDa.Ref.out_eq _ _

theorem downWeights_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

/-- The gradient by the second weights: the kernel's is the reference's. -/
theorem downWeights_gradient : Cert.algebraic_Kernel5Ideal_Reference5Ideal := by
  intro m g m' g' _ hagree
  refine ⟨fun c => Products.downWeights (DownDw.act m c) (DownDw.df m c), ?_, ?_⟩
  · refine θ_run_mono (Cert.Kernel5Ideal.Value.run_blocks (F := Ideal) m g) fun r h c => ?_
    obtain ⟨h0, hargs⟩ := h c
    exact ⟨h0.trans (DownDw.arr m c), hargs⟩
  · refine θ_run_mono (Cert.Reference5Ideal.Value.run (F := Ideal) m' g') fun r h c => ?_
    obtain ⟨h0, hargs⟩ := h c
    obtain ⟨a0, a1⟩ := hagree c
    refine ⟨h0.trans ?_, hargs⟩
    rw [Cert.Reference5Ideal.Read.val_main_v28_eq, a0, a1]
    exact DownDw.Ref.out_eq _ _

/-- The precondition of the attention's gradient says that its four arguments are real. -/
theorem real_of_finite (Q K V : (⟨2, ![8192, 3072]⟩ : Shape).Idx → EReal) (D : (⟨2, ![8192, 1024]⟩ : Shape).Idx → EReal)
    (h : (Cert.Pre_finite_attention.fn (F := Ideal) Q K V D).1 = (fun _ => 1#1)
      ∧ (Cert.Pre_finite_attention.fn (F := Ideal) Q K V D).2.1 = (fun _ => 1#1)
      ∧ (Cert.Pre_finite_attention.fn (F := Ideal) Q K V D).2.2.1 = (fun _ => 1#1)
      ∧ (Cert.Pre_finite_attention.fn (F := Ideal) Q K V D).2.2.2 = fun _ => 1#1) :
    (∀ i, Att.IsReal (Q i)) ∧ (∀ i, Att.IsReal (K i)) ∧ (∀ i, Att.IsReal (V i)) ∧ ∀ i, Att.IsReal (D i) :=
  ⟨fun i => Att.isReal_of_abs_lt (congrFun h.1 i), fun i => Att.isReal_of_abs_lt (congrFun h.2.1 i),
    fun i => Att.isReal_of_abs_lt (congrFun h.2.2.1 i), fun i => Att.isReal_of_abs_lt (congrFun h.2.2.2 i)⟩

theorem queries_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

/-- The attention's gradient by its queries: the kernel's is the reference's. -/
theorem queries_gradient : Cert.algebraic_Kernel6Ideal_Reference6Ideal_pre_finite_attention := by
  intro m g m' g' hpre hagree
  have H (c) := real_of_finite _ _ _ _ (hpre c)
  refine ⟨fun c => Cert.Reference6Ideal.Read.val_main_v170 (F := Ideal) (AttQ.x0 m c) (AttQ.x1 m c) (AttQ.x2 m c) (AttQ.x3 m c), ?_, ?_⟩
  · refine θ_run_mono (Cert.Kernel6Ideal.Value.run_blocks (F := Ideal) m g) fun r h c => ?_
    obtain ⟨h0, hargs⟩ := h c
    exact ⟨h0.trans (AttQ.arr ⟨(H c).1, (H c).2.1, (H c).2.2.1, (H c).2.2.2⟩), hargs⟩
  · refine θ_run_mono (Cert.Reference6Ideal.Value.run (F := Ideal) m' g') fun r h c => ?_
    obtain ⟨h0, hargs⟩ := h c
    obtain ⟨a0, a1, a2, a3⟩ := hagree c
    refine ⟨h0.trans ?_, hargs⟩
    exact (Cert.Reference6Ideal.Read.val_main_v170_eq _).trans (congr (congr (congr (congrArg _ a0) a1) a2) a3)

theorem keysValues_reference : Cert.quiescent_Reference7Ideal := fun m ρ _ =>
  (θ_run Cert.Reference7Ideal.defs _ _).mono
    (fun r h => ⟨fun c => (h c).2.2, sem_eq_zero_of_no_sems (by decide) r.2⟩) (Cert.Reference7Ideal.Value.run (F := Ideal) m ρ)

/-- The attention's gradients by its keys and its values: the kernel's are the reference's. -/
theorem keysValues_gradient : Cert.algebraic_Kernel7Ideal_Reference7Ideal_pre_finite_attention := by
  intro m g m' g' hpre hagree
  have H (c) := real_of_finite _ _ _ _ (hpre c)
  refine ⟨fun c => Cert.Reference7Ideal.Read.val_main_v172 (F := Ideal) (AttKv.x0 m c) (AttKv.x1 m c) (AttKv.x2 m c) (AttKv.x3 m c),
    fun c => Cert.Reference7Ideal.Read.val_main_v174 (F := Ideal) (AttKv.x0 m c) (AttKv.x1 m c) (AttKv.x2 m c) (AttKv.x3 m c), ?_, ?_⟩
  · refine θ_run_mono (Cert.Kernel7Ideal.Value.run_blocks (F := Ideal) m g) fun r h c => ?_
    obtain ⟨h0, h1, hargs⟩ := h c
    exact ⟨h0.trans (AttKv.arr_keys ⟨(H c).1, (H c).2.1, (H c).2.2.1, (H c).2.2.2⟩),
      h1.trans (AttKv.arr_values ⟨(H c).1, (H c).2.1, (H c).2.2.1, (H c).2.2.2⟩), hargs⟩
  · refine θ_run_mono (Cert.Reference7Ideal.Value.run (F := Ideal) m' g') fun r h c => ?_
    obtain ⟨h0, h1, hargs⟩ := h c
    obtain ⟨a0, a1, a2, a3⟩ := hagree c
    refine ⟨h0.trans ?_, h1.trans ?_, hargs⟩
    · exact (Cert.Reference7Ideal.Read.val_main_v172_eq _).trans (congr (congr (congr (congrArg _ a0) a1) a2) a3)
    · exact (Cert.Reference7Ideal.Read.val_main_v174_eq _).trans (congr (congr (congr (congrArg _ a0) a1) a2) a3)

theorem oddInDa_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run (F := Ideal) m ρ)

/-- The gradient by the input of the odd layers' first projection: the kernel's is the reference's. -/
theorem oddInDa_gradient : Cert.algebraic_Kernel8Ideal_Reference8Ideal := by
  intro m g m' g' _ hagree
  refine ⟨fun c => Products.byInput (OddInDa.dy m c) (OddInDa.w m c), ?_, ?_⟩
  · refine θ_run_mono (Cert.Kernel8Ideal.Value.run_blocks (F := Ideal) m g) fun r h c => ?_
    obtain ⟨h0, hargs⟩ := h c
    exact ⟨h0.trans (OddInDa.arr m c), hargs⟩
  · refine θ_run_mono (Cert.Reference8Ideal.Value.run (F := Ideal) m' g') fun r h c => ?_
    obtain ⟨h0, hargs⟩ := h c
    obtain ⟨a0, a1⟩ := hagree c
    refine ⟨h0.trans ?_, hargs⟩
    rw [Cert.Reference8Ideal.Read.val_main_v4_eq, a0, a1]
    exact OddInDa.Ref.out_eq _ _

theorem oddInDw_reference : Cert.quiescent_Reference9Ideal := fun m ρ _ =>
  (θ_run Cert.Reference9Ideal.defs _ _).mono
    (fun r h => ⟨fun c => (h c).2, sem_eq_zero_of_no_sems (by decide) r.2⟩) (Cert.Reference9Ideal.Value.run (F := Ideal) m ρ)

/-- The gradient by the weights of the odd layers' first projection: the kernel's is the reference's. -/
theorem oddInDw_gradient : Cert.algebraic_Kernel9Ideal_Reference9Ideal := by
  intro m g m' g' _ hagree
  refine ⟨fun c => Products.byWeights (OddInDw.x m c) (OddInDw.dy m c), ?_, ?_⟩
  · refine θ_run_mono (Cert.Kernel9Ideal.Value.run_blocks (F := Ideal) m g) fun r h c => ?_
    obtain ⟨h0, hargs⟩ := h c
    exact ⟨h0.trans (OddInDw.arr m c), hargs⟩
  · refine θ_run_mono (Cert.Reference9Ideal.Value.run (F := Ideal) m' g') fun r h c => ?_
    obtain ⟨h0, hargs⟩ := h c
    obtain ⟨a0, a1⟩ := hagree c
    refine ⟨h0.trans ?_, hargs⟩
    rw [Cert.Reference9Ideal.Read.val_main_v5_eq, a0, a1]
    exact OddInDw.Ref.out_eq _ _

theorem oddOutDa_reference : Cert.quiescent_Reference10Ideal := fun m ρ _ =>
  (θ_run Cert.Reference10Ideal.defs _ _).mono
    (fun r h => ⟨fun c => (h c).2, sem_eq_zero_of_no_sems (by decide) r.2⟩) (Cert.Reference10Ideal.Value.run (F := Ideal) m ρ)

/-- The gradient by the input of the odd layers' last projection: the kernel's is the reference's. -/
theorem oddOutDa_gradient : Cert.algebraic_Kernel10Ideal_Reference10Ideal := by
  intro m g m' g' _ hagree
  refine ⟨fun c => Products.byInput (OddOutDa.dy m c) (OddOutDa.w m c), ?_, ?_⟩
  · refine θ_run_mono (Cert.Kernel10Ideal.Value.run_blocks (F := Ideal) m g) fun r h c => ?_
    obtain ⟨h0, hargs⟩ := h c
    exact ⟨h0.trans (OddOutDa.arr m c), hargs⟩
  · refine θ_run_mono (Cert.Reference10Ideal.Value.run (F := Ideal) m' g') fun r h c => ?_
    obtain ⟨h0, hargs⟩ := h c
    obtain ⟨a0, a1⟩ := hagree c
    refine ⟨h0.trans ?_, hargs⟩
    rw [Cert.Reference10Ideal.Read.val_main_v5_eq, a0, a1]
    exact OddOutDa.Ref.out_eq _ _

theorem outDw_reference : Cert.quiescent_Reference11Ideal := fun m ρ _ =>
  (θ_run Cert.Reference11Ideal.defs _ _).mono
    (fun r h => ⟨fun c => (h c).2, sem_eq_zero_of_no_sems (by decide) r.2⟩) (Cert.Reference11Ideal.Value.run (F := Ideal) m ρ)

/-- The gradient by the weights of the odd layers' last projection: the kernel's is the reference's. -/
theorem outDw_gradient : Cert.algebraic_Kernel11Ideal_Reference11Ideal := by
  intro m g m' g' _ hagree
  refine ⟨fun c => Products.byWeightsPieces (OutDw.o m c) (OutDw.dy m c), ?_, ?_⟩
  · refine θ_run_mono (Cert.Kernel11Ideal.Value.run_blocks (F := Ideal) m g) fun r h c => ?_
    obtain ⟨h0, hargs⟩ := h c
    exact ⟨h0.trans (OutDw.arr m c), hargs⟩
  · refine θ_run_mono (Cert.Reference11Ideal.Value.run (F := Ideal) m' g') fun r h c => ?_
    obtain ⟨h0, hargs⟩ := h c
    obtain ⟨a0, a1⟩ := hagree c
    refine ⟨h0.trans ?_, hargs⟩
    rw [Cert.Reference11Ideal.Read.val_main_v27_eq, a0, a1]
    exact OutDw.Ref.out_eq _ _

theorem evenInDa_reference : Cert.quiescent_Reference12Ideal := fun m ρ _ =>
  (θ_run Cert.Reference12Ideal.defs _ _).mono
    (fun r h => ⟨fun c => (h c).2, sem_eq_zero_of_no_sems (by decide) r.2⟩) (Cert.Reference12Ideal.Value.run (F := Ideal) m ρ)

/-- The gradient by the input of the even layers' first projection: the kernel's is the reference's. -/
theorem evenInDa_gradient : Cert.algebraic_Kernel12Ideal_Reference12Ideal := by
  intro m g m' g' _ hagree
  refine ⟨fun c => Products.byInput (EvenInDa.dy m c) (EvenInDa.w m c), ?_, ?_⟩
  · refine θ_run_mono (Cert.Kernel12Ideal.Value.run_blocks (F := Ideal) m g) fun r h c => ?_
    obtain ⟨h0, hargs⟩ := h c
    exact ⟨h0.trans (EvenInDa.arr m c), hargs⟩
  · refine θ_run_mono (Cert.Reference12Ideal.Value.run (F := Ideal) m' g') fun r h c => ?_
    obtain ⟨h0, hargs⟩ := h c
    obtain ⟨a0, a1⟩ := hagree c
    refine ⟨h0.trans ?_, hargs⟩
    rw [Cert.Reference12Ideal.Read.val_main_v4_eq, a0, a1]
    exact EvenInDa.Ref.out_eq _ _

theorem evenInDw_reference : Cert.quiescent_Reference13Ideal := fun m ρ _ =>
  (θ_run Cert.Reference13Ideal.defs _ _).mono
    (fun r h => ⟨fun c => (h c).2, sem_eq_zero_of_no_sems (by decide) r.2⟩) (Cert.Reference13Ideal.Value.run (F := Ideal) m ρ)

/-- The gradient by the weights of the even layers' first projection: the kernel's is the reference's. -/
theorem evenInDw_gradient : Cert.algebraic_Kernel13Ideal_Reference13Ideal := by
  intro m g m' g' _ hagree
  refine ⟨fun c => Products.byWeights (EvenInDw.x m c) (EvenInDw.dy m c), ?_, ?_⟩
  · refine θ_run_mono (Cert.Kernel13Ideal.Value.run_blocks (F := Ideal) m g) fun r h c => ?_
    obtain ⟨h0, hargs⟩ := h c
    exact ⟨h0.trans (EvenInDw.arr m c), hargs⟩
  · refine θ_run_mono (Cert.Reference13Ideal.Value.run (F := Ideal) m' g') fun r h c => ?_
    obtain ⟨h0, hargs⟩ := h c
    obtain ⟨a0, a1⟩ := hagree c
    refine ⟨h0.trans ?_, hargs⟩
    rw [Cert.Reference13Ideal.Read.val_main_v5_eq, a0, a1]
    exact EvenInDw.Ref.out_eq _ _

theorem evenOutDa_reference : Cert.quiescent_Reference14Ideal := fun m ρ _ =>
  (θ_run Cert.Reference14Ideal.defs _ _).mono
    (fun r h => ⟨fun c => (h c).2, sem_eq_zero_of_no_sems (by decide) r.2⟩) (Cert.Reference14Ideal.Value.run (F := Ideal) m ρ)

/-- The gradient by the input of the even layers' last projection: the kernel's is the reference's. -/
theorem evenOutDa_gradient : Cert.algebraic_Kernel14Ideal_Reference14Ideal := by
  intro m g m' g' _ hagree
  refine ⟨fun c => Products.byInput (EvenOutDa.dy m c) (EvenOutDa.w m c), ?_, ?_⟩
  · refine θ_run_mono (Cert.Kernel14Ideal.Value.run_blocks (F := Ideal) m g) fun r h c => ?_
    obtain ⟨h0, hargs⟩ := h c
    exact ⟨h0.trans (EvenOutDa.arr m c), hargs⟩
  · refine θ_run_mono (Cert.Reference14Ideal.Value.run (F := Ideal) m' g') fun r h c => ?_
    obtain ⟨h0, hargs⟩ := h c
    obtain ⟨a0, a1⟩ := hagree c
    refine ⟨h0.trans ?_, hargs⟩
    rw [Cert.Reference14Ideal.Read.val_main_v4_eq, a0, a1]
    exact EvenOutDa.Ref.out_eq _ _

theorem up_reference : Cert.quiescent_Reference15Ideal := fun m ρ _ =>
  (θ_run Cert.Reference15Ideal.defs _ _).mono
    (fun r h => ⟨fun c => (h c).2, sem_eq_zero_of_no_sems (by decide) r.2⟩) (Cert.Reference15Ideal.Value.run (F := Ideal) m ρ)

/-- The first product of the feed-forward layer: the kernel's is the reference's. -/
theorem up_product : Cert.algebraic_Kernel15Ideal_Reference15Ideal := by
  intro m g m' g' _ hagree
  refine ⟨fun c => Products.product (Up.x m c) (Up.w m c), ?_, ?_⟩
  · refine θ_run_mono (Cert.Kernel15Ideal.Value.run_blocks (F := Ideal) m g) fun r h c => ?_
    obtain ⟨h0, hargs⟩ := h c
    exact ⟨h0.trans (Up.arr m c), hargs⟩
  · refine θ_run_mono (Cert.Reference15Ideal.Value.run (F := Ideal) m' g') fun r h c => ?_
    obtain ⟨h0, hargs⟩ := h c
    obtain ⟨a0, a1⟩ := hagree c
    refine ⟨h0.trans ?_, hargs⟩
    rw [Cert.Reference15Ideal.Read.val_main_v3_eq, a0, a1]
    exact Up.Ref.out_eq _ _

theorem down_reference : Cert.quiescent_Reference16Ideal := fun m ρ _ =>
  (θ_run Cert.Reference16Ideal.defs _ _).mono
    (fun r h => ⟨fun c => (h c).2, sem_eq_zero_of_no_sems (by decide) r.2⟩) (Cert.Reference16Ideal.Value.run (F := Ideal) m ρ)

/-- The second product of the feed-forward layer: the kernel's is the reference's. -/
theorem down_product : Cert.algebraic_Kernel16Ideal_Reference16Ideal := by
  intro m g m' g' _ hagree
  refine ⟨fun c => Products.product (Down.x m c) (Down.w m c), ?_, ?_⟩
  · refine θ_run_mono (Cert.Kernel16Ideal.Value.run_blocks (F := Ideal) m g) fun r h c => ?_
    obtain ⟨h0, hargs⟩ := h c
    exact ⟨h0.trans (Down.arr m c), hargs⟩
  · refine θ_run_mono (Cert.Reference16Ideal.Value.run (F := Ideal) m' g') fun r h c => ?_
    obtain ⟨h0, hargs⟩ := h c
    obtain ⟨a0, a1⟩ := hagree c
    refine ⟨h0.trans ?_, hargs⟩
    rw [Cert.Reference16Ideal.Read.val_main_v2_eq, a0, a1]
    exact Down.Ref.out_eq _ _

theorem oddIn_reference : Cert.quiescent_Reference17Ideal := fun m ρ _ =>
  (θ_run Cert.Reference17Ideal.defs _ _).mono
    (fun r h => ⟨fun c => (h c).2, sem_eq_zero_of_no_sems (by decide) r.2⟩) (Cert.Reference17Ideal.Value.run (F := Ideal) m ρ)

/-- The first projection of the odd layers: the kernel's is the reference's. -/
theorem oddIn_product : Cert.algebraic_Kernel17Ideal_Reference17Ideal := by
  intro m g m' g' _ hagree
  refine ⟨fun c => Products.product (OddIn.x m c) (OddIn.w m c), ?_, ?_⟩
  · refine θ_run_mono (Cert.Kernel17Ideal.Value.run_blocks (F := Ideal) m g) fun r h c => ?_
    obtain ⟨h0, hargs⟩ := h c
    exact ⟨h0.trans (OddIn.arr m c), hargs⟩
  · refine θ_run_mono (Cert.Reference17Ideal.Value.run (F := Ideal) m' g') fun r h c => ?_
    obtain ⟨h0, hargs⟩ := h c
    obtain ⟨a0, a1⟩ := hagree c
    refine ⟨h0.trans ?_, hargs⟩
    rw [Cert.Reference17Ideal.Read.val_main_v3_eq, a0, a1]
    exact OddIn.Ref.out_eq _ _

theorem oddOut_reference : Cert.quiescent_Reference18Ideal := fun m ρ _ =>
  (θ_run Cert.Reference18Ideal.defs _ _).mono
    (fun r h => ⟨fun c => (h c).2, sem_eq_zero_of_no_sems (by decide) r.2⟩) (Cert.Reference18Ideal.Value.run (F := Ideal) m ρ)

/-- The last projection of the odd layers: the kernel's is the reference's. -/
theorem oddOut_product : Cert.algebraic_Kernel18Ideal_Reference18Ideal := by
  intro m g m' g' _ hagree
  refine ⟨fun c => Products.product (OddOut.x m c) (OddOut.w m c), ?_, ?_⟩
  · refine θ_run_mono (Cert.Kernel18Ideal.Value.run_blocks (F := Ideal) m g) fun r h c => ?_
    obtain ⟨h0, hargs⟩ := h c
    exact ⟨h0.trans (OddOut.arr m c), hargs⟩
  · refine θ_run_mono (Cert.Reference18Ideal.Value.run (F := Ideal) m' g') fun r h c => ?_
    obtain ⟨h0, hargs⟩ := h c
    obtain ⟨a0, a1⟩ := hagree c
    refine ⟨h0.trans ?_, hargs⟩
    rw [Cert.Reference18Ideal.Read.val_main_v1_eq, a0, a1]
    exact OddOut.Ref.out_eq _ _

theorem evenIn_reference : Cert.quiescent_Reference19Ideal := fun m ρ _ =>
  (θ_run Cert.Reference19Ideal.defs _ _).mono
    (fun r h => ⟨fun c => (h c).2, sem_eq_zero_of_no_sems (by decide) r.2⟩) (Cert.Reference19Ideal.Value.run (F := Ideal) m ρ)

/-- The first projection of the even layers: the kernel's is the reference's. -/
theorem evenIn_product : Cert.algebraic_Kernel19Ideal_Reference19Ideal := by
  intro m g m' g' _ hagree
  refine ⟨fun c => Products.product (EvenIn.x m c) (EvenIn.w m c), ?_, ?_⟩
  · refine θ_run_mono (Cert.Kernel19Ideal.Value.run_blocks (F := Ideal) m g) fun r h c => ?_
    obtain ⟨h0, hargs⟩ := h c
    exact ⟨h0.trans (EvenIn.arr m c), hargs⟩
  · refine θ_run_mono (Cert.Reference19Ideal.Value.run (F := Ideal) m' g') fun r h c => ?_
    obtain ⟨h0, hargs⟩ := h c
    obtain ⟨a0, a1⟩ := hagree c
    refine ⟨h0.trans ?_, hargs⟩
    rw [Cert.Reference19Ideal.Read.val_main_v2_eq, a0, a1]
    exact EvenIn.Ref.out_eq _ _

theorem evenOut_reference : Cert.quiescent_Reference20Ideal := fun m ρ _ =>
  (θ_run Cert.Reference20Ideal.defs _ _).mono
    (fun r h => ⟨fun c => (h c).2, sem_eq_zero_of_no_sems (by decide) r.2⟩) (Cert.Reference20Ideal.Value.run (F := Ideal) m ρ)

/-- The last projection of the even layers: the kernel's is the reference's. -/
theorem evenOut_product : Cert.algebraic_Kernel20Ideal_Reference20Ideal := by
  intro m g m' g' _ hagree
  refine ⟨fun c => Products.product (EvenOut.x m c) (EvenOut.w m c), ?_, ?_⟩
  · refine θ_run_mono (Cert.Kernel20Ideal.Value.run_blocks (F := Ideal) m g) fun r h c => ?_
    obtain ⟨h0, hargs⟩ := h c
    exact ⟨h0.trans (EvenOut.arr m c), hargs⟩
  · refine θ_run_mono (Cert.Reference20Ideal.Value.run (F := Ideal) m' g') fun r h c => ?_
    obtain ⟨h0, hargs⟩ := h c
    obtain ⟨a0, a1⟩ := hagree c
    refine ⟨h0.trans ?_, hargs⟩
    rw [Cert.Reference20Ideal.Read.val_main_v2_eq, a0, a1]
    exact EvenOut.Ref.out_eq _ _

theorem evenOutDw_reference : Cert.quiescent_Reference21Ideal := fun m ρ _ =>
  (θ_run Cert.Reference21Ideal.defs _ _).mono
    (fun r h => ⟨fun c => (h c).2, sem_eq_zero_of_no_sems (by decide) r.2⟩) (Cert.Reference21Ideal.Value.run (F := Ideal) m ρ)

/-- The gradient by the weights of the even layers' last projection: the kernel's is the reference's. -/
theorem evenOutDw_gradient : Cert.algebraic_Kernel21Ideal_Reference21Ideal := by
  intro m g m' g' _ hagree
  refine ⟨fun c => Products.byWeightsPieces (EvenOutDw.o m c) (EvenOutDw.dy m c), ?_, ?_⟩
  · refine θ_run_mono (Cert.Kernel21Ideal.Value.run_blocks (F := Ideal) m g) fun r h c => ?_
    obtain ⟨h0, hargs⟩ := h c
    exact ⟨h0.trans (EvenOutDw.arr m c), hargs⟩
  · refine θ_run_mono (Cert.Reference21Ideal.Value.run (F := Ideal) m' g') fun r h c => ?_
    obtain ⟨h0, hargs⟩ := h c
    obtain ⟨a0, a1⟩ := hagree c
    refine ⟨h0.trans ?_, hargs⟩
    rw [Cert.Reference21Ideal.Read.val_main_v28_eq, a0, a1]
    exact EvenOutDw.Ref.out_eq _ _

theorem norm_reference : Cert.quiescent_Reference22Ideal := fun m ρ _ =>
  (θ_run Cert.Reference22Ideal.defs _ _).mono
    (fun r h => ⟨fun c => (h c).2.2.2.2.2.2, sem_eq_zero_of_no_sems (by decide) r.2⟩) (Cert.Reference22Ideal.Value.run (F := Ideal) m ρ)

/-- The six gradients of a residual step and the modulated norm after it: the kernel's are the reference's. -/
theorem norm_gradients : Cert.algebraic_Kernel22Ideal_Reference22Ideal := by
  intro m g m' g' _ hagree
  refine ⟨fun c => (Norm.inputs m c).gradX, fun c => Norm.Args.total (Norm.inputs m c).gainPart,
    fun c => Norm.Args.total (Norm.inputs m c).scalePart, fun c => Norm.Args.total (Norm.inputs m c).shiftPart,
    fun c => (Norm.inputs m c).gradY, fun c => Norm.Args.total (Norm.inputs m c).gatePart, ?_, ?_⟩
  · refine θ_run_mono (Cert.Kernel22Ideal.Value.run_blocks (F := Ideal) m g) fun r h c => ?_
    obtain ⟨h0, h1, h2, h3, h4, h5, hargs⟩ := h c
    exact ⟨h0.trans (Norm.arr_x m c), h1.trans (Norm.arr_gain m c), h2.trans (Norm.arr_scale m c), h3.trans (Norm.arr_shift m c),
      h4.trans (Norm.arr_y m c), h5.trans (Norm.arr_gate m c), hargs⟩
  · refine θ_run_mono (Cert.Reference22Ideal.Value.run (F := Ideal) m' g') fun r h c => ?_
    obtain ⟨h0, h1, h2, h3, h4, h5, hargs⟩ := h c
    obtain ⟨a0, a1, a2, a3, a4, a5, a6⟩ := hagree c
    refine ⟨h0.trans ?_, h1.trans ?_, h2.trans ?_, h3.trans ?_, h4.trans ?_, h5.trans ?_, hargs⟩
    · rw [Cert.Reference22Ideal.Read.val_main_v52_eq, a0, a1, a2, a3, a4, a5, a6]
      exact Norm.Ref.gradX (Norm.inputs m c)
    · rw [Cert.Reference22Ideal.Read.val_main_v35_eq, a0, a1, a2, a4, a5]
      exact Norm.Ref.gradGain (Norm.inputs m c)
    · rw [Cert.Reference22Ideal.Read.val_main_v30_eq, a0, a1, a2, a3, a5]
      exact Norm.Ref.gradScale (Norm.inputs m c)
    · rw [Cert.Reference22Ideal.Read.val_main_v27_eq, a5]
      exact Norm.Ref.gradShift (Norm.inputs m c)
    · rw [Cert.Reference22Ideal.Read.val_main_v59_eq, a0, a1, a2, a3, a4, a5, a6]
      exact Norm.Ref.gradY (Norm.inputs m c)
    · rw [Cert.Reference22Ideal.Read.val_main_v58_eq, a0, a1, a2, a3, a4, a5, a6]
      exact Norm.Ref.gradGate (Norm.inputs m c)

theorem ffnMid_reference : Cert.quiescent_Reference23Ideal := fun m ρ _ =>
  (θ_run Cert.Reference23Ideal.defs _ _).mono
    (fun r h => ⟨fun c => (h c).2, sem_eq_zero_of_no_sems (by decide) r.2⟩) (Cert.Reference23Ideal.Value.run (F := Ideal) m ρ)

/-- The gated convolution of the feed-forward layer: the kernel's is the reference's. -/
theorem ffnMid_value : Cert.algebraic_Kernel23Ideal_Reference23Ideal := by
  intro m g m' g' _ hagree
  refine ⟨fun c => FfnMid.result (FfnMid.Fwd.inputs m c), ?_, ?_⟩
  · refine θ_run_mono (Cert.Kernel23Ideal.Value.run_blocks (F := Ideal) m g) fun r h c => ?_
    obtain ⟨h0, hargs⟩ := h c
    exact ⟨h0.trans (FfnMid.Fwd.arr m c), hargs⟩
  · refine θ_run_mono (Cert.Reference23Ideal.Value.run (F := Ideal) m' g') fun r h c => ?_
    obtain ⟨h0, hargs⟩ := h c
    obtain ⟨a0, a1, a2⟩ := hagree c
    refine ⟨h0.trans ?_, hargs⟩
    rw [Cert.Reference23Ideal.Read.val_main_v33_eq, a0, a1, a2]
    exact FfnMid.FwdRef.act _ _ _ _

theorem firstNorm_reference : Cert.quiescent_Reference24Ideal := fun m ρ _ =>
  (θ_run Cert.Reference24Ideal.defs _ _).mono
    (fun r h => ⟨fun c => (h c).2.2.2.2, sem_eq_zero_of_no_sems (by decide) r.2⟩) (Cert.Reference24Ideal.Value.run (F := Ideal) m ρ)

/-- The four gradients of the first norm: the kernel's are the reference's. -/
theorem firstNorm_gradients : Cert.algebraic_Kernel24Ideal_Reference24Ideal := by
  intro m g m' g' _ hagree
  refine ⟨fun c => (Norm.Plain.inputs m c).gradX, fun c => Norm.Args.total (Norm.Plain.inputs m c).gainPart,
    fun c => Norm.Args.total (Norm.Plain.inputs m c).scalePart, fun c => Norm.Args.total (Norm.Plain.inputs m c).shiftPart, ?_, ?_⟩
  · refine θ_run_mono (Cert.Kernel24Ideal.Value.run_blocks (F := Ideal) m g) fun r h c => ?_
    obtain ⟨h0, h1, h2, h3, hargs⟩ := h c
    exact ⟨h0.trans (Norm.Plain.arr_x m c), h1.trans (Norm.Plain.arr_gain m c), h2.trans (Norm.Plain.arr_scale m c),
      h3.trans (Norm.Plain.arr_shift m c), hargs⟩
  · refine θ_run_mono (Cert.Reference24Ideal.Value.run (F := Ideal) m' g') fun r h c => ?_
    obtain ⟨h0, h1, h2, h3, hargs⟩ := h c
    obtain ⟨a0, a1, a2, a3, a4⟩ := hagree c
    refine ⟨h0.trans ?_, h1.trans ?_, h2.trans ?_, h3.trans ?_, hargs⟩
    · rw [Cert.Reference24Ideal.Read.val_main_v49_eq, a0, a1, a2, a3, a4]
      exact Norm.PlainRef.gradX _ _ _ _ _
    · rw [Cert.Reference24Ideal.Read.val_main_v32_eq, a0, a2, a3]
      exact Norm.PlainRef.gradGain _ (Norm.Plain.inputs m c).gain _ _ (Norm.Plain.inputs m c).dres
    · rw [Cert.Reference24Ideal.Read.val_main_v27_eq, a0, a1, a3]
      exact Norm.PlainRef.gradScale _ _ (Norm.Plain.inputs m c).scale _
        (Norm.Plain.inputs m c).dres
    · rw [Cert.Reference24Ideal.Read.val_main_v24_eq, a3]
      exact Norm.PlainRef.gradShift (Norm.Plain.inputs m c).x (Norm.Plain.inputs m c).gain (Norm.Plain.inputs m c).scale _
        (Norm.Plain.inputs m c).dres

theorem lastResidual_reference : Cert.quiescent_Reference25Ideal := fun m ρ _ =>
  (θ_run Cert.Reference25Ideal.defs _ _).mono
    (fun r h => ⟨fun c => (h c).2.2, sem_eq_zero_of_no_sems (by decide) r.2⟩) (Cert.Reference25Ideal.Value.run (F := Ideal) m ρ)

/-- The gradients of the last residual step: the kernel's are the reference's. -/
theorem lastResidual_gradients : Cert.algebraic_Kernel25Ideal_Reference25Ideal := by
  intro m g m' g' _ hagree
  refine ⟨fun c => Residual.gradY (Residual.dx m c) (Residual.g m c),
    fun c => Norm.Args.total (Residual.gatePart (Residual.dx m c) (Residual.y m c)), ?_, ?_⟩
  · refine θ_run_mono (Cert.Kernel25Ideal.Value.run_blocks (F := Ideal) m g) fun r h c => ?_
    obtain ⟨h0, h1, hargs⟩ := h c
    exact ⟨h0.trans (Residual.arr_y m c), h1.trans (Residual.arr_gate m c), hargs⟩
  · refine θ_run_mono (Cert.Reference25Ideal.Value.run (F := Ideal) m' g') fun r h c => ?_
    obtain ⟨h0, h1, hargs⟩ := h c
    obtain ⟨a0, a1, a2⟩ := hagree c
    refine ⟨h0.trans ?_, h1.trans ?_, hargs⟩
    · rw [Cert.Reference25Ideal.Read.val_main_v7_eq, a0, a1]
      exact Residual.Ref.gradY _ _
    · rw [Cert.Reference25Ideal.Read.val_main_v6_eq, a0, a2]
      exact Residual.Ref.gradGate _ _

theorem residualNorm_reference : Cert.quiescent_Reference26Ideal := fun m ρ _ =>
  (θ_run Cert.Reference26Ideal.defs _ _).mono
    (fun r h => ⟨fun c => (h c).2.2, sem_eq_zero_of_no_sems (by decide) r.2⟩) (Cert.Reference26Ideal.Value.run (F := Ideal) m ρ)

/-- The residual step and the norm behind it: the kernel's are the reference's. -/
theorem residualNorm_value : Cert.algebraic_Kernel26Ideal_Reference26Ideal := by
  intro m g m' g' _ hagree
  refine ⟨fun c => (Norm.Res.inputs m c).stream, fun c => (Norm.Res.inputs m c).shifted (Norm.Res.shift m c), ?_, ?_⟩
  · refine θ_run_mono (Cert.Kernel26Ideal.Value.run_blocks (F := Ideal) m g) fun r h c => ?_
    obtain ⟨h0, h1, hargs⟩ := h c
    exact ⟨h0.trans (Norm.Res.arr_stream m c), h1.trans (Norm.Res.arr_norm m c), hargs⟩
  · refine θ_run_mono (Cert.Reference26Ideal.Value.run (F := Ideal) m' g') fun r h c => ?_
    obtain ⟨h0, h1, hargs⟩ := h c
    obtain ⟨a0, a1, a2, a3, a4, a5⟩ := hagree c
    refine ⟨h0.trans ?_, h1.trans ?_, hargs⟩
    · rw [Cert.Reference26Ideal.Read.val_main_v2_eq, a0, a1, a2]
      exact Norm.Res.Ref.stream (Norm.Res.inputs m c)
    · rw [Cert.Reference26Ideal.Read.val_main_v21_eq, a0, a1, a2, a3, a4, a5]
      exact Norm.Res.Ref.norm (Norm.Res.inputs m c) _

theorem firstNormValue_reference : Cert.quiescent_Reference27Ideal := fun m ρ _ =>
  (θ_run Cert.Reference27Ideal.defs _ _).mono
    (fun r h => ⟨fun c => (h c).2, sem_eq_zero_of_no_sems (by decide) r.2⟩) (Cert.Reference27Ideal.Value.run (F := Ideal) m ρ)

/-- The first norm: the kernel's is the reference's. -/
theorem firstNorm_value : Cert.algebraic_Kernel27Ideal_Reference27Ideal := by
  intro m g m' g' _ hagree
  refine ⟨fun c => (Norm.First.inputs m c).shifted (Norm.First.shift m c), ?_, ?_⟩
  · refine θ_run_mono (Cert.Kernel27Ideal.Value.run_blocks (F := Ideal) m g) fun r h c => ?_
    obtain ⟨h0, hargs⟩ := h c
    exact ⟨h0.trans (Norm.First.arr m c), hargs⟩
  · refine θ_run_mono (Cert.Reference27Ideal.Value.run (F := Ideal) m' g') fun r h c => ?_
    obtain ⟨h0, hargs⟩ := h c
    obtain ⟨a0, a1, a2, a3⟩ := hagree c
    refine ⟨h0.trans ?_, hargs⟩
    rw [Cert.Reference27Ideal.Read.val_main_v18_eq, a0, a1, a2, a3]
    exact Norm.First.Ref.norm _ _ _ _

theorem lastResidualValue_reference : Cert.quiescent_Reference28Ideal := fun m ρ _ =>
  (θ_run Cert.Reference28Ideal.defs _ _).mono
    (fun r h => ⟨fun c => (h c).2, sem_eq_zero_of_no_sems (by decide) r.2⟩) (Cert.Reference28Ideal.Value.run (F := Ideal) m ρ)

/-- The last residual step: the kernel's is the reference's. -/
theorem lastResidual_value : Cert.algebraic_Kernel28Ideal_Reference28Ideal := by
  intro m g m' g' _ hagree
  refine ⟨fun c => Residual.Fwd.sum (Residual.Fwd.x m c) (Residual.Fwd.g m c) (Residual.Fwd.y m c), ?_, ?_⟩
  · refine θ_run_mono (Cert.Kernel28Ideal.Value.run_blocks (F := Ideal) m g) fun r h c => ?_
    obtain ⟨h0, hargs⟩ := h c
    exact ⟨h0.trans (Residual.Fwd.arr m c), hargs⟩
  · refine θ_run_mono (Cert.Reference28Ideal.Value.run (F := Ideal) m' g') fun r h c => ?_
    obtain ⟨h0, hargs⟩ := h c
    obtain ⟨a0, a1, a2⟩ := hagree c
    refine ⟨h0.trans ?_, hargs⟩
    rw [Cert.Reference28Ideal.Read.val_main_v2_eq, a0, a1, a2]
    exact Residual.Fwd.Ref.sum_eq _ _ _

theorem headConv_reference : Cert.quiescent_Reference29Ideal := fun m ρ _ =>
  (θ_run Cert.Reference29Ideal.defs _ _).mono
    (fun r h => ⟨fun c => (h c).2.2, sem_eq_zero_of_no_sems (by decide) r.2⟩) (Cert.Reference29Ideal.Value.run (F := Ideal) m ρ)

/-- The gradients of the convolution before the recurrence: the kernel's are the reference's. -/
theorem headConv_gradients : Cert.algebraic_Kernel29Ideal_Reference29Ideal_pre_finite_conv := by
  intro m g m' g' hpre hagree
  have hd (c) := HeadConv.BwdRef.real_of_pre _ _ _ (hpre c)
  refine ⟨fun c => HeadConv.gradInput (HeadConv.inputs m c), fun c => HeadConv.gradTaps (HeadConv.inputs m c), ?_, ?_⟩
  · refine θ_run_mono (Cert.Kernel29Ideal.Value.run_blocks (F := Ideal) m g) fun r h c => ?_
    obtain ⟨h0, h1, hargs⟩ := h c
    exact ⟨h0.trans (HeadConv.arr_x m c), h1.trans (HeadConv.arr_taps m c), hargs⟩
  · refine θ_run_mono (Cert.Reference29Ideal.Value.run (F := Ideal) m' g') fun r h c => ?_
    obtain ⟨h0, h1, hargs⟩ := h c
    obtain ⟨a0, a1, a2⟩ := hagree c
    refine ⟨h0.trans ?_, h1.trans ?_, hargs⟩
    · exact (Cert.Reference29Ideal.Read.val_main_v149_eq _).trans ((congr (congr (congrArg (Cert.Reference29Ideal.Read.val_main_v149 (F := Ideal)) a0) a1) a2).trans
        (HeadConv.BwdRef.input_eq (hd c)))
    · exact (Cert.Reference29Ideal.Read.val_main_v150_eq _).trans ((congr (congr (congrArg (Cert.Reference29Ideal.Read.val_main_v150 (F := Ideal)) a0) a1) a2).trans
        (HeadConv.BwdRef.taps_eq (hd c)))

theorem headConvValue_reference : Cert.quiescent_Reference30Ideal := fun m ρ _ =>
  (θ_run Cert.Reference30Ideal.defs _ _).mono
    (fun r h => ⟨fun c => (h c).2, sem_eq_zero_of_no_sems (by decide) r.2⟩) (Cert.Reference30Ideal.Value.run (F := Ideal) m ρ)

/-- The convolution before the recurrence: the kernel's heads are the reference's. -/
theorem headConv_value : Cert.algebraic_Kernel30Ideal_Reference30Ideal := by
  intro m g m' g' _ hagree
  refine ⟨fun c => HeadConv.result (HeadConv.Fwd.inputs m c), ?_, ?_⟩
  · refine θ_run_mono (Cert.Kernel30Ideal.Value.run_blocks (F := Ideal) m g) fun r h c => ?_
    obtain ⟨h0, hargs⟩ := h c
    exact ⟨h0.trans (HeadConv.Fwd.arr m c), hargs⟩
  · refine θ_run_mono (Cert.Reference30Ideal.Value.run (F := Ideal) m' g') fun r h c => ?_
    obtain ⟨h0, hargs⟩ := h c
    obtain ⟨a0, a1⟩ := hagree c
    refine ⟨h0.trans ?_, hargs⟩
    rw [Cert.Reference30Ideal.Read.val_main_v59_eq, a0, a1]
    exact HeadConv.FwdRef.heads _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Pre_finite.Gen.facts, Cert.Pre_finite_attention.Gen.facts, Cert.Pre_finite_conv.Gen.facts,
  fun m ρ _ => Cert.Kernel.Gen.frame m ρ, fun m ρ _ => Cert.KernelIdeal.Gen.frame m ρ, fun m ρ _ => Cert.KernelIdeal.Gen.frame m ρ,
  ffn_reference, fun m ρ _ => ffn_reference m ρ trivial,
  fun m ρ _ => Cert.Kernel2.Gen.frame m ρ, fun m ρ _ => Cert.Kernel2Ideal.Gen.frame m ρ, upInput_reference,
  fun m ρ _ => Cert.Kernel3.Gen.frame m ρ, fun m ρ _ => Cert.Kernel3Ideal.Gen.frame m ρ, upWeights_reference,
  fun m ρ _ => Cert.Kernel4.Gen.frame m ρ, fun m ρ _ => Cert.Kernel4Ideal.Gen.frame m ρ, downInput_reference,
  fun m ρ _ => Cert.Kernel5.Gen.frame m ρ, fun m ρ _ => Cert.Kernel5Ideal.Gen.frame m ρ, downWeights_reference,
  fun m ρ _ => Cert.Kernel6.Gen.frame m ρ, fun m ρ _ => Cert.Kernel6Ideal.Gen.frame m ρ, fun m ρ _ => Cert.Kernel6Ideal.Gen.frame m ρ,
  queries_reference, fun m ρ _ => queries_reference m ρ trivial,
  fun m ρ _ => Cert.Kernel7.Gen.frame m ρ, fun m ρ _ => Cert.Kernel7Ideal.Gen.frame m ρ, fun m ρ _ => Cert.Kernel7Ideal.Gen.frame m ρ,
  keysValues_reference, fun m ρ _ => keysValues_reference m ρ trivial,
  fun m ρ _ => Cert.Kernel8.Gen.frame m ρ, fun m ρ _ => Cert.Kernel8Ideal.Gen.frame m ρ, oddInDa_reference,
  fun m ρ _ => Cert.Kernel9.Gen.frame m ρ, fun m ρ _ => Cert.Kernel9Ideal.Gen.frame m ρ, oddInDw_reference,
  fun m ρ _ => Cert.Kernel10.Gen.frame m ρ, fun m ρ _ => Cert.Kernel10Ideal.Gen.frame m ρ, oddOutDa_reference,
  fun m ρ _ => Cert.Kernel11.Gen.frame m ρ, fun m ρ _ => Cert.Kernel11Ideal.Gen.frame m ρ, outDw_reference,
  fun m ρ _ => Cert.Kernel12.Gen.frame m ρ, fun m ρ _ => Cert.Kernel12Ideal.Gen.frame m ρ, evenInDa_reference,
  fun m ρ _ => Cert.Kernel13.Gen.frame m ρ, fun m ρ _ => Cert.Kernel13Ideal.Gen.frame m ρ, evenInDw_reference,
  fun m ρ _ => Cert.Kernel14.Gen.frame m ρ, fun m ρ _ => Cert.Kernel14Ideal.Gen.frame m ρ, evenOutDa_reference,
  fun m ρ _ => Cert.Kernel15.Gen.frame m ρ, fun m ρ _ => Cert.Kernel15Ideal.Gen.frame m ρ, up_reference,
  fun m ρ _ => Cert.Kernel16.Gen.frame m ρ, fun m ρ _ => Cert.Kernel16Ideal.Gen.frame m ρ, down_reference,
  fun m ρ _ => Cert.Kernel17.Gen.frame m ρ, fun m ρ _ => Cert.Kernel17Ideal.Gen.frame m ρ, oddIn_reference,
  fun m ρ _ => Cert.Kernel18.Gen.frame m ρ, fun m ρ _ => Cert.Kernel18Ideal.Gen.frame m ρ, oddOut_reference,
  fun m ρ _ => Cert.Kernel19.Gen.frame m ρ, fun m ρ _ => Cert.Kernel19Ideal.Gen.frame m ρ, evenIn_reference,
  fun m ρ _ => Cert.Kernel20.Gen.frame m ρ, fun m ρ _ => Cert.Kernel20Ideal.Gen.frame m ρ, evenOut_reference,
  fun m ρ _ => Cert.Kernel21.Gen.frame m ρ, fun m ρ _ => Cert.Kernel21Ideal.Gen.frame m ρ, evenOutDw_reference,
  fun m ρ _ => Cert.Kernel22.Gen.frame m ρ, fun m ρ _ => Cert.Kernel22Ideal.Gen.frame m ρ, norm_reference,
  fun m ρ _ => Cert.Kernel23.Gen.frame m ρ, fun m ρ _ => Cert.Kernel23Ideal.Gen.frame m ρ, ffnMid_reference,
  fun m ρ _ => Cert.Kernel24.Gen.frame m ρ, fun m ρ _ => Cert.Kernel24Ideal.Gen.frame m ρ, firstNorm_reference,
  fun m ρ _ => Cert.Kernel25.Gen.frame m ρ, fun m ρ _ => Cert.Kernel25Ideal.Gen.frame m ρ, lastResidual_reference,
  fun m ρ _ => Cert.Kernel26.Gen.frame m ρ, fun m ρ _ => Cert.Kernel26Ideal.Gen.frame m ρ, residualNorm_reference,
  fun m ρ _ => Cert.Kernel27.Gen.frame m ρ, fun m ρ _ => Cert.Kernel27Ideal.Gen.frame m ρ, firstNormValue_reference,
  fun m ρ _ => Cert.Kernel28.Gen.frame m ρ, fun m ρ _ => Cert.Kernel28Ideal.Gen.frame m ρ, lastResidualValue_reference,
  fun m ρ _ => Cert.Kernel29.Gen.frame m ρ, fun m ρ _ => Cert.Kernel29Ideal.Gen.frame m ρ, fun m ρ _ => Cert.Kernel29Ideal.Gen.frame m ρ,
  headConv_reference, fun m ρ _ => headConv_reference m ρ trivial,
  fun m ρ _ => Cert.Kernel30.Gen.frame m ρ, fun m ρ _ => Cert.Kernel30Ideal.Gen.frame m ρ, headConvValue_reference,
  trivial, ffn_gradients,
  trivial, upInput_gradient, trivial, upWeights_gradient, trivial, downInput_gradient,
  trivial, downWeights_gradient, trivial, queries_gradient, trivial, keysValues_gradient,
  trivial, oddInDa_gradient, trivial, oddInDw_gradient, trivial, oddOutDa_gradient,
  trivial, outDw_gradient, trivial, evenInDa_gradient, trivial, evenInDw_gradient,
  trivial, evenOutDa_gradient,
  trivial, up_product, trivial, down_product, trivial, oddIn_product,
  trivial, oddOut_product, trivial, evenIn_product, trivial, evenOut_product,
  trivial, evenOutDw_gradient, trivial, norm_gradients, trivial, ffnMid_value,
  trivial, firstNorm_gradients, trivial, lastResidual_gradients, trivial, residualNorm_value,
  trivial, firstNorm_value, trivial, lastResidual_value, trivial, headConv_gradients, trivial, headConv_value⟩

end Cert.Proof

end
